-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_scores [hPre_finite_scores : Cert.Pre_finite_scores.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.1 = (fun _ => 1#1)
    ∧ (Cert.Pre_finite_scores.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_scores [hPre_finite_scores : Cert.Pre_finite_scores.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.1 = (fun _ => 1#1)
    ∧ (Cert.Pre_finite_scores.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_ffn [hPre_finite_ffn : Cert.Pre_finite_ffn.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.1 = (fun _ => 1#1)
    ∧ (Cert.Pre_finite_ffn.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8))).2.2.2.2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_ffn [hPre_finite_ffn : Cert.Pre_finite_ffn.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.1 = (fun _ => 1#1)
    ∧ (Cert.Pre_finite_ffn.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8))).2.2.2.2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Kernel2Ideal_pre_finite_scores [hKernel2Ideal : Cert.Kernel2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_scores m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Reference2Ideal_pre_finite_scores [hReference2Ideal : Cert.Reference2Ideal.Facts] [hPre_finite_scores : Cert.Pre_finite_scores.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_scores m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Kernel3Ideal_pre_finite_ffn [hKernel3Ideal : Cert.Kernel3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_ffn m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Reference3Ideal_pre_finite_ffn [hReference3Ideal : Cert.Reference3Ideal.Facts] [hPre_finite_ffn : Cert.Pre_finite_ffn.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_ffn m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8)
      ∧ r.2.mem ((c.tc : Thread Cert.Kernel8.nD Cert.Kernel8.τ).loc Cert.Kernel8.main_arg9) = m ((c.tc : Thread Cert.Kernel8.nD Cert.Kernel8.τ).loc Cert.Kernel8.main_arg9))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
      ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8)
      ∧ r.2.mem ((c.tc : Thread Cert.Reference8Ideal.nD Cert.Reference8Ideal.τ).loc Cert.Reference8Ideal.main_arg9) = m ((c.tc : Thread Cert.Reference8Ideal.nD Cert.Reference8Ideal.τ).loc Cert.Reference8Ideal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "mask" .f32 0xF149F2CA#32 ⊥

def algebraic_Kernel2Ideal_Reference2Ideal_pre_finite_scores [hKernel2Ideal : Cert.Kernel2Ideal.Facts] [hReference2Ideal : Cert.Reference2Ideal.Facts] [hPre_finite_scores : Cert.Pre_finite_scores.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_scores m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v24_0)) (v1 : (c : Dev Cert.Kernel2Ideal.nD) → Buf (Elt Ideal) ((c.tc : Thread Cert.Kernel2Ideal.nD Cert.Kernel2Ideal.τ).loc Cert.Kernel2Ideal.main_v24_1)) (v2 : (c : Dev Cert.Kernel2Ideal.nD) → Buf (Elt Ideal) ((c.tc : Thread Cert.Kernel2Ideal.nD Cert.Kernel2Ideal.τ).loc Cert.Kernel2Ideal.main_v24_2)) (v3 : (c : Dev Cert.Kernel2Ideal.nD) → Buf (Elt Ideal) ((c.tc : Thread Cert.Kernel2Ideal.nD Cert.Kernel2Ideal.τ).loc Cert.Kernel2Ideal.main_v24_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24_0) = v0 c
          ∧ r.2.mem ((c.tc : Thread Cert.Kernel2Ideal.nD Cert.Kernel2Ideal.τ).loc Cert.Kernel2Ideal.main_v24_1) = v1 c
          ∧ r.2.mem ((c.tc : Thread Cert.Kernel2Ideal.nD Cert.Kernel2Ideal.τ).loc Cert.Kernel2Ideal.main_v24_2) = v2 c
          ∧ r.2.mem ((c.tc : Thread Cert.Kernel2Ideal.nD Cert.Kernel2Ideal.τ).loc Cert.Kernel2Ideal.main_v24_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v150) = v0 c
          ∧ r.2.mem ((c.tc : Thread Cert.Reference2Ideal.nD Cert.Reference2Ideal.τ).loc Cert.Reference2Ideal.main_v152) = v1 c
          ∧ r.2.mem ((c.tc : Thread Cert.Reference2Ideal.nD Cert.Reference2Ideal.τ).loc Cert.Reference2Ideal.main_v154) = v2 c
          ∧ r.2.mem ((c.tc : Thread Cert.Reference2Ideal.nD Cert.Reference2Ideal.τ).loc Cert.Reference2Ideal.main_v156) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal_pre_finite_ffn [hKernel3Ideal : Cert.Kernel3Ideal.Facts] [hReference3Ideal : Cert.Reference3Ideal.Facts] [hPre_finite_ffn : Cert.Pre_finite_ffn.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_ffn m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v16_4)) (v1 : (c : Dev Cert.Kernel3Ideal.nD) → Buf (Elt Ideal) ((c.tc : Thread Cert.Kernel3Ideal.nD Cert.Kernel3Ideal.τ).loc Cert.Kernel3Ideal.main_v16_5)) (v2 : (c : Dev Cert.Kernel3Ideal.nD) → Buf (Elt Ideal) ((c.tc : Thread Cert.Kernel3Ideal.nD Cert.Kernel3Ideal.τ).loc Cert.Kernel3Ideal.main_v16_6)) (v3 : (c : Dev Cert.Kernel3Ideal.nD) → Buf (Elt Ideal) ((c.tc : Thread Cert.Kernel3Ideal.nD Cert.Kernel3Ideal.τ).loc Cert.Kernel3Ideal.main_v16_7)) (v4 : (c : Dev Cert.Kernel3Ideal.nD) → Buf (Elt Ideal) ((c.tc : Thread Cert.Kernel3Ideal.nD Cert.Kernel3Ideal.τ).loc Cert.Kernel3Ideal.main_v16_3)) (v5 : (c : Dev Cert.Kernel3Ideal.nD) → Buf (Elt Ideal) ((c.tc : Thread Cert.Kernel3Ideal.nD Cert.Kernel3Ideal.τ).loc Cert.Kernel3Ideal.main_v16_2)) (v6 : (c : Dev Cert.Kernel3Ideal.nD) → Buf (Elt Ideal) ((c.tc : Thread Cert.Kernel3Ideal.nD Cert.Kernel3Ideal.τ).loc Cert.Kernel3Ideal.main_v16_0)) (v7 : (c : Dev Cert.Kernel3Ideal.nD) → Buf (Elt Ideal) ((c.tc : Thread Cert.Kernel3Ideal.nD Cert.Kernel3Ideal.τ).loc Cert.Kernel3Ideal.main_v16_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v16_4) = v0 c
          ∧ r.2.mem ((c.tc : Thread Cert.Kernel3Ideal.nD Cert.Kernel3Ideal.τ).loc Cert.Kernel3Ideal.main_v16_5) = v1 c
          ∧ r.2.mem ((c.tc : Thread Cert.Kernel3Ideal.nD Cert.Kernel3Ideal.τ).loc Cert.Kernel3Ideal.main_v16_6) = v2 c
          ∧ r.2.mem ((c.tc : Thread Cert.Kernel3Ideal.nD Cert.Kernel3Ideal.τ).loc Cert.Kernel3Ideal.main_v16_7) = v3 c
          ∧ r.2.mem ((c.tc : Thread Cert.Kernel3Ideal.nD Cert.Kernel3Ideal.τ).loc Cert.Kernel3Ideal.main_v16_3) = v4 c
          ∧ r.2.mem ((c.tc : Thread Cert.Kernel3Ideal.nD Cert.Kernel3Ideal.τ).loc Cert.Kernel3Ideal.main_v16_2) = v5 c
          ∧ r.2.mem ((c.tc : Thread Cert.Kernel3Ideal.nD Cert.Kernel3Ideal.τ).loc Cert.Kernel3Ideal.main_v16_0) = v6 c
          ∧ r.2.mem ((c.tc : Thread Cert.Kernel3Ideal.nD Cert.Kernel3Ideal.τ).loc Cert.Kernel3Ideal.main_v16_1) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v166) = v0 c
          ∧ r.2.mem ((c.tc : Thread Cert.Reference3Ideal.nD Cert.Reference3Ideal.τ).loc Cert.Reference3Ideal.main_v167) = v1 c
          ∧ r.2.mem ((c.tc : Thread Cert.Reference3Ideal.nD Cert.Reference3Ideal.τ).loc Cert.Reference3Ideal.main_v169) = v2 c
          ∧ r.2.mem ((c.tc : Thread Cert.Reference3Ideal.nD Cert.Reference3Ideal.τ).loc Cert.Reference3Ideal.main_v164) = v3 c
          ∧ r.2.mem ((c.tc : Thread Cert.Reference3Ideal.nD Cert.Reference3Ideal.τ).loc Cert.Reference3Ideal.main_v171) = v4 c
          ∧ r.2.mem ((c.tc : Thread Cert.Reference3Ideal.nD Cert.Reference3Ideal.τ).loc Cert.Reference3Ideal.main_v173) = v5 c
          ∧ r.2.mem ((c.tc : Thread Cert.Reference3Ideal.nD Cert.Reference3Ideal.τ).loc Cert.Reference3Ideal.main_v175) = v6 c
          ∧ r.2.mem ((c.tc : Thread Cert.Reference3Ideal.nD Cert.Reference3Ideal.τ).loc Cert.Reference3Ideal.main_v177) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v6_0)) (v1 : (c : Dev Cert.Kernel4Ideal.nD) → Buf (Elt Ideal) ((c.tc : Thread Cert.Kernel4Ideal.nD Cert.Kernel4Ideal.τ).loc Cert.Kernel4Ideal.main_v6_1)) (v2 : (c : Dev Cert.Kernel4Ideal.nD) → Buf (Elt Ideal) ((c.tc : Thread Cert.Kernel4Ideal.nD Cert.Kernel4Ideal.τ).loc Cert.Kernel4Ideal.main_v6_2)) (v3 : (c : Dev Cert.Kernel4Ideal.nD) → Buf (Elt Ideal) ((c.tc : Thread Cert.Kernel4Ideal.nD Cert.Kernel4Ideal.τ).loc Cert.Kernel4Ideal.main_v6_3)) (v4 : (c : Dev Cert.Kernel4Ideal.nD) → Buf (Elt Ideal) ((c.tc : Thread Cert.Kernel4Ideal.nD Cert.Kernel4Ideal.τ).loc Cert.Kernel4Ideal.main_v6_4)) (v5 : (c : Dev Cert.Kernel4Ideal.nD) → Buf (Elt Ideal) ((c.tc : Thread Cert.Kernel4Ideal.nD Cert.Kernel4Ideal.τ).loc Cert.Kernel4Ideal.main_v6_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v6_0) = v0 c
          ∧ r.2.mem ((c.tc : Thread Cert.Kernel4Ideal.nD Cert.Kernel4Ideal.τ).loc Cert.Kernel4Ideal.main_v6_1) = v1 c
          ∧ r.2.mem ((c.tc : Thread Cert.Kernel4Ideal.nD Cert.Kernel4Ideal.τ).loc Cert.Kernel4Ideal.main_v6_2) = v2 c
          ∧ r.2.mem ((c.tc : Thread Cert.Kernel4Ideal.nD Cert.Kernel4Ideal.τ).loc Cert.Kernel4Ideal.main_v6_3) = v3 c
          ∧ r.2.mem ((c.tc : Thread Cert.Kernel4Ideal.nD Cert.Kernel4Ideal.τ).loc Cert.Kernel4Ideal.main_v6_4) = v4 c
          ∧ r.2.mem ((c.tc : Thread Cert.Kernel4Ideal.nD Cert.Kernel4Ideal.τ).loc Cert.Kernel4Ideal.main_v6_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_v40) = v3 c
          ∧ r.2.mem ((c.tc : Thread Cert.Reference4Ideal.nD Cert.Reference4Ideal.τ).loc Cert.Reference4Ideal.main_v42) = v4 c
          ∧ r.2.mem ((c.tc : Thread Cert.Reference4Ideal.nD Cert.Reference4Ideal.τ).loc Cert.Reference4Ideal.main_v44) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_v16) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_v29) = v1 c
          ∧ r.2.mem ((c.tc : Thread Cert.Reference7Ideal.nD Cert.Reference7Ideal.τ).loc Cert.Reference7Ideal.main_v10) = v2 c
          ∧ r.2.mem ((c.tc : Thread Cert.Reference7Ideal.nD Cert.Reference7Ideal.τ).loc Cert.Reference7Ideal.main_v16) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)
      ∧ m' ((c.tc : Thread Cert.Reference8Ideal.nD Cert.Reference8Ideal.τ).loc Cert.Reference8Ideal.main_arg9) = m ((c.tc : Thread Cert.Kernel8Ideal.nD Cert.Kernel8Ideal.τ).loc Cert.Kernel8Ideal.main_arg9)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)) (v4 : (c : Dev Cert.Kernel8Ideal.nD) → Buf (Elt Ideal) ((c.tc : Thread Cert.Kernel8Ideal.nD Cert.Kernel8Ideal.τ).loc Cert.Kernel8Ideal.main_v0_4)) (v5 : (c : Dev Cert.Kernel8Ideal.nD) → Buf (Elt Ideal) ((c.tc : Thread Cert.Kernel8Ideal.nD Cert.Kernel8Ideal.τ).loc Cert.Kernel8Ideal.main_v0_5)) (v6 : (c : Dev Cert.Kernel8Ideal.nD) → Buf (Elt Ideal) ((c.tc : Thread Cert.Kernel8Ideal.nD Cert.Kernel8Ideal.τ).loc Cert.Kernel8Ideal.main_v0_6)) (v7 : (c : Dev Cert.Kernel8Ideal.nD) → Buf (Elt Ideal) ((c.tc : Thread Cert.Kernel8Ideal.nD Cert.Kernel8Ideal.τ).loc Cert.Kernel8Ideal.main_v0_7)) (v8 : (c : Dev Cert.Kernel8Ideal.nD) → Buf (Elt Ideal) ((c.tc : Thread Cert.Kernel8Ideal.nD Cert.Kernel8Ideal.τ).loc Cert.Kernel8Ideal.main_v0_8)) (v9 : (c : Dev Cert.Kernel8Ideal.nD) → Buf (Elt Ideal) ((c.tc : Thread Cert.Kernel8Ideal.nD Cert.Kernel8Ideal.τ).loc Cert.Kernel8Ideal.main_v0_9)) (v10 : (c : Dev Cert.Kernel8Ideal.nD) → Buf (Elt Ideal) ((c.tc : Thread Cert.Kernel8Ideal.nD Cert.Kernel8Ideal.τ).loc Cert.Kernel8Ideal.main_v0_10)) (v11 : (c : Dev Cert.Kernel8Ideal.nD) → Buf (Elt Ideal) ((c.tc : Thread Cert.Kernel8Ideal.nD Cert.Kernel8Ideal.τ).loc Cert.Kernel8Ideal.main_v0_11)) (v12 : (c : Dev Cert.Kernel8Ideal.nD) → Buf (Elt Ideal) ((c.tc : Thread Cert.Kernel8Ideal.nD Cert.Kernel8Ideal.τ).loc Cert.Kernel8Ideal.main_v0_12)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_v0_4) = v4 c
          ∧ r.2.mem ((c.tc : Thread Cert.Kernel8Ideal.nD Cert.Kernel8Ideal.τ).loc Cert.Kernel8Ideal.main_v0_5) = v5 c
          ∧ r.2.mem ((c.tc : Thread Cert.Kernel8Ideal.nD Cert.Kernel8Ideal.τ).loc Cert.Kernel8Ideal.main_v0_6) = v6 c
          ∧ r.2.mem ((c.tc : Thread Cert.Kernel8Ideal.nD Cert.Kernel8Ideal.τ).loc Cert.Kernel8Ideal.main_v0_7) = v7 c
          ∧ r.2.mem ((c.tc : Thread Cert.Kernel8Ideal.nD Cert.Kernel8Ideal.τ).loc Cert.Kernel8Ideal.main_v0_8) = v8 c
          ∧ r.2.mem ((c.tc : Thread Cert.Kernel8Ideal.nD Cert.Kernel8Ideal.τ).loc Cert.Kernel8Ideal.main_v0_9) = v9 c
          ∧ r.2.mem ((c.tc : Thread Cert.Kernel8Ideal.nD Cert.Kernel8Ideal.τ).loc Cert.Kernel8Ideal.main_v0_10) = v10 c
          ∧ r.2.mem ((c.tc : Thread Cert.Kernel8Ideal.nD Cert.Kernel8Ideal.τ).loc Cert.Kernel8Ideal.main_v0_11) = v11 c
          ∧ r.2.mem ((c.tc : Thread Cert.Kernel8Ideal.nD Cert.Kernel8Ideal.τ).loc Cert.Kernel8Ideal.main_v0_12) = v12 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8)
          ∧ r.2.mem ((c.tc : Thread Cert.Kernel8Ideal.nD Cert.Kernel8Ideal.τ).loc Cert.Kernel8Ideal.main_arg9) = m ((c.tc : Thread Cert.Kernel8Ideal.nD Cert.Kernel8Ideal.τ).loc Cert.Kernel8Ideal.main_arg9))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v2) = v1 c
          ∧ r.2.mem ((c.tc : Thread Cert.Reference8Ideal.nD Cert.Reference8Ideal.τ).loc Cert.Reference8Ideal.main_v28) = v2 c
          ∧ r.2.mem ((c.tc : Thread Cert.Reference8Ideal.nD Cert.Reference8Ideal.τ).loc Cert.Reference8Ideal.main_v9) = v3 c
          ∧ r.2.mem ((c.tc : Thread Cert.Reference8Ideal.nD Cert.Reference8Ideal.τ).loc Cert.Reference8Ideal.main_v15) = v4 c
          ∧ r.2.mem ((c.tc : Thread Cert.Reference8Ideal.nD Cert.Reference8Ideal.τ).loc Cert.Reference8Ideal.main_v3) = v5 c
          ∧ r.2.mem ((c.tc : Thread Cert.Reference8Ideal.nD Cert.Reference8Ideal.τ).loc Cert.Reference8Ideal.main_v52) = v6 c
          ∧ r.2.mem ((c.tc : Thread Cert.Reference8Ideal.nD Cert.Reference8Ideal.τ).loc Cert.Reference8Ideal.main_v33) = v7 c
          ∧ r.2.mem ((c.tc : Thread Cert.Reference8Ideal.nD Cert.Reference8Ideal.τ).loc Cert.Reference8Ideal.main_v39) = v8 c
          ∧ r.2.mem ((c.tc : Thread Cert.Reference8Ideal.nD Cert.Reference8Ideal.τ).loc Cert.Reference8Ideal.main_v4) = v9 c
          ∧ r.2.mem ((c.tc : Thread Cert.Reference8Ideal.nD Cert.Reference8Ideal.τ).loc Cert.Reference8Ideal.main_v76) = v10 c
          ∧ r.2.mem ((c.tc : Thread Cert.Reference8Ideal.nD Cert.Reference8Ideal.τ).loc Cert.Reference8Ideal.main_v57) = v11 c
          ∧ r.2.mem ((c.tc : Thread Cert.Reference8Ideal.nD Cert.Reference8Ideal.τ).loc Cert.Reference8Ideal.main_v63) = v12 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8)
          ∧ r.2.mem ((c.tc : Thread Cert.Reference8Ideal.nD Cert.Reference8Ideal.τ).loc Cert.Reference8Ideal.main_arg9) = m' ((c.tc : Thread Cert.Reference8Ideal.nD Cert.Reference8Ideal.τ).loc Cert.Reference8Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite_scores : Cert.Pre_finite_scores.Facts) (hPre_finite_ffn : Cert.Pre_finite_ffn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_scores (hKernel2Ideal := hKernel2Ideal) (hPre_finite_scores := hPre_finite_scores)
    ∧ quiescent_Reference2Ideal (hReference2Ideal := hReference2Ideal)
    ∧ quiescent_Reference2Ideal_pre_finite_scores (hReference2Ideal := hReference2Ideal) (hPre_finite_scores := hPre_finite_scores)
    ∧ quiescent_Kernel3 (hKernel3 := hKernel3)
    ∧ quiescent_Kernel3Ideal (hKernel3Ideal := hKernel3Ideal)
    ∧ quiescent_Kernel3Ideal_pre_finite_ffn (hKernel3Ideal := hKernel3Ideal) (hPre_finite_ffn := hPre_finite_ffn)
    ∧ quiescent_Reference3Ideal (hReference3Ideal := hReference3Ideal)
    ∧ quiescent_Reference3Ideal_pre_finite_ffn (hReference3Ideal := hReference3Ideal) (hPre_finite_ffn := hPre_finite_ffn)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_scores (hKernel2Ideal := hKernel2Ideal) (hReference2Ideal := hReference2Ideal) (hPre_finite_scores := hPre_finite_scores)
    ∧ preserves_Kernel3_Kernel3Ideal
    ∧ algebraic_Kernel3Ideal_Reference3Ideal_pre_finite_ffn (hKernel3Ideal := hKernel3Ideal) (hReference3Ideal := hReference3Ideal) (hPre_finite_ffn := hPre_finite_ffn)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_finite.lean ====
abbrev S4096x1024 : Shape := ⟨2, ![4096, 1024]⟩
abbrev S1024x2304 : Shape := ⟨2, ![1024, 2304]⟩
abbrev S1x6144 : Shape := ⟨2, ![1, 6144]⟩
abbrev S1x1024 : Shape := ⟨2, ![1, 1024]⟩
abbrev S4096x2304 : Shape := ⟨2, ![4096, 2304]⟩
abbrev S_ : Shape := ⟨0, ![]⟩

class Facts : Prop where
  bcast_S_S4096x1024 : S_.BroadcastsInDim S4096x1024 (![] : Fin 0 → Fin S4096x1024.rank)
  bcast_S_S1024x2304 : S_.BroadcastsInDim S1024x2304 (![] : Fin 0 → Fin S1024x2304.rank)
  bcast_S_S1x6144 : S_.BroadcastsInDim S1x6144 (![] : Fin 0 → Fin S1x6144.rank)
  bcast_S_S1x1024 : S_.BroadcastsInDim S1x1024 (![] : Fin 0 → Fin S1x1024.rank)
  bitsLt_bf16_f32 : FTy.bits .bf16 < FTy.bits .f32
  bcast_S_S4096x2304 : S_.BroadcastsInDim S4096x2304 (![] : Fin 0 → Fin S4096x2304.rank)

variable [Facts]

def fn {F : FTy → Type} [FloatOps F] (main_arg0 : FVec F S4096x1024 .f32) (main_arg1 : FVec F S1024x2304 .f32) (main_arg2 : FVec F S1x6144 .f32) (main_arg3 : FVec F S1x1024 .f32) (main_arg4 : FVec F S4096x1024 .bf16) (main_arg5 : FVec F S4096x2304 .bf16) : IVec S4096x1024 1 × IVec S1024x2304 1 × IVec S1x6144 1 × IVec S1x1024 1 × IVec S4096x2304 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x2304 .f32 := Host.absf main_arg1
  let main_cst_0 : FVec F S_ .f32 := constant S_ .f32 0x7F800000#32
  let main_v4 : FVec F S1024x2304 .f32 := broadcastInDim S1024x2304 ![] bcast_S_S1024x2304 main_cst_0
  let main_v5 : IVec S1024x2304 1 := cmpf .olt main_v3 main_v4
  let main_v6 : FVec F S1x6144 .f32 := Host.absf main_arg2
  let main_cst_1 : FVec F S_ .f32 := constant S_ .f32 0x7F800000#32
  let main_v7 : FVec F S1x6144 .f32 := broadcastInDim S1x6144 ![] bcast_S_S1x6144 main_cst_1
  let main_v8 : IVec S1x6144 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x2304 .f32 := (extf .f32 · bitsLt_bf16_f32) main_arg5
  let main_v13 : FVec F S4096x2304 .f32 := Host.absf main_v12
  let main_cst_3 : FVec F S_ .f32 := constant S_ .f32 0x7F800000#32
  let main_v14 : FVec F S4096x2304 .f32 := broadcastInDim S4096x2304 ![] bcast_S_S4096x2304 main_cst_3
  let main_v15 : IVec S4096x2304 1 := cmpf .olt main_v13 main_v14
  (main_v2, main_v5, main_v8, main_v11, main_v15)
-- ==== Pre_finite_ffn.lean ====
abbrev S4096x1024 : Shape := ⟨2, ![4096, 1024]⟩
abbrev S1x6144 : Shape := ⟨2, ![1, 6144]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S1x6144 : S_.BroadcastsInDim S1x6144 (![] : Fin 0 → Fin S1x6144.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)
  bcast_S_S1024 : S_.BroadcastsInDim S1024 (![] : Fin 0 → Fin S1024.rank)

variable [Facts]

def fn_part1 {F : FTy → Type} [FloatOps F] (main_arg6 : FVec F S2816x1024 .f32) (main_arg7 : FVec F S1024 .f32) (main_arg8 : FVec F S4096x1024 .f32) (main_v2 : IVec S4096x1024 1) (main_v6 : IVec S4096x1024 1) (main_v9 : IVec S1x6144 1) (main_v12 : IVec S1024x1024 1) (main_v15 : IVec S1x1024 1) (main_v16 : FVec F S1024x5632 .f32) (main_v17 : FVec F S1024x5632 .f32) : IVec S4096x1024 1 × IVec S4096x1024 1 × IVec S1x6144 1 × IVec S1024x1024 1 × IVec S1x1024 1 × IVec S1024x5632 1 × IVec S2816x1024 1 × IVec S1024 1 × IVec S4096x1024 1 :=
  let main_v18 : IVec S1024x5632 1 := cmpf .olt main_v16 main_v17
  let main_v19 : FVec F S2816x1024 .f32 := Host.absf main_arg6
  let main_cst_5 : FVec F S_ .f32 := constant S_ .f32 0x7F800000#32
  let main_v20 : FVec F S2816x1024 .f32 := broadcastInDim S2816x1024 ![] bcast_S_S2816x1024 main_cst_5
  let main_v21 : IVec S2816x1024 1 := cmpf .olt main_v19 main_v20
  let main_v22 : FVec F S1024 .f32 := Host.absf main_arg7
  let main_cst_6 : FVec F S_ .f32 := constant S_ .f32 0x7F800000#32
  let main_v23 : FVec F S1024 .f32 := broadcastInDim S1024 ![] bcast_S_S1024 main_cst_6
  let main_v24 : IVec S1024 1 := cmpf .olt main_v22 main_v23
  let main_v25 : FVec F S4096x1024 .f32 := Host.absf main_arg8
  let main_cst_7 : FVec F S_ .f32 := constant S_ .f32 0x7F800000#32
  let main_v26 : FVec F S4096x1024 .f32 := broadcastInDim S4096x1024 ![] bcast_S_S4096x1024 main_cst_7
  let main_v27 : IVec S4096x1024 1 := cmpf .olt main_v25 main_v26
  (main_v2, main_v6, main_v9, main_v12, main_v15, main_v18, main_v21, main_v24, main_v27)

def fn {F : FTy → Type} [FloatOps F] (main_arg0 : FVec F S4096x1024 .f32) (main_arg1 : FVec F S4096x1024 .bf16) (main_arg2 : FVec F S1x6144 .f32) (main_arg3 : FVec F S1024x1024 .f32) (main_arg4 : FVec F S1x1024 .f32) (main_arg5 : FVec F S1024x5632 .f32) (main_arg6 : FVec F S2816x1024 .f32) (main_arg7 : FVec F S1024 .f32) (main_arg8 : FVec F S4096x1024 .f32) : IVec S4096x1024 1 × IVec S4096x1024 1 × IVec S1x6144 1 × IVec S1024x1024 1 × IVec S1x1024 1 × IVec S1024x5632 1 × IVec S2816x1024 1 × IVec S1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S1x6144 .f32 := Host.absf main_arg2
  let main_cst_1 : FVec F S_ .f32 := constant S_ .f32 0x7F800000#32
  let main_v8 : FVec F S1x6144 .f32 := broadcastInDim S1x6144 ![] bcast_S_S1x6144 main_cst_1
  let main_v9 : IVec S1x6144 1 := cmpf .olt main_v7 main_v8
  let main_v10 : FVec F S1024x1024 .f32 := Host.absf main_arg3
  let main_cst_2 : FVec F S_ .f32 := constant S_ .f32 0x7F800000#32
  let main_v11 : FVec F S1024x1024 .f32 := broadcastInDim S1024x1024 ![] bcast_S_S1024x1024 main_cst_2
  let main_v12 : IVec S1024x1024 1 := cmpf .olt main_v10 main_v11
  let main_v13 : FVec F S1x1024 .f32 := Host.absf main_arg4
  let main_cst_3 : FVec F S_ .f32 := constant S_ .f32 0x7F800000#32
  let main_v14 : FVec F S1x1024 .f32 := broadcastInDim S1x1024 ![] bcast_S_S1x1024 main_cst_3
  let main_v15 : IVec S1x1024 1 := cmpf .olt main_v13 main_v14
  let main_v16 : FVec F S1024x5632 .f32 := Host.absf main_arg5
  let main_cst_4 : FVec F S_ .f32 := constant S_ .f32 0x7F800000#32
  let main_v17 : FVec F S1024x5632 .f32 := broadcastInDim S1024x5632 ![] bcast_S_S1024x5632 main_cst_4
  fn_part1 (F := F) main_arg6 main_arg7 main_arg8 main_v2 main_v6 main_v9 main_v12 main_v15 main_v16 main_v17
-- ==== Pre_finite_scores.lean ====
abbrev S4096x512 : Shape := ⟨2, ![4096, 512]⟩
abbrev S4096x256 : Shape := ⟨2, ![4096, 256]⟩
abbrev S32x8 : Shape := ⟨2, ![32, 8]⟩
abbrev S128x256 : Shape := ⟨2, ![128, 256]⟩
abbrev S8 : Shape := ⟨1, ![8]⟩
abbrev S3x512 : Shape := ⟨2, ![3, 512]⟩
abbrev S1x512 : Shape := ⟨2, ![1, 512]⟩
abbrev S_ : Shape := ⟨0, ![]⟩
abbrev S4096x128 : Shape := ⟨2, ![4096, 128]⟩

class Facts : Prop where
  bitsLt_bf16_f32 : FTy.bits .bf16 < FTy.bits .f32
  bcast_S_S4096x512 : S_.BroadcastsInDim S4096x512 (![] : Fin 0 → Fin S4096x512.rank)
  slices_S4096x256_S4096x128_0_0 : S4096x256.Slices ![0, 0] S4096x128
  bcast_S_S4096x128 : S_.BroadcastsInDim S4096x128 (![] : Fin 0 → Fin S4096x128.rank)
  bcast_S_S32x8 : S_.BroadcastsInDim S32x8 (![] : Fin 0 → Fin S32x8.rank)
  bcast_S_S8 : S_.BroadcastsInDim S8 (![] : Fin 0 → Fin S8.rank)

variable [Facts]

def fn {F : FTy → Type} [FloatOps F] (main_arg0 : FVec F S4096x512 .bf16) (main_arg1 : FVec F S4096x256 .bf16) (main_arg2 : FVec F S4096x512 .bf16) (main_arg3 : FVec F S4096x512 .bf16) (main_arg4 : FVec F S4096x512 .bf16) (main_arg5 : FVec F S32x8 .f32) (main_arg6 : IVec S128x256 32) (main_arg7 : FVec F S8 .f32) (main_arg8 : FVec F S3x512 .f32) (main_arg9 : FVec F S1x512 .f32) (main_arg10 : FVec F S1x512 .f32) : IVec S4096x512 1 × IVec S4096x128 1 × IVec S32x8 1 × IVec S8 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x128 .bf16 := (extractStridedSlice S4096x128 ![0, 0] · slices_S4096x256_S4096x128_0_0) main_arg1
  let main_v5 : FVec F S4096x128 .f32 := (extf .f32 · bitsLt_bf16_f32) main_v4
  let main_v6 : FVec F S4096x128 .f32 := Host.absf main_v5
  let main_cst_0 : FVec F S_ .f32 := constant S_ .f32 0x7F800000#32
  let main_v7 : FVec F S4096x128 .f32 := broadcastInDim S4096x128 ![] bcast_S_S4096x128 main_cst_0
  let main_v8 : IVec S4096x128 1 := cmpf .olt main_v6 main_v7
  let main_v9 : FVec F S32x8 .f32 := Host.absf main_arg5
  let main_cst_1 : FVec F S_ .f32 := constant S_ .f32 0x7F800000#32
  let main_v10 : FVec F S32x8 .f32 := broadcastInDim S32x8 ![] bcast_S_S32x8 main_cst_1
  let main_v11 : IVec S32x8 1 := cmpf .olt main_v9 main_v10
  let main_v12 : FVec F S8 .f32 := Host.absf main_arg7
  let main_cst_2 : FVec F S_ .f32 := constant S_ .f32 0x7F800000#32
  let main_v13 : FVec F S8 .f32 := broadcastInDim S8 ![] bcast_S_S8 main_cst_2
  let main_v14 : IVec S8 1 := cmpf .olt main_v12 main_v13
  (main_v3, main_v8, main_v11, main_v14)
-- ==== Kernel.lean ====
abbrev S4096x1024 : Shape := ⟨2, ![4096, 1024]⟩
abbrev S1024x2304 : Shape := ⟨2, ![1024, 2304]⟩
abbrev S1x6144 : Shape := ⟨2, ![1, 6144]⟩
abbrev S1x1024 : Shape := ⟨2, ![1, 1024]⟩
abbrev S4096x2304 : Shape := ⟨2, ![4096, 2304]⟩
abbrev S_ : Shape := ⟨0, ![]⟩
abbrev S8x128 : Shape := ⟨2, ![8, 128]⟩
abbrev S6x1024 : Shape := ⟨2, ![6, 1024]⟩
abbrev S2x1024 : Shape := ⟨2, ![2, 1024]⟩
abbrev S8x1024 : Shape := ⟨2, ![8, 1024]⟩
abbrev S2304x1024 : Shape := ⟨2, ![2304, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 16
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S1x6144, .f32⟩
  | .hbm, ⟨3, _⟩ => ⟨S1x1024, .f32⟩
  | .hbm, ⟨4, _⟩ => ⟨S4096x1024, .bf16⟩
  | .hbm, ⟨5, _⟩ => ⟨S4096x2304, .bf16⟩
  | .hbm, ⟨6, _⟩ => ⟨S_, .f32⟩
  | .hbm, ⟨7, _⟩ => ⟨S8x128, .f32⟩
  | .hbm, ⟨8, _⟩ => ⟨S6x1024, .f32⟩
  | .hbm, ⟨9, _⟩ => ⟨S_, .f32⟩
  | .hbm, ⟨10, _⟩ => ⟨S2x1024, .f32⟩
  | .hbm, ⟨11, _⟩ => ⟨S8x1024, .f32⟩
  | .hbm, ⟨12, _⟩ => ⟨S2304x1024, .f32⟩
  | .hbm, ⟨13, _⟩ => ⟨S2304x1024, .bf16⟩
  | .hbm, ⟨14, _⟩ => ⟨S4096x1024, .f32⟩
  | .hbm, ⟨15, _⟩ => ⟨S8x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S8x1024, .f32⟩
  | .local _ .vmem, ⟨7, _⟩ => ⟨S1x1024, .f32⟩
  | .local _ .vmem, ⟨8, _⟩ => ⟨S2304x1024, .bf16⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![4], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2304x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S4096x1024 : Shape := ⟨2, ![4096, 1024]⟩
abbrev S1024x2304 : Shape := ⟨2, ![1024, 2304]⟩
abbrev S1x6144 : Shape := ⟨2, ![1, 6144]⟩
abbrev S1x1024 : Shape := ⟨2, ![1, 1024]⟩
abbrev S4096x2304 : Shape := ⟨2, ![4096, 2304]⟩
abbrev S_ : Shape := ⟨0, ![]⟩
abbrev S4096 : Shape := ⟨1, ![4096]⟩
abbrev S4096x1 : Shape := ⟨2, ![4096, 1]⟩
abbrev S1024 : Shape := ⟨1, ![1024]⟩
abbrev S5x1024 : Shape := ⟨2, ![5, 1024]⟩
abbrev S8x1024 : Shape := ⟨2, ![8, 1024]⟩

abbrev nBuf : Space → Nat
  | .hbm => 78
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S1x6144, .f32⟩
  | .hbm, ⟨3, _⟩ => ⟨S1x1024, .f32⟩
  | .hbm, ⟨4, _⟩ => ⟨S4096x1024, .bf16⟩
  | .hbm, ⟨5, _⟩ => ⟨S4096x2304, .bf16⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1x1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x2304, .f32⟩
  | .hbm, ⟨39, _⟩ => ⟨S4096x1024, .f32⟩
  | .hbm, ⟨40, _⟩ => ⟨S4096x2304, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S5x1024, .f32⟩
  | .hbm, ⟨77, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_10 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel2.lean ====
abbrev S4096x512 : Shape := ⟨2, ![4096, 512]⟩
abbrev S4096x256 : Shape := ⟨2, ![4096, 256]⟩
abbrev S32x8 : Shape := ⟨2, ![32, 8]⟩
abbrev S128x256 : Shape := ⟨2, ![128, 256]⟩
abbrev S8 : Shape := ⟨1, ![8]⟩
abbrev S3x512 : Shape := ⟨2, ![3, 512]⟩
abbrev S1x512 : Shape := ⟨2, ![1, 512]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S1x128x256 : Shape := ⟨3, ![1, 128, 256]⟩
abbrev S128x256x1 : Shape := ⟨3, ![128, 256, 1]⟩
abbrev S128x256x8 : Shape := ⟨3, ![128, 256, 8]⟩
abbrev S8x128x256 : Shape := ⟨3, ![8, 128, 256]⟩
abbrev S4096x1024 : Shape := ⟨2, ![4096, 1024]⟩
abbrev S4096x128 : Shape := ⟨2, ![4096, 128]⟩
abbrev S32x8x128x256 : Shape := ⟨4, ![32, 8, 128, 256]⟩
abbrev S512x512 : Shape := ⟨2, ![512, 512]⟩
abbrev S16x512 : Shape := ⟨2, ![16, 512]⟩
abbrev S512x1024 : Shape := ⟨2, ![512, 1024]⟩
abbrev S512x128 : Shape := ⟨2, ![512, 128]⟩
abbrev S4x8x128x256 : Shape := ⟨4, ![4, 8, 128, 256]⟩
abbrev S256x256 : Shape := ⟨2, ![256, 256]⟩
abbrev S256x128 : Shape := ⟨2, ![256, 128]⟩
abbrev S128x128 : Shape := ⟨2, ![128, 128]⟩
abbrev S1 : Shape := ⟨1, ![1]⟩
abbrev S1x1x128x256 : Shape := ⟨4, ![1, 1, 128, 256]⟩
abbrev S128x512 : Shape := ⟨2, ![128, 512]⟩
abbrev S128x1024 : Shape := ⟨2, ![128, 1024]⟩

abbrev nBuf : Space → Nat
  | .hbm => 48
  | .vmem => 25
  | .smem => 1
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S32x8, .f32⟩
  | .hbm, ⟨6, _⟩ => ⟨S128x256, .i32⟩
  | .hbm, ⟨7, _⟩ => ⟨S8, .f32⟩
  | .hbm, ⟨8, _⟩ => ⟨S3x512, .f32⟩
  | .hbm, ⟨9, _⟩ => ⟨S1x512, .f32⟩
  | .hbm, ⟨10, _⟩ => ⟨S1x512, .f32⟩
  | .hbm, ⟨11, _⟩ => ⟨S128, .i32⟩
  | .hbm, ⟨12, _⟩ => ⟨S128x1, .i32⟩
  | .hbm, ⟨13, _⟩ => ⟨S256, .i32⟩
  | .hbm, ⟨14, _⟩ => ⟨S1x256, .i32⟩
  | .hbm, ⟨15, _⟩ => ⟨S_, .i32⟩
  | .hbm, ⟨16, _⟩ => ⟨S128x1, .i32⟩
  | .hbm, ⟨17, _⟩ => ⟨S128x1, .i32⟩
  | .hbm, ⟨18, _⟩ => ⟨S128x256, .i32⟩
  | .hbm, ⟨19, _⟩ => ⟨S128x256, .i32⟩
  | .hbm, ⟨20, _⟩ => ⟨S128x256, .i32⟩
  | .hbm, ⟨21, _⟩ => ⟨S_, .i32⟩
  | .hbm, ⟨22, _⟩ => ⟨S128x256, .i32⟩
  | .hbm, ⟨23, _⟩ => ⟨S128x256, .i1⟩
  | .hbm, ⟨24, _⟩ => ⟨S_, .i32⟩
  | .hbm, ⟨25, _⟩ => ⟨S128x256, .i32⟩
  | .hbm, ⟨26, _⟩ => ⟨S128x256, .i1⟩
  | .hbm, ⟨27, _⟩ => ⟨S128x256, .i1⟩
  | .hbm, ⟨28, _⟩ => ⟨S1x128x256, .i1⟩
  | .hbm, ⟨29, _⟩ => ⟨S_, .i32⟩
  | .hbm, ⟨30, _⟩ => ⟨S128x256, .i32⟩
  | .hbm, ⟨31, _⟩ => ⟨S128x256, .i1⟩
  | .hbm, ⟨32, _⟩ => ⟨S_, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S128x256x1, .i32⟩
  | .hbm, ⟨37, _⟩ => ⟨S128x256x8, .f32⟩
  | .hbm, ⟨38, _⟩ => ⟨S8x128x256, .f32⟩
  | .hbm, ⟨39, _⟩ => ⟨S_, .f32⟩
  | .hbm, ⟨40, _⟩ => ⟨S_, .f32⟩
  | .hbm, ⟨41, _⟩ => ⟨S8x128x256, .i1⟩
  | .hbm, ⟨42, _⟩ => ⟨S8x128x256, .f32⟩
  | .hbm, ⟨43, _⟩ => ⟨S8x128x256, .f32⟩
  | .hbm, ⟨44, _⟩ => ⟨S4096x512, .f32⟩
  | .hbm, ⟨45, _⟩ => ⟨S4096x1024, .bf16⟩
  | .hbm, ⟨46, _⟩ => ⟨S4096x128, .f32⟩
  | .hbm, ⟨47, _⟩ => ⟨S32x8x128x256, .bf16⟩
  | .local _ .vmem, ⟨0, _⟩ => ⟨S512x512, .bf16⟩
  | .local _ .vmem, ⟨1, _⟩ => ⟨S512x512, .bf16⟩
  | .local _ .vmem, ⟨2, _⟩ => ⟨S4096x256, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S16x512, .bf16⟩
  | .local _ .vmem, ⟨13, _⟩ => ⟨S8x128x256, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S512x512, .f32⟩
  | .local _ .vmem, ⟨18, _⟩ => ⟨S512x512, .f32⟩
  | .local _ .vmem, ⟨19, _⟩ => ⟨S512x1024, .bf16⟩
  | .local _ .vmem, ⟨20, _⟩ => ⟨S512x1024, .bf16⟩
  | .local _ .vmem, ⟨21, _⟩ => ⟨S512x128, .f32⟩
  | .local _ .vmem, ⟨22, _⟩ => ⟨S512x128, .f32⟩
  | .local _ .vmem, ⟨23, _⟩ => ⟨S4x8x128x256, .bf16⟩
  | .local _ .vmem, ⟨24, _⟩ => ⟨S4x8x128x256, .bf16⟩
  | .local _ .smem, ⟨0, _⟩ => ⟨S8, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_0 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_2 : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v23 : Ref sig .tc := ⟨.hbm, 43, rfl⟩
abbrev main_v24_0 : Ref sig .tc := ⟨.hbm, 44, rfl⟩
abbrev main_v24_1 : Ref sig .tc := ⟨.hbm, 45, rfl⟩
abbrev main_v24_2 : Ref sig .tc := ⟨.hbm, 46, rfl⟩
abbrev main_v24_3 : Ref sig .tc := ⟨.hbm, 47, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c4_i32 : BitVec 32 := 4#32
  let v2 : BitVec 32 := Scalar.muli arg0 c4_i32
  let c0_i32 : BitVec 32 := 0#32
  let v3 : BitVec 32 := Scalar.addi v2 c0_i32
  let c1_i32 : BitVec 32 := 1#32
  let v4 : BitVec 32 := Scalar.subi v3 c1_i32
  let c0_i32_3 : BitVec 32 := 0#32
  let v5 : BitVec 32 := Scalar.maxsi v4 c0_i32_3
  let c128_i32 : BitVec 32 := 128#32
  let v6 : BitVec 32 := Scalar.muli v5 c128_i32
  v6
def k0_off1 (i : grid0.Coords) (c0_i32 : BitVec 32) : Fin 2 → Nat :=
  let arg0 : BitVec 32 := BitVec.ofNat 32 (i 0).val
  let c4_i32 : BitVec 32 := 4#32
  let v2 : BitVec 32 := Scalar.muli arg0 c4_i32
  let v3 : BitVec 32 := Scalar.addi v2 c0_i32
  let c1_i32 : BitVec 32 := 1#32
  let v4 : BitVec 32 := Scalar.subi v3 c1_i32
  let c0_i32_3 : BitVec 32 := 0#32
  let v5 : BitVec 32 := Scalar.maxsi v4 c0_i32_3
  let c128_i32 : BitVec 32 := 128#32
  let v6 : BitVec 32 := Scalar.muli v5 c128_i32
  let v7 : BitVec 32 := v6
  let v8 : Index := Scalar.indexCast v7
  let c0_4 : Index := 0#32
  ![v8.toNat, 0]
def k0_mult2 (i : grid0.Coords) : BitVec 32 :=
  let arg0 : BitVec 32 := BitVec.ofNat 32 (i 0).val
  let c4_i32 : BitVec 32 := 4#32
  let v2 : BitVec 32 := Scalar.muli arg0 c4_i32
  let c0_i32 : BitVec 32 := 0#32
  let v3 : BitVec 32 := Scalar.addi v2 c0_i32
  let c128_i32_5 : BitVec 32 := 128#32
  let v10 : BitVec 32 := Scalar.muli v3 c128_i32_5
  v10
def k0_off2 (i : grid0.Coords) (c0_i32 : BitVec 32) : Fin 2 → Nat :=
  let arg0 : BitVec 32 := BitVec.ofNat 32 (i 0).val
  let c4_i32 : BitVec 32 := 4#32
  let v2 : BitVec 32 := Scalar.muli arg0 c4_i32
  let v3 : BitVec 32 := Scalar.addi v2 c0_i32
  let c128_i32_5 : BitVec 32 := 128#32
  let v10 : BitVec 32 := Scalar.muli v3 c128_i32_5
  let v11 : BitVec 32 := v10
  let v12 : Index := Scalar.indexCast v11
  let c0_6 : Index := 0#32
  ![v12.toNat, 0]
def k0_mult3 (i : grid0.Coords) : BitVec 32 :=
  let arg0 : BitVec 32 := BitVec.ofNat 32 (i 0).val
  let c4_i32_186 : BitVec 32 := 4#32
  let v474 : BitVec 32 := Scalar.muli arg0 c4_i32_186
  let c1_i32_187 : BitVec 32 := 1#32
  let v475 : BitVec 32 := Scalar.addi v474 c1_i32_187
  let c1_i32_188 : BitVec 32 := 1#32
  let v476 : BitVec 32 := Scalar.subi v475 c1_i32_188
  let c0_i32_189 : BitVec 32 := 0#32
  let v477 : BitVec 32 := Scalar.maxsi v476 c0_i32_189
  let c128_i32_190 : BitVec 32 := 128#32
  let v478 : BitVec 32 := Scalar.muli v477 c128_i32_190
  v478
def k0_mult4 (i : grid0.Coords) : BitVec 32 :=
  let arg0 : BitVec 32 := BitVec.ofNat 32 (i 0).val
  let c4_i32_186 : BitVec 32 := 4#32
  let v474 : BitVec 32 := Scalar.muli arg0 c4_i32_186
  let c1_i32_187 : BitVec 32 := 1#32
  let v475 : BitVec 32 := Scalar.addi v474 c1_i32_187
  let c128_i32_192 : BitVec 32 := 128#32
  let v482 : BitVec 32 := Scalar.muli v475 c128_i32_192
  v482
def k0_mult5 (i : grid0.Coords) : BitVec 32 :=
  let arg0 : BitVec 32 := BitVec.ofNat 32 (i 0).val
  let c4_i32_390 : BitVec 32 := 4#32
  let v946 : BitVec 32 := Scalar.muli arg0 c4_i32_390
  let c2_i32_391 : BitVec 32 := 2#32
  let v947 : BitVec 32 := Scalar.addi v946 c2_i32_391
  let c1_i32_392 : BitVec 32 := 1#32
  let v948 : BitVec 32 := Scalar.subi v947 c1_i32_392
  let c0_i32_393 : BitVec 32 := 0#32
  let v949 : BitVec 32 := Scalar.maxsi v948 c0_i32_393
  let c128_i32_394 : BitVec 32 := 128#32
  let v950 : BitVec 32 := Scalar.muli v949 c128_i32_394
  v950
def k0_mult6 (i : grid0.Coords) : BitVec 32 :=
  let arg0 : BitVec 32 := BitVec.ofNat 32 (i 0).val
  let c4_i32_390 : BitVec 32 := 4#32
  let v946 : BitVec 32 := Scalar.muli arg0 c4_i32_390
  let c2_i32_391 : BitVec 32 := 2#32
  let v947 : BitVec 32 := Scalar.addi v946 c2_i32_391
  let c128_i32_396 : BitVec 32 := 128#32
  let v954 : BitVec 32 := Scalar.muli v947 c128_i32_396
  v954
def k0_mult7 (i : grid0.Coords) : BitVec 32 :=
  let arg0 : BitVec 32 := BitVec.ofNat 32 (i 0).val
  let c4_i32_594 : BitVec 32 := 4#32
  let v1418 : BitVec 32 := Scalar.muli arg0 c4_i32_594
  let c3_i32_595 : BitVec 32 := 3#32
  let v1419 : BitVec 32 := Scalar.addi v1418 c3_i32_595
  let c1_i32_596 : BitVec 32 := 1#32
  let v1420 : BitVec 32 := Scalar.subi v1419 c1_i32_596
  let c0_i32_597 : BitVec 32 := 0#32
  let v1421 : BitVec 32 := Scalar.maxsi v1420 c0_i32_597
  let c128_i32_598 : BitVec 32 := 128#32
  let v1422 : BitVec 32 := Scalar.muli v1421 c128_i32_598
  v1422
def k0_mult8 (i : grid0.Coords) : BitVec 32 :=
  let arg0 : BitVec 32 := BitVec.ofNat 32 (i 0).val
  let c4_i32_594 : BitVec 32 := 4#32
  let v1418 : BitVec 32 := Scalar.muli arg0 c4_i32_594
  let c3_i32_595 : BitVec 32 := 3#32
  let v1419 : BitVec 32 := Scalar.addi v1418 c3_i32_595
  let c128_i32_600 : BitVec 32 := 128#32
  let v1426 : BitVec 32 := Scalar.muli v1419 c128_i32_600
  v1426
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x8x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
variable {F : FTy → Type} [FloatOps F] [Named F]
def κ : String → Option EReal := fun
  | "mask" => some ⊥
  | _ => none
-- ==== Reference2Ideal.lean ====
abbrev S4096x512 : Shape := ⟨2, ![4096, 512]⟩
abbrev S4096x256 : Shape := ⟨2, ![4096, 256]⟩
abbrev S32x8 : Shape := ⟨2, ![32, 8]⟩
abbrev S128x256 : Shape := ⟨2, ![128, 256]⟩
abbrev S8 : Shape := ⟨1, ![8]⟩
abbrev S3x512 : Shape := ⟨2, ![3, 512]⟩
abbrev S1x512 : Shape := ⟨2, ![1, 512]⟩
abbrev S4096x2304 : Shape := ⟨2, ![4096, 2304]⟩
abbrev S1x4096x2304 : Shape := ⟨3, ![1, 4096, 2304]⟩
abbrev S1x4096x512 : Shape := ⟨3, ![1, 4096, 512]⟩
abbrev S1x4096x128 : Shape := ⟨3, ![1, 4096, 128]⟩
abbrev S1x4096x8x64 : Shape := ⟨4, ![1, 4096, 8, 64]⟩
abbrev S1x4096x2x64 : Shape := ⟨4, ![1, 4096, 2, 64]⟩
abbrev S1x32x128x2x4x64 : Shape := ⟨6, ![1, 32, 128, 2, 4, 64]⟩
abbrev S1x32x128x2x64 : Shape := ⟨5, ![1, 32, 128, 2, 64]⟩
abbrev S1x1x128x2x64 : Shape := ⟨5, ![1, 1, 128, 2, 64]⟩
abbrev S_ : Shape := ⟨0, ![]⟩
abbrev S1x31x128x2x64 : Shape := ⟨5, ![1, 31, 128, 2, 64]⟩
abbrev S1x32x256x2x64 : Shape := ⟨5, ![1, 32, 256, 2, 64]⟩
abbrev S1x32x2x256x128x4 : Shape := ⟨6, ![1, 32, 2, 256, 128, 4]⟩
abbrev S1x32x2x4x128x256 : Shape := ⟨6, ![1, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256x1 : Shape := ⟨3, ![128, 256, 1]⟩
abbrev S128x256x8 : Shape := ⟨3, ![128, 256, 8]⟩
abbrev S8x128x256 : Shape := ⟨3, ![8, 128, 256]⟩
abbrev S2x4x128x256 : Shape := ⟨4, ![2, 4, 128, 256]⟩
abbrev S1x1x2x4x128x256 : Shape := ⟨6, ![1, 1, 2, 4, 128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S2x4 : Shape := ⟨2, ![2, 4]⟩
abbrev S1x1x2x4x1x1 : Shape := ⟨6, ![1, 1, 2, 4, 1, 1]⟩
abbrev S1x32x2x4x128 : Shape := ⟨5, ![1, 32, 2, 4, 128]⟩
abbrev S1x32x2x4x128x1 : Shape := ⟨6, ![1, 32, 2, 4, 128, 1]⟩
abbrev S1x32x2x64x4x128 : Shape := ⟨6, ![1, 32, 2, 64, 4, 128]⟩
abbrev S1x2x512 : Shape := ⟨3, ![1, 2, 512]⟩
abbrev S1x4098x512 : Shape := ⟨3, ![1, 4098, 512]⟩
abbrev S512 : Shape := ⟨1, ![512]⟩
abbrev S1x1x512 : Shape := ⟨3, ![1, 1, 512]⟩
abbrev S1x4096 : Shape := ⟨2, ![1, 4096]⟩
abbrev S1x4096x1 : Shape := ⟨3, ![1, 4096, 1]⟩
abbrev S1x4096x1024 : Shape := ⟨3, ![1, 4096, 1024]⟩
abbrev S32x8x128 : Shape := ⟨3, ![32, 8, 128]⟩
abbrev S32x128x8 : Shape := ⟨3, ![32, 128, 8]⟩
abbrev S4096x8 : Shape := ⟨2, ![4096, 8]⟩
abbrev S4096x1024 : Shape := ⟨2, ![4096, 1024]⟩
abbrev S4096x120 : Shape := ⟨2, ![4096, 120]⟩
abbrev S4096x128 : Shape := ⟨2, ![4096, 128]⟩
abbrev S32x8x128x256 : Shape := ⟨4, ![32, 8, 128, 256]⟩

abbrev nBuf : Space → Nat
  | .hbm => 193
  | .vmem => 0
  | .smem => 0
  | _ => 0

abbrev hbmTy0_0 (i : Nat) : BufTy := match i % 128 with
  | 0 => ⟨S4096x512, .bf16⟩
  | 1 => ⟨S4096x256, .bf16⟩
  | 2 => ⟨S4096x512, .bf16⟩
  | 3 => ⟨S4096x512, .bf16⟩
  | 4 => ⟨S4096x512, .bf16⟩
  | 5 => ⟨S32x8, .f32⟩
  | 6 => ⟨S128x256, .i32⟩
  | 7 => ⟨S8, .f32⟩
  | 8 => ⟨S3x512, .f32⟩
  | 9 => ⟨S1x512, .f32⟩
  | 10 => ⟨S1x512, .f32⟩
  | 11 => ⟨S4096x2304, .bf16⟩
  | 12 => ⟨S4096x2304, .f32⟩
  | 13 => ⟨S1x4096x2304, .f32⟩
  | 14 => ⟨S1x4096x512, .f32⟩
  | 15 => ⟨S1x4096x128, .f32⟩
  | 16 => ⟨S1x4096x128, .f32⟩
  | 17 => ⟨S1x4096x512, .f32⟩
  | 18 => ⟨S1x4096x512, .f32⟩
  | 19 => ⟨S1x4096x512, .f32⟩
  | 20 => ⟨S1x4096x8x64, .f32⟩
  | 21 => ⟨S1x4096x2x64, .f32⟩
  | 22 => ⟨S1x4096x2x64, .f32⟩
  | 23 => ⟨S1x32x128x2x4x64, .f32⟩
  | 24 => ⟨S1x32x128x2x64, .f32⟩
  | 25 => ⟨S1x32x128x2x64, .f32⟩
  | 26 => ⟨S1x1x128x2x64, .f32⟩
  | 27 => ⟨S_, .f32⟩
  | 28 => ⟨S1x1x128x2x64, .f32⟩
  | 29 => ⟨S1x31x128x2x64, .f32⟩
  | 30 => ⟨S1x32x128x2x64, .f32⟩
  | 31 => ⟨S1x32x256x2x64, .f32⟩
  | 32 => ⟨S1x1x128x2x64, .f32⟩
  | 33 => ⟨S_, .f32⟩
  | 34 => ⟨S1x1x128x2x64, .f32⟩
  | 35 => ⟨S1x31x128x2x64, .f32⟩
  | 36 => ⟨S1x32x128x2x64, .f32⟩
  | 37 => ⟨S1x32x256x2x64, .f32⟩
  | 38 => ⟨S1x32x2x256x128x4, .f32⟩
  | 39 => ⟨S1x32x2x4x128x256, .f32⟩
  | 40 => ⟨S_, .f32⟩
  | 41 => ⟨S1x32x2x4x128x256, .f32⟩
  | 42 => ⟨S1x32x2x4x128x256, .f32⟩
  | 43 => ⟨S128, .i32⟩
  | 44 => ⟨S128x1, .i32⟩
  | 45 => ⟨S256, .i32⟩
  | 46 => ⟨S1x256, .i32⟩
  | 47 => ⟨S_, .i32⟩
  | 48 => ⟨S128x1, .i32⟩
  | 49 => ⟨S128x1, .i32⟩
  | 50 => ⟨S128x256, .i32⟩
  | 51 => ⟨S128x256, .i32⟩
  | 52 => ⟨S128x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i32⟩
  | 59 => ⟨S128x256, .i32⟩
  | 60 => ⟨S128x256x1, .i32⟩
  | 61 => ⟨S128x256x8, .f32⟩
  | 62 => ⟨S8x128x256, .f32⟩
  | 63 => ⟨S2x4x128x256, .f32⟩
  | 64 => ⟨S1x1x2x4x128x256, .f32⟩
  | 65 => ⟨S1x32x2x4x128x256, .f32⟩
  | 66 => ⟨S1x32x2x4x128x256, .f32⟩
  | 67 => ⟨S_, .i32⟩
  | 68 => ⟨S128x256, .i32⟩
  | 69 => ⟨S128x256, .i1⟩
  | 70 => ⟨S_, .i32⟩
  | 71 => ⟨S128x256, .i32⟩
  | 72 => ⟨S128x256, .i1⟩
  | 73 => ⟨S128x256, .i1⟩
  | 74 => ⟨S32, .i32⟩
  | 75 => ⟨S32x1, .i32⟩
  | 76 => ⟨S_, .i32⟩
  | 77 => ⟨S32x1, .i32⟩
  | 78 => ⟨S32x1, .i32⟩
  | 79 => ⟨S_, .i32⟩
  | 80 => ⟨S32x1, .i32⟩
  | 81 => ⟨S32x1, .i32⟩
  | 82 => ⟨S32x256, .i32⟩
  | 83 => ⟨S32x256, .i32⟩
  | 84 => ⟨S32x256, .i32⟩
  | 85 => ⟨S1x128x256, .i1⟩
  | 86 => ⟨S_, .i32⟩
  | 87 => ⟨S32x256, .i32⟩
  | 88 => ⟨S32x256, .i1⟩
  | 89 => ⟨S32x1x256, .i1⟩
  | 90 => ⟨S32x128x256, .i1⟩
  | 91 => ⟨S32x128x256, .i1⟩
  | 92 => ⟨S32x128x256, .i1⟩
  | 93 => ⟨S1x32x1x1x128x256, .i1⟩
  | 94 => ⟨S_, .f32⟩
  | 95 => ⟨S_, .f32⟩
  | 96 => ⟨S1x32x2x4x128x256, .i1⟩
  | 97 => ⟨S1x32x2x4x128x256, .f32⟩
  | 98 => ⟨S1x32x2x4x128x256, .f32⟩
  | 99 => ⟨S2x4, .f32⟩
  | 100 => ⟨S1x1x2x4x1x1, .f32⟩
  | 101 => ⟨S_, .f32⟩
  | 102 => ⟨S1x32x2x4x128, .f32⟩
  | 103 => ⟨S1x32x2x4x128x1, .f32⟩
  | 104 => ⟨S1x32x2x4x128x1, .f32⟩
  | 105 => ⟨S1x32x2x4x128x1, .f32⟩
  | 106 => ⟨S1x32x2x4x128x256, .f32⟩
  | 107 => ⟨S1x32x2x4x128x256, .f32⟩
  | 108 => ⟨S1x32x2x4x128x256, .f32⟩
  | 109 => ⟨S_, .f32⟩
  | 110 => ⟨S1x32x2x4x128, .f32⟩
  | 111 => ⟨S1x32x2x4x128x1, .f32⟩
  | 112 => ⟨S1x32x2x4x128x1, .f32⟩
  | 113 => ⟨S1x32x2x4x128x1, .f32⟩
  | 114 => ⟨S1x32x2x4x128x1, .f32⟩
  | 115 => ⟨S1x32x2x4x128x1, .f32⟩
  | 116 => ⟨S1x32x2x4x128x256, .f32⟩
  | 117 => ⟨S1x32x2x4x128x256, .f32⟩
  | 118 => ⟨S1x32x2x64x4x128, .f32⟩
  | 119 => ⟨S1x32x128x2x4x64, .f32⟩
  | 120 => ⟨S1x4096x512, .f32⟩
  | 121 => ⟨S1x32x2x4x128x1, .f32⟩
  | 122 => ⟨S1x32x2x4x128x1, .f32⟩
  | 123 => ⟨S1x4096x512, .f32⟩
  | 124 => ⟨S1x2x512, .f32⟩
  | 125 => ⟨S_, .f32⟩
  | 126 => ⟨S1x2x512, .f32⟩
  | 127 => ⟨S1x4098x512, .f32⟩
  | _ => ⟨S4096x512, .bf16⟩

abbrev hbmTy0_1 (i : Nat) : BufTy := match i % 128 with
  | 0 => ⟨S1x512, .f32⟩
  | 1 => ⟨S512, .f32⟩
  | 2 => ⟨S1x4096x512, .f32⟩
  | 3 => ⟨S1x1x512, .f32⟩
  | 4 => ⟨S1x4096x512, .f32⟩
  | 5 => ⟨S1x4096x512, .f32⟩
  | 6 => ⟨S1x512, .f32⟩
  | 7 => ⟨S512, .f32⟩
  | 8 => ⟨S1x4096x512, .f32⟩
  | 9 => ⟨S1x1x512, .f32⟩
  | 10 => ⟨S1x4096x512, .f32⟩
  | 11 => ⟨S1x4096x512, .f32⟩
  | 12 => ⟨S1x4096x512, .f32⟩
  | 13 => ⟨S1x512, .f32⟩
  | 14 => ⟨S512, .f32⟩
  | 15 => ⟨S1x4096x512, .f32⟩
  | 16 => ⟨S1x1x512, .f32⟩
  | 17 => ⟨S1x4096x512, .f32⟩
  | 18 => ⟨S1x4096x512, .f32⟩
  | 19 => ⟨S1x4096x512, .f32⟩
  | 20 => ⟨S1x4096x512, .f32⟩
  | 21 => ⟨S1x4096x512, .f32⟩
  | 22 => ⟨S_, .f32⟩
  | 23 => ⟨S1x4096, .f32⟩
  | 24 => ⟨S1x4096x1, .f32⟩
  | 25 => ⟨S_, .f32⟩
  | 26 => ⟨S1x4096x1, .f32⟩
  | 27 => ⟨S1x4096x1, .f32⟩
  | 28 => ⟨S_, .f32⟩
  | 29 => ⟨S1x4096x1, .f32⟩
  | 30 => ⟨S1x4096x1, .f32⟩
  | 31 => ⟨S1x4096x1, .f32⟩
  | 32 => ⟨S1x4096x512, .f32⟩
  | 33 => ⟨S1x4096x512, .f32⟩
  | 34 => ⟨S1x1x512, .f32⟩
  | 35 => ⟨S1x4096x512, .f32⟩
  | 36 => ⟨S1x4096x512, .f32⟩
  | 37 => ⟨S1x4096x512, .f32⟩
  | 38 => ⟨S_, .f32⟩
  | 39 => ⟨S1x4096, .f32⟩
  | 40 => ⟨S1x4096x1, .f32⟩
  | 41 => ⟨S_, .f32⟩
  | 42 => ⟨S1x4096x1, .f32⟩
  | 43 => ⟨S1x4096x1, .f32⟩
  | 44 => ⟨S_, .f32⟩
  | 45 => ⟨S1x4096x1, .f32⟩
  | 46 => ⟨S1x4096x1, .f32⟩
  | 47 => ⟨S1x4096x1, .f32⟩
  | 48 => ⟨S1x4096x512, .f32⟩
  | 49 => ⟨S1x4096x512, .f32⟩
  | 50 => ⟨S1x1x512, .f32⟩
  | 51 => ⟨S1x4096x512, .f32⟩
  | 52 => ⟨S1x4096x512, .f32⟩
  | 53 => ⟨S1x4096x1024, .f32⟩
  | 54 => ⟨S32x8x128, .f32⟩
  | 55 => ⟨S32x128x8, .f32⟩
  | 56 => ⟨S4096x8, .f32⟩
  | 57 => ⟨S4096x512, .f32⟩
  | 58 => ⟨S4096x1024, .f32⟩
  | 59 => ⟨S4096x1024, .bf16⟩
  | 60 => ⟨S_, .f32⟩
  | 61 => ⟨S4096x120, .f32⟩
  | 62 => ⟨S4096x128, .f32⟩
  | 63 => ⟨S32x8x128x256, .f32⟩
  | 64 => ⟨S32x8x128x256, .bf16⟩
  | _ => ⟨S4096x512, .bf16⟩

abbrev hbmTy (i : Nat) : BufTy := match i / 128 with
  | 0 => hbmTy0_0 i
  | 1 => hbmTy0_1 i
  | _ => ⟨S4096x512, .bf16⟩

abbrev bufTy : (tb : Table) → Fin (tcTables nBuf tb) → BufTy
  | .hbm, ⟨i, _⟩ => hbmTy i
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_0 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_2 : Ref sig .tc := ⟨.hbm, 53, rfl⟩
abbrev main_v38 : Ref sig .tc := ⟨.hbm, 54, rfl⟩
abbrev main_v39 : Ref sig .tc := ⟨.hbm, 55, rfl⟩
abbrev main_c_3 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_4 : Ref sig .tc := ⟨.hbm, 67, rfl⟩
abbrev main_v50 : Ref sig .tc := ⟨.hbm, 68, rfl⟩
abbrev main_v51 : Ref sig .tc := ⟨.hbm, 69, rfl⟩
abbrev main_c_5 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_c_6 : Ref sig .tc := ⟨.hbm, 76, rfl⟩
abbrev main_v57 : Ref sig .tc := ⟨.hbm, 77, rfl⟩
abbrev main_v58 : Ref sig .tc := ⟨.hbm, 78, rfl⟩
abbrev main_c_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_8 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_9 : Ref sig .tc := ⟨.hbm, 94, rfl⟩
abbrev main_call0_v0 : Ref sig .tc := ⟨.hbm, 95, rfl⟩
abbrev main_call0_v1 : Ref sig .tc := ⟨.hbm, 96, rfl⟩
abbrev main_call0_v2 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_10 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_11 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_12 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_13 : Ref sig .tc := ⟨.hbm, 150, rfl⟩
abbrev main_v121 : Ref sig .tc := ⟨.hbm, 151, rfl⟩
abbrev main_v122 : Ref sig .tc := ⟨.hbm, 152, rfl⟩
abbrev main_cst_14 : Ref sig .tc := ⟨.hbm, 153, rfl⟩
abbrev main_v123 : Ref sig .tc := ⟨.hbm, 154, rfl⟩
abbrev main_v124 : Ref sig .tc := ⟨.hbm, 155, rfl⟩
abbrev main_cst_15 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_16 : Ref sig .tc := ⟨.hbm, 166, rfl⟩
abbrev main_v134 : Ref sig .tc := ⟨.hbm, 167, rfl⟩
abbrev main_v135 : Ref sig .tc := ⟨.hbm, 168, rfl⟩
abbrev main_cst_17 : Ref sig .tc := ⟨.hbm, 169, rfl⟩
abbrev main_v136 : Ref sig .tc := ⟨.hbm, 170, rfl⟩
abbrev main_v137 : Ref sig .tc := ⟨.hbm, 171, rfl⟩
abbrev main_cst_18 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_cst_19 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩

abbrev nD : Nat := 1
abbrev τ : Topo := Topo.v7x

variable {F : FTy → Type} [FloatOps F]

def κ : String → Option EReal := fun
  | "mask" => some ⊥
  | _ => none
-- ==== Kernel3.lean ====
abbrev S4096x1024 : Shape := ⟨2, ![4096, 1024]⟩
abbrev S1x6144 : Shape := ⟨2, ![1, 6144]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S5632x1024 : Shape := ⟨2, ![5632, 1024]⟩
abbrev S4096x2816 : Shape := ⟨2, ![4096, 2816]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 34
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x6144, .f32⟩
  | .hbm, ⟨3, _⟩ => ⟨S1024x1024, .f32⟩
  | .hbm, ⟨4, _⟩ => ⟨S1x1024, .f32⟩
  | .hbm, ⟨5, _⟩ => ⟨S1024x5632, .f32⟩
  | .hbm, ⟨6, _⟩ => ⟨S2816x1024, .f32⟩
  | .hbm, ⟨7, _⟩ => ⟨S1024, .f32⟩
  | .hbm, ⟨8, _⟩ => ⟨S4096x1024, .f32⟩
  | .hbm, ⟨9, _⟩ => ⟨S6x1024, .f32⟩
  | .hbm, ⟨10, _⟩ => ⟨S_, .f32⟩
  | .hbm, ⟨11, _⟩ => ⟨S2x1024, .f32⟩
  | .hbm, ⟨12, _⟩ => ⟨S8x1024, .f32⟩
  | .hbm, ⟨13, _⟩ => ⟨S1024x1024, .bf16⟩
  | .hbm, ⟨14, _⟩ => ⟨S4096x1024, .f32⟩
  | .hbm, ⟨15, _⟩ => ⟨S1024x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .bf16⟩
  | .hbm, ⟨22, _⟩ => ⟨S5632x1024, .f32⟩
  | .hbm, ⟨23, _⟩ => ⟨S5632x1024, .bf16⟩
  | .hbm, ⟨24, _⟩ => ⟨S2816x1024, .bf16⟩
  | .hbm, ⟨25, _⟩ => ⟨S1x1024, .f32⟩
  | .hbm, ⟨26, _⟩ => ⟨S4096x1024, .bf16⟩
  | .hbm, ⟨27, _⟩ => ⟨S4096x2816, .bf16⟩
  | .hbm, ⟨28, _⟩ => ⟨S4096x1024, .bf16⟩
  | .hbm, ⟨29, _⟩ => ⟨S4096x5632, .bf16⟩
  | .hbm, ⟨30, _⟩ => ⟨S4096x1024, .bf16⟩
  | .hbm, ⟨31, _⟩ => ⟨S1024x1024, .bf16⟩
  | .hbm, ⟨32, _⟩ => ⟨S4096x1024, .bf16⟩
  | .hbm, ⟨33, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S8x1024, .f32⟩
  | .local _ .vmem, ⟨7, _⟩ => ⟨S1x1024, .f32⟩
  | .local _ .vmem, ⟨8, _⟩ => ⟨S5632x1024, .bf16⟩
  | .local _ .vmem, ⟨9, _⟩ => ⟨S2816x1024, .bf16⟩
  | .local _ .vmem, ⟨10, _⟩ => ⟨S1024x1024, .bf16⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x2816, .bf16⟩
  | .local _ .vmem, ⟨17, _⟩ => ⟨S256x2816, .bf16⟩
  | .local _ .vmem, ⟨18, _⟩ => ⟨S256x1024, .bf16⟩
  | .local _ .vmem, ⟨19, _⟩ => ⟨S256x1024, .bf16⟩
  | .local _ .vmem, ⟨20, _⟩ => ⟨S256x5632, .bf16⟩
  | .local _ .vmem, ⟨21, _⟩ => ⟨S256x5632, .bf16⟩
  | .local _ .vmem, ⟨22, _⟩ => ⟨S256x1024, .bf16⟩
  | .local _ .vmem, ⟨23, _⟩ => ⟨S256x1024, .bf16⟩
  | .local _ .vmem, ⟨24, _⟩ => ⟨S1024x1024, .bf16⟩
  | .local _ .vmem, ⟨25, _⟩ => ⟨S256x1024, .bf16⟩
  | .local _ .vmem, ⟨26, _⟩ => ⟨S256x1024, .bf16⟩
  | .local _ .vmem, ⟨27, _⟩ => ⟨S8x1024, .f32⟩
  | .local _ .vmem, ⟨28, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16_0 : Ref sig .tc := ⟨.hbm, 26, rfl⟩
abbrev main_v16_1 : Ref sig .tc := ⟨.hbm, 27, rfl⟩
abbrev main_v16_2 : Ref sig .tc := ⟨.hbm, 28, rfl⟩
abbrev main_v16_3 : Ref sig .tc := ⟨.hbm, 29, rfl⟩
abbrev main_v16_4 : Ref sig .tc := ⟨.hbm, 30, rfl⟩
abbrev main_v16_5 : Ref sig .tc := ⟨.hbm, 31, rfl⟩
abbrev main_v16_6 : Ref sig .tc := ⟨.hbm, 32, rfl⟩
abbrev main_v16_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem16_0 : DmaSem sig := 25
abbrev cc0_sem16_1 : DmaSem sig := 26
abbrev cc0_sem17_0 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5632x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== Reference3Ideal.lean ====
abbrev S4096x1024 : Shape := ⟨2, ![4096, 1024]⟩
abbrev S1x6144 : Shape := ⟨2, ![1, 6144]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S1x4096x5632 : Shape := ⟨3, ![1, 4096, 5632]⟩
abbrev S1x4096x1024 : Shape := ⟨3, ![1, 4096, 1024]⟩
abbrev S1x1x6144 : Shape := ⟨3, ![1, 1, 6144]⟩
abbrev S1x1x1024 : Shape := ⟨3, ![1, 1, 1024]⟩
abbrev S1x4096 : Shape := ⟨2, ![1, 4096]⟩
abbrev S1x4096x1 : Shape := ⟨3, ![1, 4096, 1]⟩
abbrev S1x4096x2816 : Shape := ⟨3, ![1, 4096, 2816]⟩
abbrev S4096 : Shape := ⟨1, ![4096]⟩
abbrev S6144 : Shape := ⟨1, ![6144]⟩
abbrev S6x1024 : Shape := ⟨2, ![6, 1024]⟩
abbrev S8x1024 : Shape := ⟨2, ![8, 1024]⟩
abbrev S4096x5632 : Shape := ⟨2, ![4096, 5632]⟩
abbrev S4096x2816 : Shape := ⟨2, ![4096, 2816]⟩

abbrev nBuf : Space → Nat
  | .hbm => 239
  | .vmem => 0
  | .smem => 0
  | _ => 0

abbrev hbmTy0_0 (i : Nat) : BufTy := match i % 128 with
  | 0 => ⟨S4096x1024, .f32⟩
  | 1 => ⟨S4096x1024, .bf16⟩
  | 2 => ⟨S1x6144, .f32⟩
  | 3 => ⟨S1024x1024, .f32⟩
  | 4 => ⟨S1x1024, .f32⟩
  | 5 => ⟨S1024x5632, .f32⟩
  | 6 => ⟨S2816x1024, .f32⟩
  | 7 => ⟨S1024, .f32⟩
  | 8 => ⟨S4096x1024, .f32⟩
  | 9 => ⟨S_, .f32⟩
  | 10 => ⟨S1x4096x5632, .f32⟩
  | 11 => ⟨S_, .f32⟩
  | 12 => ⟨S1x4096x1024, .f32⟩
  | 13 => ⟨S1x4096x1024, .f32⟩
  | 14 => ⟨S4096x1024, .f32⟩
  | 15 => ⟨S1x4096x1024, .f32⟩
  | 16 => ⟨S1x4096x1024, .f32⟩
  | 17 => ⟨S1x1x6144, .f32⟩
  | 18 => ⟨S1x1x1024, .f32⟩
  | 19 => ⟨S1x1x1024, .f32⟩
  | 20 => ⟨S1x1x1024, .f32⟩
  | 21 => ⟨S1x1x1024, .f32⟩
  | 22 => ⟨S1x1x1024, .f32⟩
  | 23 => ⟨S1x1x1024, .f32⟩
  | 24 => ⟨S1x4096x1024, .f32⟩
  | 25 => ⟨S1x4096x1024, .f32⟩
  | 26 => ⟨S1x4096x1024, .f32⟩
  | 27 => ⟨S1x4096x1024, .f32⟩
  | 28 => ⟨S1x4096x1024, .f32⟩
  | 29 => ⟨S_, .f32⟩
  | 30 => ⟨S1x4096, .f32⟩
  | 31 => ⟨S1x4096x1, .f32⟩
  | 32 => ⟨S_, .f32⟩
  | 33 => ⟨S1x4096x1, .f32⟩
  | 34 => ⟨S1x4096x1, .f32⟩
  | 35 => ⟨S_, .f32⟩
  | 36 => ⟨S1x4096x1, .f32⟩
  | 37 => ⟨S1x4096x1, .f32⟩
  | 38 => ⟨S1x4096x1, .f32⟩
  | 39 => ⟨S1x4096x1, .f32⟩
  | 40 => ⟨S_, .f32⟩
  | 41 => ⟨S1x4096x1, .f32⟩
  | 42 => ⟨S1x4096x1, .f32⟩
  | 43 => ⟨S1x4096x1024, .f32⟩
  | 44 => ⟨S1x4096x1024, .f32⟩
  | 45 => ⟨S1x1x1024, .f32⟩
  | 46 => ⟨S1x4096x1024, .f32⟩
  | 47 => ⟨S1x4096x1024, .f32⟩
  | 48 => ⟨S_, .f32⟩
  | 49 => ⟨S1x1x1024, .f32⟩
  | 50 => ⟨S1x1x1024, .f32⟩
  | 51 => ⟨S1x4096x1024, .f32⟩
  | 52 => ⟨S1x4096x1024, .f32⟩
  | 53 => ⟨S1x4096x1024, .f32⟩
  | 54 => ⟨S1x4096x1024, .f32⟩
  | 55 => ⟨S1x4096x5632, .f32⟩
  | 56 => ⟨S1x4096x5632, .f32⟩
  | 57 => ⟨S1x4096x2816, .f32⟩
  | 58 => ⟨S1x4096x2816, .f32⟩
  | 59 => ⟨S1x4096x2816, .f32⟩
  | 60 => ⟨S1x4096x2816, .f32⟩
  | 61 => ⟨S_, .f32⟩
  | 62 => ⟨S1x4096x2816, .f32⟩
  | 63 => ⟨S1x4096x2816, .f32⟩
  | 64 => ⟨S_, .f32⟩
  | 65 => ⟨S1x4096x2816, .f32⟩
  | 66 => ⟨S1x4096x2816, .f32⟩
  | 67 => ⟨S_, .f32⟩
  | 68 => ⟨S1x4096x2816, .f32⟩
  | 69 => ⟨S1x4096x2816, .f32⟩
  | 70 => ⟨S1x4096x2816, .f32⟩
  | 71 => ⟨S1x4096x2816, .f32⟩
  | 72 => ⟨S1x4096x2816, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S_, .f32⟩
  | 80 => ⟨S1x4096, .f32⟩
  | 81 => ⟨S1x4096x1, .f32⟩
  | 82 => ⟨S_, .f32⟩
  | 83 => ⟨S1x4096x1, .f32⟩
  | 84 => ⟨S1x4096x1, .f32⟩
  | 85 => ⟨S_, .f32⟩
  | 86 => ⟨S1x4096x1, .f32⟩
  | 87 => ⟨S1x4096x1, .f32⟩
  | 88 => ⟨S1x4096x1, .f32⟩
  | 89 => ⟨S1x4096x1, .f32⟩
  | 90 => ⟨S_, .f32⟩
  | 91 => ⟨S1x4096x1, .f32⟩
  | 92 => ⟨S1x4096x1, .f32⟩
  | 93 => ⟨S1x4096x1024, .f32⟩
  | 94 => ⟨S1x4096x1024, .f32⟩
  | 95 => ⟨S1x1x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S_, .f32⟩
  | 101 => ⟨S1x4096x1024, .f32⟩
  | 102 => ⟨S1x4096x1024, .f32⟩
  | 103 => ⟨S_, .f32⟩
  | 104 => ⟨S1x4096, .f32⟩
  | 105 => ⟨S_, .f32⟩
  | 106 => ⟨S1x4096, .f32⟩
  | 107 => ⟨S1x4096, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S1x4096, .f32⟩
  | 116 => ⟨S_, .f32⟩
  | 117 => ⟨S1x4096, .f32⟩
  | 118 => ⟨S1x4096, .f32⟩
  | 119 => ⟨S1x4096x1024, .f32⟩
  | 120 => ⟨S1x4096x1024, .f32⟩
  | 121 => ⟨S1x4096x1024, .f32⟩
  | 122 => ⟨S_, .f32⟩
  | 123 => ⟨S1x1024, .f32⟩
  | 124 => ⟨S1x1x1024, .f32⟩
  | 125 => ⟨S1x4096x1024, .f32⟩
  | 126 => ⟨S1x4096x1024, .f32⟩
  | 127 => ⟨S_, .f32⟩
  | _ => ⟨S4096x1024, .f32⟩

abbrev hbmTy0_1 (i : Nat) : BufTy := match i % 128 with
  | 0 => ⟨S1024, .f32⟩
  | 1 => ⟨S1x4096x1024, .f32⟩
  | 2 => ⟨S_, .f32⟩
  | 3 => ⟨S1x4096, .f32⟩
  | 4 => ⟨S1x4096x1, .f32⟩
  | 5 => ⟨S1x4096x1024, .f32⟩
  | 6 => ⟨S1x4096x1024, .f32⟩
  | 7 => ⟨S1x4096x1, .f32⟩
  | 8 => ⟨S_, .f32⟩
  | 9 => ⟨S1x4096x1, .f32⟩
  | 10 => ⟨S1x4096x1, .f32⟩
  | 11 => ⟨S_, .f32⟩
  | 12 => ⟨S4096, .f32⟩
  | 13 => ⟨S1x4096, .f32⟩
  | 14 => ⟨S1x4096x1024, .f32⟩
  | 15 => ⟨S1x4096x1024, .f32⟩
  | 16 => ⟨S1x4096x1024, .f32⟩
  | 17 => ⟨S1x4096x1024, .f32⟩
  | 18 => ⟨S1x4096x1024, .f32⟩
  | 19 => ⟨S1x4096x1024, .f32⟩
  | 20 => ⟨S1x4096x1024, .f32⟩
  | 21 => ⟨S1x4096x1024, .f32⟩
  | 22 => ⟨S_, .f32⟩
  | 23 => ⟨S1x1024, .f32⟩
  | 24 => ⟨S1x1x1024, .f32⟩
  | 25 => ⟨S1x4096x2816, .f32⟩
  | 26 => ⟨S1x4096x2816, .f32⟩
  | 27 => ⟨S1x4096x2816, .f32⟩
  | 28 => ⟨S1x4096x2816, .f32⟩
  | 29 => ⟨S1x4096x2816, .f32⟩
  | 30 => ⟨S1x4096x2816, .f32⟩
  | 31 => ⟨S1x4096x2816, .f32⟩
  | 32 => ⟨S1x4096x5632, .f32⟩
  | 33 => ⟨S1x4096x1024, .f32⟩
  | 34 => ⟨S_, .f32⟩
  | 35 => ⟨S1x1024, .f32⟩
  | 36 => ⟨S1x1x1024, .f32⟩
  | 37 => ⟨S1x4096x1024, .f32⟩
  | 38 => ⟨S_, .f32⟩
  | 39 => ⟨S1x1024, .f32⟩
  | 40 => ⟨S1x1x1024, .f32⟩
  | 41 => ⟨S1x4096x1024, .f32⟩
  | 42 => ⟨S1x4096x1024, .f32⟩
  | 43 => ⟨S1x4096x1024, .f32⟩
  | 44 => ⟨S_, .f32⟩
  | 45 => ⟨S1x1024, .f32⟩
  | 46 => ⟨S1x1x1024, .f32⟩
  | 47 => ⟨S1x4096x1024, .f32⟩
  | 48 => ⟨S1x4096x1024, .f32⟩
  | 49 => ⟨S_, .f32⟩
  | 50 => ⟨S1024, .f32⟩
  | 51 => ⟨S1x1024, .f32⟩
  | 52 => ⟨S1x4096x1024, .f32⟩
  | 53 => ⟨S_, .f32⟩
  | 54 => ⟨S1x4096, .f32⟩
  | 55 => ⟨S1x4096x1, .f32⟩
  | 56 => ⟨S1x4096x1024, .f32⟩
  | 57 => ⟨S1x4096x1024, .f32⟩
  | 58 => ⟨S1x4096x1024, .f32⟩
  | 59 => ⟨S1x4096x1, .f32⟩
  | 60 => ⟨S_, .f32⟩
  | 61 => ⟨S1x4096x1, .f32⟩
  | 62 => ⟨S1x4096x1, .f32⟩
  | 63 => ⟨S_, .f32⟩
  | 64 => ⟨S4096, .f32⟩
  | 65 => ⟨S1x4096, .f32⟩
  | 66 => ⟨S1x4096x1024, .f32⟩
  | 67 => ⟨S1x4096x1024, .f32⟩
  | 68 => ⟨S1x4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S_, .f32⟩
  | 75 => ⟨S1x1024, .f32⟩
  | 76 => ⟨S1x1x1024, .f32⟩
  | 77 => ⟨S1024x1024, .f32⟩
  | 78 => ⟨S1024x1024, .f32⟩
  | 79 => ⟨S1x4096x1024, .f32⟩
  | 80 => ⟨S_, .f32⟩
  | 81 => ⟨S1x1x1024, .f32⟩
  | 82 => ⟨S_, .f32⟩
  | 83 => ⟨S1x1x1024, .f32⟩
  | 84 => ⟨S1x1x6144, .f32⟩
  | 85 => ⟨S_, .f32⟩
  | 86 => ⟨S6144, .f32⟩
  | 87 => ⟨S1x6144, .f32⟩
  | 88 => ⟨S6x1024, .f32⟩
  | 89 => ⟨S1x1024, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S1x1024, .f32⟩
  | 97 => ⟨S8x1024, .f32⟩
  | 98 => ⟨S4096x1024, .f32⟩
  | 99 => ⟨S4096x1024, .bf16⟩
  | 100 => ⟨S1024x1024, .bf16⟩
  | 101 => ⟨S4096x1024, .f32⟩
  | 102 => ⟨S4096x1024, .bf16⟩
  | 103 => ⟨S4096x5632, .f32⟩
  | 104 => ⟨S4096x5632, .bf16⟩
  | 105 => ⟨S4096x1024, .f32⟩
  | 106 => ⟨S4096x1024, .bf16⟩
  | 107 => ⟨S4096x1024, .f32⟩
  | 108 => ⟨S4096x1024, .bf16⟩
  | 109 => ⟨S4096x2816, .f32⟩
  | 110 => ⟨S4096x2816, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_call0_v0 : Ref sig .tc := ⟨.hbm, 59, rfl⟩
abbrev main_call0_v1 : Ref sig .tc := ⟨.hbm, 60, rfl⟩
abbrev main_call0_cst : Ref sig .tc := ⟨.hbm, 61, rfl⟩
abbrev main_call0_v2 : Ref sig .tc := ⟨.hbm, 62, rfl⟩
abbrev main_call0_v3 : Ref sig .tc := ⟨.hbm, 63, rfl⟩
abbrev main_call0_cst_0 : Ref sig .tc := ⟨.hbm, 64, rfl⟩
abbrev main_call0_v4 : Ref sig .tc := ⟨.hbm, 65, rfl⟩
abbrev main_v43_2 : Ref sig .tc := ⟨.hbm, 66, rfl⟩
abbrev main_call0_cst_1 : Ref sig .tc := ⟨.hbm, 67, rfl⟩
abbrev main_call0_v6 : Ref sig .tc := ⟨.hbm, 68, rfl⟩
abbrev main_call0_v7 : Ref sig .tc := ⟨.hbm, 69, rfl⟩
abbrev main_v43_1 : Ref sig .tc := ⟨.hbm, 70, rfl⟩
abbrev main_v43_0 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_cst_7 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_9 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_cst_11 : Ref sig .tc := ⟨.hbm, 103, rfl⟩
abbrev main_v70 : Ref sig .tc := ⟨.hbm, 104, rfl⟩
abbrev main_cst_12 : Ref sig .tc := ⟨.hbm, 105, rfl⟩
abbrev main_v71 : Ref sig .tc := ⟨.hbm, 106, rfl⟩
abbrev main_v72 : Ref sig .tc := ⟨.hbm, 107, rfl⟩
abbrev main_cst_13 : Ref sig .tc := ⟨.hbm, 108, rfl⟩
abbrev main_v73 : Ref sig .tc := ⟨.hbm, 109, rfl⟩
abbrev main_cst_14 : Ref sig .tc := ⟨.hbm, 110, rfl⟩
abbrev main_v74 : Ref sig .tc := ⟨.hbm, 111, rfl⟩
abbrev main_cst_15 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_cst_17 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_cst_18 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_19 : Ref sig .tc := ⟨.hbm, 127, rfl⟩
abbrev main_v86 : Ref sig .tc := ⟨.hbm, 128, rfl⟩
abbrev main_v87 : Ref sig .tc := ⟨.hbm, 129, rfl⟩
abbrev main_cst_20 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_21 : Ref sig .tc := ⟨.hbm, 136, rfl⟩
abbrev main_v93 : Ref sig .tc := ⟨.hbm, 137, rfl⟩
abbrev main_v94 : Ref sig .tc := ⟨.hbm, 138, rfl⟩
abbrev main_cst_22 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_cst_23 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_call1_v0 : Ref sig .tc := ⟨.hbm, 156, rfl⟩
abbrev main_call1_v1 : Ref sig .tc := ⟨.hbm, 157, rfl⟩
abbrev main_call1_v2 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_24 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_cst_25 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_26 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_cst_27 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_28 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_cst_29 : Ref sig .tc := ⟨.hbm, 188, rfl⟩
abbrev main_v134 : Ref sig .tc := ⟨.hbm, 189, rfl⟩
abbrev main_v135 : Ref sig .tc := ⟨.hbm, 190, rfl⟩
abbrev main_cst_30 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_cst_31 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_32 : Ref sig .tc := ⟨.hbm, 208, rfl⟩
abbrev main_v151 : Ref sig .tc := ⟨.hbm, 209, rfl⟩
abbrev main_cst_33 : Ref sig .tc := ⟨.hbm, 210, rfl⟩
abbrev main_v152 : Ref sig .tc := ⟨.hbm, 211, rfl⟩
abbrev main_v153 : Ref sig .tc := ⟨.hbm, 212, rfl⟩
abbrev main_cst_34 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_35 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_v174 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩

abbrev nD : Nat := 1
abbrev τ : Topo := Topo.v7x

variable {F : FTy → Type} [FloatOps F]
-- ==== Kernel4.lean ====
abbrev S4096x1024 : Shape := ⟨2, ![4096, 1024]⟩
abbrev S1024x2304 : Shape := ⟨2, ![1024, 2304]⟩
abbrev S1x6144 : Shape := ⟨2, ![1, 6144]⟩
abbrev S1x1024 : Shape := ⟨2, ![1, 1024]⟩
abbrev S_ : Shape := ⟨0, ![]⟩
abbrev S8x128 : Shape := ⟨2, ![8, 128]⟩
abbrev S6x1024 : Shape := ⟨2, ![6, 1024]⟩
abbrev S2x1024 : Shape := ⟨2, ![2, 1024]⟩
abbrev S8x1024 : Shape := ⟨2, ![8, 1024]⟩
abbrev S2304x1024 : Shape := ⟨2, ![2304, 1024]⟩
abbrev S4096x512 : Shape := ⟨2, ![4096, 512]⟩
abbrev S4096x256 : Shape := ⟨2, ![4096, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2304 : Shape := ⟨2, ![512, 2304]⟩

abbrev nBuf : Space → Nat
  | .hbm => 18
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S1x6144, .f32⟩
  | .hbm, ⟨3, _⟩ => ⟨S1x1024, .f32⟩
  | .hbm, ⟨4, _⟩ => ⟨S_, .f32⟩
  | .hbm, ⟨5, _⟩ => ⟨S8x128, .f32⟩
  | .hbm, ⟨6, _⟩ => ⟨S6x1024, .f32⟩
  | .hbm, ⟨7, _⟩ => ⟨S_, .f32⟩
  | .hbm, ⟨8, _⟩ => ⟨S2x1024, .f32⟩
  | .hbm, ⟨9, _⟩ => ⟨S8x1024, .f32⟩
  | .hbm, ⟨10, _⟩ => ⟨S2304x1024, .f32⟩
  | .hbm, ⟨11, _⟩ => ⟨S2304x1024, .bf16⟩
  | .hbm, ⟨12, _⟩ => ⟨S4096x1024, .bf16⟩
  | .hbm, ⟨13, _⟩ => ⟨S4096x512, .bf16⟩
  | .hbm, ⟨14, _⟩ => ⟨S4096x256, .bf16⟩
  | .hbm, ⟨15, _⟩ => ⟨S4096x512, .bf16⟩
  | .hbm, ⟨16, _⟩ => ⟨S4096x512, .bf16⟩
  | .hbm, ⟨17, _⟩ => ⟨S4096x512, .bf16⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S1x1024, .f32⟩
  | .local _ .vmem, ⟨4, _⟩ => ⟨S2304x1024, .bf16⟩
  | .local _ .vmem, ⟨5, _⟩ => ⟨S512x1024, .bf16⟩
  | .local _ .vmem, ⟨6, _⟩ => ⟨S512x1024, .bf16⟩
  | .local _ .vmem, ⟨7, _⟩ => ⟨S512x512, .bf16⟩
  | .local _ .vmem, ⟨8, _⟩ => ⟨S512x512, .bf16⟩
  | .local _ .vmem, ⟨9, _⟩ => ⟨S512x256, .bf16⟩
  | .local _ .vmem, ⟨10, _⟩ => ⟨S512x256, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4096x1024 : Shape := ⟨2, ![4096, 1024]⟩
abbrev S1024x2304 : Shape := ⟨2, ![1024, 2304]⟩
abbrev S1x6144 : Shape := ⟨2, ![1, 6144]⟩
abbrev S1x1024 : Shape := ⟨2, ![1, 1024]⟩
abbrev S1x1x6144 : Shape := ⟨3, ![1, 1, 6144]⟩
abbrev S1x1x1024 : Shape := ⟨3, ![1, 1, 1024]⟩
abbrev S1x4096x1024 : Shape := ⟨3, ![1, 4096, 1024]⟩
abbrev S_ : Shape := ⟨0, ![]⟩
abbrev S1x4096 : Shape := ⟨2, ![1, 4096]⟩
abbrev S1x4096x1 : Shape := ⟨3, ![1, 4096, 1]⟩
abbrev S1x4096x2304 : Shape := ⟨3, ![1, 4096, 2304]⟩
abbrev S1x4096x512 : Shape := ⟨3, ![1, 4096, 512]⟩
abbrev S1x4096x256 : Shape := ⟨3, ![1, 4096, 256]⟩
abbrev S4096x512 : Shape := ⟨2, ![4096, 512]⟩
abbrev S4096x256 : Shape := ⟨2, ![4096, 256]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2304, .f32⟩
  | .hbm, ⟨2, _⟩ => ⟨S1x6144, .f32⟩
  | .hbm, ⟨3, _⟩ => ⟨S1x1024, .f32⟩
  | .hbm, ⟨4, _⟩ => ⟨S1x1x6144, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x4096x1024, .f32⟩
  | .hbm, ⟨12, _⟩ => ⟨S1x4096x1024, .f32⟩
  | .hbm, ⟨13, _⟩ => ⟨S_, .f32⟩
  | .hbm, ⟨14, _⟩ => ⟨S1x4096, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S_, .f32⟩
  | .hbm, ⟨20, _⟩ => ⟨S1x4096x1, .f32⟩
  | .hbm, ⟨21, _⟩ => ⟨S1x4096x1, .f32⟩
  | .hbm, ⟨22, _⟩ => ⟨S1x4096x1, .f32⟩
  | .hbm, ⟨23, _⟩ => ⟨S1x4096x1024, .f32⟩
  | .hbm, ⟨24, _⟩ => ⟨S1x4096x1024, .f32⟩
  | .hbm, ⟨25, _⟩ => ⟨S1x1x1024, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x1x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x2304, .f32⟩
  | .hbm, ⟨36, _⟩ => ⟨S1x4096x512, .f32⟩
  | .hbm, ⟨37, _⟩ => ⟨S1x4096x256, .f32⟩
  | .hbm, ⟨38, _⟩ => ⟨S1x4096x512, .f32⟩
  | .hbm, ⟨39, _⟩ => ⟨S1x4096x512, .f32⟩
  | .hbm, ⟨40, _⟩ => ⟨S1x4096x512, .f32⟩
  | .hbm, ⟨41, _⟩ => ⟨S4096x1024, .f32⟩
  | .hbm, ⟨42, _⟩ => ⟨S4096x1024, .bf16⟩
  | .hbm, ⟨43, _⟩ => ⟨S4096x512, .f32⟩
  | .hbm, ⟨44, _⟩ => ⟨S4096x512, .bf16⟩
  | .hbm, ⟨45, _⟩ => ⟨S4096x256, .f32⟩
  | .hbm, ⟨46, _⟩ => ⟨S4096x256, .bf16⟩
  | .hbm, ⟨47, _⟩ => ⟨S4096x512, .f32⟩
  | .hbm, ⟨48, _⟩ => ⟨S4096x512, .bf16⟩
  | .hbm, ⟨49, _⟩ => ⟨S4096x512, .f32⟩
  | .hbm, ⟨50, _⟩ => ⟨S4096x512, .bf16⟩
  | .hbm, ⟨51, _⟩ => ⟨S4096x512, .f32⟩
  | .hbm, ⟨52, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩

abbrev nD : Nat := 1
abbrev τ : Topo := Topo.v7x

variable {F : FTy → Type} [FloatOps F]
-- ==== Kernel5.lean ====
abbrev S4096x1024 : Shape := ⟨2, ![4096, 1024]⟩
abbrev S1x6144 : Shape := ⟨2, ![1, 6144]⟩
abbrev S1024x1024 : Shape := ⟨2, ![1024, 1024]⟩
abbrev S6x1024 : Shape := ⟨2, ![6, 1024]⟩
abbrev S_ : Shape := ⟨0, ![]⟩
abbrev S2x1024 : Shape := ⟨2, ![2, 1024]⟩
abbrev S8x1024 : Shape := ⟨2, ![8, 1024]⟩
abbrev S512x1024 : Shape := ⟨2, ![512, 1024]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x6144, .f32⟩
  | .hbm, ⟨3, _⟩ => ⟨S1024x1024, .f32⟩
  | .hbm, ⟨4, _⟩ => ⟨S6x1024, .f32⟩
  | .hbm, ⟨5, _⟩ => ⟨S_, .f32⟩
  | .hbm, ⟨6, _⟩ => ⟨S2x1024, .f32⟩
  | .hbm, ⟨7, _⟩ => ⟨S8x1024, .f32⟩
  | .hbm, ⟨8, _⟩ => ⟨S1024x1024, .bf16⟩
  | .hbm, ⟨9, _⟩ => ⟨S4096x1024, .bf16⟩
  | .hbm, ⟨10, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S4096x1024 : Shape := ⟨2, ![4096, 1024]⟩
abbrev S1x6144 : Shape := ⟨2, ![1, 6144]⟩
abbrev S1024x1024 : Shape := ⟨2, ![1024, 1024]⟩
abbrev S1x1x6144 : Shape := ⟨3, ![1, 1, 6144]⟩
abbrev S1x1x1024 : Shape := ⟨3, ![1, 1, 1024]⟩
abbrev S1x4096x1024 : Shape := ⟨3, ![1, 4096, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1x6144, .f32⟩
  | .hbm, ⟨3, _⟩ => ⟨S1024x1024, .f32⟩
  | .hbm, ⟨4, _⟩ => ⟨S1x1x6144, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S4096x1024, .f32⟩
  | .hbm, ⟨12, _⟩ => ⟨S1x4096x1024, .f32⟩
  | .hbm, ⟨13, _⟩ => ⟨S1x4096x1024, .f32⟩
  | .hbm, ⟨14, _⟩ => ⟨S4096x1024, .f32⟩
  | .hbm, ⟨15, _⟩ => ⟨S4096x1024, .bf16⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S1x4096x1024, .f32⟩
  | .hbm, ⟨20, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩

abbrev nD : Nat := 1
abbrev τ : Topo := Topo.v7x

variable {F : FTy → Type} [FloatOps F]
-- ==== Kernel6.lean ====
abbrev S4096x5632 : Shape := ⟨2, ![4096, 5632]⟩
abbrev S4096x1024 : Shape := ⟨2, ![4096, 1024]⟩
abbrev S_ : Shape := ⟨0, ![]⟩
abbrev S8x128 : Shape := ⟨2, ![8, 128]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S8x128, .f32⟩
  | .hbm, ⟨4, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S704x1024 : Shape := ⟨2, ![704, 1024]⟩
abbrev S8x704x1024 : Shape := ⟨3, ![8, 704, 1024]⟩
abbrev S7x704x1024 : Shape := ⟨3, ![7, 704, 1024]⟩
abbrev S_ : Shape := ⟨0, ![]⟩
abbrev S1 : Shape := ⟨1, ![1]⟩
abbrev S352x1024 : Shape := ⟨2, ![352, 1024]⟩
abbrev S1x352x1024 : Shape := ⟨3, ![1, 352, 1024]⟩
abbrev S7x352x1024 : Shape := ⟨3, ![7, 352, 1024]⟩

abbrev nBuf : Space → Nat
  | .hbm => 10
  | .vmem => 18
  | .smem => 1
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x704x1024, .bf16⟩
  | .hbm, ⟨4, _⟩ => ⟨S7x704x1024, .bf16⟩
  | .hbm, ⟨5, _⟩ => ⟨S_, .i32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S1x352x1024, .bf16⟩
  | .local _ .vmem, ⟨7, _⟩ => ⟨S1x352x1024, .bf16⟩
  | .local _ .vmem, ⟨8, _⟩ => ⟨S7x352x1024, .bf16⟩
  | .local _ .vmem, ⟨9, _⟩ => ⟨S7x352x1024, .bf16⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | .local _ .smem, ⟨0, _⟩ => ⟨S1, .i32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S704x1024 : Shape := ⟨2, ![704, 1024]⟩
abbrev S8x704x1024 : Shape := ⟨3, ![8, 704, 1024]⟩
abbrev S7x704x1024 : Shape := ⟨3, ![7, 704, 1024]⟩
abbrev S1x704x1024 : Shape := ⟨3, ![1, 704, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S8x704x1024, .bf16⟩
  | .hbm, ⟨4, _⟩ => ⟨S7x704x1024, .bf16⟩
  | .hbm, ⟨5, _⟩ => ⟨S1x704x1024, .bf16⟩
  | .hbm, ⟨6, _⟩ => ⟨S704x1024, .bf16⟩
  | .hbm, ⟨7, _⟩ => ⟨S704x1024, .f32⟩
  | .hbm, ⟨8, _⟩ => ⟨S7x704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== Kernel8.lean ====
abbrev S8x1x12032 : Shape := ⟨3, ![8, 1, 12032]⟩
abbrev S1x6144 : Shape := ⟨2, ![1, 6144]⟩
abbrev S1x1024 : Shape := ⟨2, ![1, 1024]⟩
abbrev S1x128 : Shape := ⟨2, ![1, 128]⟩
abbrev S1x1x12032 : Shape := ⟨3, ![1, 1, 12032]⟩
abbrev S1x12032 : Shape := ⟨2, ![1, 12032]⟩

abbrev nBuf : Space → Nat
  | .hbm => 23
  | .vmem => 23
  | .smem => 0
  | _ => 0

abbrev bufTy : (tb : Table) → Fin (tcTables nBuf tb) → BufTy
  | .hbm, ⟨0, _⟩ => ⟨S8x1x12032, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x128, .f32⟩
  | .hbm, ⟨11, _⟩ => ⟨S1x6144, .f32⟩
  | .hbm, ⟨12, _⟩ => ⟨S1x6144, .f32⟩
  | .hbm, ⟨13, _⟩ => ⟨S1x6144, .f32⟩
  | .hbm, ⟨14, _⟩ => ⟨S1x6144, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .local _ .vmem, ⟨0, _⟩ => ⟨S8x1x12032, .f32⟩
  | .local _ .vmem, ⟨1, _⟩ => ⟨S1x6144, .f32⟩
  | .local _ .vmem, ⟨2, _⟩ => ⟨S1x6144, .f32⟩
  | .local _ .vmem, ⟨3, _⟩ => ⟨S1x6144, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x128, .f32⟩
  | .local _ .vmem, ⟨11, _⟩ => ⟨S1x6144, .f32⟩
  | .local _ .vmem, ⟨12, _⟩ => ⟨S1x6144, .f32⟩
  | .local _ .vmem, ⟨13, _⟩ => ⟨S1x6144, .f32⟩
  | .local _ .vmem, ⟨14, _⟩ => ⟨S1x6144, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | _, _ => ⟨S8x1x12032, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := .none

abbrev stage0_0 : Fin 1 → Memref sig .tc .vmem S8x1x12032 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x6144 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x6144 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x6144 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x6144 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
-- ==== Reference8Ideal.lean ====
abbrev S8x1x12032 : Shape := ⟨3, ![8, 1, 12032]⟩
abbrev S1x6144 : Shape := ⟨2, ![1, 6144]⟩
abbrev S1x1024 : Shape := ⟨2, ![1, 1024]⟩
abbrev S_ : Shape := ⟨0, ![]⟩
abbrev S1x12032 : Shape := ⟨2, ![1, 12032]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S8x1x12032, .f32⟩
  | .hbm, ⟨1, _⟩ => ⟨S1x6144, .f32⟩
  | .hbm, ⟨2, _⟩ => ⟨S1x6144, .f32⟩
  | .hbm, ⟨3, _⟩ => ⟨S1x6144, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S1x12032, .f32⟩
  | .hbm, ⟨12, _⟩ => ⟨S1x128, .f32⟩
  | .hbm, ⟨13, _⟩ => ⟨S1x6144, .f32⟩
  | .hbm, ⟨14, _⟩ => ⟨S1x1024, .f32⟩
  | .hbm, ⟨15, _⟩ => ⟨S1x1024, .f32⟩
  | .hbm, ⟨16, _⟩ => ⟨S_, .f32⟩
  | .hbm, ⟨17, _⟩ => ⟨S1x6144, .f32⟩
  | .hbm, ⟨18, _⟩ => ⟨S1x6144, .f32⟩
  | .hbm, ⟨19, _⟩ => ⟨S_, .f32⟩
  | .hbm, ⟨20, _⟩ => ⟨S1x6144, .f32⟩
  | .hbm, ⟨21, _⟩ => ⟨S1x6144, .f32⟩
  | .hbm, ⟨22, _⟩ => ⟨S1x6144, .f32⟩
  | .hbm, ⟨23, _⟩ => ⟨S_, .f32⟩
  | .hbm, ⟨24, _⟩ => ⟨S1x6144, .f32⟩
  | .hbm, ⟨25, _⟩ => ⟨S1x6144, .f32⟩
  | .hbm, ⟨26, _⟩ => ⟨S1x6144, .f32⟩
  | .hbm, ⟨27, _⟩ => ⟨S_, .f32⟩
  | .hbm, ⟨28, _⟩ => ⟨S1x6144, .f32⟩
  | .hbm, ⟨29, _⟩ => ⟨S1x6144, .f32⟩
  | .hbm, ⟨30, _⟩ => ⟨S1x6144, .f32⟩
  | .hbm, ⟨31, _⟩ => ⟨S_, .f32⟩
  | .hbm, ⟨32, _⟩ => ⟨S1x6144, .f32⟩
  | .hbm, ⟨33, _⟩ => ⟨S1x6144, .f32⟩
  | .hbm, ⟨34, _⟩ => ⟨S_, .f32⟩
  | .hbm, ⟨35, _⟩ => ⟨S1x6144, .f32⟩
  | .hbm, ⟨36, _⟩ => ⟨S1x6144, .f32⟩
  | .hbm, ⟨37, _⟩ => ⟨S1x6144, .f32⟩
  | .hbm, ⟨38, _⟩ => ⟨S_, .f32⟩
  | .hbm, ⟨39, _⟩ => ⟨S1x6144, .f32⟩
  | .hbm, ⟨40, _⟩ => ⟨S1x6144, .f32⟩
  | .hbm, ⟨41, _⟩ => ⟨S1x6144, .f32⟩
  | .hbm, ⟨42, _⟩ => ⟨S_, .f32⟩
  | .hbm, ⟨43, _⟩ => ⟨S1x6144, .f32⟩
  | .hbm, ⟨44, _⟩ => ⟨S1x6144, .f32⟩
  | .hbm, ⟨45, _⟩ => ⟨S1x6144, .f32⟩
  | .hbm, ⟨46, _⟩ => ⟨S_, .f32⟩
  | .hbm, ⟨47, _⟩ => ⟨S1x6144, .f32⟩
  | .hbm, ⟨48, _⟩ => ⟨S1x6144, .f32⟩
  | .hbm, ⟨49, _⟩ => ⟨S_, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S_, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S1x1024, .f32⟩
  | .hbm, ⟨79, _⟩ => ⟨S_, .f32⟩
  | .hbm, ⟨80, _⟩ => ⟨S1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1x1024, .f32⟩
  | .hbm, ⟨87, _⟩ => ⟨S1x1024, .f32⟩
  | .hbm, ⟨88, _⟩ => ⟨S1x1024, .f32⟩
  | .hbm, ⟨89, _⟩ => ⟨S_, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S_, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S_, .f32⟩
  | .hbm, ⟨98, _⟩ => ⟨S1x1024, .f32⟩
  | .hbm, ⟨99, _⟩ => ⟨S1x1024, .f32⟩
  | .hbm, ⟨100, _⟩ => ⟨S_, .f32⟩
  | .hbm, ⟨101, _⟩ => ⟨S1x1024, .f32⟩
  | .hbm, ⟨102, _⟩ => ⟨S1x1024, .f32⟩
  | .hbm, ⟨103, _⟩ => ⟨S1x1024, .f32⟩
  | .hbm, ⟨104, _⟩ => ⟨S_, .f32⟩
  | .hbm, ⟨105, _⟩ => ⟨S1x1024, .f32⟩
  | .hbm, ⟨106, _⟩ => ⟨S1x1024, .f32⟩
  | .hbm, ⟨107, _⟩ => ⟨S1x1024, .f32⟩
  | .hbm, ⟨108, _⟩ => ⟨S_, .f32⟩
  | .hbm, ⟨109, _⟩ => ⟨S1x1024, .f32⟩
  | .hbm, ⟨110, _⟩ => ⟨S1x1024, .f32⟩
  | .hbm, ⟨111, _⟩ => ⟨S1x1024, .f32⟩
  | .hbm, ⟨112, _⟩ => ⟨S_, .f32⟩
  | .hbm, ⟨113, _⟩ => ⟨S1x1024, .f32⟩
  | .hbm, ⟨114, _⟩ => ⟨S1x1024, .f32⟩
  | _, _ => ⟨S8x1x12032, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_6 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_7 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_cst_9 : Ref sig .tc := ⟨.hbm, 49, rfl⟩
abbrev main_v29 : Ref sig .tc := ⟨.hbm, 50, rfl⟩
abbrev main_v30 : Ref sig .tc := ⟨.hbm, 51, rfl⟩
abbrev main_cst_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_11 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_12 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_13 : Ref sig .tc := ⟨.hbm, 64, rfl⟩
abbrev main_v40 : Ref sig .tc := ⟨.hbm, 65, rfl⟩
abbrev main_v41 : Ref sig .tc := ⟨.hbm, 66, rfl⟩
abbrev main_cst_14 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_15 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_16 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_17 : Ref sig .tc := ⟨.hbm, 79, rfl⟩
abbrev main_v51 : Ref sig .tc := ⟨.hbm, 80, rfl⟩
abbrev main_v52 : Ref sig .tc := ⟨.hbm, 81, rfl⟩
abbrev main_cst_18 : Ref sig .tc := ⟨.hbm, 82, rfl⟩
abbrev main_v53 : Ref sig .tc := ⟨.hbm, 83, rfl⟩
abbrev main_v54 : Ref sig .tc := ⟨.hbm, 84, rfl⟩
abbrev main_cst_19 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_20 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_21 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_22 : Ref sig .tc := ⟨.hbm, 97, rfl⟩
abbrev main_v64 : Ref sig .tc := ⟨.hbm, 98, rfl⟩
abbrev main_v65 : Ref sig .tc := ⟨.hbm, 99, rfl⟩
abbrev main_cst_23 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_24 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_25 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_26 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]
-- ==== Proof.Over.lean ====
/- What a buffer reads after a list of stores over earlier contents, as a plain function of the earlier contents: the
   newest store that holds the index wins. The stores of these kernels are rectangles of unit stride in rank-2 buffers,
   read here at an index given by its row and column. -/
module

public import Idealize.ShloMosaic.Lib.Pointwise
public import Idealize.ShloMosaic.Lib.WritesUnit
public import Idealize.ShloMosaic.Lib.Pipeline.FrameBody

@[expose] public section

set_option maxRecDepth 16384

noncomputable section

namespace Cert.Over

open Idealize.ShloMosaic

section General

variable {s : Shape} {e : EltTy} {Val : EltTy → Type}

/-- Earlier contents `base` under the stores `L`, the last one first in the list. -/
def over (base : s.Idx → Val e) : List (View.Piece Val s e) → s.Idx → Val e
  | [] => base
  | p :: L => p.1.overlay (over base L) p.2

theorem over_nil (base : s.Idx → Val e) : over base ([] : List (View.Piece Val s e)) = base := rfl

/-- Reading a view after stores is `over` of what it read before. -/
theorem read_writes {sig : RefSig} {κ : Kind} {sp : Space} (v : View sig κ sp s e) (f : v.ty.Contents Val) :
    ∀ L : List (View.Piece Val s e), v.read Val (v.writes Val f L) = over (v.read Val f) L
  | [] => by rw [View.writes_nil]; rfl
  | p :: L => by
    funext y
    by_cases hy : y ∈ p.1.set
    · obtain ⟨r, w⟩ := p
      obtain ⟨x, rfl⟩ : ∃ x, r.emb x = y := r.exists_idx_of_mem hy
      rw [View.read_writes_cons_emb]
      exact (r.overlay_emb _ _ x).symm
    · have hy' : y ∉ Finset.univ.map p.1.emb := by rwa [Rect.map_emb_univ]
      rw [View.writes_cons, View.read_slice_write_of_not_mem p.1 _ _ _ hy', read_writes v f L]
      exact (p.1.overlay_of_not_mem _ _ hy).symm

/-- The canonical contents of a list of stores are `over` of arbitrary contents. -/
theorem canon_eq [∀ e, Nonempty (Val e)] : ∀ L : List (View.Piece Val s e),
    View.canon L = over (fun _ => Classical.arbitrary _) L
  | [] => rfl
  | p :: L => by rw [View.canon_cons, canon_eq L]; rfl

/-- The newest store, a rectangle of unit stride, read at an index. -/
theorem over_unit (base : s.Idx → Val e) {off size : Fin s.rank → ℕ} (inb : ∀ a, off a + size a ≤ s.size a)
    (w : (Rect.unit off size inb).shape.Idx → Val e) (L : List (View.Piece Val s e)) (y : s.Idx) :
    over base ((⟨Rect.unit off size inb, w⟩ : View.Piece Val s e) :: L) y
      = if h : ∀ a, off a ≤ (y a).val ∧ (y a).val < off a + size a then
          w (Rect.unitLocal (s := s) (off := off) (size := size) y h)
        else over base L y := by
  by_cases h : ∀ a, off a ≤ (y a).val ∧ (y a).val < off a + size a
  · rw [dif_pos h]
    have hy : (Rect.unit off size inb).emb (Rect.unitLocal (s := s) (off := off) (size := size) y h) = y :=
      funext fun a => Fin.ext (by
        show off a + 1 * (Rect.unitLocal (s := s) (off := off) (size := size) y h a).val = (y a).val
        rw [Rect.unitLocal_val]; have := h a; omega)
    exact (congrArg (over base ((⟨Rect.unit off size inb, w⟩ : View.Piece Val s e) :: L)) hy.symm).trans
      ((Rect.unit off size inb).overlay_emb _ _ _)
  · rw [dif_neg h]
    refine (Rect.unit off size inb).overlay_of_not_mem _ _ ?_
    rw [Rect.mem_set_unit]
    exact h

end General

section Rank2

variable {A B : ℕ} {e : EltTy} {Val : EltTy → Type}

/-- The newest store, rows `[o, o + p)` and columns `[u, u + q)` of an `A` by `B` buffer, read at row `a` and column `b`. -/
theorem over_rect (base : (⟨2, ![A, B]⟩ : Shape).Idx → Val e) {o u p q : ℕ}
    (inb : ∀ a : Fin 2, (![o, u] : Fin 2 → ℕ) a + (![p, q] : Fin 2 → ℕ) a ≤ (![A, B] : Fin 2 → ℕ) a)
    (w : (⟨2, ![p, q]⟩ : Shape).Idx → Val e) (L : List (View.Piece Val (⟨2, ![A, B]⟩ : Shape) e)) (a : Fin A) (b : Fin B) :
    over base ((⟨Rect.unit (s := ⟨2, ![A, B]⟩) ![o, u] ![p, q] inb, w⟩ : View.Piece Val (⟨2, ![A, B]⟩ : Shape) e) :: L)
        (ix2 a b)
      = if h : (o ≤ a.val ∧ a.val < o + p) ∧ (u ≤ b.val ∧ b.val < u + q) then
          w (ix2 ⟨a.val - o, by omega⟩ ⟨b.val - u, by omega⟩)
        else over base L (ix2 a b) := by
  rw [over_unit]
  by_cases h : (o ≤ a.val ∧ a.val < o + p) ∧ (u ≤ b.val ∧ b.val < u + q)
  · rw [dif_pos h, dif_pos (Fin.forall_fin_two.mpr h)]
    refine congrArg w (funext fun x => ?_)
    match x with
    | ⟨0, _⟩ => rfl
    | ⟨1, _⟩ => rfl
  · rw [dif_neg h, dif_neg (fun h' => h (Fin.forall_fin_two.mp h'))]

/-- A load of rows `[o, o + p)` and columns `[u, u + q)` after stores into a buffer that held nothing known. -/
theorem cov_rect [∀ e, Nonempty (Val e)] {sig : RefSig} {κ : Kind} {sp : Space} (v : View sig κ sp ⟨2, ![A, B]⟩ e)
    (L : List (View.Piece Val (⟨2, ![A, B]⟩ : Shape) e)) {o u p q : ℕ}
    (inb : ∀ a : Fin 2, (![o, u] : Fin 2 → ℕ) a + (![p, q] : Fin 2 → ℕ) a ≤ (![A, B] : Fin 2 → ℕ) a)
    (a : Fin p) (b : Fin q) :
    v.readCov L (Rect.unit (s := ⟨2, ![A, B]⟩) ![o, u] ![p, q] inb).toLoadRect (ix2 a b)
      = over (fun _ => Classical.arbitrary _) L
          (ix2 ⟨o + a.val, lt_of_lt_of_le (Nat.add_lt_add_left a.isLt o) (inb 0)⟩
            ⟨u + b.val, lt_of_lt_of_le (Nat.add_lt_add_left b.isLt u) (inb 1)⟩) := by
  rw [View.readCov_eq_canon', canon_eq]
  refine congrArg (over _ L) (funext fun x => Fin.ext ?_)
  match x with
  | ⟨0, _⟩ => show o + 1 * a.val = o + a.val; omega
  | ⟨1, _⟩ => show u + 1 * b.val = u + b.val; omega

end Rank2

end Cert.Over

end
-- ==== Proof.NormMath.lean ====
/- The root-mean-square norm of one row of 1024 elements and its derivative, over the extended reals: the two ways in which
   the derivative along the row is written, and that they agree where everything is finite. -/
module

public import Idealize.ShloMosaic.Lib.Pointwise

@[expose] public section

set_option maxRecDepth 16384

noncomputable section

namespace Cert.NormMath

open Idealize.ShloMosaic

/-- The row length as the programs write it. -/
abbrev width : EReal := Ideal.ofBits .f32 0x44800000#32
/-- The small constant under the root. -/
abbrev eps : EReal := Ideal.ofBits .f32 0x358637BD#32
/-- Minus one half. -/
abbrev negHalf : EReal := Ideal.ofBits .f32 0xBF000000#32

theorem width_eq : width = ((1024 : ℝ) : EReal) := by
  simp [width, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem eps_pos : ∃ e : ℝ, 0 < e ∧ eps = (e : EReal) := by
  have h : eps = ((1 / 2 ^ 20 * (1 + 407485 / 2 ^ 23) : ℝ) : EReal) := by
    simp [eps, Ideal.ofBits, Ideal.ieee, -EReal.coe_mul]
    norm_num
  exact ⟨_, by norm_num, h⟩

/-- The mean square of a row, plus the small constant. -/
def meanSq (x : Fin 1024 → EReal) : EReal := Ideal.div (∑ k, x k * x k) width + eps

/-- One over the root of the mean square. -/
def rinv (x : Fin 1024 → EReal) : EReal := Ideal.rsqrt (meanSq x)

/-- The derivative of the norm along the row, as a kernel writes it: `u` is the cotangent of the normed row. -/
def back (x u : Fin 1024 → EReal) (l : Fin 1024) : EReal :=
  rinv x * (u l - x l * rinv x * Ideal.div (∑ k, u k * (x k * rinv x)) width)

/-- The coefficient of the row itself in the derivative, as differentiation of the plain formula gives it. -/
def coef (x u : Fin 1024 → EReal) : EReal :=
  Ideal.div ((∑ k, x k * u k) * (negHalf * Ideal.div (rinv x) (meanSq x))) width

theorem coe_sum (n : ℕ) (f : Fin n → ℝ) : ((∑ k, f k : ℝ) : EReal) = ∑ k, (f k : EReal) := by
  induction n with
  | zero => simp
  | succ n ih => rw [Fin.sum_univ_succ, Fin.sum_univ_succ, EReal.coe_add, ih]

theorem div_real (a b : ℝ) (hb : b ≠ 0) : Ideal.div (a : EReal) (b : EReal) = ((a / b : ℝ) : EReal) := by
  rw [Ideal.div_coe hb, ← EReal.coe_mul, mul_one_div]

/-- On finite rows the mean square is a positive real and the inverse root is its real inverse root. -/
theorem real_row (x : Fin 1024 → ℝ) : ∃ v : ℝ, 0 < v ∧ meanSq (fun k => (x k : EReal)) = (v : EReal)
    ∧ rinv (fun k => (x k : EReal)) = ((1 / Real.sqrt v : ℝ) : EReal) := by
  obtain ⟨e, he, hE⟩ := eps_pos
  have hm : meanSq (fun k => (x k : EReal)) = (((∑ k, x k * x k) / 1024 + e : ℝ) : EReal) := by
    unfold meanSq
    simp only [← EReal.coe_mul, ← coe_sum]
    rw [width_eq, hE, div_real _ _ (by norm_num), ← EReal.coe_add]
  have hv : 0 < (∑ k, x k * x k) / 1024 + e :=
    add_pos_of_nonneg_of_pos (div_nonneg (Finset.sum_nonneg fun k _ => mul_self_nonneg _) (by norm_num)) he
  refine ⟨_, hv, hm, ?_⟩
  unfold rinv
  rw [hm, Ideal.rsqrt_coe, if_neg hv.le.not_gt, if_neg hv.ne', one_div]

/-- The derivative as the kernel writes it is the sum of the three terms that differentiation gives, on finite rows. -/
theorem back_eq (x u : Fin 1024 → ℝ) (d : EReal) (l : Fin 1024) :
    d + back (fun k => (x k : EReal)) (fun k => (u k : EReal)) l
      = d + (u l : EReal) * rinv (fun k => (x k : EReal))
        + (x l : EReal) * coef (fun k => (x k : EReal)) (fun k => (u k : EReal))
        + coef (fun k => (x k : EReal)) (fun k => (u k : EReal)) * (x l : EReal) := by
  obtain ⟨v, hv, hm, hr⟩ := real_row x
  unfold back coef
  rw [hm, hr, width_eq, negHalf_eq]
  have hs := Real.sqrt_pos.mpr hv
  have hsq : v = Real.sqrt v * Real.sqrt v := (Real.mul_self_sqrt hv.le).symm
  rw [div_real _ _ hv.ne']
  simp only [← EReal.coe_mul, ← coe_sum]
  rw [div_real _ _ (by norm_num), div_real _ _ (by norm_num)]
  simp only [← EReal.coe_mul, ← EReal.coe_sub]
  rw [add_assoc, add_assoc, ← EReal.coe_add, ← EReal.coe_add]
  congr 2
  set s := Real.sqrt v with hsdef
  have e1 : ∑ k, u k * (x k * (1 / s)) = (∑ k, x k * u k) * (1 / s) := by
    rw [Finset.sum_mul]; exact Finset.sum_congr rfl fun k _ => by ring
  rw [e1, hsq]
  field_simp
  ring

end Cert.NormMath

end
-- ==== Proof.InProjSpec.lean ====
/- The gradients of the modulated norm before the input projection, as formulas over arrays of any number of rows: the row's
   gradient and the three column sums. The kernel's blocks and the whole arrays are both instances. -/
module

public import proofs.«01_k».proof.Proof.NormMath

@[expose] public section

set_option maxRecDepth 16384

noncomputable section

namespace Cert.InProjSpec

open Idealize.ShloMosaic Cert.NormMath

/-- What both programs take: the projection's cotangent `P`, the weight `W` (from the model's width to the projection's), the
    stream `X`, its own cotangent `D`, the modulation's scale `S` and the norm's gain `G`. -/
structure Args (n : ℕ) where
  P : Fin n → Fin 2304 → EReal
  W : Fin 1024 → Fin 2304 → EReal
  X : Fin n → Fin 1024 → EReal
  D : Fin n → Fin 1024 → EReal
  S : Fin 1024 → EReal
  G : Fin 1024 → EReal

variable {n : ℕ} (A : Args n)

/-- The cotangent of the modulated norm: the projection's cotangent against the weight. -/
def dh (r : Fin n) (l : Fin 1024) : EReal := ∑ k, A.P r k * A.W l k

/-- … and of the scaled norm, the modulation's scale taken off. -/
def dn (r : Fin n) (l : Fin 1024) : EReal := dh A r l * (1 + A.S l)

/-- The stream's gradient. -/
def dx (r : Fin n) (l : Fin 1024) : EReal := A.D r l + back (A.X r) (fun k => dn A r k * A.G k) l

/-- One row's part of the three column sums: the shift's, the scale's and the gain's gradient. -/
def part (a : Fin 8) (r : Fin n) (l : Fin 1024) : EReal :=
  if a.val = 0 then dh A r l
  else if a.val = 1 then dh A r l * (A.X r l * rinv (A.X r) * A.G l)
  else if a.val = 2 then dn A r l * (A.X r l * rinv (A.X r))
  else 0

/-- The small sums, by row. -/
def small (a : Fin 8) (l : Fin 1024) : EReal := ∑ r, part A a r l

/-- Row `r` of block `t`, among `n = m · b` rows in blocks of `b`. -/
def rowOf {n m b : ℕ} (h : n = m * b) (t : Fin m) (r : Fin b) : Fin n := Fin.cast h.symm (finProdFinEquiv (t, r))

theorem rowOf_val {n m b : ℕ} (h : n = m * b) (t : Fin m) (r : Fin b) : (rowOf h t r).val = r.val + b * t.val := rfl

/-- A sum over the rows, block by block. -/
theorem sum_rowOf {n m b : ℕ} (h : n = m * b) (f : Fin n → EReal) : ∑ t, ∑ r, f (rowOf h t r) = ∑ r, f r := by
  subst h
  rw [← Fintype.sum_prod_type' (f := fun t r => f (rowOf rfl t r))]
  exact Fintype.sum_equiv finProdFinEquiv _ _ fun _ => rfl

/-- The rows of block `t`. -/
def Args.block {n m b : ℕ} (h : n = m * b) (A : Args n) (t : Fin m) : Args b where
  P r := A.P (rowOf h t r)
  W := A.W
  X r := A.X (rowOf h t r)
  D r := A.D (rowOf h t r)
  S := A.S
  G := A.G

theorem dx_block {n m b : ℕ} (h : n = m * b) (A : Args n) (t : Fin m) (r : Fin b) (l : Fin 1024) :
    dx (A.block h t) r l = dx A (rowOf h t r) l := rfl

/-- The sums over all rows are the sums over the blocks. -/
theorem small_blocks {n m b : ℕ} (h : n = m * b) (A : Args n) (a : Fin 8) (l : Fin 1024) :
    ∑ t, small (A.block h t) a l = small A a l :=
  sum_rowOf h fun r => part A a r l

end Cert.InProjSpec

end
-- ==== Proof.InProjBlocks.lean ====
/- What one grid point of the input projection's backward kernel leaves in its two output blocks, element by element. -/
module

public import proofs.«01_k».proof.Proof.Gen.KernelIdeal.Value
public import proofs.«01_k».proof.Proof.Over
public import proofs.«01_k».proof.Proof.InProjSpec

@[expose] public section

set_option maxRecDepth 16384

noncomputable section

namespace Cert.KernelIdeal.InProj

open Cert.KernelIdeal Cert.KernelIdeal.Gen Idealize.ShloMosaic Idealize.ShloMosaic.TcCoe Idealize.SL.Sem
open Cert.NormMath Cert.Over

theorem hz : (![0, 0] : Fin 2 → Nat) = fun _ => 0 := funext fun a => by fin_cases a <;> rfl

section Block

variable (x0 : Vec Ideal S1024x2304 .bf16) (x1 : Vec Ideal S1024x1024 .f32) (x2 : Vec Ideal S1024x1024 .bf16)
  (x3 : Vec Ideal S8x1024 .f32) (x4 : Vec Ideal S1x1024 .f32) (x5 : Vec Ideal S2304x1024 .bf16)

/-- The point's blocks as the formulas take them. -/
def blockArgs : InProjSpec.Args 1024 where
  P r k := x0 (ix2 r k)
  W l k := x5 (ix2 k l)
  X r k := x1 (ix2 r k)
  D r k := x2 (ix2 r k)
  S k := x3 (ix2 1 k)
  G k := x4 (ix2 0 k)

end Block

/-- Rows from the fourth on hold zero. -/
theorem small_rest {n : ℕ} (A : InProjSpec.Args n) (a : Fin 8) (l : Fin 1024) (h : 3 ≤ a.val) : InProjSpec.small A a l = 0 :=
  Finset.sum_eq_zero fun r _ => by
    unfold InProjSpec.part
    rw [if_neg (by omega), if_neg (by omega), if_neg (by omega)]

section Cases

variable (c : Dev nD) (i : grid0.Coords)
  (arg2 : Memref sig .tc .vmem S1024x2304 .bf16) (harg2 : arg2.IsWhole)
  (arg3 : Memref sig .tc .vmem S1024x1024 .f32) (harg3 : arg3.IsWhole)
  (arg4 : Memref sig .tc .vmem S1024x1024 .bf16) (harg4 : arg4.IsWhole)
  (arg5 : Memref sig .tc .vmem S8x1024 .f32) (harg5 : arg5.IsWhole)
  (arg6 : Memref sig .tc .vmem S1x1024 .f32) (harg6 : arg6.IsWhole)
  (arg7 : Memref sig .tc .vmem S2304x1024 .bf16) (harg7 : arg7.IsWhole)
  (arg8 : Memref sig .tc .vmem S1024x1024 .f32) (harg8 : arg8.IsWhole)
  (arg9 : Memref sig .tc .vmem S8x1024 .f32) (harg9 : arg9.IsWhole)
  (x0 : Vec Ideal S1024x2304 .bf16) (x1 : Vec Ideal S1024x1024 .f32) (x2 : Vec Ideal S1024x1024 .bf16)
  (x3 : Vec Ideal S8x1024 .f32) (x4 : Vec Ideal S1x1024 .f32) (x5 : Vec Ideal S2304x1024 .bf16)

theorem dx_A (hc : cond0_0 i) (r l : Fin 1024) :
    out0_A_6 c i arg2 harg2 arg3 harg3 arg4 harg4 arg5 harg5 arg6 harg6 arg7 harg7 arg8 harg8 arg9 harg9 hc
      x0 x1 x2 x3 x4 x5 (ix2 r l) = InProjSpec.dx (blockArgs x0 x1 x2 x3 x4 x5) r l := by
  unfold out0_A_6
  rw [View.read_writes_eq_canon _ _ _ (cover0_A_6 c i arg2 harg2 arg3 harg3 arg4 harg4 arg5 harg5 arg6 harg6 arg7 harg7
    arg8 harg8 arg9 harg9 hc x0 x1 x2 x3 x4 x5)]
  unfold kernelRun0_A
  dsimp only
  sl_unfold_words
  rw [View.canon_unit_zero hz]
  simp only [View.readAt_eq_ld, harg2.read_unread, harg3.read_unread, harg4.read_unread, harg5.read_unread,
    harg6.read_unread, harg7.read_unread, View.ld_unit_zero (S := S1024x2304) hz, View.ld_unit_zero (S := S1024x1024) hz,
    View.ld_unit_zero (S := S1x1024) hz, View.ld_unit_zero (S := S2304x1024) hz]
  unfold_payloads
  pointwise
  rfl

theorem small_B (hc : ¬cond0_0 i) (xo : Vec Ideal S8x1024 .f32) (a : Fin 8) (l : Fin 1024) :
    out0_B_7 c i arg2 harg2 arg3 harg3 arg4 harg4 arg5 harg5 arg6 harg6 arg7 harg7 arg8 harg8 arg9 harg9 hc
      x0 x1 x2 x3 x4 x5 xo (ix2 a l) = xo (ix2 a l) + InProjSpec.small (blockArgs x0 x1 x2 x3 x4 x5) a l := by
  unfold out0_B_7
  unfold kernelRun0_B
  dsimp only
  sl_unfold_words
  rw [Over.read_writes]
  simp only [View.readAt_eq_ld, harg2.read_unread, harg3.read_unread, harg4.read_unread, harg5.read_unread,
    harg6.read_unread, harg7.read_unread, harg9.read_unread, View.ld_unit_zero (S := S1024x2304) hz, View.ld_unit_zero (S := S1024x1024) hz,
    View.ld_unit_zero (S := S1x1024) hz, View.ld_unit_zero (S := S2304x1024) hz]
  have hl := l.isLt
  rcases (by omega : a.val = 0 ∨ a.val = 1 ∨ a.val = 2 ∨ 3 ≤ a.val) with h | h | h | h
  · obtain rfl : a = 0 := Fin.ext h
    erw [over_rect, dif_neg (by simp), over_rect, dif_neg (by simp), over_rect, dif_pos (by simp)]
    unfold_payloads
    pointwise
    rfl
  · obtain rfl : a = 1 := Fin.ext h
    erw [over_rect, dif_neg (by simp), over_rect, dif_pos (by simp)]
    unfold_payloads
    pointwise
    rfl
  · obtain rfl : a = 2 := Fin.ext h
    erw [over_rect, dif_pos (by simp)]
    unfold_payloads
    pointwise
    rfl
  · erw [over_rect, dif_neg (by omega), over_rect, dif_neg (by omega), over_rect, dif_neg (by omega)]
    rw [small_rest _ _ _ h, add_zero]
    rfl

theorem dx_B (hc : ¬cond0_0 i) (xo : Vec Ideal S8x1024 .f32) (r l : Fin 1024) :
    out0_B_6 c i arg2 harg2 arg3 harg3 arg4 harg4 arg5 harg5 arg6 harg6 arg7 harg7 arg8 harg8 arg9 harg9 hc
      x0 x1 x2 x3 x4 x5 xo (ix2 r l) = InProjSpec.dx (blockArgs x0 x1 x2 x3 x4 x5) r l := by
  unfold out0_B_6
  rw [View.read_writes_eq_canon _ _ _ (cover0_B_6 c i arg2 harg2 arg3 harg3 arg4 harg4 arg5 harg5 arg6 harg6 arg7 harg7
    arg8 harg8 arg9 harg9 hc x0 x1 x2 x3 x4 x5 xo)]
  unfold kernelRun0_B
  dsimp only
  sl_unfold_words
  rw [View.canon_unit_zero hz]
  simp only [View.readAt_eq_ld, harg2.read_unread, harg3.read_unread, harg4.read_unread, harg5.read_unread,
    harg6.read_unread, harg7.read_unread, View.ld_unit_zero (S := S1024x2304) hz, View.ld_unit_zero (S := S1024x1024) hz,
    View.ld_unit_zero (S := S1x1024) hz, View.ld_unit_zero (S := S2304x1024) hz]
  unfold_payloads
  pointwise
  rfl

theorem small_A (hc : cond0_0 i) (a : Fin 8) (l : Fin 1024) :
    out0_A_7 c i arg2 harg2 arg3 harg3 arg4 harg4 arg5 harg5 arg6 harg6 arg7 harg7 arg8 harg8 arg9 harg9 hc
      x0 x1 x2 x3 x4 x5 (ix2 a l) = InProjSpec.small (blockArgs x0 x1 x2 x3 x4 x5) a l := by
  unfold out0_A_7
  unfold kernelRun0_A
  dsimp only
  sl_unfold_words
  rw [Over.read_writes]
  simp only [View.readAt_eq_ld, harg2.read_unread, harg3.read_unread, harg4.read_unread, harg5.read_unread,
    harg6.read_unread, harg7.read_unread, View.ld_unit_zero (S := S1024x2304) hz, View.ld_unit_zero (S := S1024x1024) hz,
    View.ld_unit_zero (S := S1x1024) hz, View.ld_unit_zero (S := S2304x1024) hz]
  have hl := l.isLt
  rcases (by omega : a.val = 0 ∨ a.val = 1 ∨ a.val = 2 ∨ 3 ≤ a.val) with h | h | h | h
  · obtain rfl : a = 0 := Fin.ext h
    erw [over_rect, dif_neg (by simp), over_rect, dif_neg (by simp), over_rect, dif_pos (by simp)]
    unfold_payloads
    pointwise
    erw [cov_rect, over_rect, dif_pos (by simp)]
    pointwise
    rfl
  · obtain rfl : a = 1 := Fin.ext h
    erw [over_rect, dif_neg (by simp), over_rect, dif_pos (by simp)]
    unfold_payloads
    pointwise
    erw [cov_rect, over_rect, dif_neg (by simp), over_rect, dif_pos (by simp)]
    pointwise
    rfl
  · obtain rfl : a = 2 := Fin.ext h
    erw [over_rect, dif_pos (by simp)]
    unfold_payloads
    pointwise
    erw [cov_rect, over_rect, dif_neg (by simp), over_rect, dif_neg (by simp), over_rect, dif_pos (by simp)]
    pointwise
    rfl
  · erw [over_rect, dif_neg (by omega), over_rect, dif_neg (by omega), over_rect, dif_neg (by omega), over_rect,
      dif_pos (by omega)]
    rw [small_rest _ _ _ h]
    unfold_payloads
    pointwise

end Cases

end Cert.KernelIdeal.InProj

end
-- ==== Proof.InProjArrays.lean ====
/- The two result arrays of the input projection's backward kernel, element by element, as formulas of its arguments. -/
module

public import proofs.«01_k».proof.Proof.InProjBlocks
public import Idealize.ShloMosaic.Lib.Pipeline.ValueKit
public import Idealize.ShloMosaic.Lib.StableHlo.ReadAt

@[expose] public section

set_option maxRecDepth 16384

noncomputable section

namespace Cert.KernelIdeal.InProj

open Cert.KernelIdeal Cert.KernelIdeal.Gen Idealize.ShloMosaic Idealize.ShloMosaic.TcCoe Idealize.SL.Sem
open Cert.NormMath Cert.Over

variable (m : (ℓ : Loc nD τ sig) → Buf (Elt Ideal) ℓ) (c : Dev nD)

/-- The arguments of the whole arrays. -/
def arrArgs : InProjSpec.Args 4096 where
  P r k := m ((c : Thread nD τ).loc main_arg5) (ix2 r k)
  W l k := m ((c : Thread nD τ).loc main_arg1) (ix2 l k)
  X r k := m ((c : Thread nD τ).loc main_arg0) (ix2 r k)
  D r k := m ((c : Thread nD τ).loc main_arg4) (ix2 r k)
  S k := m ((c : Thread nD τ).loc main_arg2) (ix2 0 ⟨1024 + k.val, by omega⟩)
  G k := m ((c : Thread nD τ).loc main_arg3) (ix2 0 k)

/-- The rows go in four blocks of 1024. -/
theorem rows4 : 4096 = cfg0.N * 1024 := by rw [show cfg0.N = 4 from N_0]

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

/-- The modulation's scale as the kernel finds it, in row 1 of the packed rows. -/
theorem rows_at (k : Fin 1024) : V m c main_v3 (ix2 1 k) = m ((c : Thread nD τ).loc main_arg2) (ix2 0 ⟨1024 + k.val, by omega⟩) := by
  unfold V
  after_reads_at

/-- The weight as the kernel finds it, transposed. -/
theorem weight_at (k : Fin 2304) (l : Fin 1024) : V m c main_v5 (ix2 k l) = m ((c : Thread nD τ).loc main_arg1) (ix2 l k) := by
  unfold V
  after_reads_at

/-- The blocks of point `t` are the block `t` of the arrays. -/
theorem blockArgs_eq (t : Fin cfg0.N) :
    blockArgs (iblk m c 0 t) (iblk m c 1 t) (iblk m c 2 t) (iblk m c 3 t) (iblk m c 4 t) (iblk m c 5 t)
      = (arrArgs m c).block rows4 t := by
  unfold blockArgs InProjSpec.Args.block arrArgs
  congr 1
  · funext r k
    blk_ext [iblk, V_main_arg5, idx t]
    rw [InProjSpec.rowOf_val]; omega
  · funext l k
    blk_simp [iblk, idx t]
    refine Eq.trans (congrArg (V m c main_v5) ?_) (weight_at m c k l)
    blk_ext [idx t]
  · funext r k
    blk_ext [iblk, V_main_arg0, idx t]
    rw [InProjSpec.rowOf_val]; omega
  · funext r k
    blk_ext [iblk, V_main_arg4, idx t]
    rw [InProjSpec.rowOf_val]; omega
  · funext k
    blk_simp [iblk, idx t]
    refine Eq.trans (congrArg (V m c main_v3) ?_) (rows_at m c k)
    blk_ext [idx t]
  · funext k
    blk_ext [iblk, V_main_arg3, idx t]

/-- What point `t` leaves in the block of the stream's gradient. -/
theorem outs_dx (t : Fin cfg0.N) (r l : Fin 1024) :
    (outsAt0 m c t.val t.isLt).1 (ix2 r l) = InProjSpec.dx (arrArgs m c) (InProjSpec.rowOf rows4 t r) l := by
  rw [← InProjSpec.dx_block rows4 (arrArgs m c), ← blockArgs_eq m c t]
  by_cases h : t.val % 4 = 0
  · rw [outsAt0_A m c t h]
    dsimp only
    rw [dx_A]
  · rw [outsAt0_B m c t h]
    dsimp only
    rw [dx_B]

/-- What the last point leaves in the small sums. -/
theorem outs_small (a : Fin 8) (l : Fin 1024) :
    (outsAt0 m c t0_3.val t0_3.isLt).2 (ix2 a l) = InProjSpec.small (arrArgs m c) a l := by
  have h := Pipeline.eq_sum_fin_of_reset_step_apply_last
    (fun n h => fun p : Fin 8 × Fin 1024 => (outsAt0 m c n h).2 (ix2 p.1 p.2)) 4 (fun _ => 0)
    (fun t p => InProjSpec.small ((arrArgs m c).block rows4 t) p.1 p.2)
    (fun t h p => by
      rw [← blockArgs_eq m c t, zero_add, outsAt0_A m c t h]
      dsimp only
      rw [small_A])
    (fun t h p => by
      rw [← blockArgs_eq m c t, outsAt0_B m c t h]
      dsimp only
      rw [small_B])
    (by rw [show cfg0.N = 4 from N_0]) t0_3 rfl (a, l)
  refine h.trans ((zero_add _).trans ?_)
  exact InProjSpec.small_blocks rows4 (arrArgs m c) a l

/-- The stream's gradient after the run. -/
theorem final_dx (r : Fin 4096) (l : Fin 1024) :
    (dats m 0 c).arrAt 6 cfg0.N (ix2 r l) = InProjSpec.dx (arrArgs m c) r l := by
  have h : (dats m 0 c).arrAt 6 cfg0.N = fun i : S4096x1024.Idx => InProjSpec.dx (arrArgs m c) (i 0) (i 1) := by
    refine (dats m 0 c).arrAt_eq_of_covers 6 _ (by decide +kernel) fun t hf y => ?_
    blk_simp
    rw [after0_6]
    idx_vars y
    refine (outs_dx m c t _ _).trans ?_
    refine congrArg₂ (InProjSpec.dx (arrArgs m c)) (Fin.ext ?_) (Fin.ext ?_)
    · blk_simp [idx t]
      rw [InProjSpec.rowOf_val]; omega
    · blk_simp [idx t]
  exact congrFun h (ix2 r l)

/-- The small sums after the run. -/
theorem final_small (a : Fin 8) (l : Fin 1024) :
    (dats m 0 c).arrAt 7 cfg0.N (ix2 a l) = InProjSpec.small (arrArgs m c) a l := by
  have h : (dats m 0 c).arrAt 7 cfg0.N = fun i : S8x1024.Idx => InProjSpec.small (arrArgs m c) (i 0) (i 1) := by
    refine (dats m 0 c).arrAt_eq_of_after_last 7 t0_3 (by decide +kernel) _ fun j => ?_
    blk_simp
    rw [after0_7]
    idx_vars j
    exact outs_small m c _ _
  exact congrFun h (ix2 a l)

end Cert.KernelIdeal.InProj

end
-- ==== Proof.InProjRef.lean ====
/- The reference's two results, element by element, as the formulas that the kernel's results are. -/
module

public import proofs.«01_k».proof.Proof.InProjSpec
public import proofs.«01_k».proof.Proof.Gen.ReferenceIdeal.Read
public import proofs.«01_k».proof.Proof.Gen.ReferenceIdeal.Run
public import Idealize.ShloMosaic.Lib.StableHlo.ReadAt

@[expose] public section

set_option maxRecDepth 16384

noncomputable section

namespace Cert.ReferenceIdeal.InProj

open Cert.ReferenceIdeal Cert.ReferenceIdeal.Gen Cert.ReferenceIdeal.Read Idealize.ShloMosaic Idealize.ShloMosaic.TcCoe Idealize.SL.Sem
open Cert.NormMath

variable (x0 : (⟨S4096x1024, .f32⟩ : BufTy).Contents (Elt Ideal)) (x1 : (⟨S1024x2304, .f32⟩ : BufTy).Contents (Elt Ideal))
  (x2 : (⟨S1x6144, .f32⟩ : BufTy).Contents (Elt Ideal)) (x3 : (⟨S1x1024, .f32⟩ : BufTy).Contents (Elt Ideal))
  (x4 : (⟨S4096x1024, .bf16⟩ : BufTy).Contents (Elt Ideal)) (x5 : (⟨S4096x2304, .bf16⟩ : BufTy).Contents (Elt Ideal))

/-- The arguments of the whole arrays. -/
def refArgs : InProjSpec.Args 4096 where
  P r k := x5 (ix2 r k)
  W l k := x1 (ix2 l k)
  X r k := x0 (ix2 r k)
  D r k := x4 (ix2 r k)
  S k := x2 (ix2 0 ⟨1024 + k.val, by omega⟩)
  G k := x3 (ix2 0 k)

/-- The reference's stream gradient at an index, as differentiation leaves it. -/
theorem dx_at (r : Fin 4096) (l : Fin 1024) : val_main_v57 x0 x1 x2 x3 x4 x5 (ix2 r l)
    = (let B := refArgs x0 x1 x2 x3 x4 x5
       let u := fun k => InProjSpec.dn B r k * B.G k
       B.D r l + u l * rinv (B.X r) + B.X r l * coef (B.X r) u + coef (B.X r) u * B.X r l) := by
  simp only [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57,
    val_main_cst, val_main_cst_0, val_main_cst_1, val_main_cst_2, val_main_cst_3, val_main_cst_4, val_main_cst_5, val_main_cst_6, val_main_cst_7, val_main_cst_8, val_main_cst_9, val_main_cst_10]
  pointwise
  simp only [Fin.sum_univ_one]
  rfl

/-- The reference's small sums at an index. -/
theorem small_at (a : Fin 8) (l : Fin 1024) : val_main_v59 x0 x1 x2 x3 x5 (ix2 a l)
    = InProjSpec.small (refArgs x0 x1 x2 x3 x4 x5) a l := by
  simp only [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59,
    val_main_cst, val_main_cst_0, val_main_cst_1, val_main_cst_2, val_main_cst_3, val_main_cst_4, val_main_cst_5, val_main_cst_6, val_main_cst_7, val_main_cst_8, val_main_cst_9, val_main_cst_10]
  pointwise
  unfold InProjSpec.small InProjSpec.part
  rcases (by omega : a.val = 0 ∨ a.val = 1 ∨ a.val = 2 ∨ 3 ≤ a.val) with h | h | h | h
  · rw [dif_pos (by omega)]
    refine Finset.sum_congr rfl fun r _ => ?_
    rw [if_pos h]
    rfl
  · rw [dif_neg (by omega), dif_pos (by omega)]
    refine Finset.sum_congr rfl fun r _ => ?_
    rw [if_neg (by omega), if_pos h, mul_comm]
    rfl
  · rw [dif_neg (by omega), dif_neg (by omega), dif_pos (by omega)]
    refine Finset.sum_congr rfl fun r _ => ?_
    rw [if_neg (by omega), if_neg (by omega), if_pos h, mul_comm]
    rfl
  · rw [dif_neg (by omega), dif_neg (by omega), dif_neg (by omega)]
    refine (Finset.sum_eq_zero fun r _ => ?_).symm
    rw [if_neg (by omega), if_neg (by omega), if_neg (by omega)]

variable (m : (ℓ : Loc nD τ sig) → Buf (Elt Ideal) ℓ) (ρ : Dev nD → PrngReg)

/-- The arguments of the whole arrays, as the reference is launched on them. -/
abbrev memArgs (c : Dev nD) : InProjSpec.Args 4096 :=
  refArgs (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The reference's run with its results as formulas. -/
theorem run : θ_run defs (onTc (τ := τ) (main (F := Ideal))) ⟨m, fun _ => 0, ρ⟩ fun r => ∀ c : Dev nD,
      (∀ (k : Fin 4096) (l : Fin 1024), r.2.mem ((c : Thread nD τ).loc main_v57) (ix2 k l)
        = (let B := memArgs m c
           let u := fun k' => InProjSpec.dn B k k' * B.G k'
           B.D k l + u l * rinv (B.X k) + B.X k l * coef (B.X k) u + coef (B.X k) u * B.X k l))
      ∧ (∀ (a : Fin 8) (l : Fin 1024), r.2.mem ((c : Thread nD τ).loc main_v59) (ix2 a l) = InProjSpec.small (memArgs m c) a l)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨fun k l => by
      rw [(h c).1, val_main_v57_eq]
      exact dx_at _ _ _ _ _ _ k l, fun a l => by
      rw [(h c).2.1]
      refine Eq.trans (congrFun (val_main_v59_eq _ _ _ _ _).symm (ix2 a l)) ?_
      exact small_at _ _ _ _ _ _ a l, (h c).2.2⟩) (Cert.ReferenceIdeal.Value.run m ρ)

end Cert.ReferenceIdeal.InProj

end
-- ==== Proof.Finite.lean ====
/- What a printed test for finiteness says of an array's elements: each is a real number. -/
module

public import Idealize.ShloMosaic.Lib.Pointwise

@[expose] public section

set_option maxRecDepth 16384

noncomputable section

namespace Cert.Finite

open Idealize.ShloMosaic

/-- Infinity as the tests write it. -/
theorem top_eq : Ideal.ofBits .f32 0x7F800000#32 = ⊤ := by
  simp [Ideal.ofBits, Ideal.ieee]

/-- An array that passes the test holds real numbers. -/
theorem real_of_test {S : Shape} (h : (⟨0, ![]⟩ : Shape).BroadcastsInDim S (![] : Fin 0 → Fin S.rank)) (x : FVec Ideal S .f32)
    (e : cmpf .olt (Host.absf x) (broadcastInDim S ![] h (constant ⟨0, ![]⟩ .f32 0x7F800000#32)) = fun _ => 1#1) (i : S.Idx) :
    ∃ a : ℝ, x i = (a : EReal) := by
  have hi := congrFun e i
  change Ideal.cmp .olt (max (x i) (-(x i))) (Ideal.ofBits .f32 0x7F800000#32) = 1#1 at hi
  rw [top_eq] at hi
  generalize x i = y at hi ⊢
  induction y using EReal.rec with
  | bot => simp [Ideal.cmp] at hi
  | top => simp [Ideal.cmp] at hi
  | coe a => exact ⟨a, rfl⟩

/-- … as one function of the index. -/
theorem exists_real {ι : Type} {f : ι → EReal} (h : ∀ i, ∃ a : ℝ, f i = (a : EReal)) : ∃ g : ι → ℝ, f = fun i => (g i : EReal) :=
  ⟨fun i => (h i).choose, funext fun i => (h i).choose_spec⟩

end Cert.Finite

end
-- ==== Proof.Ext.lean ====
/- Two arrays of rank two are equal when they agree at every row and column. -/
module

public import Idealize.ShloMosaic.Lib.Pointwise

@[expose] public section

noncomputable section

namespace Cert.Ext

open Idealize.ShloMosaic

theorem of_rows {α : Type} {a b : ℕ} {f g : (⟨2, ![a, b]⟩ : Shape).Idx → α} (h : ∀ (k : Fin a) (l : Fin b), f (ix2 k l) = g (ix2 k l)) : f = g := by
  funext j
  rw [eq_ix2 j]
  exact h _ _

end Cert.Ext

end
-- ==== Proof.InProjClaim.lean ====
/- The claims about the input projection's backward kernel and the derivative of the forward lines: the frames, and that the two
   compute the same arrays where the stream, the weight, the modulation, the gain and the cotangent are finite. -/
module

public import proofs.«01_k».proof.Defs
public import proofs.«01_k».proof.Proof.InProjArrays
public import proofs.«01_k».proof.Proof.InProjRef
public import proofs.«01_k».proof.Proof.Finite
public import proofs.«01_k».proof.Proof.Ext
public import proofs.«01_k».proof.Proof.Gen.Kernel.Frame
public import proofs.«01_k».proof.Proof.Gen.Pre_finite
public import Idealize.ShloMosaic.Lib.Quiescent

@[expose] public section

set_option maxRecDepth 16384

noncomputable section

namespace Cert.InProjSpec

open Idealize.ShloMosaic Cert.NormMath

/-- The cotangent of the normed row is finite where everything that it is made of is. -/
theorem real_cot {n : ℕ} (A : Args n) (r : Fin n) (hP : ∀ k, ∃ a : ℝ, A.P r k = a) (hW : ∀ l k, ∃ a : ℝ, A.W l k = a)
    (hS : ∀ k, ∃ a : ℝ, A.S k = a) (hG : ∀ k, ∃ a : ℝ, A.G k = a) (l : Fin 1024) : ∃ a : ℝ, dn A r l * A.G l = (a : EReal) := by
  choose p hp using hP
  choose w hw using hW
  choose s hs using hS
  choose g hg using hG
  refine ⟨(∑ k, p k * w l k) * (1 + s l) * g l, ?_⟩
  unfold dn dh
  simp only [hp, hw, hs, hg, EReal.coe_mul, EReal.coe_add, coe_sum, EReal.coe_one]

end Cert.InProjSpec

namespace Cert.InProjClaim

open Cert Idealize.ShloMosaic Idealize.ShloMosaic.TcCoe Idealize.SL.Sem Cert.NormMath

theorem frame_kernel : Cert.quiescent_Kernel := fun m ρ _ => Cert.Kernel.Gen.frame m ρ
theorem frame_ideal : Cert.quiescent_KernelIdeal := fun m ρ _ => Cert.KernelIdeal.Gen.frame m ρ
theorem frame_ideal_pre : Cert.quiescent_KernelIdeal_pre_finite := fun m ρ _ => Cert.KernelIdeal.Gen.frame m ρ
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.InProj.run m ρ)
theorem frame_reference_pre : Cert.quiescent_ReferenceIdeal_pre_finite := fun m ρ _ =>
  frame_reference m ρ trivial

/-- On agreeing memories the two programs' arguments are the same. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.InProj.memArgs m' c = Cert.KernelIdeal.InProj.arrArgs m c := by
  unfold Cert.ReferenceIdeal.InProj.memArgs
  rw [h0, h1, h2, h3, h4, h5]
  rfl

/-- The kernel's two result arrays are the stream's gradient and the packed sums of the derivative. -/
theorem algebraic : Cert.algebraic_KernelIdeal_ReferenceIdeal_pre_finite := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g, ?_⟩
  refine (θ_run Cert.ReferenceIdeal.defs _ _).mono (fun r h c => ?_) (Cert.ReferenceIdeal.InProj.run m' g')
  obtain ⟨hdx, hsm, hargs⟩ := h c
  obtain ⟨h0, h1, h2, h3, h4, h5⟩ := hagree c
  obtain ⟨p0, p1, p2, p3, p5⟩ := hpre c
  have hA := args_eq m m' c h0 h1 h2 h3 h4 h5
  rw [hA] at hdx hsm
  refine ⟨?_, ?_, hargs⟩
  · refine Cert.Ext.of_rows (a := 4096) (b := 1024) fun k l => ?_
    refine (hdx k l).trans ?_
    refine Eq.trans ?_ (Cert.KernelIdeal.InProj.final_dx m c k l).symm
    obtain ⟨x, hx⟩ := Cert.Finite.exists_real (f := (Cert.KernelIdeal.InProj.arrArgs m c).X k)
      fun i => Cert.Finite.real_of_test _ _ p0 (ix2 k i)
    obtain ⟨u, hu⟩ := Cert.Finite.exists_real
      (f := fun k' => InProjSpec.dn (Cert.KernelIdeal.InProj.arrArgs m c) k k' * (Cert.KernelIdeal.InProj.arrArgs m c).G k')
      (InProjSpec.real_cot (Cert.KernelIdeal.InProj.arrArgs m c) k (fun i => Cert.Finite.real_of_test _ _ p5 (ix2 k i))
        (fun i j => Cert.Finite.real_of_test _ _ p1 (ix2 i j)) (fun i => Cert.Finite.real_of_test _ _ p2 (ix2 0 _))
        (fun i => Cert.Finite.real_of_test _ _ p3 (ix2 0 i)))
    dsimp only
    unfold InProjSpec.dx
    have hl := congrFun hu l
    rw [hu, hx, hl]
    exact (back_eq x u _ l).symm
  · refine Cert.Ext.of_rows (a := 8) (b := 1024) fun a l => ?_
    exact (hsm a l).trans (Cert.KernelIdeal.InProj.final_small m c a l).symm

end Cert.InProjClaim

end
-- ==== Proof.MixMath.lean ====
/- One row of attention with a sink, the short convolution and the two group norms of the mixer, over the extended reals, and
   that dividing by the row's sum is multiplying by its reciprocal where no score is plus infinity. -/
module

public import Idealize.ShloMosaic.Lib.Pointwise

@[expose] public section

set_option maxRecDepth 16384

noncomputable section

namespace Cert.MixMath

open Idealize.ShloMosaic

/-- One over the root of the head's width. -/
abbrev eighth : EReal := Ideal.ofBits .f32 0x3E000000#32
/-- Minus infinity as the programs write it. -/
abbrev ninf : EReal := Ideal.ofBits .f32 0xFF800000#32
/-- The width of a group. -/
abbrev width : EReal := Ideal.ofBits .f32 0x44000000#32
/-- The small constant under the root. -/
abbrev eps : EReal := Ideal.ofBits .f32 0x358637BD#32

theorem ninf_eq : ninf = ⊥ := by
  simp [ninf, Ideal.ofBits, Ideal.ieee]

/-- The largest of a row's scores and its sink. -/
def top (s : Fin 256 → EReal) (k : EReal) : EReal := max (Finset.univ.fold max ninf s) k

/-- A score's weight before the division. -/
def weight (s : Fin 256 → EReal) (k : EReal) (j : Fin 256) : EReal := Ideal.exp (s j - top s k)

/-- The sum of a row's weights and its sink's. -/
def den (s : Fin 256 → EReal) (k : EReal) : EReal := ∑ j, weight s k j + Ideal.exp (k - top s k)

/-- The probabilities of a row. -/
def prob (s : Fin 256 → EReal) (k : EReal) (j : Fin 256) : EReal := weight s k j * Ideal.div 1 (den s k)

/-- The logarithm of a row's sum. -/
def lse (s : Fin 256 → EReal) (k : EReal) : EReal := top s k + Ideal.log (den s k)

theorem exp_bot : Ideal.exp ⊥ = 0 := rfl

theorem exp_coe (r : ℝ) : Ideal.exp (r : EReal) = (Real.exp r : EReal) := rfl

theorem exp_nonneg (x : EReal) : 0 ≤ Ideal.exp x := by
  induction x with
  | bot => exact le_of_eq exp_bot.symm
  | top => exact le_top
  | coe r => rw [exp_coe]; exact EReal.coe_nonneg.2 (Real.exp_pos r).le

theorem fold_max_mem (s : Fin 256 → EReal) :
    Finset.univ.fold max ninf s = ⊥ ∨ ∃ j, s j = Finset.univ.fold max ninf s := by
  rw [ninf_eq]
  have h : ∀ t : Finset (Fin 256), t.fold max ⊥ s = ⊥ ∨ ∃ j, s j = t.fold max ⊥ s := by
    intro t
    induction t using Finset.induction_on with
    | empty => left; simp
    | insert a t ha ih =>
      rw [Finset.fold_insert ha]
      rcases le_total (s a) (t.fold max ⊥ s) with h | h
      · rw [max_eq_right h]; exact ih
      · rw [max_eq_left h]; exact Or.inr ⟨a, rfl⟩
  exact h _

/-- Where no score is plus infinity and the sink is finite, the row's sum is not zero. -/
theorem den_ne_zero (s : Fin 256 → EReal) (k : EReal) (hs : ∀ j, s j ≠ ⊤) (hk : k ≠ ⊤) (hk' : k ≠ ⊥) : den s k ≠ 0 := by
  have hone : ∀ x : EReal, x ≠ ⊤ → x ≠ ⊥ → Ideal.exp (x - x) = 1 := by
    intro x h h'
    induction x with
    | bot => exact absurd rfl h'
    | top => exact absurd rfl h
    | coe r =>
      rw [← EReal.coe_sub, sub_self, exp_coe, Real.exp_zero, EReal.coe_one]
  have hw : 0 ≤ ∑ j, weight s k j := Finset.sum_nonneg fun j _ => exp_nonneg _
  have h1 : (1 : EReal) ≤ den s k := by
    unfold den
    rcases le_total (Finset.univ.fold max ninf s) k with h | h
    · have ht : top s k = k := max_eq_right h
      rw [ht, hone k hk hk']
      simpa using add_le_add hw (le_refl (1 : EReal))
    · have ht : top s k = Finset.univ.fold max ninf s := max_eq_left h
      rcases fold_max_mem s with hb | ⟨j, hj⟩
      · rw [hb] at h; exact absurd (le_bot_iff.1 h) hk'
      · have hj' : s j ≠ ⊥ := fun hc => hk' (le_bot_iff.1 (by rw [← hj, hc] at h; exact h))
        have hwj : weight s k j = 1 := by
          unfold weight; rw [ht, ← hj]; exact hone _ (hs j) hj'
        have hle : (1 : EReal) ≤ ∑ j, weight s k j := by
          rw [← hwj]
          exact Finset.single_le_sum (f := weight s k) (fun i _ => exp_nonneg _) (Finset.mem_univ j)
        simpa using add_le_add hle (exp_nonneg (k - top s k))
  intro h0
  rw [h0] at h1
  exact absurd h1 (by norm_num)

/-- Dividing by the row's sum is multiplying by its reciprocal. -/
theorem div_den (s : Fin 256 → EReal) (k : EReal) (hs : ∀ j, s j ≠ ⊤) (hk : k ≠ ⊤) (hk' : k ≠ ⊥) (j : Fin 256) :
    Ideal.div (weight s k j) (den s k) = prob s k j := by
  have h := den_ne_zero s k hs hk hk'
  unfold prob Ideal.div
  rw [if_neg h, if_neg h, one_mul]

/-- A masked score's probability is zero. -/
theorem prob_bot (s : Fin 256 → EReal) (k : EReal) (j : Fin 256) (h : s j = ⊥) : prob s k j = 0 := by
  unfold prob weight
  rw [h, EReal.bot_sub, exp_bot, zero_mul]

/-- The norm of a group of 512 elements, with its gain. -/
def group (x g : Fin 512 → EReal) (l : Fin 512) : EReal :=
  x l * Ideal.rsqrt (Ideal.div (∑ k, x k * x k) width + eps) * g l

end Cert.MixMath

end

end
-- ==== Proof.MixHead.lean ====
/- One head of the mixer's forward kernel and its short convolution as vector functions of what the body loads, and each of them
   read at an element. -/
module

public import proofs.«01_k».proof.Proof.Gen.Kernel2Ideal.Skeleton
public import proofs.«01_k».proof.Proof.MixMath

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Cert.MixMath

theorem mask_eq : Named.named (F := Ideal) Cert.Kernel2Ideal.κ "mask" (φ := .f32) 0xF149F2CA#32 = (⊥ : EReal) :=
  IdealRules.named_const.ideal_named_scalar _ _ _ _ rfl

/-- The window of two blocks of keys and values. -/
def window (prev cur : Vec Ideal S128x256 .bf16) : FVec Ideal S256x256 .bf16 :=
  concatenate S256x256 0 [⟨S128x256, prev⟩, ⟨S128x256, cur⟩] concatenates_S128x256_S128x256_S256x256_d0

/-- The window's keys. -/
def keys (prev cur : Vec Ideal S128x256 .bf16) : FVec Ideal S256x128 .bf16 :=
  extractStridedSlice S256x128 ![0, 0] (window prev cur) slices_S256x256_o0_0_S256x128

/-- The window's values. -/
def vals (prev cur : Vec Ideal S128x256 .bf16) : FVec Ideal S256x128 .bf16 :=
  extractStridedSlice S256x128 ![0, 128] (window prev cur) slices_S256x256_o0_128_S256x128

/-- The two halves of the lanes exchanged. -/
def turned (x : FVec Ideal S256x128 .bf16) : FVec Ideal S256x128 .bf16 :=
  truncf .bf16 (dynamicRotate 1 64#32 none (extf .f32 x bitsLt_bf16_f32) rotates_S256x128_d1) bitsLt_bf16_f32

/-- The lanes' numbers. -/
def lanes : IVec S128x128 32 := iota .tc S128x128 32 [1] iota_S128x128_d1_w32

/-- The lower half of the lanes. -/
def low : IVec S128x128 1 := cmpi .slt lanes (broadcast S128x128 64#32)

/-- A pair's queries with the lanes of the other head at zero: the lower head's … -/
def lowPart (q : Vec Ideal S128x128 .bf16) : FVec Ideal S128x128 .bf16 :=
  truncf .bf16 (select low (extf (F := Ideal) .f32 q bitsLt_bf16_f32)
    (broadcast S128x128 (Scalar.ofBits (F := Ideal) .f32 0x00000000#32))) bitsLt_bf16_f32

/-- … and the upper head's. -/
def highPart (q : Vec Ideal S128x128 .bf16) : FVec Ideal S128x128 .bf16 :=
  truncf .bf16 (select (xori low (constantI S128x128 1 1#1)) (extf (F := Ideal) .f32 q bitsLt_bf16_f32)
    (broadcast S128x128 (Scalar.ofBits (F := Ideal) .f32 0x00000000#32))) bitsLt_bf16_f32

/-- Where the window reaches before the first block. -/
def before (n : BitVec 32) : IVec S128x256 1 :=
  andi (cmpi .slt (iota .tc S128x256 32 [1] iota_S128x256_d1_w32) (broadcast S128x256 128#32))
    (broadcast S128x256 (Scalar.cmpi .eq n 0#32))

/-- One head's scores. -/
def scoreV (n : BitVec 32) (q : FVec Ideal S128x128 .bf16) (x : FVec Ideal S256x128 .bf16)
    (b : Vec Ideal S1x128x256 .f32) : FVec Ideal S128x256 .f32 :=
  select (before n) (broadcast S128x256 (Named.named (F := Ideal) κ "mask" (φ := .f32) 0xF149F2CA#32))
    (addf (mulf (matmul dot_S128x128_S256x128_S128x256_1_1_0_0_n_n none q x (constant S128x256 .f32 0x00000000#32))
        (broadcast S128x256 (Scalar.ofBits (F := Ideal) .f32 0x3E000000#32)))
      (shapeCast S128x256 b shapeCasts_S1x128x256_S128x256))

/-- Each row's largest score or sink. -/
def topV (s : FVec Ideal S128x256 .f32) (k : Elt Ideal .f32) : FVec Ideal S128x1 .f32 :=
  maximumf (shapeCast S128x1 (multiReduction .maximumf [1] S128 s 0xFF800000#32 reduces_S128x256_S128 (.inl rfl) rfl)
    shapeCasts_S128_S128x1) (broadcast S128x1 k)

/-- Each score's weight. -/
def weightV (s : FVec Ideal S128x256 .f32) (k : Elt Ideal .f32) : FVec Ideal S128x256 .f32 :=
  exp (subf s (broadcastTo S128x256 (topV s k) broadcasts_S128x1_S128x256))

/-- Each row's sum. -/
def denV (s : FVec Ideal S128x256 .f32) (k : Elt Ideal .f32) : FVec Ideal S128x1 .f32 :=
  addf (shapeCast S128x1 (multiReduction .add [1] S128 (weightV s k) 0x00000000#32 reduces_S128x256_S128 (.inl rfl) rfl)
    shapeCasts_S128_S128x1) (exp (subf (broadcast S128x1 k) (topV s k)))

/-- The probabilities. -/
def probV (s : FVec Ideal S128x256 .f32) (k : Elt Ideal .f32) : FVec Ideal S128x256 .bf16 :=
  truncf .bf16 (mulf (weightV s k) (broadcastTo S128x256
    (divf (broadcast S128x1 (Scalar.ofBits (F := Ideal) .f32 0x3F800000#32)) (denV s k)) broadcasts_S128x1_S128x256))
    bitsLt_bf16_f32

/-- The probabilities as they are stored. -/
def storeV (s : FVec Ideal S128x256 .f32) (k : Elt Ideal .f32) : FVec Ideal S1x1x128x256 .bf16 :=
  shapeCast S1x1x128x256 (probV s k) shapeCasts_S128x256_S1x1x128x256

/-- The probabilities' product with the values. -/
def outV (s : FVec Ideal S128x256 .f32) (k : Elt Ideal .f32) (x : FVec Ideal S256x128 .bf16) : FVec Ideal S128x128 .f32 :=
  matmul dot_S128x256_S256x128_S128x128_1_0_0_1_n_n none (probV s k) x (constant S128x128 .f32 0x00000000#32)

/-- One head's row logarithms added in its lane. -/
def logV (h : BitVec 32) (acc : FVec Ideal S128x128 .f32) (s : FVec Ideal S128x256 .f32) (k : Elt Ideal .f32) :
    FVec Ideal S128x128 .f32 :=
  addf acc (select (cmpi .eq lanes (broadcast S128x128 h))
    (broadcastTo S128x128 (shapeCast S128x1 (addf (topV s k) (log (denV s k))) shapeCasts_S128x1_S128x1)
      broadcasts_S128x1_S128x128)
    (broadcast S128x128 (Scalar.ofBits (F := Ideal) .f32 0x00000000#32)))

theorem topV_at (s : FVec Ideal S128x256 .f32) (k : Elt Ideal .f32) (r : Fin 128) :
    topV s k (ix2 r 0) = top (fun j => s (ix2 r j)) k := by
  pointwise [topV]
  rfl

theorem weightV_at (s : FVec Ideal S128x256 .f32) (k : Elt Ideal .f32) (r : Fin 128) (j : Fin 256) :
    weightV s k (ix2 r j) = weight (fun j => s (ix2 r j)) k j := by
  pointwise [weightV]
  rw [topV_at]
  rfl

theorem denV_at (s : FVec Ideal S128x256 .f32) (k : Elt Ideal .f32) (r : Fin 128) :
    denV s k (ix2 r 0) = den (fun j => s (ix2 r j)) k := by
  pointwise [denV]
  simp only [weightV_at, topV_at]
  rfl

theorem probV_at (s : FVec Ideal S128x256 .f32) (k : Elt Ideal .f32) (r : Fin 128) (j : Fin 256) :
    probV s k (ix2 r j) = prob (fun j => s (ix2 r j)) k j := by
  pointwise [probV]
  rw [weightV_at, denV_at]
  rfl

theorem storeV_at (s : FVec Ideal S128x256 .f32) (k : Elt Ideal .f32) (r : Fin 128) (j : Fin 256) :
    storeV s k (ix4 0 0 r j) = prob (fun j => s (ix2 r j)) k j := by
  pointwise [storeV]
  exact probV_at s k r j

theorem outV_at (s : FVec Ideal S128x256 .f32) (k : Elt Ideal .f32) (x : FVec Ideal S256x128 .bf16) (r l : Fin 128) :
    outV s k x (ix2 r l) = ∑ j, prob (fun j => s (ix2 r j)) k j * x (ix2 j l) := by
  pointwise [outV]
  simp only [probV_at]

theorem logV_at (h : BitVec 32) (acc : FVec Ideal S128x128 .f32) (s : FVec Ideal S128x256 .f32) (k : Elt Ideal .f32)
    (r l : Fin 128) :
    logV h acc s k (ix2 r l) =
      acc (ix2 r l) + Scalar.select (IntOp.cmpi .eq (BitVec.ofNat 32 l.val) h) (lse (fun j => s (ix2 r j)) k) 0 := by
  pointwise [logV, lanes]
  rw [topV_at, denV_at]
  rfl

theorem scoreV_at (n : BitVec 32) (q : FVec Ideal S128x128 .bf16) (x : FVec Ideal S256x128 .bf16)
    (b : Vec Ideal S1x128x256 .f32) (r : Fin 128) (j : Fin 256) :
    scoreV n q x b (ix2 r j) =
      Scalar.select (IntOp.andi (IntOp.cmpi .slt (BitVec.ofNat 32 j.val) 128#32) (Scalar.cmpi .eq n 0#32)) ⊥
        ((∑ l, q (ix2 r l) * x (ix2 j l)) * eighth + b (ix3 0 r j)) := by
  pointwise [scoreV, before]
  rw [mask_eq]

/-- A row of the window: the block before for the first 128, the block itself for the rest. -/
def row (prev cur : Vec Ideal S128x256 .bf16) (j : Fin 256) (l : Fin 256) : EReal :=
  if h : j.val < 128 then prev (ix2 ⟨j.val, h⟩ l) else cur (ix2 ⟨j.val - 128, by omega⟩ l)

theorem keys_at (prev cur : Vec Ideal S128x256 .bf16) (j : Fin 256) (l : Fin 128) :
    keys prev cur (ix2 j l) = row prev cur j ⟨l.val, by omega⟩ := by
  pointwise [keys, window]
  rfl

theorem vals_at (prev cur : Vec Ideal S128x256 .bf16) (j : Fin 256) (l : Fin 128) :
    vals prev cur (ix2 j l) = row prev cur j ⟨128 + l.val, by omega⟩ := by
  pointwise [vals, window]
  rfl

theorem turned_at (x : FVec Ideal S256x128 .bf16) (j : Fin 256) (l : Fin 128) :
    turned x (ix2 j l) = x (ix2 j ⟨(l.val + 64) % 128, Nat.mod_lt _ (by norm_num)⟩) := by
  pointwise [turned]
  congr 2

theorem low_at (r l : Fin 128) : low (ix2 r l) = IntOp.cmpi .slt (BitVec.ofNat 32 l.val) 64#32 := by
  pointwise [low, lanes]

theorem select_one {α : Type} (a b : α) : Scalar.select 1#1 a b = a := rfl

theorem select_zero {α : Type} (a b : α) : Scalar.select 0#1 a b = b := rfl

theorem low_lt (l : Fin 64) : IntOp.cmpi .slt (BitVec.ofNat 32 l.val) 64#32 = 1#1 := by
  revert l; decide +kernel

theorem low_ge (l : Fin 64) : IntOp.cmpi .slt (BitVec.ofNat 32 (64 + l.val)) 64#32 = 0#1 := by
  revert l; decide +kernel

theorem lowPart_dot (q : Vec Ideal S128x128 .bf16) (f : Fin 128 → EReal) (r : Fin 128) :
    ∑ l, lowPart q (ix2 r l) * f l = ∑ d : Fin 64, q (ix2 r ⟨d.val, by omega⟩) * f ⟨d.val, by omega⟩ := by
  rw [Fin.sum_univ_two_halves 64 64 rfl]
  pointwise [lowPart, low, lanes]
  simp only [low_lt, low_ge, select_one, select_zero, zero_mul, Finset.sum_const_zero, add_zero]

theorem highPart_dot (q : Vec Ideal S128x128 .bf16) (f : Fin 128 → EReal) (r : Fin 128) :
    ∑ l, highPart q (ix2 r l) * f l = ∑ d : Fin 64, q (ix2 r ⟨64 + d.val, by omega⟩) * f ⟨64 + d.val, by omega⟩ := by
  rw [Fin.sum_univ_two_halves 64 64 rfl]
  pointwise [highPart, low, lanes]
  have h1 : IntOp.xori 1#1 1#1 = 0#1 := by decide
  have h0 : IntOp.xori 0#1 1#1 = 1#1 := by decide
  simp only [low_lt, low_ge, h1, h0, select_one, select_zero, Finset.sum_const_zero, zero_add]

/-- A pair's two products side by side. -/
def pairV (a b : FVec Ideal S128x128 .f32) : FVec Ideal S128x128 .f32 := select low a b

theorem pairV_at (a b : FVec Ideal S128x128 .f32) (r l : Fin 128) :
    pairV a b (ix2 r l) = if l.val < 64 then a (ix2 r l) else b (ix2 r l) := by
  pointwise [pairV, low, lanes]
  by_cases hl : l.val < 64
  · rw [if_pos hl, low_lt ⟨l.val, hl⟩]; rfl
  · have h : l.val = 64 + (l.val - 64) := by omega
    rw [if_neg hl, h, low_ge ⟨l.val - 64, by omega⟩]; rfl

end Cert.Kernel2Ideal.Mix

end

end
-- ==== Proof.MixConv.lean ====
/- The short convolution of the mixer's forward kernel, its four pairs side by side and the two group norms, as vector functions
   of what the body loads, and each of them read at an element. -/
module

public import proofs.«01_k».proof.Proof.MixHead

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Cert.MixMath

/-- The gated rows. -/
def gatedV (c x : Vec Ideal S128x512 .bf16) : FVec Ideal S128x512 .f32 :=
  mulf (extf (F := Ideal) .f32 c bitsLt_bf16_f32) (extf (F := Ideal) .f32 x bitsLt_bf16_f32)

/-- The sixteen gated rows before, at zero where there are none. -/
def tailV (n : BitVec 32) (c x : Vec Ideal S16x512 .bf16) : FVec Ideal S16x512 .f32 :=
  Scalar.select (Scalar.cmpi .sgt n 0#32)
    (mulf (extf (F := Ideal) .f32 c bitsLt_bf16_f32) (extf (F := Ideal) .f32 x bitsLt_bf16_f32))
    (broadcast S16x512 (Scalar.ofBits (F := Ideal) .f32 0x00000000#32))

/-- The rows' numbers. -/
def rows : IVec S128x512 32 := iota .tc S128x512 32 [0] iota_S128x512_d0_w32

/-- One row repeated. -/
def spread (x : FVec Ideal S1x512 .f32) : FVec Ideal S128x512 .f32 :=
  broadcastTo S128x512 x broadcasts_S1x512_S128x512

/-- The last of the sixteen rows before, and the one before it. -/
def last (p : FVec Ideal S16x512 .f32) : FVec Ideal S128x512 .f32 :=
  spread (shapeCast S1x512 (extractStridedSlice S1x512 ![15, 0] p slices_S16x512_o15_0_S1x512) shapeCasts_S1x512_S1x512)

/-- The last but one. -/
def last2 (p : FVec Ideal S16x512 .f32) : FVec Ideal S128x512 .f32 :=
  spread (shapeCast S1x512 (extractStridedSlice S1x512 ![14, 0] p slices_S16x512_o14_0_S1x512) shapeCasts_S1x512_S1x512)

/-- The rows moved down by one … -/
def backV (u : FVec Ideal S128x512 .f32) (p : FVec Ideal S16x512 .f32) : FVec Ideal S128x512 .f32 :=
  select (cmpi .eq rows (broadcast S128x512 0#32)) (last p) (dynamicRotate 0 1#32 none u rotates_S128x512_d0)

/-- … and by two. -/
def back2V (u : FVec Ideal S128x512 .f32) (p : FVec Ideal S16x512 .f32) : FVec Ideal S128x512 .f32 :=
  select (cmpi .eq rows (broadcast S128x512 0#32)) (last2 p)
    (select (cmpi .eq rows (broadcast S128x512 1#32)) (last p) (dynamicRotate 0 2#32 none u rotates_S128x512_d0))

/-- The gated convolution. -/
def convV (u : FVec Ideal S128x512 .f32) (p : FVec Ideal S16x512 .f32) (w : Vec Ideal S3x512 .f32)
    (b : Vec Ideal S128x512 .bf16) : FVec Ideal S128x512 .f32 :=
  mulf (extf (F := Ideal) .f32 b bitsLt_bf16_f32)
    (addf (addf (mulf (spread (extractStridedSlice S1x512 ![0, 0] w slices_S3x512_o0_0_S1x512)) (back2V u p))
        (mulf (spread (extractStridedSlice S1x512 ![1, 0] w slices_S3x512_o1_0_S1x512)) (backV u p)))
      (mulf (spread (extractStridedSlice S1x512 ![2, 0] w slices_S3x512_o2_0_S1x512)) u))

/-- A group's norm with its gain. -/
def normV (x : FVec Ideal S128x512 .f32) (g : Vec Ideal S1x512 .f32) : FVec Ideal S128x512 .f32 :=
  mulf (mulf x (broadcastTo S128x512 (rsqrt (addf (divf (shapeCast S128x1
      (multiReduction .add [1] S128 (mulf x x) 0x00000000#32 reduces_S128x512_S128 (.inl rfl) rfl) shapeCasts_S128_S128x1)
      (broadcast S128x1 (Scalar.ofBits (F := Ideal) .f32 0x44000000#32)))
      (broadcast S128x1 (Scalar.ofBits (F := Ideal) .f32 0x358637BD#32)))) broadcasts_S128x1_S128x512)) (spread g)

/-- The two groups side by side. -/
def mergedV (x y : FVec Ideal S128x512 .f32) (g k : Vec Ideal S1x512 .f32) : FVec Ideal S128x1024 .bf16 :=
  truncf .bf16 (concatenate S128x1024 1 [⟨S128x512, normV x g⟩, ⟨S128x512, normV y k⟩]
    concatenates_S128x512_S128x512_S128x1024_d1) bitsLt_bf16_f32

/-- The four pairs side by side. -/
def pairsV (a b c d : FVec Ideal S128x128 .f32) : FVec Ideal S128x512 .f32 :=
  concatenate S128x512 1 [⟨S128x128, a⟩, ⟨S128x128, b⟩, ⟨S128x128, c⟩, ⟨S128x128, d⟩]
    concatenates_S128x128_S128x128_S128x128_S128x128_S128x512_d1

theorem gatedV_at (c x : Vec Ideal S128x512 .bf16) (r : Fin 128) (l : Fin 512) :
    gatedV c x (ix2 r l) = c (ix2 r l) * x (ix2 r l) := by
  pointwise [gatedV]

theorem tailV_at (n : BitVec 32) (c x : Vec Ideal S16x512 .bf16) (r : Fin 16) (l : Fin 512) :
    tailV n c x (ix2 r l) = Scalar.select (Scalar.cmpi .sgt n 0#32) (c (ix2 r l) * x (ix2 r l)) 0 := by
  pointwise [tailV]

theorem row_eq (r : Fin 128) (k : ℕ) (hk : k < 128) :
    IntOp.cmpi .eq (BitVec.ofNat 32 r.val) (BitVec.ofNat 32 k) = if r.val = k then 1#1 else 0#1 := by
  have h : ∀ r k : Fin 128, IntOp.cmpi .eq (BitVec.ofNat 32 r.val) (BitVec.ofNat 32 k.val) = if r.val = k.val then 1#1 else 0#1 := by
    decide +kernel
  exact h r ⟨k, hk⟩

theorem backV_at (u : FVec Ideal S128x512 .f32) (p : FVec Ideal S16x512 .f32) (r : Fin 128) (l : Fin 512) :
    backV u p (ix2 r l) = if h : r.val = 0 then p (ix2 15 l) else u (ix2 ⟨r.val - 1, by omega⟩ l) := by
  pointwise [backV, rows, last, spread]
  rw [row_eq r 0 (by norm_num)]
  by_cases h : r.val = 0
  · rw [if_pos h, dif_pos h]; rfl
  · rw [if_neg h, dif_neg h, select_zero]
    congr 3; omega

theorem back2V_at (u : FVec Ideal S128x512 .f32) (p : FVec Ideal S16x512 .f32) (r : Fin 128) (l : Fin 512) :
    back2V u p (ix2 r l) = if h : r.val = 0 then p (ix2 14 l) else if h : r.val = 1 then p (ix2 15 l)
      else u (ix2 ⟨r.val - 2, by omega⟩ l) := by
  pointwise [back2V, rows, last, last2, spread]
  rw [row_eq r 0 (by norm_num), row_eq r 1 (by norm_num)]
  by_cases h : r.val = 0
  · rw [if_pos h, dif_pos h]; rfl
  · rw [if_neg h, dif_neg h, select_zero]
    by_cases h' : r.val = 1
    · rw [if_pos h', dif_pos h']; rfl
    · rw [if_neg h', dif_neg h', select_zero]
      congr 3; omega

theorem convV_at (u : FVec Ideal S128x512 .f32) (p : FVec Ideal S16x512 .f32) (w : Vec Ideal S3x512 .f32)
    (b : Vec Ideal S128x512 .bf16) (r : Fin 128) (l : Fin 512) :
    convV u p w b (ix2 r l) = b (ix2 r l) *
      (w (ix2 0 l) * back2V u p (ix2 r l) + w (ix2 1 l) * backV u p (ix2 r l) + w (ix2 2 l) * u (ix2 r l)) := by
  pointwise [convV, spread]

theorem normV_at (x : FVec Ideal S128x512 .f32) (g : Vec Ideal S1x512 .f32) (r : Fin 128) (l : Fin 512) :
    normV x g (ix2 r l) = group (fun k => x (ix2 r k)) (fun k => g (ix2 0 k)) l := by
  pointwise [normV, spread]
  rfl

theorem mergedV_at (x y : FVec Ideal S128x512 .f32) (g k : Vec Ideal S1x512 .f32) (r : Fin 128) (l : Fin 1024) :
    mergedV x y g k (ix2 r l) = if h : l.val < 512 then group (fun k => x (ix2 r k)) (fun k => g (ix2 0 k)) ⟨l.val, h⟩
      else group (fun k => y (ix2 r k)) (fun i => k (ix2 0 i)) ⟨l.val - 512, by omega⟩ := by
  pointwise [mergedV]
  simp only [normV_at]

theorem pairsV_at (f : Fin 4 → FVec Ideal S128x128 .f32) (r : Fin 128) (l : Fin 512) :
    pairsV (f 0) (f 1) (f 2) (f 3) (ix2 r l) = f ⟨l.val / 128, by omega⟩ (ix2 r ⟨l.val % 128, Nat.mod_lt _ (by norm_num)⟩) := by
  pointwise [pairsV]
  have key : ∀ (p : Fin 4) (a : Fin 128), p.val = l.val / 128 → a.val = l.val % 128 →
      f p (ix2 r a) = f ⟨l.val / 128, by omega⟩ (ix2 r ⟨l.val % 128, Nat.mod_lt _ (by norm_num)⟩) := by
    rintro ⟨p, hp⟩ ⟨a, ha⟩ rfl rfl; rfl
  by_cases h1 : l.val < 128
  · rw [dif_pos h1]; exact key 0 ⟨l.val, h1⟩ (by change 0 = l.val / 128; omega) (by change l.val = _; omega)
  rw [dif_neg h1]
  by_cases h2 : l.val - 128 < 128
  · rw [dif_pos h2]; exact key 1 ⟨l.val - 128, h2⟩ (by change 1 = l.val / 128; omega) (by change l.val - 128 = _; omega)
  rw [dif_neg h2]
  by_cases h3 : l.val - 128 - 128 < 128
  · rw [dif_pos h3]
    exact key 2 ⟨l.val - 128 - 128, h3⟩ (by change 2 = l.val / 128; omega) (by change l.val - 128 - 128 = _; omega)
  rw [dif_neg h3]
  exact key 3 ⟨l.val - 128 - 128 - 128, by omega⟩ (by change 3 = l.val / 128; omega)
    (by change l.val - 128 - 128 - 128 = _; omega)

end Cert.Kernel2Ideal.Mix

end

end
-- ==== Proof.MixSpec.lean ====
/- The mixer's forward pass as formulas over arrays: attention with a sink over the block's own and the block before, the gated
   short convolution, and the two group norms side by side. -/
module

public import proofs.«01_k».proof.Proof.MixMath

@[expose] public section

set_option maxRecDepth 16384

noncomputable section

namespace Cert.MixSpec

open Idealize.ShloMosaic Cert.MixMath

/-- What both programs take. The bias is the table of every head's distances, at minus infinity outside the window. -/
structure Args where
  q : Fin 4096 → Fin 512 → EReal
  kv : Fin 4096 → Fin 256 → EReal
  gb : Fin 4096 → Fin 512 → EReal
  gc : Fin 4096 → Fin 512 → EReal
  xc : Fin 4096 → Fin 512 → EReal
  bias : Fin 8 → Fin 128 → Fin 256 → EReal
  sink : Fin 8 → EReal
  w : Fin 3 → Fin 512 → EReal
  ga : Fin 512 → EReal
  gv : Fin 512 → EReal

/-- Whether a key of the window is one of the 128 up to the query: the two programs' test of the distance. -/
def inside (r : Fin 128) (j : Fin 256) : BitVec 1 :=
  IntOp.andi
    (IntOp.cmpi .sge (IntOp.subi (IntOp.addi (BitVec.ofNat 32 r.val) 128#32) (BitVec.ofNat 32 j.val)) 0#32)
    (IntOp.cmpi .slt (IntOp.subi (IntOp.addi (BitVec.ofNat 32 r.val) 128#32) (BitVec.ofNat 32 j.val)) 128#32)

/-- Row `i` of block `n`. -/
def rowOf (n : Fin 32) (i : Fin 128) : Fin 4096 := ⟨128 * n.val + i.val, by omega⟩

/-- Row `j` of block `n`'s window. -/
def keyRow (n : Fin 32) (j : Fin 256) : Fin 4096 :=
  if h : j.val < 128 then ⟨128 * (n.val - 1) + j.val, by omega⟩ else ⟨128 * n.val + (j.val - 128), by omega⟩

variable (A : Args)

/-- A query's score against a key of its window, at minus infinity before the first block. -/
def score (n : Fin 32) (h : Fin 8) (i : Fin 128) (j : Fin 256) : EReal :=
  if j.val < 128 ∧ n.val = 0 then ⊥ else
    (∑ d : Fin 64, A.q (rowOf n i) ⟨64 * h.val + d.val, by omega⟩ * A.kv (keyRow n j) ⟨64 * (h.val / 4) + d.val, by omega⟩)
      * eighth + A.bias h i j

/-- A query's probabilities. -/
def probs (n : Fin 32) (h : Fin 8) (i : Fin 128) (j : Fin 256) : EReal := prob (score A n h i) (A.sink h) j

/-- The attention's output, every head's lanes side by side. -/
def attn (n : Fin 32) (i : Fin 128) (l : Fin 512) : EReal :=
  ∑ j, probs A n ⟨l.val / 64, by omega⟩ i j
    * A.kv (keyRow n j) ⟨128 + (64 * (l.val / 64 / 4) + l.val % 64), by omega⟩

/-- The row logarithms, one lane a head. -/
def logs (n : Fin 32) (i : Fin 128) (l : Fin 128) : EReal :=
  if h : l.val < 8 then lse (score A n ⟨l.val, h⟩ i) (A.sink ⟨l.val, h⟩) else 0

/-- The convolution's input. -/
def u (r : Fin 4096) (l : Fin 512) : EReal := A.gc r l * A.xc r l

/-- … `k` rows before. -/
def back (k : ℕ) (r : Fin 4096) (l : Fin 512) : EReal := if r.val < k then 0 else u A ⟨r.val - k, by omega⟩ l

/-- The gated convolution. -/
def conv (r : Fin 4096) (l : Fin 512) : EReal :=
  A.gb r l * (A.w 0 l * back A 2 r l + A.w 1 l * back A 1 r l + A.w 2 l * u A r l)

/-- The two group norms side by side. -/
def merged (n : Fin 32) (i : Fin 128) (l : Fin 1024) : EReal :=
  if h : l.val < 512 then group (attn A n i) A.ga ⟨l.val, h⟩ else group (conv A (rowOf n i)) A.gv ⟨l.val - 512, by omega⟩

end Cert.MixSpec

end

end
-- ==== Proof.MixSub.lean ====
/- One block of 128 rows of the mixer's forward kernel: where what the body loads are the arrays' elements, what it stores are the
   formulas'. -/
module

public import proofs.«01_k».proof.Proof.MixConv
public import proofs.«01_k».proof.Proof.MixSpec

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Cert.MixMath Cert.MixSpec

/-- The pair's queries of its lower or upper head. -/
def part (e : Bool) (q : Vec Ideal S128x128 .bf16) : FVec Ideal S128x128 .bf16 :=
  match e with
  | false => lowPart q
  | true => highPart q

/-- The window's lanes as they are, or with the halves exchanged. -/
def side (f : Bool) (x : FVec Ideal S256x128 .bf16) : FVec Ideal S256x128 .bf16 :=
  match f with
  | false => x
  | true => turned x

/-- Head `2 p + e`. -/
def headOf (p : Fin 4) (e : Bool) : Fin 8 := ⟨2 * p.val + e.toNat, by have := Bool.toNat_le e; omega⟩

theorem part_dot (e : Bool) (q : Vec Ideal S128x128 .bf16) (f : Fin 128 → EReal) (r : Fin 128) :
    ∑ l, part e q (ix2 r l) * f l = ∑ d : Fin 64, q (ix2 r ⟨64 * e.toNat + d.val, by have := Bool.toNat_le e; omega⟩)
      * f ⟨64 * e.toNat + d.val, by have := Bool.toNat_le e; omega⟩ := by
  cases e
  · refine (lowPart_dot q f r).trans (Finset.sum_congr rfl fun d _ => ?_)
    congr 3 <;> simp
  · exact highPart_dot q f r

theorem side_at (f : Bool) (x : FVec Ideal S256x128 .bf16) (j : Fin 256) (l : Fin 128) :
    side f x (ix2 j l) = x (ix2 j ⟨(l.val + 64 * f.toNat) % 128, Nat.mod_lt _ (by norm_num)⟩) := by
  cases f
  · show x _ = _
    congr 2; apply Fin.ext; show l.val = (l.val + 64 * 0) % 128; omega
  · exact turned_at x j l

/-- What the body loads of block `n`'s window. -/
structure Window (A : Args) (n : Fin 32) (prev cur : Vec Ideal S128x256 .bf16) : Prop where
  prev_at : ∀ j l, prev (ix2 j l) = A.kv ⟨128 * (n.val - 1) + j.val, by omega⟩ l
  cur_at : ∀ j l, cur (ix2 j l) = A.kv (rowOf n j) l

/-- What the body loads of pair `p`'s queries. -/
def Queries (A : Args) (n : Fin 32) (p : Fin 4) (q : Vec Ideal S128x128 .bf16) : Prop :=
  ∀ r l, q (ix2 r l) = A.q (rowOf n r) ⟨128 * p.val + l.val, by omega⟩

/-- What the body loads of head `h`'s bias. -/
def Bias (A : Args) (h : Fin 8) (b : Vec Ideal S1x128x256 .f32) : Prop := ∀ r j, b (ix3 0 r j) = A.bias h r j

variable {A : Args} {n : Fin 32} {prev cur : Vec Ideal S128x256 .bf16}

theorem Window.row_at (W : Window A n prev cur) (j l : Fin 256) : row prev cur j l = A.kv (keyRow n j) l := by
  unfold row keyRow
  split
  · exact W.prev_at _ _
  · exact W.cur_at _ _

theorem before_at (n : Fin 32) (j : Fin 256) (a b : EReal) :
    Scalar.select (IntOp.andi (IntOp.cmpi .slt (BitVec.ofNat 32 j.val) 128#32) (Scalar.cmpi .eq (BitVec.ofNat 32 n.val) 0#32)) a b
      = if j.val < 128 ∧ n.val = 0 then a else b := by
  have h : ∀ (n : Fin 32) (j : Fin 256),
      IntOp.andi (IntOp.cmpi .slt (BitVec.ofNat 32 j.val) 128#32) (Scalar.cmpi .eq (BitVec.ofNat 32 n.val) 0#32)
        = if j.val < 128 ∧ n.val = 0 then 1#1 else 0#1 := by decide +kernel
  rw [h]
  split <;> rfl

/-- One head's scores as the body computes them. -/
def headScore (w : BitVec 32) (e f : Bool) (q : Vec Ideal S128x128 .bf16) (prev cur : Vec Ideal S128x256 .bf16)
    (b : Vec Ideal S1x128x256 .f32) : FVec Ideal S128x256 .f32 :=
  scoreV w (part e q) (side f (keys prev cur)) b

theorem headScore_at {w : BitVec 32} (hw : w = BitVec.ofNat 32 n.val) (p : Fin 4) (e f : Bool)
    (hf : (64 * e.toNat + 64 * f.toNat) % 128 = 64 * (p.val / 2)) {q : Vec Ideal S128x128 .bf16} {b : Vec Ideal S1x128x256 .f32}
    (W : Window A n prev cur) (hq : Queries A n p q) (hb : Bias A (headOf p e) b) (r : Fin 128) (j : Fin 256) :
    headScore w e f q prev cur b (ix2 r j) = score A n (headOf p e) r j := by
  have he := Bool.toNat_le e
  unfold headScore score
  rw [scoreV_at, hw, before_at, hb, part_dot]
  congr 3
  refine Finset.sum_congr rfl fun d _ => ?_
  rw [side_at, keys_at, W.row_at, hq]
  congr 2
  · apply Fin.ext; simp only [headOf]; omega
  · apply Fin.ext; simp only [headOf]; omega

theorem store_at {w : BitVec 32} (hw : w = BitVec.ofNat 32 n.val) (p : Fin 4) (e f : Bool)
    (hf : (64 * e.toNat + 64 * f.toNat) % 128 = 64 * (p.val / 2)) {q : Vec Ideal S128x128 .bf16} {b : Vec Ideal S1x128x256 .f32}
    {k : Elt Ideal .f32} (W : Window A n prev cur) (hq : Queries A n p q) (hb : Bias A (headOf p e) b)
    (hk : k = A.sink (headOf p e)) (r : Fin 128) (j : Fin 256) :
    storeV (headScore w e f q prev cur b) k (ix4 0 0 r j) = probs A n (headOf p e) r j := by
  rw [storeV_at, hk]
  unfold probs
  exact congrArg (fun s => prob s _ j) (funext fun j => headScore_at hw p e f hf W hq hb r j)

/-- One head's output as the body computes it. -/
def headOut (w : BitVec 32) (e f : Bool) (q : Vec Ideal S128x128 .bf16) (prev cur : Vec Ideal S128x256 .bf16)
    (b : Vec Ideal S1x128x256 .f32) (k : Elt Ideal .f32) : FVec Ideal S128x128 .f32 :=
  outV (headScore w e f q prev cur b) k (side f (vals prev cur))

theorem headOut_at {w : BitVec 32} (hw : w = BitVec.ofNat 32 n.val) (p : Fin 4) (e f : Bool)
    (hf : (64 * e.toNat + 64 * f.toNat) % 128 = 64 * (p.val / 2)) {q : Vec Ideal S128x128 .bf16} {b : Vec Ideal S1x128x256 .f32}
    {k : Elt Ideal .f32} (W : Window A n prev cur) (hq : Queries A n p q) (hb : Bias A (headOf p e) b)
    (hk : k = A.sink (headOf p e)) (r l : Fin 128) (hl : l.val / 64 = e.toNat) :
    headOut w e f q prev cur b k (ix2 r l) = attn A n r ⟨128 * p.val + l.val, by omega⟩ := by
  have he := Bool.toNat_le e
  unfold headOut attn
  rw [outV_at]
  refine Finset.sum_congr rfl fun j _ => ?_
  have hh : (⟨(128 * p.val + l.val) / 64, by omega⟩ : Fin 8) = headOf p e := Fin.ext (by simp only [headOf]; omega)
  rw [side_at, vals_at, W.row_at, hk]
  unfold probs
  refine congrArg₂ (fun a b => a * b) ?_ ?_
  · rw [hh]
    exact congrArg (fun s => prob s _ j) (funext fun j => headScore_at hw p e f hf W hq hb r j)
  · congr 1; apply Fin.ext; show 128 + (l.val + 64 * f.toNat) % 128 = _
    have h1 : (128 * p.val + l.val) / 64 = 2 * p.val + e.toNat := by omega
    have h2 : (128 * p.val + l.val) % 64 = l.val % 64 := by omega
    have h3 : (2 * p.val + e.toNat) / 4 = p.val / 2 := by omega
    have h4 : l.val = 64 * e.toNat + l.val % 64 := by omega
    simp only [h1, h2, h3]
    omega

theorem pair_at {x y : FVec Ideal S128x128 .f32} (p : Fin 4)
    (hx : ∀ r l : Fin 128, l.val / 64 = 0 → x (ix2 r l) = attn A n r ⟨128 * p.val + l.val, by omega⟩)
    (hy : ∀ r l : Fin 128, l.val / 64 = 1 → y (ix2 r l) = attn A n r ⟨128 * p.val + l.val, by omega⟩) (r l : Fin 128) :
    pairV x y (ix2 r l) = attn A n r ⟨128 * p.val + l.val, by omega⟩ := by
  rw [pairV_at]
  split
  · exact hx r l (by omega)
  · exact hy r l (by omega)

theorem pairs_at {a b c d : FVec Ideal S128x128 .f32}
    (ha : ∀ r l : Fin 128, a (ix2 r l) = attn A n r ⟨128 * (0 : Fin 4).val + l.val, by omega⟩)
    (hb : ∀ r l : Fin 128, b (ix2 r l) = attn A n r ⟨128 * (1 : Fin 4).val + l.val, by omega⟩)
    (hc : ∀ r l : Fin 128, c (ix2 r l) = attn A n r ⟨128 * (2 : Fin 4).val + l.val, by omega⟩)
    (hd : ∀ r l : Fin 128, d (ix2 r l) = attn A n r ⟨128 * (3 : Fin 4).val + l.val, by omega⟩) (r : Fin 128) (l : Fin 512) :
    pairsV a b c d (ix2 r l) = attn A n r l := by
  have h : ∀ (p : Fin 4) (r l : Fin 128), (![a, b, c, d] p) (ix2 r l) = attn A n r ⟨128 * p.val + l.val, by omega⟩ := by
    intro p
    fin_cases p
    · exact ha
    · exact hb
    · exact hc
    · exact hd
  refine (pairsV_at ![a, b, c, d] r l).trans ((h _ r _).trans ?_)
  congr 1; apply Fin.ext; show 128 * (l.val / 128) + l.val % 128 = l.val; omega

/-- The first `k` lanes hold their heads' row logarithms, the others zero. -/
def Logs (A : Args) (n : Fin 32) (k : ℕ) (acc : FVec Ideal S128x128 .f32) : Prop :=
  ∀ r l : Fin 128, acc (ix2 r l) = if l.val < k then logs A n r l else 0

theorem logs_zero : Logs A n 0 (broadcast S128x128 (Scalar.ofBits (F := Ideal) .f32 0x00000000#32)) := by
  intro r l
  rw [if_neg (by omega)]
  pointwise

theorem lane_eq (l : Fin 128) (h : Fin 8) :
    IntOp.cmpi .eq (BitVec.ofNat 32 l.val) (BitVec.ofNat 32 h.val) = if l.val = h.val then 1#1 else 0#1 := by
  revert l h; decide +kernel

theorem logs_step (h : Fin 8) {acc : FVec Ideal S128x128 .f32} (hacc : Logs A n h.val acc) {s : FVec Ideal S128x256 .f32}
    {k : Elt Ideal .f32} (hs : ∀ r j, s (ix2 r j) = score A n h r j) (hk : k = A.sink h) :
    Logs A n (h.val + 1) (logV (BitVec.ofNat 32 h.val) acc s k) := by
  intro r l
  rw [logV_at, hacc, lane_eq]
  by_cases hl : l.val < h.val
  · rw [if_pos hl, if_neg (by omega), if_pos (by omega), select_zero, add_zero]
  · rw [if_neg hl]
    by_cases he : l.val = h.val
    · rw [if_pos he, if_pos (by omega), select_one, zero_add, hk]
      have hh : (⟨l.val, by omega⟩ : Fin 8) = h := Fin.ext he
      unfold logs
      rw [dif_pos (by omega), hh]
      exact congrArg (fun s => lse s _) (funext fun j => hs r j)
    · rw [if_neg he, if_neg (by omega), select_zero, add_zero]

/-- What the body loads for the convolution: the block's rows and the sixteen rows before. -/
structure Rows (A : Args) (n : Fin 32) (c x b : Vec Ideal S128x512 .bf16) (pc px : Vec Ideal S16x512 .bf16)
    (w : Vec Ideal S3x512 .f32) : Prop where
  c_at : ∀ r l, c (ix2 r l) = A.gc (rowOf n r) l
  x_at : ∀ r l, x (ix2 r l) = A.xc (rowOf n r) l
  b_at : ∀ r l, b (ix2 r l) = A.gb (rowOf n r) l
  pc_at : 0 < n.val → ∀ (a : Fin 16) l, pc (ix2 a l) = A.gc ⟨128 * n.val + a.val - 16, by omega⟩ l
  px_at : 0 < n.val → ∀ (a : Fin 16) l, px (ix2 a l) = A.xc ⟨128 * n.val + a.val - 16, by omega⟩ l
  w_at : ∀ k l, w (ix2 k l) = A.w k l

theorem after_at (n : Fin 32) (a b : EReal) :
    Scalar.select (Scalar.cmpi .sgt (BitVec.ofNat 32 n.val) 0#32) a b = if 0 < n.val then a else b := by
  have h : ∀ n : Fin 32, Scalar.cmpi .sgt (BitVec.ofNat 32 n.val) 0#32 = if 0 < n.val then 1#1 else 0#1 := by decide +kernel
  rw [h]
  split <;> rfl

variable {c x b : Vec Ideal S128x512 .bf16} {pc px : Vec Ideal S16x512 .bf16} {wv : Vec Ideal S3x512 .f32}

theorem Rows.tail_at (H : Rows A n c x b pc px wv) (a : Fin 16) (l : Fin 512) :
    tailV (BitVec.ofNat 32 n.val) pc px (ix2 a l)
      = if 0 < n.val then u A ⟨128 * n.val + a.val - 16, by omega⟩ l else 0 := by
  rw [tailV_at, after_at]
  split
  · rename_i h
    rw [H.pc_at h, H.px_at h]; rfl
  · rfl

theorem Rows.gated_at (H : Rows A n c x b pc px wv) (r : Fin 128) (l : Fin 512) :
    gatedV c x (ix2 r l) = u A (rowOf n r) l := by
  rw [gatedV_at, H.c_at, H.x_at]; rfl

theorem Rows.back_at (H : Rows A n c x b pc px wv) (r : Fin 128) (l : Fin 512) :
    backV (gatedV c x) (tailV (BitVec.ofNat 32 n.val) pc px) (ix2 r l) = back A 1 (rowOf n r) l := by
  have hr : (rowOf n r).val = 128 * n.val + r.val := rfl
  rw [backV_at, H.tail_at]
  unfold back
  simp only [hr]
  by_cases h : r.val = 0
  · rw [dif_pos h]
    by_cases hn : 0 < n.val
    · rw [if_pos hn, if_neg (by omega)]
      congr 1; apply Fin.ext; show 128 * n.val + 15 - 16 = 128 * n.val + r.val - 1; omega
    · rw [if_neg hn, if_pos (by omega)]
  · rw [dif_neg h, if_neg (by omega), H.gated_at]
    congr 1; apply Fin.ext; show 128 * n.val + (r.val - 1) = _; simp only []; omega

theorem Rows.back2_at (H : Rows A n c x b pc px wv) (r : Fin 128) (l : Fin 512) :
    back2V (gatedV c x) (tailV (BitVec.ofNat 32 n.val) pc px) (ix2 r l) = back A 2 (rowOf n r) l := by
  have hr : (rowOf n r).val = 128 * n.val + r.val := rfl
  rw [back2V_at, H.tail_at, H.tail_at]
  unfold back
  simp only [hr]
  by_cases h : r.val = 0
  · rw [dif_pos h]
    by_cases hn : 0 < n.val
    · rw [if_pos hn, if_neg (by omega)]
      congr 1; apply Fin.ext; show 128 * n.val + 14 - 16 = 128 * n.val + r.val - 2; omega
    · rw [if_neg hn, if_pos (by omega)]
  rw [dif_neg h]
  by_cases h1 : r.val = 1
  · rw [dif_pos h1]
    by_cases hn : 0 < n.val
    · rw [if_pos hn, if_neg (by omega)]
      congr 1; apply Fin.ext; show 128 * n.val + 15 - 16 = 128 * n.val + r.val - 2; omega
    · rw [if_neg hn, if_pos (by omega)]
  · rw [dif_neg h1, if_neg (by omega), H.gated_at]
    congr 1; apply Fin.ext; show 128 * n.val + (r.val - 2) = _; simp only []; omega

theorem Rows.conv_at (H : Rows A n c x b pc px wv) {w : BitVec 32} (hw : w = BitVec.ofNat 32 n.val) (r : Fin 128)
    (l : Fin 512) : convV (gatedV c x) (tailV w pc px) wv b (ix2 r l) = conv A (rowOf n r) l := by
  subst hw
  rw [convV_at, H.back_at, H.back2_at, H.gated_at, H.b_at, H.w_at, H.w_at, H.w_at]
  rfl

theorem merged_at {x y : FVec Ideal S128x512 .f32} {g k : Vec Ideal S1x512 .f32}
    (hx : ∀ r l, x (ix2 r l) = attn A n r l) (hy : ∀ r l, y (ix2 r l) = conv A (rowOf n r) l)
    (hg : ∀ l, g (ix2 0 l) = A.ga l) (hk : ∀ l, k (ix2 0 l) = A.gv l) (r : Fin 128) (l : Fin 1024) :
    mergedV x y g k (ix2 r l) = merged A n r l := by
  rw [mergedV_at]
  simp only [hx, hy, hg, hk]
  rfl

end Cert.Kernel2Ideal.Mix

end

end
-- ==== Proof.MixLoads.lean ====
/- What one grid point of the mixer's forward kernel loads, and that with it each block of 128 rows holds the formulas' elements. -/
module

public import proofs.«01_k».proof.Proof.MixSub

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Cert.MixMath Cert.MixSpec

/-- The number of a point's block as the body computes it. -/
def wordOf (i : grid0.Coords) (s : Fin 4) : BitVec 32 :=
  Scalar.addi (Scalar.muli (BitVec.ofNat 32 (i 0).val) 4#32) (BitVec.ofNat 32 s.val)

/-- … and as a number. -/
def numOf (i : grid0.Coords) (s : Fin 4) : Fin 32 := ⟨4 * (i 0).val + s.val, by have : (i 0).val < 8 := (i 0).isLt; omega⟩

theorem wordOf_eq (i : grid0.Coords) (s : Fin 4) : wordOf i s = BitVec.ofNat 32 (numOf i s).val := by
  have h : ∀ (a : Fin 8) (s : Fin 4), Scalar.addi (Scalar.muli (BitVec.ofNat 32 a.val) 4#32) (BitVec.ofNat 32 s.val)
      = BitVec.ofNat 32 (4 * a.val + s.val) := by decide +kernel
  exact h (i 0) s

theorem off1_eq (i : grid0.Coords) (s : Fin 4) :
    k0_off1 i (BitVec.ofNat 32 s.val) = ![128 * (4 * (i 0).val + s.val - 1), 0] := by
  have h : ∀ (a : Fin 8) (s : Fin 4), (Scalar.indexCast (Scalar.muli (Scalar.maxsi (Scalar.subi (Scalar.addi (Scalar.muli
      (BitVec.ofNat 32 a.val) 4#32) (BitVec.ofNat 32 s.val)) 1#32) 0#32) 128#32) : Index).toNat
      = 128 * (4 * a.val + s.val - 1) := by decide +kernel
  funext a
  fin_cases a
  · exact h (i 0) s
  · rfl

theorem off2_eq (i : grid0.Coords) (s : Fin 4) :
    k0_off2 i (BitVec.ofNat 32 s.val) = ![128 * (4 * (i 0).val + s.val), 0] := by
  have h : ∀ (a : Fin 8) (s : Fin 4), (Scalar.indexCast (Scalar.muli (Scalar.addi (Scalar.muli
      (BitVec.ofNat 32 a.val) 4#32) (BitVec.ofNat 32 s.val)) 128#32) : Index).toNat
      = 128 * (4 * a.val + s.val) := by decide +kernel
  funext a
  fin_cases a
  · exact h (i 0) s
  · rfl

/-- The blocks of a grid point. -/
structure Blocks where
  x0 : Vec Ideal S8 .f32
  x1 : Vec Ideal S512x512 .bf16
  x2 : Vec Ideal S4096x256 .bf16
  x3 : Vec Ideal S512x512 .bf16
  x4 : Vec Ideal S512x512 .bf16
  x5 : Vec Ideal S512x512 .bf16
  x6 : Vec Ideal S16x512 .bf16
  x7 : Vec Ideal S16x512 .bf16
  x8 : Vec Ideal S8x128x256 .f32
  x9 : Vec Ideal S3x512 .f32
  x10 : Vec Ideal S1x512 .f32
  x11 : Vec Ideal S1x512 .f32

/-- Row `r` of the point's 512 rows. -/
def wide (i : grid0.Coords) (r : Fin 512) : Fin 4096 := ⟨512 * (i 0).val + r.val, by have : (i 0).val < 8 := (i 0).isLt; omega⟩

/-- Row `a` of the 16 rows before the point's. -/
def tail (i : grid0.Coords) (a : Fin 16) : Fin 4096 :=
  ⟨512 * (i 0).val + a.val - 16, by have : (i 0).val < 8 := (i 0).isLt; omega⟩

/-- The blocks hold the arrays' elements. -/
structure Holds (A : Args) (i : grid0.Coords) (X : Blocks) : Prop where
  sink : ∀ h, X.x0 (ix1 h) = A.sink h
  q : ∀ r l, X.x1 (ix2 r l) = A.q (wide i r) l
  kv : ∀ r l, X.x2 (ix2 r l) = A.kv r l
  gb : ∀ r l, X.x3 (ix2 r l) = A.gb (wide i r) l
  gc : ∀ r l, X.x4 (ix2 r l) = A.gc (wide i r) l
  xc : ∀ r l, X.x5 (ix2 r l) = A.xc (wide i r) l
  pc : 0 < (i 0).val → ∀ a l, X.x6 (ix2 a l) = A.gc (tail i a) l
  px : 0 < (i 0).val → ∀ a l, X.x7 (ix2 a l) = A.xc (tail i a) l
  bias : ∀ h r j, X.x8 (ix3 h r j) = A.bias h r j
  w : ∀ k l, X.x9 (ix2 k l) = A.w k l
  ga : ∀ l, X.x10 (ix2 0 l) = A.ga l
  gv : ∀ l, X.x11 (ix2 0 l) = A.gv l

section Loads

variable (i : grid0.Coords) (X : Blocks)

def prevAt (s : Fin 4) : Vec Ideal S128x256 .bf16 :=
  View.ld X.x2 (Rect.unit (s := S4096x256) (k0_off1 i (BitVec.ofNat 32 s.val)) S128x256.size (k0_off1_inb i s))

def curAt (s : Fin 4) : Vec Ideal S128x256 .bf16 :=
  View.ld X.x2 (Rect.unit (s := S4096x256) (k0_off2 i (BitVec.ofNat 32 s.val)) S128x256.size (k0_off2_inb i s))

theorem inb_two {m n a b c d : ℕ} (h : c + a ≤ m) (h' : d + b ≤ n) :
    ∀ x : Fin 2, (![c, d] : Fin 2 → ℕ) x + (⟨2, ![a, b]⟩ : Shape).size x ≤ (⟨2, ![m, n]⟩ : Shape).size x := by
  intro x
  fin_cases x
  · exact h
  · exact h'

def qAt (s p : Fin 4) : Vec Ideal S128x128 .bf16 :=
  View.ld X.x1 (Rect.unit (s := S512x512) ![128 * s.val, 128 * p.val] S128x128.size
    (inb_two (m := 512) (n := 512) (a := 128) (b := 128) (by omega) (by omega)))

/-- The point's rows of block `s`, of an array of 512 rows. -/
def rowsAt (x : Vec Ideal S512x512 .bf16) (s : Fin 4) : Vec Ideal S128x512 .bf16 :=
  View.ld x (Rect.unit (s := S512x512) ![128 * s.val, 0] S128x512.size
    (inb_two (m := 512) (n := 512) (a := 128) (b := 512) (by omega) (by omega)))

/-- The sixteen rows before block `s`, from the second block on. -/
def tailAt (x : Vec Ideal S512x512 .bf16) (s : Fin 4) : Vec Ideal S16x512 .bf16 :=
  View.ld x (Rect.unit (s := S512x512) ![128 * s.val - 16, 0] S16x512.size
    (inb_two (m := 512) (n := 512) (a := 16) (b := 512) (by omega) (by omega)))

def biasAt (h : Fin 8) : Vec Ideal S1x128x256 .f32 :=
  View.ld X.x8 (Rect.unit (s := S8x128x256) ![h.val, 0, 0] ![1, 128, 256] (by
    intro x
    fin_cases x
    · show h.val + 1 ≤ 8; omega
    · exact Nat.le_refl _
    · exact Nat.le_refl _))

theorem S1_numel : 0 < S1.numel := by decide

theorem first_S1 : Shape.Idx.first S1_numel = ix1 (0 : Fin 1) := funext fun a => Fin.ext (by
  fin_cases a
  rfl)

def sinkAt (h : Fin 8) : Elt Ideal .f32 :=
  View.ld X.x0 (Rect.unit (s := S8) ![h.val] S1.size (by
    intro x
    fin_cases x
    show h.val + 1 ≤ 8; omega)) (Shape.Idx.first S1_numel)

variable {A : Args} {i X}

theorem Holds.window (H : Holds A i X) (s : Fin 4) : Window A (numOf i s) (prevAt i X s) (curAt i X s) where
  prev_at j l := by
    unfold prevAt
    pointwise
    rw [H.kv]
    congr 1
    · apply Fin.ext; show k0_off1 i (BitVec.ofNat 32 s.val) 0 + j.val = _; rw [off1_eq]; rfl
    · apply Fin.ext; show k0_off1 i (BitVec.ofNat 32 s.val) 1 + l.val = _; rw [off1_eq]; exact Nat.zero_add _
  cur_at j l := by
    unfold curAt
    pointwise
    rw [H.kv]
    congr 1
    · apply Fin.ext; show k0_off2 i (BitVec.ofNat 32 s.val) 0 + j.val = _; rw [off2_eq]; rfl
    · apply Fin.ext; show k0_off2 i (BitVec.ofNat 32 s.val) 1 + l.val = _; rw [off2_eq]; exact Nat.zero_add _

theorem Holds.queries (H : Holds A i X) (s p : Fin 4) : Queries A (numOf i s) p (qAt X s p) := by
  intro r l
  unfold qAt
  pointwise
  rw [H.q]
  congr 1
  apply Fin.ext; show 512 * (i 0).val + (128 * s.val + r.val) = 128 * (4 * (i 0).val + s.val) + r.val; omega

theorem Holds.biases (H : Holds A i X) (h : Fin 8) : Bias A h (biasAt X h) := by
  intro r j
  unfold biasAt
  pointwise
  exact H.bias h r j

theorem Holds.sinks (H : Holds A i X) (h : Fin 8) : sinkAt X h = A.sink h := by
  unfold sinkAt
  rw [show Shape.Idx.first S1_numel = ix1 (0 : Fin 1) from first_S1]
  pointwise
  exact H.sink h

theorem rowsAt_at (x : Vec Ideal S512x512 .bf16) (s : Fin 4) (r : Fin 128) (l : Fin 512) :
    rowsAt x s (ix2 r l) = x (ix2 ⟨128 * s.val + r.val, by omega⟩ l) := by
  unfold rowsAt
  pointwise

theorem tailAt_at (x : Vec Ideal S512x512 .bf16) (s : Fin 4) (hs : 0 < s.val) (a : Fin 16) (l : Fin 512) :
    tailAt x s (ix2 a l) = x (ix2 ⟨128 * s.val - 16 + a.val, by omega⟩ l) := by
  unfold tailAt
  pointwise

theorem wide_row (i : grid0.Coords) (s : Fin 4) (r : Fin 128) :
    wide i ⟨128 * s.val + r.val, by omega⟩ = rowOf (numOf i s) r := by
  apply Fin.ext; show 512 * (i 0).val + (128 * s.val + r.val) = 128 * (4 * (i 0).val + s.val) + r.val; omega

/-- The convolution's rows of the point's first block: the sixteen rows before come in their own blocks. -/
theorem Holds.rows_first (H : Holds A i X) :
    Rows A (numOf i 0) (rowsAt X.x4 0) (rowsAt X.x5 0) (rowsAt X.x3 0) X.x6 X.x7 X.x9 where
  c_at r l := by rw [rowsAt_at, H.gc, wide_row]
  x_at r l := by rw [rowsAt_at, H.xc, wide_row]
  b_at r l := by rw [rowsAt_at, H.gb, wide_row]
  pc_at hn a l := by
    have h0 : (numOf i 0).val = 4 * (i 0).val := rfl
    rw [H.pc (by omega)]
    congr 1; apply Fin.ext; show 512 * (i 0).val + a.val - 16 = 128 * (4 * (i 0).val + 0) + a.val - 16; omega
  px_at hn a l := by
    have h0 : (numOf i 0).val = 4 * (i 0).val := rfl
    rw [H.px (by omega)]
    congr 1; apply Fin.ext; show 512 * (i 0).val + a.val - 16 = 128 * (4 * (i 0).val + 0) + a.val - 16; omega
  w_at := H.w

/-- … and of the others: they are rows of the point's own. -/
theorem Holds.rows_next (H : Holds A i X) (s : Fin 4) (hs : 0 < s.val) :
    Rows A (numOf i s) (rowsAt X.x4 s) (rowsAt X.x5 s) (rowsAt X.x3 s) (tailAt X.x4 s) (tailAt X.x5 s) X.x9 where
  c_at r l := by rw [rowsAt_at, H.gc, wide_row]
  x_at r l := by rw [rowsAt_at, H.xc, wide_row]
  b_at r l := by rw [rowsAt_at, H.gb, wide_row]
  pc_at hn a l := by
    rw [tailAt_at _ _ hs, H.gc]
    congr 1; apply Fin.ext
    show 512 * (i 0).val + (128 * s.val - 16 + a.val) = 128 * (4 * (i 0).val + s.val) + a.val - 16; omega
  px_at hn a l := by
    rw [tailAt_at _ _ hs, H.xc]
    congr 1; apply Fin.ext
    show 512 * (i 0).val + (128 * s.val - 16 + a.val) = 128 * (4 * (i 0).val + s.val) + a.val - 16; omega
  w_at := H.w

end Loads

section Results

variable (i : grid0.Coords) (X : Blocks)

/-- Head `2 p + e` of block `s`, with the window's lanes turned or not: its scores, … -/
def scoreAt (s p : Fin 4) (e f : Bool) : FVec Ideal S128x256 .f32 :=
  headScore (wordOf i s) e f (qAt X s p) (prevAt i X s) (curAt i X s) (biasAt X (headOf p e))

/-- … its probabilities as they are stored, … -/
def probAt (s p : Fin 4) (e f : Bool) : FVec Ideal S1x1x128x256 .bf16 := storeV (scoreAt i X s p e f) (sinkAt X (headOf p e))

/-- … and its output. -/
def outAt (s p : Fin 4) (e f : Bool) : FVec Ideal S128x128 .f32 :=
  headOut (wordOf i s) e f (qAt X s p) (prevAt i X s) (curAt i X s) (biasAt X (headOf p e)) (sinkAt X (headOf p e))

/-- The attention's output of block `s`. -/
def attnAt (s : Fin 4) : FVec Ideal S128x512 .f32 :=
  pairsV (pairV (outAt i X s 0 false false) (outAt i X s 0 true true)) (pairV (outAt i X s 1 false false) (outAt i X s 1 true true))
    (pairV (outAt i X s 2 false true) (outAt i X s 2 true false)) (pairV (outAt i X s 3 false true) (outAt i X s 3 true false))

/-- Head `h`'s row logarithms added in. -/
def logStep (s p : Fin 4) (e f : Bool) (acc : FVec Ideal S128x128 .f32) : FVec Ideal S128x128 .f32 :=
  logV (BitVec.ofNat 32 (headOf p e).val) acc (scoreAt i X s p e f) (sinkAt X (headOf p e))

/-- The row logarithms of block `s`. -/
def logsAt (s : Fin 4) : FVec Ideal S128x128 .f32 :=
  logStep i X s 3 true false (logStep i X s 3 false true (logStep i X s 2 true false (logStep i X s 2 false true
    (logStep i X s 1 true true (logStep i X s 1 false false (logStep i X s 0 true true (logStep i X s 0 false false
      (broadcast S128x128 (Scalar.ofBits (F := Ideal) .f32 0x00000000#32)))))))))

/-- The two groups of block `s`. -/
def mergedAt (s : Fin 4) (pc px : Vec Ideal S16x512 .bf16) : FVec Ideal S128x1024 .bf16 :=
  mergedV (attnAt i X s) (convV (gatedV (rowsAt X.x4 s) (rowsAt X.x5 s)) (tailV (wordOf i s) pc px) X.x9 (rowsAt X.x3 s))
    X.x10 X.x11

variable {A : Args} {i X}

theorem Holds.score_at (H : Holds A i X) (s p : Fin 4) (e f : Bool)
    (hf : (64 * e.toNat + 64 * f.toNat) % 128 = 64 * (p.val / 2)) (r : Fin 128) (j : Fin 256) :
    scoreAt i X s p e f (ix2 r j) = score A (numOf i s) (headOf p e) r j :=
  headScore_at (wordOf_eq i s) p e f hf (H.window s) (H.queries s p) (H.biases _) r j

theorem Holds.prob_at (H : Holds A i X) (s p : Fin 4) (e f : Bool)
    (hf : (64 * e.toNat + 64 * f.toNat) % 128 = 64 * (p.val / 2)) (r : Fin 128) (j : Fin 256) :
    probAt i X s p e f (ix4 0 0 r j) = probs A (numOf i s) (headOf p e) r j :=
  store_at (wordOf_eq i s) p e f hf (H.window s) (H.queries s p) (H.biases _) (H.sinks _) r j

theorem Holds.attn_at (H : Holds A i X) (s : Fin 4) (r : Fin 128) (l : Fin 512) :
    attnAt i X s (ix2 r l) = attn A (numOf i s) r l := by
  have h : ∀ (p : Fin 4) (e f : Bool), (64 * e.toNat + 64 * f.toNat) % 128 = 64 * (p.val / 2) →
      ∀ r l : Fin 128, l.val / 64 = e.toNat → outAt i X s p e f (ix2 r l) = attn A (numOf i s) r ⟨128 * p.val + l.val, by omega⟩ :=
    fun p e f hf r l hl =>
      headOut_at (wordOf_eq i s) p e f hf (H.window s) (H.queries s p) (H.biases _) (H.sinks _) r l hl
  exact pairs_at (pair_at 0 (h 0 false false rfl) (h 0 true true rfl)) (pair_at 1 (h 1 false false rfl) (h 1 true true rfl))
    (pair_at 2 (h 2 false true rfl) (h 2 true false rfl)) (pair_at 3 (h 3 false true rfl) (h 3 true false rfl)) r l

theorem Holds.logs_at (H : Holds A i X) (s : Fin 4) (r l : Fin 128) :
    logsAt i X s (ix2 r l) = logs A (numOf i s) r l := by
  have h : ∀ (p : Fin 4) (e f : Bool) (acc : FVec Ideal S128x128 .f32),
      (64 * e.toNat + 64 * f.toNat) % 128 = 64 * (p.val / 2) → Logs A (numOf i s) (headOf p e).val acc →
        Logs A (numOf i s) ((headOf p e).val + 1) (logStep i X s p e f acc) :=
    fun p e f acc hf hacc => logs_step (headOf p e) hacc (fun r j => H.score_at s p e f hf r j) (H.sinks _)
  have h8 : Logs A (numOf i s) 8 (logsAt i X s) :=
    h 3 true false _ rfl (h 3 false true _ rfl (h 2 true false _ rfl (h 2 false true _ rfl
      (h 1 true true _ rfl (h 1 false false _ rfl (h 0 true true _ rfl (h 0 false false _ rfl logs_zero)))))))
  rw [h8 r l]
  split
  · rfl
  · rename_i hl
    unfold logs
    rw [dif_neg hl]

theorem Holds.merged_at (H : Holds A i X) (s : Fin 4) {pc px : Vec Ideal S16x512 .bf16}
    (R : Rows A (numOf i s) (rowsAt X.x4 s) (rowsAt X.x5 s) (rowsAt X.x3 s) pc px X.x9) (r : Fin 128) (l : Fin 1024) :
    mergedAt i X s pc px (ix2 r l) = merged A (numOf i s) r l :=
  Mix.merged_at (H.attn_at s) (R.conv_at (wordOf_eq i s)) H.ga H.gv r l

end Results

end Cert.Kernel2Ideal.Mix

end

end
-- ==== Proof.MixBlocks.lean ====
/- What one grid point of the mixer's forward kernel leaves in its four output blocks, element by element. -/
module

public import proofs.«01_k».proof.Proof.Gen.Kernel2Ideal.Value
public import proofs.«01_k».proof.Proof.MixLoads
public import Idealize.ShloMosaic.Lib.Pipeline.ReadBack
public import Idealize.ShloMosaic.Lib.Pipeline.ValueKit.Geometry

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Cert.MixMath Cert.MixSpec
open Idealize.ShloMosaic.ValueKit

theorem hz : (![0, 0] : Fin 2 → Nat) = fun _ => 0 := funext fun a => by fin_cases a <;> rfl

section Pieces

variable {A : Args} {i : grid0.Coords} {X : Blocks}

/-- The block of the probabilities, … -/
def probsG (A : Args) (i : grid0.Coords) : S4x8x128x256.Idx → EReal := fun y => probs A (numOf i (y 0)) (y 1) (y 2) (y 3)

/-- … of the attention's output, … -/
def attnG (A : Args) (i : grid0.Coords) : S512x512.Idx → EReal :=
  fun y => attn A (numOf i ⟨(y 0).val / 128, by have : (y 0).val < 512 := (y 0).isLt; omega⟩)
    ⟨(y 0).val % 128, Nat.mod_lt _ (by norm_num)⟩ (y 1)

/-- … of the two groups … -/
def mergedG (A : Args) (i : grid0.Coords) : S512x1024.Idx → EReal :=
  fun y => merged A (numOf i ⟨(y 0).val / 128, by have : (y 0).val < 512 := (y 0).isLt; omega⟩)
    ⟨(y 0).val % 128, Nat.mod_lt _ (by norm_num)⟩ (y 1)

/-- … and of the row logarithms. -/
def logsG (A : Args) (i : grid0.Coords) : S512x128.Idx → EReal :=
  fun y => logs A (numOf i ⟨(y 0).val / 128, by have : (y 0).val < 512 := (y 0).isLt; omega⟩)
    ⟨(y 0).val % 128, Nat.mod_lt _ (by norm_num)⟩ (y 1)

theorem headInb (s p : Fin 4) (e : Bool) :
    ∀ a, (![s.val, (headOf p e).val, 0, 0] : Fin 4 → ℕ) a + (![1, 1, 128, 256] : Fin 4 → ℕ) a ≤ S4x8x128x256.size a := by
  intro a
  fin_cases a
  · show s.val + 1 ≤ 4; omega
  · show (headOf p e).val + 1 ≤ 8; omega
  · exact Nat.le_refl _
  · exact Nat.le_refl _

theorem prob_piece (H : Holds A i X) (s p : Fin 4) (e f : Bool)
    (hf : (64 * e.toNat + 64 * f.toNat) % 128 = 64 * (p.val / 2)) :
    ∀ x : S1x1x128x256.Idx, probAt i X s p e f x
      = probsG A i ((Rect.unit (s := S4x8x128x256) ![s.val, (headOf p e).val, 0, 0] ![1, 1, 128, 256] (headInb s p e)).emb x) := by
  intro x
  idx_vars x
  obtain rfl : x0 = 0 := Fin.ext (by omega)
  obtain rfl : x1 = 0 := Fin.ext (by omega)
  refine (H.prob_at s p e f hf x2 x3).trans ?_
  unfold probsG
  have h2 : (Rect.unit (s := S4x8x128x256) ![s.val, (headOf p e).val, 0, 0] ![1, 1, 128, 256] (headInb s p e)).emb (ix4 0 0 x2 x3) 2 = x2 :=
    Fin.ext ((rect_emb_unit_val (s := S4x8x128x256) _ _ (headInb s p e) _ 2).trans (Nat.zero_add _))
  have h3 : (Rect.unit (s := S4x8x128x256) ![s.val, (headOf p e).val, 0, 0] ![1, 1, 128, 256] (headInb s p e)).emb (ix4 0 0 x2 x3) 3 = x3 :=
    Fin.ext ((rect_emb_unit_val (s := S4x8x128x256) _ _ (headInb s p e) _ 3).trans (Nat.zero_add _))
  rw [h2, h3]
  rfl

theorem rowsInb (s : Fin 4) (n : ℕ) :
    ∀ a, (![128 * s.val, 0] : Fin 2 → ℕ) a + (![128, n] : Fin 2 → ℕ) a ≤ (⟨2, ![512, n]⟩ : Shape).size a := by
  intro a
  fin_cases a
  · show 128 * s.val + 128 ≤ 512; omega
  · exact (Nat.zero_add n).le

/-- A block of 128 rows in its output block of 512. -/
theorem rows_piece {n : ℕ} (s : Fin 4) {f : (⟨2, ![128, n]⟩ : Shape).Idx → EReal} {g : Fin 32 → Fin 128 → Fin n → EReal}
    (h : ∀ r l, f (ix2 r l) = g (numOf i s) r l) (x : (⟨2, ![128, n]⟩ : Shape).Idx) :
    f x = (fun y : (⟨2, ![512, n]⟩ : Shape).Idx =>
        g (numOf i ⟨(y 0).val / 128, by have : (y 0).val < 512 := (y 0).isLt; omega⟩) ⟨(y 0).val % 128, Nat.mod_lt _ (by norm_num)⟩ (y 1))
      ((Rect.unit (s := ⟨2, ![512, n]⟩) ![128 * s.val, 0] ![128, n] (rowsInb s n)).emb x) := by
  obtain ⟨x0, x1, rfl⟩ : ∃ a b, x = ix2 a b := ⟨x 0, x 1, funext fun a => by fin_cases a <;> rfl⟩
  refine (h x0 x1).trans ?_
  have h0 : ((Rect.unit (s := ⟨2, ![512, n]⟩) ![128 * s.val, 0] ![128, n] (rowsInb s n)).emb (ix2 x0 x1) 0).val = 128 * s.val + x0.val :=
    rect_emb_unit_val (s := ⟨2, ![512, n]⟩) _ _ (rowsInb s n) _ 0
  have h1 : (Rect.unit (s := ⟨2, ![512, n]⟩) ![128 * s.val, 0] ![128, n] (rowsInb s n)).emb (ix2 x0 x1) 1 = x1 :=
    Fin.ext ((rect_emb_unit_val (s := ⟨2, ![512, n]⟩) _ _ (rowsInb s n) _ 1).trans (Nat.zero_add _))
  show _ = g _ _ _
  congr 1
  · exact congrArg (numOf i) (Fin.ext (by show s.val = _ / 128; rw [h0]; omega))
  · exact Fin.ext (by show x0.val = _ % 128; rw [h0]; omega)
  · exact h1.symm

theorem attn_piece (H : Holds A i X) (s : Fin 4) (x : S128x512.Idx) :
    attnAt i X s x = attnG A i ((Rect.unit (s := S512x512) ![128 * s.val, 0] ![128, 512] (rowsInb s 512)).emb x) :=
  rows_piece (g := attn A) s (H.attn_at s) x

theorem logs_piece (H : Holds A i X) (s : Fin 4) (x : S128x128.Idx) :
    logsAt i X s x = logsG A i ((Rect.unit (s := S512x128) ![128 * s.val, 0] ![128, 128] (rowsInb s 128)).emb x) :=
  rows_piece (g := logs A) s (H.logs_at s) x

theorem merged_first (H : Holds A i X) (x : S128x1024.Idx) :
    mergedAt i X 0 X.x6 X.x7 x
      = mergedG A i ((Rect.unit (s := S512x1024) ![128 * (0 : Fin 4).val, 0] ![128, 1024] (rowsInb 0 1024)).emb x) :=
  rows_piece (g := merged A) 0 (H.merged_at 0 H.rows_first) x

theorem merged_next (H : Holds A i X) (s : Fin 4) (hs : 0 < s.val) (x : S128x1024.Idx) :
    mergedAt i X s (tailAt X.x4 s) (tailAt X.x5 s) x
      = mergedG A i ((Rect.unit (s := S512x1024) ![128 * s.val, 0] ![128, 1024] (rowsInb s 1024)).emb x) :=
  rows_piece (g := merged A) s (H.merged_at s (H.rows_next s hs)) x

end Pieces

section Cases

variable (c : Dev nD) (i : grid0.Coords)
  (arg1 : Memref sig .tc .smem S8 .f32) (harg1 : arg1.IsWhole)
  (arg2 : Memref sig .tc .vmem S512x512 .bf16) (harg2 : arg2.IsWhole)
  (arg3 : Memref sig .tc .vmem S4096x256 .bf16) (harg3 : arg3.IsWhole)
  (arg4 : Memref sig .tc .vmem S512x512 .bf16) (harg4 : arg4.IsWhole)
  (arg5 : Memref sig .tc .vmem S512x512 .bf16) (harg5 : arg5.IsWhole)
  (arg6 : Memref sig .tc .vmem S512x512 .bf16) (harg6 : arg6.IsWhole)
  (arg7 : Memref sig .tc .vmem S16x512 .bf16) (harg7 : arg7.IsWhole)
  (arg8 : Memref sig .tc .vmem S16x512 .bf16) (harg8 : arg8.IsWhole)
  (arg9 : Memref sig .tc .vmem S8x128x256 .f32) (harg9 : arg9.IsWhole)
  (arg10 : Memref sig .tc .vmem S3x512 .f32) (harg10 : arg10.IsWhole)
  (arg11 : Memref sig .tc .vmem S1x512 .f32) (harg11 : arg11.IsWhole)
  (arg12 : Memref sig .tc .vmem S1x512 .f32) (harg12 : arg12.IsWhole)
  (arg13 : Memref sig .tc .vmem S512x512 .f32) (harg13 : arg13.IsWhole)
  (arg14 : Memref sig .tc .vmem S512x1024 .bf16) (harg14 : arg14.IsWhole)
  (arg15 : Memref sig .tc .vmem S512x128 .f32) (harg15 : arg15.IsWhole)
  (arg16 : Memref sig .tc .vmem S4x8x128x256 .bf16) (harg16 : arg16.IsWhole)
  (x0 : Vec Ideal S8 .f32) (x1 : Vec Ideal S512x512 .bf16) (x2 : Vec Ideal S4096x256 .bf16) (x3 x4 x5 : Vec Ideal S512x512 .bf16)
  (x6 x7 : Vec Ideal S16x512 .bf16) (x8 : Vec Ideal S8x128x256 .f32) (x9 : Vec Ideal S3x512 .f32) (x10 x11 : Vec Ideal S1x512 .f32)

variable {A : Args} (H : Holds A i ⟨x0, x1, x2, x3, x4, x5, x6, x7, x8, x9, x10, x11⟩)
include H

/-- What the four outputs' stores are made of. -/
theorem pieces : View.PiecesOf (attnG A i) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1 ∧
    View.PiecesOf (mergedG A i) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).2.1 ∧
    View.PiecesOf (logsG A i) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).2.2.1 ∧
    View.PiecesOf (probsG A i) (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).2.2.2.1 := by
  unfold kernelRun0_A
  dsimp only
  sl_unfold_words
  simp only [View.readAt_eq_ld]
  have e0 := harg1.read_unread x0
  have e1 := harg2.read_unread x1
  have e2 := harg3.read_unread x2
  have e3 := harg4.read_unread x3
  have e4 := harg5.read_unread x4
  have e5 := harg6.read_unread x5
  have e6 := harg7.read_unread x6
  have e7 := harg8.read_unread x7
  have e8 := harg9.read_unread x8
  have e9 := harg10.read_unread x9
  have e10 := harg11.read_unread x10
  have e11 := harg12.read_unread x11
  generalize View.read (Elt Ideal) arg1.view (harg1.unread x0) = z0 at e0 ⊢
  generalize View.read (Elt Ideal) arg2.view (harg2.unread x1) = z1 at e1 ⊢
  generalize View.read (Elt Ideal) arg3.view (harg3.unread x2) = z2 at e2 ⊢
  generalize View.read (Elt Ideal) arg4.view (harg4.unread x3) = z3 at e3 ⊢
  generalize View.read (Elt Ideal) arg5.view (harg5.unread x4) = z4 at e4 ⊢
  generalize View.read (Elt Ideal) arg6.view (harg6.unread x5) = z5 at e5 ⊢
  generalize View.read (Elt Ideal) arg7.view (harg7.unread x6) = z6 at e6 ⊢
  generalize View.read (Elt Ideal) arg8.view (harg8.unread x7) = z7 at e7 ⊢
  generalize View.read (Elt Ideal) arg9.view (harg9.unread x8) = z8 at e8 ⊢
  generalize View.read (Elt Ideal) arg10.view (harg10.unread x9) = z9 at e9 ⊢
  generalize View.read (Elt Ideal) arg11.view (harg11.unread x10) = z10 at e10 ⊢
  generalize View.read (Elt Ideal) arg12.view (harg12.unread x11) = z11 at e11 ⊢
  subst e0 e1 e2 e3 e4 e5 e6 e7 e8 e9 e10 e11
  rw [← View.ld_unit_zero (S := S16x512) hz inb_S16x512_S16x512_0_0 z6, ← View.ld_unit_zero (S := S16x512) hz inb_S16x512_S16x512_0_0 z7,
    ← View.ld_unit_zero (S := S3x512) hz inb_S3x512_S3x512_0_0 z9, ← View.ld_unit_zero (S := S1x512) hz inb_S1x512_S1x512_0_0 z10,
    ← View.ld_unit_zero (S := S1x512) hz inb_S1x512_S1x512_0_0 z11] at H
  refine ⟨?_, ?_, ?_, ?_⟩
  · exact ⟨fun x => (congrFun (g := _) (by sl_kernel_rfl) x).trans (attn_piece H 3 x),
      fun x => (congrFun (g := _) (by sl_kernel_rfl) x).trans (attn_piece H 2 x),
      fun x => (congrFun (g := _) (by sl_kernel_rfl) x).trans (attn_piece H 1 x),
      fun x => (congrFun (g := _) (by sl_kernel_rfl) x).trans (attn_piece H 0 x), trivial⟩
  · exact ⟨fun x => (congrFun (g := _) (by sl_kernel_rfl) x).trans (merged_next H 3 (by decide) x),
      fun x => (congrFun (g := _) (by sl_kernel_rfl) x).trans (merged_next H 2 (by decide) x),
      fun x => (congrFun (g := _) (by sl_kernel_rfl) x).trans (merged_next H 1 (by decide) x),
      fun x => (congrFun (g := _) (by sl_kernel_rfl) x).trans (merged_first H x), trivial⟩
  · exact ⟨fun x => (congrFun (g := _) (by sl_kernel_rfl) x).trans (logs_piece H 3 x),
      fun x => (congrFun (g := _) (by sl_kernel_rfl) x).trans (logs_piece H 2 x),
      fun x => (congrFun (g := _) (by sl_kernel_rfl) x).trans (logs_piece H 1 x),
      fun x => (congrFun (g := _) (by sl_kernel_rfl) x).trans (logs_piece H 0 x), trivial⟩
  · exact ⟨fun x => (congrFun (g := _) (by sl_kernel_rfl) x).trans (prob_piece H 3 3 true false rfl x),
      fun x => (congrFun (g := _) (by sl_kernel_rfl) x).trans (prob_piece H 3 3 false true rfl x),
      fun x => (congrFun (g := _) (by sl_kernel_rfl) x).trans (prob_piece H 3 2 true false rfl x),
      fun x => (congrFun (g := _) (by sl_kernel_rfl) x).trans (prob_piece H 3 2 false true rfl x),
      fun x => (congrFun (g := _) (by sl_kernel_rfl) x).trans (prob_piece H 3 1 true true rfl x),
      fun x => (congrFun (g := _) (by sl_kernel_rfl) x).trans (prob_piece H 3 1 false false rfl x),
      fun x => (congrFun (g := _) (by sl_kernel_rfl) x).trans (prob_piece H 3 0 true true rfl x),
      fun x => (congrFun (g := _) (by sl_kernel_rfl) x).trans (prob_piece H 3 0 false false rfl x),
      fun x => (congrFun (g := _) (by sl_kernel_rfl) x).trans (prob_piece H 2 3 true false rfl x),
      fun x => (congrFun (g := _) (by sl_kernel_rfl) x).trans (prob_piece H 2 3 false true rfl x),
      fun x => (congrFun (g := _) (by sl_kernel_rfl) x).trans (prob_piece H 2 2 true false rfl x),
      fun x => (congrFun (g := _) (by sl_kernel_rfl) x).trans (prob_piece H 2 2 false true rfl x),
      fun x => (congrFun (g := _) (by sl_kernel_rfl) x).trans (prob_piece H 2 1 true true rfl x),
      fun x => (congrFun (g := _) (by sl_kernel_rfl) x).trans (prob_piece H 2 1 false false rfl x),
      fun x => (congrFun (g := _) (by sl_kernel_rfl) x).trans (prob_piece H 2 0 true true rfl x),
      fun x => (congrFun (g := _) (by sl_kernel_rfl) x).trans (prob_piece H 2 0 false false rfl x),
      fun x => (congrFun (g := _) (by sl_kernel_rfl) x).trans (prob_piece H 1 3 true false rfl x),
      fun x => (congrFun (g := _) (by sl_kernel_rfl) x).trans (prob_piece H 1 3 false true rfl x),
      fun x => (congrFun (g := _) (by sl_kernel_rfl) x).trans (prob_piece H 1 2 true false rfl x),
      fun x => (congrFun (g := _) (by sl_kernel_rfl) x).trans (prob_piece H 1 2 false true rfl x),
      fun x => (congrFun (g := _) (by sl_kernel_rfl) x).trans (prob_piece H 1 1 true true rfl x),
      fun x => (congrFun (g := _) (by sl_kernel_rfl) x).trans (prob_piece H 1 1 false false rfl x),
      fun x => (congrFun (g := _) (by sl_kernel_rfl) x).trans (prob_piece H 1 0 true true rfl x),
      fun x => (congrFun (g := _) (by sl_kernel_rfl) x).trans (prob_piece H 1 0 false false rfl x),
      fun x => (congrFun (g := _) (by sl_kernel_rfl) x).trans (prob_piece H 0 3 true false rfl x),
      fun x => (congrFun (g := _) (by sl_kernel_rfl) x).trans (prob_piece H 0 3 false true rfl x),
      fun x => (congrFun (g := _) (by sl_kernel_rfl) x).trans (prob_piece H 0 2 true false rfl x),
      fun x => (congrFun (g := _) (by sl_kernel_rfl) x).trans (prob_piece H 0 2 false true rfl x),
      fun x => (congrFun (g := _) (by sl_kernel_rfl) x).trans (prob_piece H 0 1 true true rfl x),
      fun x => (congrFun (g := _) (by sl_kernel_rfl) x).trans (prob_piece H 0 1 false false rfl x),
      fun x => (congrFun (g := _) (by sl_kernel_rfl) x).trans (prob_piece H 0 0 true true rfl x),
      fun x => (congrFun (g := _) (by sl_kernel_rfl) x).trans (prob_piece H 0 0 false false rfl x), trivial⟩

theorem attn_out (y : S512x512.Idx) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y = attnG A i y := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11)]
  exact View.canon_apply_of_pieces (attnG A i) _ (View.PiecesOf.mem (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 H).1) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y)

theorem merged_out (y : S512x1024.Idx) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y = mergedG A i y := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11)]
  exact View.canon_apply_of_pieces (mergedG A i) _ (View.PiecesOf.mem (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 H).2.1) y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y)

theorem logs_out (y : S512x128.Idx) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y = logsG A i y := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11)]
  exact View.canon_apply_of_pieces (logsG A i) _ (View.PiecesOf.mem (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 H).2.2.1) y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y)

theorem probs_out (y : S4x8x128x256.Idx) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y = probsG A i y := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11)]
  exact View.canon_apply_of_pieces (probsG A i) _ (View.PiecesOf.mem (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 H).2.2.2) y (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y)

end Cases

end Cert.Kernel2Ideal.Mix

end

end
-- ==== Proof.MixArrays.lean ====
/- The four result arrays of the mixer's forward kernel, element by element, as formulas of its arguments. -/
module

public import proofs.«01_k».proof.Proof.MixBlocks
public import Idealize.ShloMosaic.Lib.Pipeline.ValueKit
public import Idealize.ShloMosaic.Lib.StableHlo.ReadAt

@[expose] public section

set_option maxRecDepth 16384

noncomputable section

namespace Cert.Kernel2Ideal.Mix

open Cert.Kernel2Ideal Cert.Kernel2Ideal.Gen Idealize.ShloMosaic Idealize.ShloMosaic.TcCoe Idealize.SL.Sem
open Cert.MixMath Cert.MixSpec

variable (m : (ℓ : Loc nD τ sig) → Buf (Elt Ideal) ℓ) (c : Dev nD)

/-- The bias table before the window's mask: the bucket's row of the table, a lane a head. -/
def table (b : Vec Ideal S32x8 .f32) (k : Vec Ideal S128x256 .i32) : Vec Ideal S128x256x8 .f32 :=
  Host.gather gather_S32x8_S128x256x1_S128x256x8_2_0_n_n_0_2_18 b
    (broadcastInDim S128x256x1 ![0, 1] bcast_S128x256_S128x256x1_0_1
      (select (cmpi CmpIPredicate.slt k (broadcastInDim S128x256 ![] bcast_S_S128x256 (constantI S_ 32 0#32)))
        (addi k (broadcastInDim S128x256 ![] bcast_S_S128x256 (constantI S_ 32 32#32))) k))

/-- The arguments of the whole arrays. -/
def arrArgs : Args where
  q r l := m ((c : Thread nD τ).loc main_arg0) (ix2 r l)
  kv r l := m ((c : Thread nD τ).loc main_arg1) (ix2 r l)
  gb r l := m ((c : Thread nD τ).loc main_arg2) (ix2 r l)
  gc r l := m ((c : Thread nD τ).loc main_arg3) (ix2 r l)
  xc r l := m ((c : Thread nD τ).loc main_arg4) (ix2 r l)
  bias h r j := Scalar.select (inside r j)
    (table (m ((c : Thread nD τ).loc main_arg5)) (m ((c : Thread nD τ).loc main_arg6)) (ix3 r j h)) ⊥
  sink h := m ((c : Thread nD τ).loc main_arg7) (ix1 h)
  w k l := m ((c : Thread nD τ).loc main_arg8) (ix2 k l)
  ga l := m ((c : Thread nD τ).loc main_arg9) (ix2 0 l)
  gv l := m ((c : Thread nD τ).loc main_arg10) (ix2 0 l)

theorem bias_at (h : Fin 8) (r : Fin 128) (j : Fin 256) : V m c main_v23 (ix3 h r j) = (arrArgs m c).bias h r j := by
  unfold V
  after_reads_at
  exact congrArg (Scalar.select _ _) ninf_eq

theorem idx : ∀ t : Fin cfg0.N, win0_0.index t = ![0] ∧ win0_1.index t = ![t.val, 0] ∧ win0_2.index t = ![0, 0]
    ∧ win0_3.index t = ![t.val, 0] ∧ win0_4.index t = ![t.val, 0] ∧ win0_5.index t = ![t.val, 0]
    ∧ win0_6.index t = ![32 * t.val - 1, 0] ∧ win0_7.index t = ![32 * t.val - 1, 0] ∧ win0_8.index t = ![0, 0, 0]
    ∧ win0_9.index t = ![0, 0] ∧ win0_10.index t = ![0, 0] ∧ win0_11.index t = ![0, 0]
    ∧ win0_12.index t = ![t.val, 0] ∧ win0_13.index t = ![t.val, 0] ∧ win0_14.index t = ![t.val, 0]
    ∧ win0_15.index t = ![t.val, 0, 0, 0] :=
  (by decide +kernel : ∀ t : Fin grid0.N, _)

theorem coord : ∀ t : Fin cfg0.N, (grid0.coords t 0).val = t.val := (by decide +kernel : ∀ t : Fin grid0.N, _)

theorem blk_sink (t : Fin cfg0.N) (h : Fin 8) : iblk m c 0 t (ix1 h) = m ((c : Thread nD τ).loc main_arg7) (ix1 h) := by
  blk_ext [iblk, V_main_arg7, idx t]

theorem blk_1 (t : Fin cfg0.N) (r : Fin 512) (l : Fin 512) :
    iblk m c 1 t (ix2 r l) = m ((c : Thread nD τ).loc main_arg0) (ix2 (wide (grid0.coords t) r) l) := by
  have hc := coord t
  unfold wide
  blk_ext [iblk, V_main_arg0, idx t]

theorem blk_3 (t : Fin cfg0.N) (r : Fin 512) (l : Fin 512) :
    iblk m c 3 t (ix2 r l) = m ((c : Thread nD τ).loc main_arg2) (ix2 (wide (grid0.coords t) r) l) := by
  have hc := coord t
  unfold wide
  blk_ext [iblk, V_main_arg2, idx t]

theorem blk_4 (t : Fin cfg0.N) (r : Fin 512) (l : Fin 512) :
    iblk m c 4 t (ix2 r l) = m ((c : Thread nD τ).loc main_arg3) (ix2 (wide (grid0.coords t) r) l) := by
  have hc := coord t
  unfold wide
  blk_ext [iblk, V_main_arg3, idx t]

theorem blk_5 (t : Fin cfg0.N) (r : Fin 512) (l : Fin 512) :
    iblk m c 5 t (ix2 r l) = m ((c : Thread nD τ).loc main_arg4) (ix2 (wide (grid0.coords t) r) l) := by
  have hc := coord t
  unfold wide
  blk_ext [iblk, V_main_arg4, idx t]

theorem blk_6 (t : Fin cfg0.N) (hp : 0 < (grid0.coords t 0).val) (r : Fin 16) (l : Fin 512) :
    iblk m c 6 t (ix2 r l) = m ((c : Thread nD τ).loc main_arg3) (ix2 (tail (grid0.coords t) r) l) := by
  have hc := coord t
  unfold tail
  blk_ext [iblk, V_main_arg3, idx t]

theorem blk_7 (t : Fin cfg0.N) (hp : 0 < (grid0.coords t 0).val) (r : Fin 16) (l : Fin 512) :
    iblk m c 7 t (ix2 r l) = m ((c : Thread nD τ).loc main_arg4) (ix2 (tail (grid0.coords t) r) l) := by
  have hc := coord t
  unfold tail
  blk_ext [iblk, V_main_arg4, idx t]

theorem blk_2 (t : Fin cfg0.N) (r : Fin 4096) (l : Fin 256) :
    iblk m c 2 t (ix2 r l) = m ((c : Thread nD τ).loc main_arg1) (ix2 r l) := by
  blk_ext [iblk, V_main_arg1, idx t]

theorem blk_9 (t : Fin cfg0.N) (r : Fin 3) (l : Fin 512) :
    iblk m c 9 t (ix2 r l) = m ((c : Thread nD τ).loc main_arg8) (ix2 r l) := by
  blk_ext [iblk, V_main_arg8, idx t]

theorem blk_10 (t : Fin cfg0.N) (r : Fin 1) (l : Fin 512) :
    iblk m c 10 t (ix2 r l) = m ((c : Thread nD τ).loc main_arg9) (ix2 r l) := by
  blk_ext [iblk, V_main_arg9, idx t]

theorem blk_11 (t : Fin cfg0.N) (r : Fin 1) (l : Fin 512) :
    iblk m c 11 t (ix2 r l) = m ((c : Thread nD τ).loc main_arg10) (ix2 r l) := by
  blk_ext [iblk, V_main_arg10, idx t]

theorem blk_8 (t : Fin cfg0.N) (h : Fin 8) (r : Fin 128) (j : Fin 256) :
    iblk m c 8 t (ix3 h r j) = V m c main_v23 (ix3 h r j) := by
  blk_ext [iblk, idx t]

/-- The blocks of point `t` … -/
def blocks (t : Fin cfg0.N) : Blocks where
  x0 := iblk m c 0 t
  x1 := iblk m c 1 t
  x2 := iblk m c 2 t
  x3 := iblk m c 3 t
  x4 := iblk m c 4 t
  x5 := iblk m c 5 t
  x6 := iblk m c 6 t
  x7 := iblk m c 7 t
  x8 := iblk m c 8 t
  x9 := iblk m c 9 t
  x10 := iblk m c 10 t
  x11 := iblk m c 11 t

theorem hold_sink (t : Fin cfg0.N) :
    ∀ h, (blocks m c t).x0 (ix1 h) = (arrArgs m c).sink h := blk_sink m c t

theorem hold_q (t : Fin cfg0.N) :
    ∀ r l, (blocks m c t).x1 (ix2 r l) = (arrArgs m c).q (wide (grid0.coords t) r) l := blk_1 m c t

theorem hold_kv (t : Fin cfg0.N) :
    ∀ r l, (blocks m c t).x2 (ix2 r l) = (arrArgs m c).kv r l := blk_2 m c t

theorem hold_gb (t : Fin cfg0.N) :
    ∀ r l, (blocks m c t).x3 (ix2 r l) = (arrArgs m c).gb (wide (grid0.coords t) r) l := blk_3 m c t

theorem hold_gc (t : Fin cfg0.N) :
    ∀ r l, (blocks m c t).x4 (ix2 r l) = (arrArgs m c).gc (wide (grid0.coords t) r) l := blk_4 m c t

theorem hold_xc (t : Fin cfg0.N) :
    ∀ r l, (blocks m c t).x5 (ix2 r l) = (arrArgs m c).xc (wide (grid0.coords t) r) l := blk_5 m c t

theorem hold_pc (t : Fin cfg0.N) :
    0 < (grid0.coords t 0).val → ∀ a l, (blocks m c t).x6 (ix2 a l) = (arrArgs m c).gc (tail (grid0.coords t) a) l := blk_6 m c t

theorem hold_px (t : Fin cfg0.N) :
    0 < (grid0.coords t 0).val → ∀ a l, (blocks m c t).x7 (ix2 a l) = (arrArgs m c).xc (tail (grid0.coords t) a) l := blk_7 m c t

theorem hold_bias (t : Fin cfg0.N) :
    ∀ h r j, (blocks m c t).x8 (ix3 h r j) = (arrArgs m c).bias h r j := fun h r j => Eq.trans (blk_8 m c t h r j) (bias_at m c h r j)

theorem hold_w (t : Fin cfg0.N) :
    ∀ k l, (blocks m c t).x9 (ix2 k l) = (arrArgs m c).w k l := blk_9 m c t

theorem hold_ga (t : Fin cfg0.N) :
    ∀ l, (blocks m c t).x10 (ix2 0 l) = (arrArgs m c).ga l := blk_10 m c t 0

theorem hold_gv (t : Fin cfg0.N) :
    ∀ l, (blocks m c t).x11 (ix2 0 l) = (arrArgs m c).gv l := blk_11 m c t 0

/-- … hold the arrays' elements. -/
theorem holds (t : Fin cfg0.N) : Holds (arrArgs m c) (grid0.coords t) (blocks m c t) :=
  ⟨hold_sink m c t, hold_q m c t, hold_kv m c t, hold_gb m c t, hold_gc m c t, hold_xc m c t,
    hold_pc m c t, hold_px m c t, hold_bias m c t, hold_w m c t, hold_ga m c t, hold_gv m c t⟩

theorem outs_attn (t : Fin cfg0.N) (y : S512x512.Idx) : (outsAt0 m c t).1 y = attnG (arrArgs m c) (grid0.coords t) y :=
  (congrFun (g := _) (by sl_kernel_rfl) y).trans (attn_out c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (holds m c t) y)

theorem outs_merged (t : Fin cfg0.N) (y : S512x1024.Idx) : (outsAt0 m c t).2.1 y = mergedG (arrArgs m c) (grid0.coords t) y :=
  (congrFun (g := _) (by sl_kernel_rfl) y).trans (merged_out c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (holds m c t) y)

theorem outs_logs (t : Fin cfg0.N) (y : S512x128.Idx) : (outsAt0 m c t).2.2.1 y = logsG (arrArgs m c) (grid0.coords t) y :=
  (congrFun (g := _) (by sl_kernel_rfl) y).trans (logs_out c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (holds m c t) y)

theorem outs_probs (t : Fin cfg0.N) (y : S4x8x128x256.Idx) : (outsAt0 m c t).2.2.2 y = probsG (arrArgs m c) (grid0.coords t) y :=
  (congrFun (g := _) (by sl_kernel_rfl) y).trans (probs_out c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) (ms0_8 t) (hs0_8 t) (ms0_9 t)
    (hs0_9 t) (ms0_10 t) (hs0_10 t) (ms0_11 t) (hs0_11 t) (ms0_12 t) (hs0_12 t) (ms0_13 t) (hs0_13 t) (ms0_14 t)
    (hs0_14 t) (ms0_15 t) (hs0_15 t) (iblk m c 0 t) (iblk m c 1 t) (iblk m c 2 t) (iblk m c 3 t) (iblk m c 4 t)
    (iblk m c 5 t) (iblk m c 6 t) (iblk m c 7 t) (iblk m c 8 t) (iblk m c 9 t) (iblk m c 10 t) (iblk m c 11 t)
    (holds m c t) y)

/-- A row's block of 128 … -/
def blockOf (r : Fin 4096) : Fin 32 := ⟨r.val / 128, by omega⟩

/-- … and its place there. -/
def placeOf (r : Fin 4096) : Fin 128 := ⟨r.val % 128, by omega⟩

/-- The attention's output after the run. -/
theorem final_attn (r : Fin 4096) (l : Fin 512) :
    (dats m 0 c).arrAt 12 cfg0.N (ix2 r l) = attn (arrArgs m c) (blockOf r) (placeOf r) l := by
  have h : (dats m 0 c).arrAt 12 cfg0.N = fun i : S4096x512.Idx => attn (arrArgs m c) (blockOf (i 0)) (placeOf (i 0)) (i 1) := by
    refine (dats m 0 c).arrAt_eq_of_covers 12 _ (by decide +kernel) fun t hf y => ?_
    have hc := coord t
    blk_simp
    rw [after0_12]
    idx_vars y
    refine (outs_attn m c t _).trans ?_
    unfold attnG blockOf placeOf numOf
    congr 1
    · refine Fin.ext ?_
      blk_simp [idx t]
      show 4 * (grid0.coords t 0).val + y0.val / 128 = (t.val * 512 + y0.val) / 128
      omega
    · refine Fin.ext ?_
      blk_simp [idx t]
      show y0.val % 128 = (t.val * 512 + y0.val) % 128
      omega
    · refine Fin.ext ?_
      blk_simp [idx t]
  exact congrFun h (ix2 r l)

/-- The merged lanes after the run. -/
theorem final_merged (r : Fin 4096) (l : Fin 1024) :
    (dats m 0 c).arrAt 13 cfg0.N (ix2 r l) = merged (arrArgs m c) (blockOf r) (placeOf r) l := by
  have h : (dats m 0 c).arrAt 13 cfg0.N = fun i : S4096x1024.Idx => merged (arrArgs m c) (blockOf (i 0)) (placeOf (i 0)) (i 1) := by
    refine (dats m 0 c).arrAt_eq_of_covers 13 _ (by decide +kernel) fun t hf y => ?_
    have hc := coord t
    blk_simp
    rw [after0_13]
    idx_vars y
    refine (outs_merged m c t _).trans ?_
    unfold mergedG blockOf placeOf numOf
    congr 1
    · refine Fin.ext ?_
      blk_simp [idx t]
      show 4 * (grid0.coords t 0).val + y0.val / 128 = (t.val * 512 + y0.val) / 128
      omega
    · refine Fin.ext ?_
      blk_simp [idx t]
      show y0.val % 128 = (t.val * 512 + y0.val) % 128
      omega
    · refine Fin.ext ?_
      blk_simp [idx t]
  exact congrFun h (ix2 r l)

/-- The row logarithms after the run. -/
theorem final_logs (r : Fin 4096) (l : Fin 128) :
    (dats m 0 c).arrAt 14 cfg0.N (ix2 r l) = logs (arrArgs m c) (blockOf r) (placeOf r) l := by
  have h : (dats m 0 c).arrAt 14 cfg0.N = fun i : S4096x128.Idx => logs (arrArgs m c) (blockOf (i 0)) (placeOf (i 0)) (i 1) := by
    refine (dats m 0 c).arrAt_eq_of_covers 14 _ (by decide +kernel) fun t hf y => ?_
    have hc := coord t
    blk_simp
    rw [after0_14]
    idx_vars y
    refine (outs_logs m c t _).trans ?_
    unfold logsG blockOf placeOf numOf
    congr 1
    · refine Fin.ext ?_
      blk_simp [idx t]
      show 4 * (grid0.coords t 0).val + y0.val / 128 = (t.val * 512 + y0.val) / 128
      omega
    · refine Fin.ext ?_
      blk_simp [idx t]
      show y0.val % 128 = (t.val * 512 + y0.val) % 128
      omega
    · refine Fin.ext ?_
      blk_simp [idx t]
  exact congrFun h (ix2 r l)

/-- The probabilities after the run. -/
theorem final_probs (n : Fin 32) (h : Fin 8) (r : Fin 128) (j : Fin 256) :
    (dats m 0 c).arrAt 15 cfg0.N (ix4 n h r j) = probs (arrArgs m c) n h r j := by
  have hh : (dats m 0 c).arrAt 15 cfg0.N = fun i : S32x8x128x256.Idx => probs (arrArgs m c) (i 0) (i 1) (i 2) (i 3) := by
    refine (dats m 0 c).arrAt_eq_of_covers 15 _ (by decide +kernel) fun t hf y => ?_
    have hc := coord t
    blk_simp
    rw [after0_15]
    idx_vars y
    refine (outs_probs m c t _).trans ?_
    unfold probsG numOf
    congr 1
    · refine Fin.ext ?_
      blk_simp [idx t]
      show 4 * (grid0.coords t 0).val + y0.val = t.val * 4 + y0.val
      omega
    all_goals
      refine Fin.ext ?_
      blk_simp [idx t]
  exact congrFun hh (ix4 n h r j)

end Cert.Kernel2Ideal.Mix

end

end
-- ==== Proof.MixRef.lean ====
/- The four results of the mixer's reference, element by element, as the formulas that the kernel's results are. -/
module

public import proofs.«01_k».proof.Proof.MixSpec
public import proofs.«01_k».proof.Proof.Gen.Reference2Ideal.Read
public import proofs.«01_k».proof.Proof.Gen.Reference2Ideal.Run
public import Idealize.ShloMosaic.Lib.StableHlo.ReadAt

@[expose] public section

set_option maxRecDepth 16384

noncomputable section

namespace Cert.Reference2Ideal.Mix

open Cert.Reference2Ideal Cert.Reference2Ideal.Gen Cert.Reference2Ideal.Read Idealize.ShloMosaic Idealize.ShloMosaic.TcCoe Idealize.SL.Sem
open Cert.MixMath Cert.MixSpec

variable (x0 : (⟨S4096x512, .bf16⟩ : BufTy).Contents (Elt Ideal)) (x1 : (⟨S4096x256, .bf16⟩ : BufTy).Contents (Elt Ideal))
  (x2 x3 x4 : (⟨S4096x512, .bf16⟩ : BufTy).Contents (Elt Ideal)) (x5 : (⟨S32x8, .f32⟩ : BufTy).Contents (Elt Ideal))
  (x6 : (⟨S128x256, .i32⟩ : BufTy).Contents (Elt Ideal)) (x7 : (⟨S8, .f32⟩ : BufTy).Contents (Elt Ideal))
  (x8 : (⟨S3x512, .f32⟩ : BufTy).Contents (Elt Ideal)) (x9 x10 : (⟨S1x512, .f32⟩ : BufTy).Contents (Elt Ideal))

/-- The arguments of the whole arrays. -/
def refArgs : Args where
  q r l := x0 (ix2 r l)
  kv r l := x1 (ix2 r l)
  gb r l := x2 (ix2 r l)
  gc r l := x3 (ix2 r l)
  xc r l := x4 (ix2 r l)
  bias h r j := Scalar.select (inside r j) (val_main_v44 x5 x6 (ix3 r j h)) ⊥
  sink h := x7 (ix1 h)
  w k l := x8 (ix2 k l)
  ga l := x9 (ix2 0 l)
  gv l := x10 (ix2 0 l)

/-- Head `h` of group `g`. -/
def hd (g : Fin 2) (h : Fin 4) : Fin 8 := ⟨g.val * 4 + h.val, by omega⟩

theorem q_at (n : Fin 32) (i : Fin 128) (g : Fin 2) (h : Fin 4) (d : Fin 64) :
    val_main_v12 x0 x1 x2 x3 x4 (ix6 (0 : Fin 1) n i g h d)
      = (refArgs x0 x1 x2 x3 x4 x5 x6 x7 x8 x9 x10).q (rowOf n i) ⟨64 * (hd g h).val + d.val, by have := (hd g h).isLt; omega⟩ := by
  simp only [val_main_v12, val_main_v9, val_main_v3, val_main_v2, val_main_v1, val_main_v0]
  pointwise
  rw [dif_pos (by omega)]
  refine congrArg x0 (congrArg₂ ix2 (Fin.ext ?_) (Fin.ext ?_))
  · show n.val * 128 + i.val = 128 * n.val + i.val
    omega
  · show g.val * 256 + h.val * 64 + d.val = 64 * (g.val * 4 + h.val) + d.val
    omega

theorem k_at (n : Fin 32) (j : Fin 256) (g : Fin 2) (d : Fin 64) :
    val_main_v19 x0 x1 x2 x3 x4 (ix5 (0 : Fin 1) n j g d)
      = if j.val < 128 ∧ n.val = 0 then 0 else (refArgs x0 x1 x2 x3 x4 x5 x6 x7 x8 x9 x10).kv (keyRow n j) ⟨64 * g.val + d.val, by omega⟩ := by
  simp only [val_main_v19, val_main_v18, val_main_v17, val_main_v16, val_main_cst, val_main_v13, val_main_v10, val_main_v4, val_main_v2, val_main_v1, val_main_v0]
  pointwise
  by_cases hj : j.val < 128
  · by_cases hn : n.val < 1
    · have hm : j.val < 128 ∧ n.val = 0 := ⟨hj, by omega⟩
      exact Eq.trans (dif_pos hj) (Eq.trans (dif_pos hn) (Eq.trans (@rfl EReal 0) (if_pos hm).symm))
    · have hm : ¬ (j.val < 128 ∧ n.val = 0) := by omega
      refine Eq.trans ?_ (if_neg hm).symm
      rw [dif_pos hj, dif_neg hn, dif_pos (by omega)]
      have hk : (keyRow n j).val = 128 * (n.val - 1) + j.val := by unfold keyRow; rw [dif_pos hj]
      refine congrArg x1 (congrArg₂ ix2 (Fin.ext ?_) (Fin.ext ?_))
      · show (n.val - 1) * 128 + j.val = (keyRow n j).val
        omega
      · show g.val * 64 + d.val = 64 * g.val + d.val
        omega
  · have hm : ¬ (j.val < 128 ∧ n.val = 0) := by omega
    refine Eq.trans ?_ (if_neg hm).symm
    rw [dif_neg hj, dif_pos (by omega)]
    have hk : (keyRow n j).val = 128 * n.val + (j.val - 128) := by unfold keyRow; rw [dif_neg hj]
    refine congrArg x1 (congrArg₂ ix2 (Fin.ext ?_) (Fin.ext ?_))
    · show n.val * 128 + (j.val - 128) = (keyRow n j).val
      omega
    · show g.val * 64 + d.val = 64 * g.val + d.val
      omega

theorem v_at (n : Fin 32) (j : Fin 256) (g : Fin 2) (d : Fin 64) :
    val_main_v24 x0 x1 x2 x3 x4 (ix5 (0 : Fin 1) n j g d)
      = if j.val < 128 ∧ n.val = 0 then 0 else (refArgs x0 x1 x2 x3 x4 x5 x6 x7 x8 x9 x10).kv (keyRow n j) ⟨128 + (64 * g.val + d.val), by omega⟩ := by
  simp only [val_main_v24, val_main_v23, val_main_v22, val_main_v21, val_main_cst_0, val_main_v14, val_main_v11, val_main_v5, val_main_v2, val_main_v1, val_main_v0]
  pointwise
  by_cases hj : j.val < 128
  · by_cases hn : n.val < 1
    · have hm : j.val < 128 ∧ n.val = 0 := ⟨hj, by omega⟩
      exact Eq.trans (dif_pos hj) (Eq.trans (dif_pos hn) (Eq.trans (@rfl EReal 0) (if_pos hm).symm))
    · have hm : ¬ (j.val < 128 ∧ n.val = 0) := by omega
      refine Eq.trans ?_ (if_neg hm).symm
      rw [dif_pos hj, dif_neg hn, dif_neg (by omega), dif_pos (by omega)]
      have hk : (keyRow n j).val = 128 * (n.val - 1) + j.val := by unfold keyRow; rw [dif_pos hj]
      refine congrArg x1 (congrArg₂ ix2 (Fin.ext ?_) (Fin.ext ?_))
      · show (n.val - 1) * 128 + j.val = (keyRow n j).val
        omega
      · show 640 + (g.val * 64 + d.val) - 512 = 128 + (64 * g.val + d.val)
        omega
  · have hm : ¬ (j.val < 128 ∧ n.val = 0) := by omega
    refine Eq.trans ?_ (if_neg hm).symm
    rw [dif_neg hj, dif_neg (by omega), dif_pos (by omega)]
    have hk : (keyRow n j).val = 128 * n.val + (j.val - 128) := by unfold keyRow; rw [dif_neg hj]
    refine congrArg x1 (congrArg₂ ix2 (Fin.ext ?_) (Fin.ext ?_))
    · show n.val * 128 + (j.val - 128) = (keyRow n j).val
      omega
    · show 640 + (g.val * 64 + d.val) - 512 = 128 + (64 * g.val + d.val)
      omega

theorem dot_at (n : Fin 32) (g : Fin 2) (h : Fin 4) (i : Fin 128) (j : Fin 256) :
    val_main_v28 x0 x1 x2 x3 x4 (ix6 (0 : Fin 1) n g h i j)
      = (∑ d : Fin 64, val_main_v19 x0 x1 x2 x3 x4 (ix5 (0 : Fin 1) n j g d) * val_main_v12 x0 x1 x2 x3 x4 (ix6 (0 : Fin 1) n i g h d))
        * eighth := by
  simp only [val_main_v28, val_main_v27, val_main_cst_1, val_main_v26, val_main_v25]
  pointwise

theorem bias_at (n : Fin 32) (g : Fin 2) (h : Fin 4) (i : Fin 128) (j : Fin 256) :
    val_main_v48 x5 x6 (ix6 (0 : Fin 1) n g h i j) = val_main_v44 x5 x6 (ix3 i j (hd g h)) := by
  simp only [val_main_v48, val_main_v47, val_main_v46, val_main_v45]
  pointwise
  rfl

theorem before : ∀ (n : Fin 32) (j : Fin 256), IntOp.cmpi CmpIPredicate.sge
    (IntOp.addi (IntOp.subi (IntOp.muli (BitVec.ofNat 32 n.val) 128#32) 128#32) (BitVec.ofNat 32 j.val)) 0#32
      = if j.val < 128 ∧ n.val = 0 then 0#1 else 1#1 := by decide +kernel

theorem pick (b : BitVec 1) (x y : EReal) : Scalar.select (IntOp.andi b 1#1) (x + y) ⊥ = x + Scalar.select b y ⊥ := by
  have h : ∀ b : BitVec 1, b = 0#1 ∨ b = 1#1 := by decide
  rcases h b with rfl | rfl
  · exact (EReal.add_bot x).symm
  · rfl

theorem drop (b : BitVec 1) (x : EReal) : Scalar.select (IntOp.andi b 0#1) x ⊥ = ⊥ := by
  have h : ∀ b : BitVec 1, b = 0#1 ∨ b = 1#1 := by decide
  rcases h b with rfl | rfl <;> rfl

theorem score_at (n : Fin 32) (g : Fin 2) (h : Fin 4) (i : Fin 128) (j : Fin 256) :
    val_main_v72 x0 x1 x2 x3 x4 x5 x6 (ix6 (0 : Fin 1) n g h i j) = score (refArgs x0 x1 x2 x3 x4 x5 x6 x7 x8 x9 x10) n (hd g h) i j := by
  simp only [val_main_v72, val_main_call0_v0, val_main_call0_v1, val_main_call0_v2, val_main_cst_9, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_c_8, val_main_c_7, val_main_c_6, val_main_c_5, val_main_c_4, val_main_v37, val_main_v36, val_main_v35, val_main_v34, val_main_v33, val_main_c, val_main_v32, val_main_v31, val_main_v30, val_main_v29, val_main_v49]
  pointwise
  rw [before]
  refine (congrArg (Scalar.select _ _) (show _ = (⊥ : EReal) from ninf_eq)).trans ?_
  unfold score
  by_cases hm : j.val < 128 ∧ n.val = 0
  · rw [if_pos hm, if_pos hm]
    exact drop _ _
  · rw [if_neg hm, if_neg hm]
    refine (pick _ _ _).trans ?_
    rw [dot_at, bias_at]
    refine congrArg₂ (· + ·) (congrArg (· * eighth) (Finset.sum_congr rfl fun d _ => ?_)) rfl
    rw [k_at x0 x1 x2 x3 x4 x5 x6 x7 x8 x9 x10, if_neg hm, q_at x0 x1 x2 x3 x4 x5 x6 x7 x8 x9 x10, mul_comm]
    refine congrArg₂ (· * ·) rfl (congrArg _ (Fin.ext ?_))
    show 64 * g.val + d.val = 64 * ((g.val * 4 + h.val) / 4) + d.val
    omega

theorem max_at (n : Fin 32) (g : Fin 2) (h : Fin 4) (i : Fin 128) :
    val_main_v75 x0 x1 x2 x3 x4 x5 x6 (ix5 (0 : Fin 1) n g h i)
      = Finset.univ.fold max ninf (score (refArgs x0 x1 x2 x3 x4 x5 x6 x7 x8 x9 x10) n (hd g h) i) := by
  rw [← show (fun j : Fin 256 => val_main_v72 x0 x1 x2 x3 x4 x5 x6 (ix6 (0 : Fin 1) n g h i j)) = score (refArgs x0 x1 x2 x3 x4 x5 x6 x7 x8 x9 x10) n (hd g h) i from
    funext fun j => score_at x0 x1 x2 x3 x4 x5 x6 x7 x8 x9 x10 n g h i j]
  unfold val_main_v75
  generalize val_main_v72 x0 x1 x2 x3 x4 x5 x6 = z
  rw [Host.reduce_eq_fold_single _ _ _ reducesTo_S1x32x2x4x128x256_S1x32x2x4x128_d5 (by decide) h_S_]
  refine congrArg (fun f => Finset.univ.fold max ninf f) (funext fun j => congrArg z (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

theorem sink_at (g : Fin 2) (h : Fin 4) :
    val_main_v74 x7 (ix6 (0 : Fin 1) (0 : Fin 1) g h (0 : Fin 1) (0 : Fin 1)) = (refArgs x0 x1 x2 x3 x4 x5 x6 x7 x8 x9 x10).sink (hd g h) := by
  simp only [val_main_v74, val_main_v73]
  pointwise
  rfl

theorem top_at (n : Fin 32) (g : Fin 2) (h : Fin 4) (i : Fin 128) :
    val_main_v78 x0 x1 x2 x3 x4 x5 x6 x7 (ix6 (0 : Fin 1) n g h i (0 : Fin 1))
      = top (score (refArgs x0 x1 x2 x3 x4 x5 x6 x7 x8 x9 x10) n (hd g h) i) ((refArgs x0 x1 x2 x3 x4 x5 x6 x7 x8 x9 x10).sink (hd g h)) := by
  rw [val_main_v78_apply, val_main_v77_apply, val_main_v76_apply]
  refine congrArg₂ max ?_ ?_
  · refine Eq.trans (congrArg _ ?_) (max_at x0 x1 x2 x3 x4 x5 x6 x7 x8 x9 x10 n g h i)
    funext a
    match a with
    | ⟨0, _⟩ => rfl
    | ⟨1, _⟩ => rfl
    | ⟨2, _⟩ => rfl
    | ⟨3, _⟩ => rfl
    | ⟨4, _⟩ => rfl
  · refine Eq.trans (congrArg _ ?_) (sink_at x0 x1 x2 x3 x4 x5 x6 x7 x8 x9 x10 g h)
    funext a
    match a with
    | ⟨0, _⟩ => rfl
    | ⟨1, _⟩ => rfl
    | ⟨2, _⟩ => rfl
    | ⟨3, _⟩ => rfl
    | ⟨4, _⟩ => rfl
    | ⟨5, _⟩ => rfl

theorem weight_at (n : Fin 32) (g : Fin 2) (h : Fin 4) (i : Fin 128) (j : Fin 256) :
    val_main_v81 x0 x1 x2 x3 x4 x5 x6 x7 (ix6 (0 : Fin 1) n g h i j)
      = weight (score (refArgs x0 x1 x2 x3 x4 x5 x6 x7 x8 x9 x10) n (hd g h) i) ((refArgs x0 x1 x2 x3 x4 x5 x6 x7 x8 x9 x10).sink (hd g h)) j := by
  simp only [val_main_v81, val_main_v80, val_main_v79]
  pointwise
  rw [score_at x0 x1 x2 x3 x4 x5 x6 x7 x8 x9 x10, top_at x0 x1 x2 x3 x4 x5 x6 x7 x8 x9 x10]
  rfl

theorem sum_at (n : Fin 32) (g : Fin 2) (h : Fin 4) (i : Fin 128) :
    val_main_v82 x0 x1 x2 x3 x4 x5 x6 x7 (ix5 (0 : Fin 1) n g h i)
      = ∑ j, weight (score (refArgs x0 x1 x2 x3 x4 x5 x6 x7 x8 x9 x10) n (hd g h) i) ((refArgs x0 x1 x2 x3 x4 x5 x6 x7 x8 x9 x10).sink (hd g h)) j := by
  rw [val_main_v82_apply, val_main_cst_11_apply]
  refine (congrArg (· + _) (show _ = (0 : EReal) by simp [FloatOps.ofBits, Ideal.ofBits, Ideal.ieee])).trans ?_
  rw [zero_add]
  refine Finset.sum_congr rfl fun j _ => ?_
  rw [← weight_at x0 x1 x2 x3 x4 x5 x6 x7 x8 x9 x10]
  refine congrArg _ (funext fun a => ?_)
  match a with
  | ⟨0, _⟩ => rfl
  | ⟨1, _⟩ => rfl
  | ⟨2, _⟩ => rfl
  | ⟨3, _⟩ => rfl
  | ⟨4, _⟩ => rfl
  | ⟨5, _⟩ => rfl

theorem den_at (n : Fin 32) (g : Fin 2) (h : Fin 4) (i : Fin 128) :
    val_main_v87 x0 x1 x2 x3 x4 x5 x6 x7 (ix6 (0 : Fin 1) n g h i (0 : Fin 1))
      = den (score (refArgs x0 x1 x2 x3 x4 x5 x6 x7 x8 x9 x10) n (hd g h) i) ((refArgs x0 x1 x2 x3 x4 x5 x6 x7 x8 x9 x10).sink (hd g h)) := by
  rw [val_main_v87_apply, val_main_v86_apply, val_main_v85_apply, val_main_v84_apply, val_main_v83_apply]
  refine congrArg₂ (· + ·) ?_ (congrArg Ideal.exp (congrArg₂ (· - ·) ?_ (top_at x0 x1 x2 x3 x4 x5 x6 x7 x8 x9 x10 n g h i)))
  · refine Eq.trans (congrArg _ ?_) (sum_at x0 x1 x2 x3 x4 x5 x6 x7 x8 x9 x10 n g h i)
    funext a
    match a with
    | ⟨0, _⟩ => rfl
    | ⟨1, _⟩ => rfl
    | ⟨2, _⟩ => rfl
    | ⟨3, _⟩ => rfl
    | ⟨4, _⟩ => rfl
  · refine Eq.trans (congrArg _ ?_) (sink_at x0 x1 x2 x3 x4 x5 x6 x7 x8 x9 x10 g h)
    funext a
    match a with
    | ⟨0, _⟩ => rfl
    | ⟨1, _⟩ => rfl
    | ⟨2, _⟩ => rfl
    | ⟨3, _⟩ => rfl
    | ⟨4, _⟩ => rfl
    | ⟨5, _⟩ => rfl

theorem lse_at (n : Fin 32) (g : Fin 2) (h : Fin 4) (i : Fin 128) :
    val_main_v94 x0 x1 x2 x3 x4 x5 x6 x7 (ix6 (0 : Fin 1) n g h i (0 : Fin 1))
      = lse (score (refArgs x0 x1 x2 x3 x4 x5 x6 x7 x8 x9 x10) n (hd g h) i) ((refArgs x0 x1 x2 x3 x4 x5 x6 x7 x8 x9 x10).sink (hd g h)) := by
  rw [val_main_v94_apply, val_main_v93_apply, top_at x0 x1 x2 x3 x4 x5 x6 x7 x8 x9 x10, den_at x0 x1 x2 x3 x4 x5 x6 x7 x8 x9 x10]
  rfl

/-- Every head is some group's. -/
theorem hd_split (h : Fin 8) : hd ⟨h.val / 4, by omega⟩ ⟨h.val % 4, by omega⟩ = h := by
  refine Fin.ext ?_
  show h.val / 4 * 4 + h.val % 4 = h.val
  omega

theorem logs8_at (n : Fin 32) (h : Fin 8) (i : Fin 128) :
    val_main_v147 x0 x1 x2 x3 x4 x5 x6 x7 (ix3 n h i) = lse (score (refArgs x0 x1 x2 x3 x4 x5 x6 x7 x8 x9 x10) n h i) ((refArgs x0 x1 x2 x3 x4 x5 x6 x7 x8 x9 x10).sink h) := by
  have e := lse_at x0 x1 x2 x3 x4 x5 x6 x7 x8 x9 x10 n ⟨h.val / 4, by omega⟩ ⟨h.val % 4, by omega⟩ i
  rw [hd_split] at e
  rw [← e]
  unfold val_main_v147
  generalize val_main_v94 x0 x1 x2 x3 x4 x5 x6 x7 = z
  pointwise

theorem rows8_at (r : Fin 4096) (h : Fin 8) : val_main_v149 x0 x1 x2 x3 x4 x5 x6 x7 (ix2 r h)
    = lse (score (refArgs x0 x1 x2 x3 x4 x5 x6 x7 x8 x9 x10) ⟨r.val / 128, by omega⟩ h ⟨r.val % 128, by omega⟩) ((refArgs x0 x1 x2 x3 x4 x5 x6 x7 x8 x9 x10).sink h) := by
  rw [val_main_v149_apply, val_main_v148_apply, ← logs8_at x0 x1 x2 x3 x4 x5 x6 x7 x8 x9 x10]
  refine congrArg _ (funext fun a => Fin.ext ?_)
  match a with
  | ⟨0, _⟩ =>
    show (r.val * 8 + h.val) / 1024 = r.val / 128
    omega
  | ⟨1, _⟩ =>
    show (r.val * 8 + h.val) % 8 = h.val
    omega
  | ⟨2, _⟩ =>
    show (r.val * 8 + h.val) / 8 % 128 = r.val % 128
    omega

theorem logs_at (r : Fin 4096) (l : Fin 128) : val_main_v154 x0 x1 x2 x3 x4 x5 x6 x7 (ix2 r l)
    = logs (refArgs x0 x1 x2 x3 x4 x5 x6 x7 x8 x9 x10) ⟨r.val / 128, by omega⟩ ⟨r.val % 128, by omega⟩ l := by
  have e := rows8_at x0 x1 x2 x3 x4 x5 x6 x7 x8 x9 x10 r
  unfold val_main_v154 val_main_v153 logs
  generalize val_main_v149 x0 x1 x2 x3 x4 x5 x6 x7 = z at e ⊢
  simp only [val_main_cst_19]
  pointwise
  by_cases hl : l.val < 8
  · rw [dif_pos hl, dif_pos hl, ← e]
  · rw [dif_neg hl, dif_neg hl]

/-- What the values need: no score is plus infinity, and the sinks are finite. -/
structure Good (A : Args) : Prop where
  score : ∀ n h i j, MixSpec.score A n h i j ≠ ⊤
  top : ∀ h, A.sink h ≠ ⊤
  bot : ∀ h, A.sink h ≠ ⊥

section Values

variable (G : Good (refArgs x0 x1 x2 x3 x4 x5 x6 x7 x8 x9 x10))
include G

theorem prob_at (n : Fin 32) (g : Fin 2) (h : Fin 4) (i : Fin 128) (j : Fin 256) :
    val_main_v89 x0 x1 x2 x3 x4 x5 x6 x7 (ix6 (0 : Fin 1) n g h i j) = probs (refArgs x0 x1 x2 x3 x4 x5 x6 x7 x8 x9 x10) n (hd g h) i j := by
  simp only [val_main_v89, val_main_v88]
  pointwise
  rw [weight_at x0 x1 x2 x3 x4 x5 x6 x7 x8 x9 x10, den_at x0 x1 x2 x3 x4 x5 x6 x7 x8 x9 x10]
  have e := div_den _ _ (G.score n (hd g h) i) (G.top (hd g h)) (G.bot (hd g h)) j
  unfold probs
  exact e

theorem probs_at (n : Fin 32) (h : Fin 8) (i : Fin 128) (j : Fin 256) :
    val_main_v156 x0 x1 x2 x3 x4 x5 x6 x7 (ix4 n h i j) = probs (refArgs x0 x1 x2 x3 x4 x5 x6 x7 x8 x9 x10) n h i j := by
  simp only [val_main_v156, val_main_v155]
  pointwise
  rw [prob_at x0 x1 x2 x3 x4 x5 x6 x7 x8 x9 x10 G, hd_split]

theorem attn3_at (r : Fin 4096) (l : Fin 512) : val_main_v92 x0 x1 x2 x3 x4 x5 x6 x7 (ix3 (0 : Fin 1) r l)
    = attn (refArgs x0 x1 x2 x3 x4 x5 x6 x7 x8 x9 x10) ⟨r.val / 128, by omega⟩ ⟨r.val % 128, by omega⟩ l := by
  simp only [val_main_v92, val_main_v91, val_main_v90]
  pointwise
  unfold attn
  refine Finset.sum_congr rfl fun j _ => ?_
  rw [prob_at x0 x1 x2 x3 x4 x5 x6 x7 x8 x9 x10 G, v_at x0 x1 x2 x3 x4 x5 x6 x7 x8 x9 x10]
  have eh : hd ⟨l.val / 256, by omega⟩ ⟨l.val / 64 % 4, by omega⟩ = ⟨l.val / 64, by omega⟩ := by
    refine Fin.ext ?_
    show l.val / 256 * 4 + l.val / 64 % 4 = l.val / 64
    omega
  rw [eh]
  by_cases hm : j.val < 128 ∧ r.val / 128 = 0
  · have hp : probs (refArgs x0 x1 x2 x3 x4 x5 x6 x7 x8 x9 x10) ⟨r.val / 128, by omega⟩ ⟨l.val / 64, by omega⟩ ⟨r.val % 128, by omega⟩ j = 0 :=
      prob_bot _ _ _ (if_pos hm)
    rw [if_pos hm, hp, zero_mul, zero_mul]
  · rw [if_neg hm, mul_comm]
    refine congrArg₂ (· * ·) rfl (congrArg _ (Fin.ext ?_))
    show 128 + (64 * (l.val / 256) + l.val % 64) = 128 + (64 * (l.val / 64 / 4) + l.val % 64)
    omega

theorem attn_at (r : Fin 4096) (l : Fin 512) : val_main_v150 x0 x1 x2 x3 x4 x5 x6 x7 (ix2 r l)
    = attn (refArgs x0 x1 x2 x3 x4 x5 x6 x7 x8 x9 x10) ⟨r.val / 128, by omega⟩ ⟨r.val % 128, by omega⟩ l := by
  rw [← attn3_at x0 x1 x2 x3 x4 x5 x6 x7 x8 x9 x10 G]
  unfold val_main_v150
  generalize val_main_v92 x0 x1 x2 x3 x4 x5 x6 x7 = z
  pointwise

omit G in
theorem u_at (r : Fin 4096) (l : Fin 512) : val_main_v95 x0 x1 x2 x3 x4 (ix3 (0 : Fin 1) r l) = u (refArgs x0 x1 x2 x3 x4 x5 x6 x7 x8 x9 x10) r l := by
  simp only [val_main_v95, val_main_v7, val_main_v8, val_main_v2, val_main_v1, val_main_v0]
  pointwise
  rw [dif_neg (by omega), dif_neg (by omega), dif_neg (by omega), dif_pos (by omega), dif_neg (by omega), dif_neg (by omega),
    dif_neg (by omega), dif_neg (by omega)]
  refine congrArg₂ (· * ·) (congrArg x3 (congrArg (ix2 r) (Fin.ext ?_))) (congrArg x4 (congrArg (ix2 r) (Fin.ext ?_)))
  · show 1280 + l.val - 512 - 256 - 512 = l.val
    omega
  · show 1792 + l.val - 512 - 256 - 512 - 512 = l.val
    omega

omit G in
theorem conv_at (r : Fin 4096) (l : Fin 512) : val_main_v119 x0 x1 x2 x3 x4 x8 (ix3 (0 : Fin 1) r l) = conv (refArgs x0 x1 x2 x3 x4 x5 x6 x7 x8 x9 x10) r l := by
  simp only [val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_cst_12, val_main_v6, val_main_v2, val_main_v1, val_main_v0]
  pointwise
  rw [dif_neg (by omega), dif_neg (by omega), dif_pos (by omega)]
  unfold conv back
  refine congrArg₂ (· * ·) (congrArg x2 (congrArg (ix2 r) (Fin.ext ?_))) (congrArg₂ (· + ·) (congrArg₂ (· + ·)
    (congrArg₂ (· * ·) rfl ?_) (congrArg₂ (· * ·) rfl ?_)) (congrArg₂ (· * ·) rfl (u_at x0 x1 x2 x3 x4 x5 x6 x7 x8 x9 x10 r l)))
  · show 768 + l.val - 512 - 256 = l.val
    omega
  · by_cases h : r.val < 2
    · rw [dif_pos h, if_pos h]
    · rw [dif_neg h, if_neg h, u_at x0 x1 x2 x3 x4 x5 x6 x7 x8 x9 x10]
  · by_cases h : r.val < 1
    · rw [dif_pos (by omega), if_pos h]
    · rw [dif_neg (by omega), if_neg h, u_at x0 x1 x2 x3 x4 x5 x6 x7 x8 x9 x10]
      refine congrArg (fun k => u (refArgs x0 x1 x2 x3 x4 x5 x6 x7 x8 x9 x10) k l) (Fin.ext ?_)
      show 1 + r.val - 2 = r.val - 1
      omega

theorem merged_at (r : Fin 4096) (l : Fin 1024) : val_main_v152 x0 x1 x2 x3 x4 x5 x6 x7 x8 x9 x10 (ix2 r l)
    = merged (refArgs x0 x1 x2 x3 x4 x5 x6 x7 x8 x9 x10) ⟨r.val / 128, by omega⟩ ⟨r.val % 128, by omega⟩ l := by
  have er : rowOf ⟨r.val / 128, by omega⟩ ⟨r.val % 128, by omega⟩ = r := by
    refine Fin.ext ?_
    show 128 * (r.val / 128) + r.val % 128 = r.val
    omega
  simp only [val_main_v152, val_main_v151, val_main_v146, val_main_v145, val_main_v144, val_main_v143, val_main_v142, val_main_v141, val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_cst_13, val_main_cst_14, val_main_cst_15, val_main_cst_16, val_main_cst_17, val_main_cst_18]
  pointwise
  unfold merged group
  by_cases h : l.val < 512
  · rw [dif_pos h, dif_pos h]
    simp only [attn3_at x0 x1 x2 x3 x4 x5 x6 x7 x8 x9 x10 G]
    rfl
  · rw [dif_neg h, dif_neg h, er]
    simp only [conv_at x0 x1 x2 x3 x4 x5 x6 x7 x8 x9 x10]
    rfl

end Values

variable (m : (ℓ : Loc nD τ sig) → Buf (Elt Ideal) ℓ) (ρ : Dev nD → PrngReg)

/-- The arguments as the memory holds them. -/
def memArgs (c : Dev nD) : Args :=
  refArgs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- Where the scores are below plus infinity and the sinks are finite, the four results are the formulas', and the arguments
    end as they were. -/
theorem run : θ_run defs (onTc (τ := τ) (main (F := Ideal))) ⟨m, fun _ => 0, ρ⟩ fun r => ∀ c : Dev nD,
      (Good (memArgs m c) → ∀ (k : Fin 4096) (l : Fin 512), r.2.mem ((c : Thread nD τ).loc main_v150) (ix2 k l)
        = attn (memArgs m c) ⟨k.val / 128, by omega⟩ ⟨k.val % 128, by omega⟩ l)
      ∧ (Good (memArgs m c) → ∀ (k : Fin 4096) (l : Fin 1024), r.2.mem ((c : Thread nD τ).loc main_v152) (ix2 k l)
        = merged (memArgs m c) ⟨k.val / 128, by omega⟩ ⟨k.val % 128, by omega⟩ l)
      ∧ (∀ (k : Fin 4096) (l : Fin 128), r.2.mem ((c : Thread nD τ).loc main_v154) (ix2 k l)
        = logs (memArgs m c) ⟨k.val / 128, by omega⟩ ⟨k.val % 128, by omega⟩ l)
      ∧ (Good (memArgs m c) → ∀ (n : Fin 32) (h : Fin 8) (i : Fin 128) (j : Fin 256),
        r.2.mem ((c : Thread nD τ).loc main_v156) (ix4 n h i j) = probs (memArgs m c) n h i j)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨fun G k l => by
      rw [(h c).1]
      refine Eq.trans (congrFun (val_main_v150_eq _) (ix2 k l)) ?_
      exact attn_at _ _ _ _ _ _ _ _ _ _ _ G k l, fun G k l => by
      rw [(h c).2.1]
      refine Eq.trans (congrFun (val_main_v152_eq _) (ix2 k l)) ?_
      exact merged_at _ _ _ _ _ _ _ _ _ _ _ G k l, fun k l => by
      rw [(h c).2.2.1]
      refine Eq.trans (congrFun (val_main_v154_eq _) (ix2 k l)) ?_
      exact logs_at _ _ _ _ _ _ _ _ _ _ _ k l, fun G n hh i j => by
      rw [(h c).2.2.2.1]
      refine Eq.trans (congrFun (val_main_v156_eq _) (ix4 n hh i j)) ?_
      exact probs_at _ _ _ _ _ _ _ _ _ _ _ G n hh i j, (h c).2.2.2.2⟩) (Cert.Reference2Ideal.Value.run m ρ)

end Cert.Reference2Ideal.Mix

end

end
-- ==== Proof.MixClaim.lean ====
/- The claims about the mixer's forward kernel and the forward lines it computes: the frames, and that the two compute the same
   four arrays where the queries, the keys, the bias table and the sinks are finite. -/
module

public import proofs.«01_k».proof.Defs
public import proofs.«01_k».proof.Proof.MixArrays
public import proofs.«01_k».proof.Proof.MixRef
public import proofs.«01_k».proof.Proof.Finite
public import proofs.«01_k».proof.Proof.NormMath
public import proofs.«01_k».proof.Proof.Ext
public import proofs.«01_k».proof.Proof.Gen.Kernel2.Frame
public import proofs.«01_k».proof.Proof.Gen.Pre_finite_scores
public import Idealize.ShloMosaic.Lib.Quiescent

@[expose] public section

set_option maxRecDepth 16384

noncomputable section

namespace Cert.MixSpec

open Idealize.ShloMosaic Cert.MixMath

theorem eighth_real : ∃ a : ℝ, eighth = (a : EReal) := by
  unfold eighth
  simp [Ideal.ofBits, Ideal.ieee]
  exact ⟨_, rfl⟩

/-- A score of finite queries and keys with a bias that is finite or minus infinity is not plus infinity. -/
theorem score_ne_top (A : Args) (hq : ∀ r l, ∃ a : ℝ, A.q r l = a) (hk : ∀ r (l : Fin 256), l.val < 128 → ∃ a : ℝ, A.kv r l = a)
    (hb : ∀ h i j, A.bias h i j = ⊥ ∨ ∃ a : ℝ, A.bias h i j = a) (n : Fin 32) (h : Fin 8) (i : Fin 128) (j : Fin 256) :
    score A n h i j ≠ ⊤ := by
  unfold score
  by_cases hm : j.val < 128 ∧ n.val = 0
  · intro e
    exact absurd ((if_pos hm).symm.trans e) (by simp)
  · intro e
    have e' := (if_neg hm).symm.trans e
    obtain ⟨a, ha⟩ := eighth_real
    have hs : ∃ s : ℝ, (∑ d : Fin 64, A.q (rowOf n i) ⟨64 * h.val + d.val, by omega⟩
        * A.kv (keyRow n j) ⟨64 * (h.val / 4) + d.val, by omega⟩) = (s : EReal) := by
      choose q hq' using fun d : Fin 64 => hq (rowOf n i) ⟨64 * h.val + d.val, by omega⟩
      choose k hk' using fun d : Fin 64 => hk (keyRow n j) ⟨64 * (h.val / 4) + d.val, by omega⟩
        (show 64 * (h.val / 4) + d.val < 128 by omega)
      refine ⟨∑ d, q d * k d, ?_⟩
      simp only [hq', hk', NormMath.coe_sum, EReal.coe_mul]
    obtain ⟨s, hs⟩ := hs
    rw [hs, ha] at e'
    rcases hb h i j with hb' | ⟨b, hb'⟩
    · rw [hb', EReal.add_bot] at e'
      exact absurd e' (by simp)
    · rw [hb', ← EReal.coe_mul, ← EReal.coe_add] at e'
      exact EReal.coe_ne_top _ e'

end Cert.MixSpec

namespace Cert.MixClaim

open Cert Idealize.ShloMosaic Idealize.ShloMosaic.TcCoe Idealize.SL.Sem

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ideal_pre : Cert.quiescent_Kernel2Ideal_pre_finite_scores := fun m ρ _ => Cert.Kernel2Ideal.Gen.frame m ρ
theorem frame_reference : Cert.quiescent_Reference2Ideal := fun m ρ _ =>
  (θ_run Cert.Reference2Ideal.defs _ _).mono (fun r h => ⟨fun c => (h c).2.2.2.2, sem_eq_zero_of_no_sems (by decide) r.2⟩)
    (Cert.Reference2Ideal.Mix.run m ρ)
theorem frame_reference_pre : Cert.quiescent_Reference2Ideal_pre_finite_scores := fun m ρ _ =>
  frame_reference m ρ trivial

theorem preserves : Cert.preserves_Kernel2_Kernel2Ideal :=
  IdealRules.named_const.statement Cert.Kernel2Ideal.κ "mask" .f32 0xF149F2CA#32 ⊥ rfl

/-- The bias gathered by the two programs is the same. -/
theorem table_eq (x5 : Vec Ideal Cert.Kernel2Ideal.S32x8 .f32) (x6 : Vec Ideal Cert.Kernel2Ideal.S128x256 .i32) :
    Cert.Reference2Ideal.Read.val_main_v44 (F := Ideal) x5 x6 = Cert.Kernel2Ideal.Mix.table x5 x6 := rfl

/-- An element of the gathered bias is an element of the table. -/
theorem table_mem (x5 : Vec Ideal Cert.Kernel2Ideal.S32x8 .f32) (x6 : Vec Ideal Cert.Kernel2Ideal.S128x256 .i32)
    (i : Cert.Kernel2Ideal.S128x256x8.Idx) : ∃ k, Cert.Kernel2Ideal.Mix.table x5 x6 i = x5 k := ⟨_, rfl⟩

/-- On agreeing memories the two programs' arguments are the same. -/
theorem args_eq (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8))
    (h9 : m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9))
    (h10 : m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) :
    Cert.Reference2Ideal.Mix.memArgs m' c = Cert.Kernel2Ideal.Mix.arrArgs m c := by
  unfold Cert.Reference2Ideal.Mix.memArgs
  rw [h0, h1, h2, h3, h4, h5, h6, h7, h8, h9, h10]
  unfold Cert.Reference2Ideal.Mix.refArgs
  rw [table_eq]
  rfl

/-- The kernel's four result arrays are the reference's. -/
theorem algebraic : Cert.algebraic_Kernel2Ideal_Reference2Ideal_pre_finite_scores := by
  intro m g m' g' hpre hagree
  refine ⟨fun c => (Cert.Kernel2Ideal.Gen.dats m 0 c).arrAt 12 Cert.Kernel2Ideal.cfg0.N,
    fun c => (Cert.Kernel2Ideal.Gen.dats m 0 c).arrAt 13 Cert.Kernel2Ideal.cfg0.N,
    fun c => (Cert.Kernel2Ideal.Gen.dats m 0 c).arrAt 14 Cert.Kernel2Ideal.cfg0.N,
    fun c => (Cert.Kernel2Ideal.Gen.dats m 0 c).arrAt 15 Cert.Kernel2Ideal.cfg0.N, Cert.Kernel2Ideal.Value.run_blocks m g, ?_⟩
  refine (θ_run Cert.Reference2Ideal.defs _ _).mono (fun r h c => ?_) (Cert.Reference2Ideal.Mix.run m' g')
  obtain ⟨hat, hme, hlo, hpr, hargs⟩ := h c
  obtain ⟨h0, h1, h2, h3, h4, h5, h6, h7, h8, h9, h10⟩ := hagree c
  obtain ⟨p0, p1, p5, p7⟩ := hpre c
  have hA := args_eq m m' c h0 h1 h2 h3 h4 h5 h6 h7 h8 h9 h10
  rw [hA] at hat hme hlo hpr
  have G : Cert.Reference2Ideal.Mix.Good (Cert.Kernel2Ideal.Mix.arrArgs m c) := by
    refine ⟨MixSpec.score_ne_top _ (fun r l => Cert.Finite.real_of_test _ _ p0 (ix2 r l)) (fun r l hl => ?_) (fun h i j => ?_),
      fun h => ?_, fun h => ?_⟩
    · obtain ⟨a, ha⟩ := Cert.Finite.real_of_test _ _ p1 (ix2 r ⟨l.val, hl⟩)
      refine ⟨a, Eq.trans ?_ ha⟩
      refine (extractStridedSlice_apply _ _ Cert.Pre_finite_scores.Facts.slices_S4096x256_S4096x128_0_0 (ix2 r ⟨l.val, hl⟩) (ix2 r l) fun a => ?_).symm
      match a with
      | ⟨0, _⟩ => exact (Nat.zero_add _).symm
      | ⟨1, _⟩ => exact (Nat.zero_add _).symm
    · show Scalar.select (MixSpec.inside i j) _ ⊥ = ⊥ ∨ ∃ a : ℝ, Scalar.select (MixSpec.inside i j) _ ⊥ = (a : EReal)
      obtain ⟨k, hk⟩ := table_mem (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (ix3 i j h)
      obtain ⟨a, ha⟩ := Cert.Finite.real_of_test _ _ p5 k
      rw [hk, ha]
      unfold Scalar.select
      split
      · exact Or.inr ⟨a, rfl⟩
      · exact Or.inl rfl
    · obtain ⟨a, ha⟩ := Cert.Finite.real_of_test _ _ p7 (ix1 h)
      exact fun e => EReal.coe_ne_top a (ha.symm.trans e)
    · obtain ⟨a, ha⟩ := Cert.Finite.real_of_test _ _ p7 (ix1 h)
      exact fun e => EReal.coe_ne_bot a (ha.symm.trans e)
  refine ⟨?_, ?_, ?_, ?_, hargs⟩
  · exact Cert.Ext.of_rows (a := 4096) (b := 512) fun k l => (hat G k l).trans (Cert.Kernel2Ideal.Mix.final_attn m c k l).symm
  · exact Cert.Ext.of_rows (a := 4096) (b := 1024) fun k l => (hme G k l).trans (Cert.Kernel2Ideal.Mix.final_merged m c k l).symm
  · exact Cert.Ext.of_rows (a := 4096) (b := 128) fun k l => (hlo k l).trans (Cert.Kernel2Ideal.Mix.final_logs m c k l).symm
  · funext i
    rw [eq_ix4 i]
    exact (hpr G _ _ _ _).trans (Cert.Kernel2Ideal.Mix.final_probs m c _ _ _ _).symm

end Cert.MixClaim

end
-- ==== Proof.FfnSpec.lean ====
/- The feed-forward call's formulas over arrays of any number of rows: the modulated norm, the gated product, the loss, and
   their derivatives row by row and summed over the rows. A kernel's blocks and the whole arrays are both instances. -/
module

public import proofs.«01_k».proof.Proof.InProjSpec

@[expose] public section

set_option maxRecDepth 16384

noncomputable section

namespace Cert.FfnSpec

open Idealize.ShloMosaic Cert.NormMath

/-- One over the width, as the kernel writes it. -/
abbrev perWidth : EReal := Ideal.ofBits .f32 0x3A800000#32
/-- Half of it: the loss's factor. -/
abbrev halfPerWidth : EReal := Ideal.ofBits .f32 0x3A000000#32

/-- What the call takes: the stream `X` after the mixer, the projection `O` whose gate's gradient is taken, the merged heads
    `M`; the modulation's rows `g1`, `sh`, `sc`, `g2`; the gains `G` and `Gf`; the weights, `Ug` and `Uu` from the width to the
    gate's and the other half, `V` back down, `Wo` from the heads; the target `T`. -/
structure Args (n : ℕ) where
  X : Fin n → Fin 1024 → EReal
  O : Fin n → Fin 1024 → EReal
  M : Fin n → Fin 1024 → EReal
  g1 : Fin 1024 → EReal
  sh : Fin 1024 → EReal
  sc : Fin 1024 → EReal
  g2 : Fin 1024 → EReal
  G : Fin 1024 → EReal
  Gf : Fin 1024 → EReal
  Ug : Fin 2816 → Fin 1024 → EReal
  Uu : Fin 2816 → Fin 1024 → EReal
  V : Fin 2816 → Fin 1024 → EReal
  Wo : Fin 1024 → Fin 1024 → EReal
  T : Fin n → Fin 1024 → EReal

variable {n : ℕ} (A : Args n)

/-- The normed row. -/
def nrm (x : Fin 1024 → EReal) (l : Fin 1024) : EReal := x l * rinv x

/-- The modulated norm. -/
def h (r : Fin n) (l : Fin 1024) : EReal := nrm (A.X r) l * A.G l * (1 + A.sc l) + A.sh l
/-- The gate and the other half. -/
def gate (r : Fin n) (j : Fin 2816) : EReal := ∑ k, h A r k * A.Ug j k
def up (r : Fin n) (j : Fin 2816) : EReal := ∑ k, h A r k * A.Uu j k
/-- The logistic function of the gate. -/
def sg (r : Fin n) (j : Fin 2816) : EReal := Ideal.div 1 (1 + Ideal.exp (-(gate A r j)))
def act (r : Fin n) (j : Fin 2816) : EReal := gate A r j * sg A r j * up A r j
/-- The way back down and the stream after it. -/
def o (r : Fin n) (l : Fin 1024) : EReal := ∑ j, act A r j * A.V j l
def x2 (r : Fin n) (l : Fin 1024) : EReal := A.X r l + A.g2 l * o A r l
/-- The last norm's error against the target. -/
def err (r : Fin n) (l : Fin 1024) : EReal := nrm (x2 A r) l * A.Gf l - A.T r l
def dy (r : Fin n) (l : Fin 1024) : EReal := err A r l * perWidth
/-- The derivatives, from the error back. -/
def dx2 (r : Fin n) (l : Fin 1024) : EReal := back (x2 A r) (fun k => dy A r k * A.Gf k) l
def do_ (r : Fin n) (l : Fin 1024) : EReal := dx2 A r l * A.g2 l
def dact (r : Fin n) (j : Fin 2816) : EReal := ∑ k, do_ A r k * A.V j k
def dgate (r : Fin n) (j : Fin 2816) : EReal :=
  dact A r j * (up A r j * (sg A r j * (1 + gate A r j * (1 - sg A r j))))
def dup (r : Fin n) (j : Fin 2816) : EReal := dact A r j * (gate A r j * sg A r j)
def dh (r : Fin n) (l : Fin 1024) : EReal := (∑ j, dgate A r j * A.Ug j l) + ∑ j, dup A r j * A.Uu j l
def dn (r : Fin n) (l : Fin 1024) : EReal := dh A r l * (1 + A.sc l)
def dx1 (r : Fin n) (l : Fin 1024) : EReal := dx2 A r l + back (A.X r) (fun k => dn A r k * A.G k) l
def do1 (r : Fin n) (l : Fin 1024) : EReal := dx1 A r l * A.g1 l
def dm (r : Fin n) (k : Fin 1024) : EReal := ∑ l, do1 A r l * A.Wo k l
/-- The gradient of the projection from the heads. -/
def dWo (k l : Fin 1024) : EReal := ∑ r, A.M r k * do1 A r l

/-- One row's part of the column sums. -/
def part (a : Fin 8) (r : Fin n) (l : Fin 1024) : EReal :=
  if a.val = 0 then dh A r l
  else if a.val = 1 then dh A r l * (nrm (A.X r) l * A.G l)
  else if a.val = 2 then dn A r l * nrm (A.X r) l
  else if a.val = 3 then dx2 A r l * o A r l
  else if a.val = 4 then dy A r l * nrm (x2 A r) l
  else if a.val = 5 then err A r l * err A r l
  else if a.val = 7 then dx1 A r l * A.O r l
  else 0

/-- The column sums. -/
def sums (a : Fin 8) (l : Fin 1024) : EReal := ∑ r, part A a r l

/-- The loss. -/
def loss : EReal := (∑ l, sums A 5 l) * halfPerWidth

/-- The small sums, the loss in all lanes of the seventh row. -/
def small (a : Fin 8) (l : Fin 1024) : EReal := if a.val = 6 then loss A else sums A a l

theorem sums_six (a : Fin 8) (l : Fin 1024) (ha : a.val = 6) : sums A a l = 0 :=
  Finset.sum_eq_zero fun r _ => by
    unfold part
    rw [if_neg (by omega), if_neg (by omega), if_neg (by omega), if_neg (by omega), if_neg (by omega), if_neg (by omega),
      if_neg (by omega)]

theorem sums_0 (l : Fin 1024) : sums A 0 l = ∑ r, dh A r l := rfl
theorem sums_1 (l : Fin 1024) : sums A 1 l = ∑ r, dh A r l * (nrm (A.X r) l * A.G l) := rfl
theorem sums_2 (l : Fin 1024) : sums A 2 l = ∑ r, dn A r l * nrm (A.X r) l := rfl
theorem sums_3 (l : Fin 1024) : sums A 3 l = ∑ r, dx2 A r l * o A r l := rfl
theorem sums_4 (l : Fin 1024) : sums A 4 l = ∑ r, dy A r l * nrm (x2 A r) l := rfl
theorem sums_5 (l : Fin 1024) : sums A 5 l = ∑ r, err A r l * err A r l := rfl
theorem sums_7 (l : Fin 1024) : sums A 7 l = ∑ r, dx1 A r l * A.O r l := rfl

/-- The rows of block `t`. -/
def Args.block {n m b : ℕ} (e : n = m * b) (A : Args n) (t : Fin m) : Args b :=
  { A with
    X := fun r => A.X (InProjSpec.rowOf e t r)
    O := fun r => A.O (InProjSpec.rowOf e t r)
    M := fun r => A.M (InProjSpec.rowOf e t r)
    T := fun r => A.T (InProjSpec.rowOf e t r) }

/-- The sums over all rows are the sums over the blocks. -/
theorem sums_blocks {n m b : ℕ} (e : n = m * b) (A : Args n) (a : Fin 8) (l : Fin 1024) :
    ∑ t, sums (A.block e t) a l = sums A a l :=
  InProjSpec.sum_rowOf e fun r => part A a r l

theorem dWo_blocks {n m b : ℕ} (e : n = m * b) (A : Args n) (k l : Fin 1024) : ∑ t, dWo (A.block e t) k l = dWo A k l :=
  InProjSpec.sum_rowOf e fun r => A.M r k * do1 A r l

end Cert.FfnSpec

end
-- ==== Proof.FfnStages.lean ====
/- The feed-forward kernel's payloads, element by element, each over what the payload before it holds. -/
module

public import proofs.«01_k».proof.Proof.Gen.Kernel3Ideal.Skeleton
public import proofs.«01_k».proof.Proof.FfnSpec

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Cert.NormMath Cert.FfnSpec

/-- The elements of a rank-2 vector, by row and column. -/
abbrev Is {a b : ℕ} {e : FTy} (v : FVec Ideal ⟨2, ![a, b]⟩ e) (f : Fin a → Fin b → EReal) : Prop :=
  ∀ (r : Fin a) (l : Fin b), v (ix2 r l) = f r l

variable {A : Args 256}

/-! ### Forward -/

theorem pay5_at {v3 : FVec Ideal S256x1024 .f32} {v15 v18 v24 : FVec Ideal S1x1024 .f32} (h3 : Is v3 A.X)
    (h15 : Is v15 fun _ => A.G) (h18 : Is v18 fun _ => A.sc) (h24 : Is v24 fun _ => A.sh) :
    Is (k0_pay5 v3 v15 v18 v24) (h A) := fun r l => by
  unfold_payloads
  pointwise
  simp only [h3 _ _, h15 _ _, h18 _ _, h24 _ _]
  rfl

theorem pay6_at {v3 : FVec Ideal S256x1024 .f32} {v15 v18 v24 : FVec Ideal S1x1024 .f32} {v30 : FVec Ideal S2816x1024 .bf16}
    (h28 : Is (k0_pay5 v3 v15 v18 v24) (h A)) (h30 : Is v30 A.Ug) : Is (k0_pay6 v3 v15 v18 v24 v30) (gate A) := fun r l => by
  unfold k0_pay6
  pointwise
  simp only [h28 _ _, h30 _ _]
  rfl

theorem pay8_at {v28 : FVec Ideal S256x1024 .bf16} {v34 : FVec Ideal S2816x1024 .bf16} (h28 : Is v28 (h A)) (h34 : Is v34 A.Uu) :
    Is (k0_pay8 v28 v34 (constant S256x2816 .f32 0x00000000#32)) (up A) := fun r l => by
  unfold k0_pay8
  pointwise
  simp only [h28 _ _, h34 _ _]
  rfl

theorem pay9_at {v32 : FVec Ideal S256x2816 .f32} (h32 : Is v32 (gate A)) : Is (k0_pay9 v32) (sg A) := fun r l => by
  unfold k0_pay9
  pointwise
  simp only [h32 _ _, zero_sub]
  rfl

theorem pay10_at {v28 : FVec Ideal S256x1024 .bf16} {v32 : FVec Ideal S256x2816 .f32} {v34 : FVec Ideal S2816x1024 .bf16}
    (h28 : Is v28 (h A)) (h32 : Is v32 (gate A)) (h34 : Is v34 A.Uu) :
    Is (k0_pay10 v28 v32 v34 (constant S256x2816 .f32 0x00000000#32)) (act A) := fun r l => by
  unfold k0_pay10
  pointwise
  simp only [h32 _ _, pay9_at h32 _ _, pay8_at h28 h34 _ _]
  rfl

theorem pay11_at {v28 : FVec Ideal S256x1024 .bf16} {v32 : FVec Ideal S256x2816 .f32} {v34 : FVec Ideal S2816x1024 .bf16}
    (h28 : Is v28 (h A)) (h32 : Is v32 (gate A)) (h34 : Is v34 A.Uu) :
    Is (k0_pay11 v28 v32 v34 (constant S256x2816 .f32 0x00000000#32))
      (fun r j => up A r j * (sg A r j * (1 + gate A r j * (1 - sg A r j)))) := fun r l => by
  unfold k0_pay11
  pointwise
  simp only [h32 _ _, pay9_at h32 _ _, pay8_at h28 h34 _ _]

theorem pay12_at {v32 : FVec Ideal S256x2816 .f32} (h32 : Is v32 (gate A)) :
    Is (k0_pay12 v32) (fun r j => gate A r j * sg A r j) := fun r l => by
  unfold k0_pay12
  pointwise
  simp only [h32 _ _, pay9_at h32 _ _]

theorem pay13_at {v28 : FVec Ideal S256x1024 .bf16} {v32 : FVec Ideal S256x2816 .f32} {v34 v57 : FVec Ideal S2816x1024 .bf16}
    (h28 : Is v28 (h A)) (h32 : Is v32 (gate A)) (h34 : Is v34 A.Uu) (h57 : Is v57 A.V) :
    Is (k0_pay13 v28 v32 v34 (constant S256x2816 .f32 0x00000000#32) v57) (o A) := fun r l => by
  unfold k0_pay13
  pointwise
  simp only [pay10_at h28 h32 h34 _ _, h57 _ _]
  rfl

theorem pay15_at {v4 : FVec Ideal S256x1024 .f32} {v28 : FVec Ideal S256x1024 .bf16} {v32 : FVec Ideal S256x2816 .f32}
    {v34 v57 : FVec Ideal S2816x1024 .bf16} {v60 : FVec Ideal S1x1024 .f32} (h4 : Is v4 A.X)
    (h28 : Is v28 (h A)) (h32 : Is v32 (gate A)) (h34 : Is v34 A.Uu) (h57 : Is v57 A.V) (h60 : Is v60 fun _ => A.g2) :
    Is (k0_pay15 v4 v28 v32 v34 (constant S256x2816 .f32 0x00000000#32) v57 v60) (x2 A) := fun r l => by
  unfold k0_pay15 k0_pay14
  pointwise
  simp only [h4 _ _, h60 _ _, pay13_at h28 h32 h34 h57 _ _]
  rfl

theorem pay16_at {v4 : FVec Ideal S256x1024 .f32} {v28 : FVec Ideal S256x1024 .bf16} {v32 : FVec Ideal S256x2816 .f32}
    {v34 v57 : FVec Ideal S2816x1024 .bf16} {v60 : FVec Ideal S1x1024 .f32}
    (hx : Is (k0_pay15 v4 v28 v32 v34 (constant S256x2816 .f32 0x00000000#32) v57 v60) (x2 A)) :
    Is (k0_pay16 v4 v28 v32 v34 (constant S256x2816 .f32 0x00000000#32) v57 v60) (fun r _ => rinv (x2 A r)) := fun r l => by
  unfold k0_pay16
  pointwise
  simp only [hx _ _]
  rfl

theorem pay17_at {v4 : FVec Ideal S256x1024 .f32} {v28 : FVec Ideal S256x1024 .bf16} {v32 : FVec Ideal S256x2816 .f32}
    {v34 v57 : FVec Ideal S2816x1024 .bf16} {v60 : FVec Ideal S1x1024 .f32}
    (hx : Is (k0_pay15 v4 v28 v32 v34 (constant S256x2816 .f32 0x00000000#32) v57 v60) (x2 A)) :
    Is (k0_pay17 v4 v28 v32 v34 (constant S256x2816 .f32 0x00000000#32) v57 v60) (fun r => nrm (x2 A r)) := fun r l => by
  unfold k0_pay17
  pointwise
  simp only [hx _ _, pay16_at hx _ _]
  rfl

/-! ### The error and the last norm's derivative -/

section Error

variable {v74 v79 : FVec Ideal S256x1024 .f32} {v72 : FVec Ideal S256x1 .f32} {v76 : FVec Ideal S1x1024 .f32}
  (h72 : Is v72 fun r _ => rinv (x2 A r)) (h74 : Is v74 fun r => nrm (x2 A r)) (h76 : Is v76 fun _ => A.Gf) (h79 : Is v79 A.T)

include h74 h76 h79

theorem pay19_at : Is (k0_pay19 v74 v76 v79) (err A) := fun r l => by
  unfold k0_pay19
  pointwise
  simp only [h74 _ _, h76 _ _, h79 _ _]
  rfl

theorem pay20_at : Is (k0_pay20 v74 v76 v79) (dy A) := fun r l => by
  unfold k0_pay20
  pointwise
  simp only [pay19_at h74 h76 h79 _ _]
  rfl

include h72 in
theorem pay21_at : Is (k0_pay21 v72 v74 v76 v79) (dx2 A) := fun r l => by
  unfold k0_pay21
  pointwise
  simp only [pay20_at h74 h76 h79 _ _, h72 _ _, h74 _ _, h76 _ _]
  rfl

theorem pay22_at (v : FVec Ideal S1x1024 .f32) (l : Fin 1024) :
    k0_pay22 v74 v76 v79 v (ix2 0 l) = v (ix2 0 l) + sums A 4 l := by
  unfold k0_pay22
  pointwise
  simp only [pay20_at h74 h76 h79 _ _, h74 _ _, sums_4]

theorem pay23_at (v : FVec Ideal S1x1024 .f32) (l : Fin 1024) :
    k0_pay23 v74 v76 v79 v (ix2 0 l) = v (ix2 0 l) + sums A 5 l := by
  unfold k0_pay23
  pointwise
  simp only [pay19_at h74 h76 h79 _ _, sums_5]

include h72 in
theorem pay24_at {v59 : FVec Ideal S256x1024 .f32} (h59 : Is v59 (o A)) (v : FVec Ideal S1x1024 .f32) (l : Fin 1024) :
    k0_pay24 v59 v72 v74 v76 v79 v (ix2 0 l) = v (ix2 0 l) + sums A 3 l := by
  unfold k0_pay24
  pointwise
  simp only [pay21_at h72 h74 h76 h79 _ _, h59 _ _, sums_3]

end Error

/-! ### Back through the gated product -/

section Back

variable {v94 : FVec Ideal S256x1024 .f32} {v61 : FVec Ideal S1x1024 .f32} {v120 : FVec Ideal S2816x1024 .bf16}
  (h61 : Is v61 fun _ => A.g2) (h94 : Is v94 (dx2 A)) (h120 : Is v120 A.V)

include h61 h94

theorem pay25_at : Is (k0_pay25 v61 v94) (do_ A) := fun r l => by
  unfold k0_pay25
  pointwise
  simp only [h61 _ _, h94 _ _]
  rfl

include h120

theorem pay26_at : Is (k0_pay26 v61 v94 v120) (dact A) := fun r l => by
  unfold k0_pay26
  pointwise
  simp only [pay25_at h61 h94 _ _, h120 _ _]
  rfl

theorem pay27_at {v54 : FVec Ideal S256x2816 .bf16}
    (h54 : Is v54 fun r j => up A r j * (sg A r j * (1 + gate A r j * (1 - sg A r j)))) :
    Is (k0_pay27 v54 v61 v94 v120) (dgate A) := fun r l => by
  unfold k0_pay27
  pointwise
  simp only [pay26_at h61 h94 h120 _ _, h54 _ _]
  rfl

theorem pay28_at {v56 : FVec Ideal S256x2816 .bf16} (h56 : Is v56 fun r j => gate A r j * sg A r j) :
    Is (k0_pay28 v56 v61 v94 v120) (dup A) := fun r l => by
  unfold k0_pay28
  pointwise
  simp only [pay26_at h61 h94 h120 _ _, h56 _ _]
  rfl

theorem pay29_at {v54 v56 : FVec Ideal S256x2816 .bf16} {v131 v134 : FVec Ideal S2816x1024 .bf16}
    (h54 : Is v54 fun r j => up A r j * (sg A r j * (1 + gate A r j * (1 - sg A r j))))
    (h56 : Is v56 fun r j => gate A r j * sg A r j) (h131 : Is v131 A.Ug) (h134 : Is v134 A.Uu) :
    Is (k0_pay29 v54 v56 v61 v94 v120 v131 v134) (dh A) := fun r l => by
  unfold k0_pay29
  pointwise
  simp only [pay27_at h61 h94 h120 h54 _ _, pay28_at h61 h94 h120 h56 _ _, h131 _ _, h134 _ _]
  rfl

end Back

/-! ### Back through the first norm -/

section Norm

variable {v4 v137 : FVec Ideal S256x1024 .f32} {v138 v140 : FVec Ideal S1x1024 .f32} {v148 : FVec Ideal S256x1 .f32}
  (h4 : Is v4 A.X) (h137 : Is v137 (dh A)) (h138 : Is v138 fun _ => A.G) (h140 : Is v140 fun _ => A.sc)
  (h148 : Is v148 fun r _ => rinv (A.X r))

include h4 in
theorem pay31_at : Is (k0_pay31 v4) (fun r _ => rinv (A.X r)) := fun r l => by
  unfold k0_pay31
  pointwise
  simp only [h4 _ _]
  rfl

include h4 h148 in
theorem pay32_at : Is (k0_pay32 v4 v148) (fun r => nrm (A.X r)) := fun r l => by
  unfold k0_pay32
  pointwise
  simp only [h4 _ _, h148 _ _]
  rfl

include h137 in
theorem pay33_at (v : FVec Ideal S1x1024 .f32) (l : Fin 1024) : k0_pay33 v137 v (ix2 0 l) = v (ix2 0 l) + sums A 0 l := by
  unfold k0_pay33
  pointwise
  simp only [h137 _ _, sums_0]

include h4 h137 h138 h148 in
theorem pay34_at (v : FVec Ideal S1x1024 .f32) (l : Fin 1024) :
    k0_pay34 v4 v137 v138 v148 v (ix2 0 l) = v (ix2 0 l) + sums A 1 l := by
  unfold k0_pay34
  pointwise
  simp only [h137 _ _, pay32_at h4 h148 _ _, h138 _ _, sums_1]

include h137 h140 in
theorem pay35_at : Is (k0_pay35 v137 v140) (dn A) := fun r l => by
  unfold k0_pay35
  pointwise
  simp only [h137 _ _, h140 _ _]
  rfl

include h4 h137 h140 h148 in
theorem pay36_at (v : FVec Ideal S1x1024 .f32) (l : Fin 1024) :
    k0_pay36 v4 v137 v140 v148 v (ix2 0 l) = v (ix2 0 l) + sums A 2 l := by
  unfold k0_pay36
  pointwise
  simp only [pay35_at h137 h140 _ _, pay32_at h4 h148 _ _, sums_2]

include h4 h137 h138 h140 h148 in
/-- What the inverse root multiplies in the stream's gradient. -/
theorem pay37_at : Is (k0_pay37 v4 v137 v138 v140 v148)
    (fun r l => dn A r l * A.G l - nrm (A.X r) l * Ideal.div (∑ k, dn A r k * A.G k * nrm (A.X r) k) width) := fun r l => by
  unfold k0_pay37
  pointwise
  simp only [pay35_at h137 h140 _ _, pay32_at h4 h148 _ _, h138 _ _]

include h148 in
theorem pay38_at : Is (k0_pay38 v148) (fun r (_ : Fin 1024) => rinv (A.X r)) := fun r l => by
  unfold k0_pay38
  pointwise
  simp only [h148 _ _]

end Norm

/-! ### The stream's gradient and what hangs on it -/

section Out

variable {v94 v186 v187 : FVec Ideal S256x1024 .f32} (h94 : Is v94 (dx2 A))
  (h186 : Is v186 fun r l => dn A r l * A.G l - nrm (A.X r) l * Ideal.div (∑ k, dn A r k * A.G k * nrm (A.X r) k) width)
  (h187 : Is v187 fun r (_ : Fin 1024) => rinv (A.X r))

include h94 h186 h187

theorem pay39_at : Is (k0_pay39 v94 v186 v187) (dx1 A) := fun r l => by
  unfold k0_pay39
  pointwise
  simp only [h94 _ _, h186 _ _, h187 _ _]
  rfl

theorem pay40_at : Is (k0_pay40 v94 v186 v187) (dx1 A) := fun r l => by
  unfold k0_pay40
  pointwise
  exact pay39_at h94 h186 h187 r l

theorem pay41_at {v194 : FVec Ideal S256x1024 .bf16} (h194 : Is v194 A.O) (v : FVec Ideal S1x1024 .f32) (l : Fin 1024) :
    k0_pay41 v94 v186 v187 v v194 (ix2 0 l) = v (ix2 0 l) + sums A 7 l := by
  unfold k0_pay41
  pointwise
  simp only [pay39_at h94 h186 h187 _ _, h194 _ _, sums_7]

theorem pay42_at {v202 : FVec Ideal S1x1024 .f32} (h202 : Is v202 fun _ => A.g1) :
    Is (k0_pay42 v94 v186 v187 v202) (do1 A) := fun r l => by
  unfold k0_pay42
  pointwise
  simp only [pay39_at h94 h186 h187 _ _, h202 _ _]
  rfl

theorem pay43_at {v202 : FVec Ideal S1x1024 .f32} (h202 : Is v202 fun _ => A.g1) {v207 : FVec Ideal S1024x1024 .bf16}
    (h207 : Is v207 A.Wo) : Is (k0_pay43 v94 v186 v187 v202 v207) (dm A) := fun r l => by
  unfold k0_pay43
  pointwise
  simp only [pay42_at h94 h186 h187 h202 _ _, h207 _ _]
  rfl

theorem pay44_at {v202 : FVec Ideal S1x1024 .f32} (h202 : Is v202 fun _ => A.g1) {v213 : FVec Ideal S256x1024 .bf16}
    (h213 : Is v213 A.M) (v : FVec Ideal S1024x1024 .f32) (k l : Fin 1024) :
    k0_pay44 v94 v186 v187 v202 v v213 (ix2 k l) = v (ix2 k l) + dWo A k l := by
  unfold k0_pay44
  pointwise
  simp only [pay42_at h94 h186 h187 h202 _ _, h213 _ _]
  rfl

end Out

end Cert.Kernel3Ideal.Ffn

end
-- ==== Proof.FfnVals.lean ====
/- What the payloads of the feed-forward kernel hold at one grid point, over the point's blocks. -/
module

public import Idealize.ShloMosaic.Lib.Pipeline.ValueKit
public import proofs.«01_k».proof.Proof.FfnStages

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Cert.NormMath Cert.FfnSpec

/-- The ten blocks of a grid point. -/
structure Blocks where
  x0 : Vec Ideal S256x1024 .f32
  x1 : Vec Ideal S256x1024 .bf16
  x2 : Vec Ideal S256x1024 .bf16
  x3 : Vec Ideal S8x1024 .f32
  x4 : Vec Ideal S1x1024 .f32
  x5 : Vec Ideal S5632x1024 .bf16
  x6 : Vec Ideal S2816x1024 .bf16
  x7 : Vec Ideal S1024x1024 .bf16
  x8 : Vec Ideal S1x1024 .f32
  x9 : Vec Ideal S256x1024 .f32

variable (B : Blocks)

/-- The blocks as the formulas take them. -/
def args : Args 256 where
  X r l := B.x0 (ix2 r l)
  O r l := B.x1 (ix2 r l)
  M r k := B.x2 (ix2 r k)
  g1 l := B.x3 (ix2 2 l)
  sh l := B.x3 (ix2 3 l)
  sc l := B.x3 (ix2 4 l)
  g2 l := B.x3 (ix2 5 l)
  G l := B.x4 (ix2 0 l)
  Gf l := B.x8 (ix2 0 l)
  Ug j k := B.x5 (ix2 ⟨j.val, by omega⟩ k)
  Uu j k := B.x5 (ix2 ⟨2816 + j.val, by omega⟩ k)
  V j l := B.x6 (ix2 j l)
  Wo k l := B.x7 (ix2 k l)
  T r l := B.x9 (ix2 r l)

/-! ### What the loads read -/

theorem l0_at : Is (e := .f32) (View.ld B.x0 (Rect.unit ![0, 0] ![256, 1024] inb_S256x1024_S256x1024_0_0)) ((args B).X) := fun r l => by
  pointwise
  rfl

theorem l1_at : Is (e := .bf16) (View.ld B.x1 (Rect.unit ![0, 0] ![256, 1024] inb_S256x1024_S256x1024_0_0)) ((args B).O) := fun r l => by
  pointwise
  rfl

theorem l2_at : Is (e := .bf16) (View.ld B.x2 (Rect.unit ![0, 0] ![256, 1024] inb_S256x1024_S256x1024_0_0)) ((args B).M) := fun r l => by
  pointwise
  rfl

theorem l3g1_at : Is (e := .f32) (View.ld B.x3 (Rect.unit ![2, 0] ![1, 1024] inb_S8x1024_S1x1024_2_0)) (fun _ => (args B).g1) := fun r l => by
  obtain rfl : r = 0 := Subsingleton.elim _ _
  pointwise
  rfl

theorem l3sh_at : Is (e := .f32) (View.ld B.x3 (Rect.unit ![3, 0] ![1, 1024] inb_S8x1024_S1x1024_3_0)) (fun _ => (args B).sh) := fun r l => by
  obtain rfl : r = 0 := Subsingleton.elim _ _
  pointwise
  rfl

theorem l3sc_at : Is (e := .f32) (View.ld B.x3 (Rect.unit ![4, 0] ![1, 1024] inb_S8x1024_S1x1024_4_0)) (fun _ => (args B).sc) := fun r l => by
  obtain rfl : r = 0 := Subsingleton.elim _ _
  pointwise
  rfl

theorem l3g2_at : Is (e := .f32) (View.ld B.x3 (Rect.unit ![5, 0] ![1, 1024] inb_S8x1024_S1x1024_5_0)) (fun _ => (args B).g2) := fun r l => by
  obtain rfl : r = 0 := Subsingleton.elim _ _
  pointwise
  rfl

theorem l4_at : Is (e := .f32) (View.ld B.x4 (Rect.unit ![0, 0] ![1, 1024] inb_S1x1024_S1x1024_0_0)) (fun _ => (args B).G) := fun r l => by
  obtain rfl : r = 0 := Subsingleton.elim _ _
  pointwise
  rfl

theorem l5g_at : Is (e := .bf16) (View.ld B.x5 (Rect.unit ![0, 0] ![2816, 1024] inb_S5632x1024_S2816x1024_0_0)) ((args B).Ug) := fun r l => by
  pointwise
  rfl

theorem l5u_at : Is (e := .bf16) (View.ld B.x5 (Rect.unit ![2816, 0] ![2816, 1024] inb_S5632x1024_S2816x1024_2816_0)) ((args B).Uu) := fun r l => by
  pointwise
  rfl

theorem l6_at : Is (e := .bf16) (View.ld B.x6 (Rect.unit ![0, 0] ![2816, 1024] inb_S2816x1024_S2816x1024_0_0)) ((args B).V) := fun r l => by
  pointwise
  rfl

theorem l7_at : Is (e := .bf16) (View.ld B.x7 (Rect.unit ![0, 0] ![1024, 1024] inb_S1024x1024_S1024x1024_0_0)) ((args B).Wo) := fun r l => by
  pointwise
  rfl

theorem l8_at : Is (e := .f32) (View.ld B.x8 (Rect.unit ![0, 0] ![1, 1024] inb_S1x1024_S1x1024_0_0)) (fun _ => (args B).Gf) := fun r l => by
  obtain rfl : r = 0 := Subsingleton.elim _ _
  pointwise
  rfl

theorem l9_at : Is (e := .f32) (View.ld B.x9 (Rect.unit ![0, 0] ![256, 1024] inb_S256x1024_S256x1024_0_0)) ((args B).T) := fun r l => by
  pointwise
  rfl

/-! ### What the payloads that later ones take hold -/

def b28 : FVec Ideal S256x1024 .bf16 :=
  k0_pay5 (View.ld B.x0 (Rect.unit ![0, 0] ![256, 1024] inb_S256x1024_S256x1024_0_0)) (View.ld B.x4 (Rect.unit ![0, 0] ![1, 1024] inb_S1x1024_S1x1024_0_0)) (View.ld B.x3 (Rect.unit ![4, 0] ![1, 1024] inb_S8x1024_S1x1024_4_0)) (View.ld B.x3 (Rect.unit ![3, 0] ![1, 1024] inb_S8x1024_S1x1024_3_0))

theorem b28_at : Is (b28 B) (h (args B)) := pay5_at (l0_at B) (l4_at B) (l3sc_at B) (l3sh_at B)

def b32 : FVec Ideal S256x2816 .f32 :=
  k0_pay6 (View.ld B.x0 (Rect.unit ![0, 0] ![256, 1024] inb_S256x1024_S256x1024_0_0)) (View.ld B.x4 (Rect.unit ![0, 0] ![1, 1024] inb_S1x1024_S1x1024_0_0)) (View.ld B.x3 (Rect.unit ![4, 0] ![1, 1024] inb_S8x1024_S1x1024_4_0)) (View.ld B.x3 (Rect.unit ![3, 0] ![1, 1024] inb_S8x1024_S1x1024_3_0)) (View.ld B.x5 (Rect.unit ![0, 0] ![2816, 1024] inb_S5632x1024_S2816x1024_0_0))

theorem b32_at : Is (b32 B) (gate (args B)) := pay6_at (b28_at B) (l5g_at B)

def b34 : FVec Ideal S2816x1024 .bf16 :=
  k0_pay7 (View.ld B.x5 (Rect.unit ![2816, 0] ![2816, 1024] inb_S5632x1024_S2816x1024_2816_0))

theorem b34_at : Is (b34 B) ((args B).Uu) := fun r l => by
  unfold b34 k0_pay7
  pointwise
  rfl

def b4 : FVec Ideal S256x1024 .f32 :=
  k0_pay4 (View.ld B.x0 (Rect.unit ![0, 0] ![256, 1024] inb_S256x1024_S256x1024_0_0))

theorem b4_at : Is (b4 B) ((args B).X) := fun r l => by
  unfold b4 k0_pay4
  pointwise
  rfl

def b61 : FVec Ideal S1x1024 .f32 :=
  k0_pay14 (View.ld B.x3 (Rect.unit ![5, 0] ![1, 1024] inb_S8x1024_S1x1024_5_0))

theorem b61_at : Is (b61 B) (fun _ => (args B).g2) := fun r l => by
  obtain rfl : r = 0 := Subsingleton.elim _ _
  unfold b61 k0_pay14
  pointwise
  rfl

def b76 : FVec Ideal S1x1024 .f32 :=
  k0_pay18 (View.ld B.x8 (Rect.unit ![0, 0] ![1, 1024] inb_S1x1024_S1x1024_0_0))

theorem b76_at : Is (b76 B) (fun _ => (args B).Gf) := fun r l => by
  obtain rfl : r = 0 := Subsingleton.elim _ _
  unfold b76 k0_pay18
  pointwise
  rfl

def b140 : FVec Ideal S1x1024 .f32 :=
  k0_pay30 (View.ld B.x3 (Rect.unit ![4, 0] ![1, 1024] inb_S8x1024_S1x1024_4_0))

theorem b140_at : Is (b140 B) (fun _ => (args B).sc) := fun r l => by
  obtain rfl : r = 0 := Subsingleton.elim _ _
  unfold b140 k0_pay30
  pointwise
  rfl

def b54 : FVec Ideal S256x2816 .bf16 :=
  k0_pay11 (b28 B) (b32 B) (b34 B) (constant S256x2816 .f32 0x00000000#32)

theorem b54_at : Is (b54 B) (fun r j => up (args B) r j * (sg (args B) r j * (1 + gate (args B) r j * (1 - sg (args B) r j)))) := pay11_at (b28_at B) (b32_at B) (b34_at B)

def b56 : FVec Ideal S256x2816 .bf16 :=
  k0_pay12 (b32 B)

theorem b56_at : Is (b56 B) (fun r j => gate (args B) r j * sg (args B) r j) := pay12_at (b32_at B)

def b59 : FVec Ideal S256x1024 .f32 :=
  k0_pay13 (b28 B) (b32 B) (b34 B) (constant S256x2816 .f32 0x00000000#32) (View.ld B.x6 (Rect.unit ![0, 0] ![2816, 1024] inb_S2816x1024_S2816x1024_0_0))

theorem b59_at : Is (b59 B) (o (args B)) := pay13_at (b28_at B) (b32_at B) (b34_at B) (l6_at B)

def b72 : FVec Ideal S256x1 .f32 :=
  k0_pay16 (b4 B) (b28 B) (b32 B) (b34 B) (constant S256x2816 .f32 0x00000000#32) (View.ld B.x6 (Rect.unit ![0, 0] ![2816, 1024] inb_S2816x1024_S2816x1024_0_0)) (View.ld B.x3 (Rect.unit ![5, 0] ![1, 1024] inb_S8x1024_S1x1024_5_0))

theorem b72_at : Is (b72 B) (fun r _ => rinv (x2 (args B) r)) := pay16_at (pay15_at (b4_at B) (b28_at B) (b32_at B) (b34_at B) (l6_at B) (l3g2_at B))

def b74 : FVec Ideal S256x1024 .f32 :=
  k0_pay17 (b4 B) (b28 B) (b32 B) (b34 B) (constant S256x2816 .f32 0x00000000#32) (View.ld B.x6 (Rect.unit ![0, 0] ![2816, 1024] inb_S2816x1024_S2816x1024_0_0)) (View.ld B.x3 (Rect.unit ![5, 0] ![1, 1024] inb_S8x1024_S1x1024_5_0))

theorem b74_at : Is (b74 B) (fun r => nrm (x2 (args B) r)) := pay17_at (pay15_at (b4_at B) (b28_at B) (b32_at B) (b34_at B) (l6_at B) (l3g2_at B))

def b94 : FVec Ideal S256x1024 .f32 :=
  k0_pay21 (b72 B) (b74 B) (b76 B) (View.ld B.x9 (Rect.unit ![0, 0] ![256, 1024] inb_S256x1024_S256x1024_0_0))

theorem b94_at : Is (b94 B) (dx2 (args B)) := pay21_at (b72_at B) (b74_at B) (b76_at B) (l9_at B)

def b137 : FVec Ideal S256x1024 .f32 :=
  k0_pay29 (b54 B) (b56 B) (b61 B) (b94 B) (View.ld B.x6 (Rect.unit ![0, 0] ![2816, 1024] inb_S2816x1024_S2816x1024_0_0)) (View.ld B.x5 (Rect.unit ![0, 0] ![2816, 1024] inb_S5632x1024_S2816x1024_0_0)) (View.ld B.x5 (Rect.unit ![2816, 0] ![2816, 1024] inb_S5632x1024_S2816x1024_2816_0))

theorem b137_at : Is (b137 B) (dh (args B)) := pay29_at (b61_at B) (b94_at B) (l6_at B) (b54_at B) (b56_at B) (l5g_at B) (l5u_at B)

def b148 : FVec Ideal S256x1 .f32 :=
  k0_pay31 (b4 B)

theorem b148_at : Is (b148 B) (fun r _ => rinv ((args B).X r)) := pay31_at (b4_at B)

def b186 : FVec Ideal S256x1024 .f32 :=
  k0_pay37 (b4 B) (b137 B) (View.ld B.x4 (Rect.unit ![0, 0] ![1, 1024] inb_S1x1024_S1x1024_0_0)) (b140 B) (b148 B)

theorem b186_at : Is (b186 B) (fun r l => dn (args B) r l * (args B).G l - nrm ((args B).X r) l * Ideal.div (∑ k, dn (args B) r k * (args B).G k * nrm ((args B).X r) k) width) := pay37_at (b4_at B) (b137_at B) (l4_at B) (b140_at B) (b148_at B)

def b187 : FVec Ideal S256x1024 .f32 :=
  k0_pay38 (b148 B)

theorem b187_at : Is (b187 B) (fun r _ => rinv ((args B).X r)) := pay38_at (b148_at B)

/-! ### The constants and the last payloads -/

theorem pay2_at (a : Fin 8) (l : Fin 1024) : k0_pay2 (F := Ideal) (ix2 a l) = 0 := by
  unfold k0_pay2
  pointwise

theorem pay3_at (k l : Fin 1024) : k0_pay3 (F := Ideal) (ix2 k l) = 0 := by
  unfold k0_pay3
  pointwise

/-- The loss, in all lanes, of the squared errors' sums. -/
theorem pay1_at (v : FVec Ideal S1x1024 .f32) (l : Fin 1024) :
    k0_pay1 v (ix2 0 l) = (∑ k, v (ix2 0 k)) * halfPerWidth := by
  unfold k0_pay1
  pointwise

theorem pay45_at {s : FVec Ideal S1024x1024 .f32} (k l : Fin 1024) :
    k0_pay45 (b94 B) (b186 B) (b187 B) (View.ld B.x3 (Rect.unit ![2, 0] ![1, 1024] inb_S8x1024_S1x1024_2_0)) s (View.ld B.x2 (Rect.unit ![0, 0] ![256, 1024] inb_S256x1024_S256x1024_0_0)) (ix2 k l) = s (ix2 k l) + dWo (args B) k l := by
  unfold k0_pay45
  pointwise
  exact pay44_at (b94_at B) (b186_at B) (b187_at B) (l3g1_at B) (l2_at B) s k l

theorem pay46_at {s : FVec Ideal S1024x1024 .f32} (k l : Fin 1024) :
    k0_pay46 (b94 B) (b186 B) (b187 B) (View.ld B.x3 (Rect.unit ![2, 0] ![1, 1024] inb_S8x1024_S1x1024_2_0)) s (View.ld B.x2 (Rect.unit ![0, 0] ![256, 1024] inb_S256x1024_S256x1024_0_0)) (ix2 k l) = s (ix2 k l) + dWo (args B) k l := by
  unfold k0_pay46
  pointwise
  exact pay44_at (b94_at B) (b186_at B) (b187_at B) (l3g1_at B) (l2_at B) s k l

end Cert.Kernel3Ideal.Ffn

end
-- ==== Proof.FfnBlocks.lean ====
/- What one grid point of the feed-forward kernel leaves in its output blocks, element by element. -/
module

public import proofs.«01_k».proof.Proof.Gen.Kernel3Ideal.Value
public import proofs.«01_k».proof.Proof.Over
public import proofs.«01_k».proof.Proof.FfnVals

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Cert.NormMath Cert.Over Cert.FfnSpec

theorem hz : (![0, 0] : Fin 2 → Nat) = fun _ => 0 := funext fun a => by fin_cases a <;> rfl

section Cases

variable (c : Dev nD) (i : grid0.Coords)
  (arg1 : Memref sig .tc .vmem S256x1024 .f32) (harg1 : arg1.IsWhole)
  (arg2 : Memref sig .tc .vmem S256x1024 .bf16) (harg2 : arg2.IsWhole)
  (arg3 : Memref sig .tc .vmem S256x1024 .bf16) (harg3 : arg3.IsWhole)
  (arg4 : Memref sig .tc .vmem S8x1024 .f32) (harg4 : arg4.IsWhole)
  (arg5 : Memref sig .tc .vmem S1x1024 .f32) (harg5 : arg5.IsWhole)
  (arg6 : Memref sig .tc .vmem S5632x1024 .bf16) (harg6 : arg6.IsWhole)
  (arg7 : Memref sig .tc .vmem S2816x1024 .bf16) (harg7 : arg7.IsWhole)
  (arg8 : Memref sig .tc .vmem S1024x1024 .bf16) (harg8 : arg8.IsWhole)
  (arg9 : Memref sig .tc .vmem S1x1024 .f32) (harg9 : arg9.IsWhole)
  (arg10 : Memref sig .tc .vmem S256x1024 .f32) (harg10 : arg10.IsWhole)
  (arg11 : Memref sig .tc .vmem S256x1024 .bf16) (harg11 : arg11.IsWhole)
  (arg12 : Memref sig .tc .vmem S256x2816 .bf16) (harg12 : arg12.IsWhole)
  (arg13 : Memref sig .tc .vmem S256x1024 .bf16) (harg13 : arg13.IsWhole)
  (arg14 : Memref sig .tc .vmem S256x5632 .bf16) (harg14 : arg14.IsWhole)
  (arg15 : Memref sig .tc .vmem S256x1024 .bf16) (harg15 : arg15.IsWhole)
  (arg16 : Memref sig .tc .vmem S1024x1024 .bf16) (harg16 : arg16.IsWhole)
  (arg17 : Memref sig .tc .vmem S256x1024 .bf16) (harg17 : arg17.IsWhole)
  (arg18 : Memref sig .tc .vmem S8x1024 .f32) (harg18 : arg18.IsWhole)
  (arg19 : Memref sig .tc .vmem S1024x1024 .f32) (harg19 : arg19.IsWhole)
  (x0 : Vec Ideal S256x1024 .f32)
  (x1 : Vec Ideal S256x1024 .bf16)
  (x2 : Vec Ideal S256x1024 .bf16)
  (x3 : Vec Ideal S8x1024 .f32)
  (x4 : Vec Ideal S1x1024 .f32)
  (x5 : Vec Ideal S5632x1024 .bf16)
  (x6 : Vec Ideal S2816x1024 .bf16)
  (x7 : Vec Ideal S1024x1024 .bf16)
  (x8 : Vec Ideal S1x1024 .f32)
  (x9 : Vec Ideal S256x1024 .f32)

theorem flat_A (h0 : cond0_0 i) (h1 : ¬cond0_1 i) :
    let B : Blocks := ⟨x0, x1, x2, x3, x4, x5, x6, x7, x8, x9⟩
    Is (e := .bf16) (out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9) (h (args B))
    ∧ Is (e := .bf16) (out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9) (act (args B))
    ∧ Is (e := .bf16) (out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9) (do_ (args B))
    ∧ (∀ (r : Fin 256) (j : Fin 2816), out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 (ix2 r ⟨j.val, by omega⟩) = dgate (args B) r j
      ∧ out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 (ix2 r ⟨2816 + j.val, by omega⟩) = dup (args B) r j)
    ∧ Is (e := .bf16) (out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9) (dx1 (args B))
    ∧ Is (e := .bf16) (out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9) (dm (args B)) := by
  intro B
  unfold out0_A_10 out0_A_11 out0_A_12 out0_A_13 out0_A_14 out0_A_16 kernelRun0_A
  dsimp only
  sl_unfold_words
  simp only [Over.read_writes, View.readAt_eq_ld, harg1.read_unread, harg2.read_unread, harg3.read_unread, harg4.read_unread, harg5.read_unread, harg6.read_unread, harg7.read_unread, harg8.read_unread, harg9.read_unread, harg10.read_unread]
  refine ⟨fun r l => ?_, fun r l => ?_, fun r l => ?_, fun r j => ⟨?_, ?_⟩, fun r l => ?_, fun r l => ?_⟩
  · erw [over_rect, dif_pos (by omega)]
    exact b28_at B r l
  · erw [over_rect, dif_pos (by omega)]
    exact pay10_at (b28_at B) (b32_at B) (b34_at B) r l
  · erw [over_rect, dif_pos (by omega)]
    exact pay25_at (b61_at B) (b94_at B) r l
  · erw [over_rect, dif_neg (by dsimp only; omega), over_rect, dif_pos (by dsimp only; omega)]
    exact pay27_at (b61_at B) (b94_at B) (l6_at B) (b54_at B) r j
  · erw [over_rect, dif_pos (by dsimp only; omega)]
    refine Eq.trans (congrArg _ (congrArg (ix2 r) (Fin.ext ?_))) (pay28_at (b61_at B) (b94_at B) (l6_at B) (b56_at B) r j)
    show 2816 + j.val - 2816 = j.val
    omega
  · erw [over_rect, dif_pos (by omega)]
    exact pay40_at (b94_at B) (b186_at B) (b187_at B) r l
  · erw [over_rect, dif_pos (by omega)]
    exact pay43_at (b94_at B) (b186_at B) (b187_at B) (l3g1_at B) (l7_at B) r l

theorem weight_A (h0 : cond0_0 i) (h1 : ¬cond0_1 i) (k l : Fin 1024) :
    let B : Blocks := ⟨x0, x1, x2, x3, x4, x5, x6, x7, x8, x9⟩
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 (ix2 k l) = 0 + dWo (args B) k l
    ∧ sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 (ix2 k l) = 0 + dWo (args B) k l := by
  intro B
  unfold out0_A_15 sout0_A_0 kernelRun0_A
  dsimp only
  sl_unfold_words
  simp only [Over.read_writes, View.readAt_eq_ld, harg1.read_unread, harg2.read_unread, harg3.read_unread, harg4.read_unread, harg5.read_unread, harg6.read_unread, harg7.read_unread, harg8.read_unread, harg9.read_unread, harg10.read_unread, harg19.read_unread]
  refine ⟨?_, ?_⟩
  · erw [over_rect, dif_pos (by omega)]
    refine (pay46_at B k l).trans (congrArg (· + _) ?_)
    erw [cov_rect, over_rect, dif_pos (by omega)]
    exact pay3_at _ _
  · erw [over_rect, dif_pos (by omega)]
    refine (pay45_at B k l).trans (congrArg (· + _) ?_)
    erw [cov_rect, over_rect, dif_pos (by omega)]
    exact pay3_at _ _

theorem small_A (h0 : cond0_0 i) (h1 : ¬cond0_1 i) (a : Fin 8) (l : Fin 1024) :
    let B : Blocks := ⟨x0, x1, x2, x3, x4, x5, x6, x7, x8, x9⟩
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 (ix2 a l) = sums (args B) a l := by
  intro B
  unfold out0_A_17 kernelRun0_A
  dsimp only
  sl_unfold_words
  rw [Over.read_writes]
  simp only [View.readAt_eq_ld, harg1.read_unread, harg2.read_unread, harg3.read_unread, harg4.read_unread, harg5.read_unread, harg6.read_unread, harg7.read_unread, harg8.read_unread, harg9.read_unread, harg10.read_unread, harg18.read_unread]
  have hl := l.isLt
  rcases (by omega : a.val = 0 ∨ a.val = 1 ∨ a.val = 2 ∨ a.val = 3 ∨ a.val = 4 ∨ a.val = 5 ∨ a.val = 6 ∨ a.val = 7) with h | h | h | h | h | h | h | h
  · obtain rfl : a = 0 := Fin.ext h
    erw [over_rect, dif_neg (by simp), over_rect, dif_neg (by simp), over_rect, dif_neg (by simp), over_rect, dif_pos (by simp)]
    refine (pay33_at (b137_at B) _ l).trans ((congrArg (· + _) ?_).trans (zero_add _))
    erw [cov_rect]
    erw [over_rect, dif_neg (by simp), over_rect, dif_neg (by simp), over_rect, dif_neg (by simp)]
    erw [over_rect, dif_pos (by simp)]
    exact pay2_at _ _
  · obtain rfl : a = 1 := Fin.ext h
    erw [over_rect, dif_neg (by simp), over_rect, dif_neg (by simp), over_rect, dif_pos (by simp)]
    refine (pay34_at (b4_at B) (b137_at B) (l4_at B) (b148_at B) _ l).trans ((congrArg (· + _) ?_).trans (zero_add _))
    erw [cov_rect]
    erw [over_rect, dif_neg (by simp), over_rect, dif_neg (by simp), over_rect, dif_neg (by simp), over_rect, dif_neg (by simp)]
    erw [over_rect, dif_pos (by simp)]
    exact pay2_at _ _
  · obtain rfl : a = 2 := Fin.ext h
    erw [over_rect, dif_neg (by simp), over_rect, dif_pos (by simp)]
    refine (pay36_at (b4_at B) (b137_at B) (b140_at B) (b148_at B) _ l).trans ((congrArg (· + _) ?_).trans (zero_add _))
    erw [cov_rect]
    erw [over_rect, dif_neg (by simp), over_rect, dif_neg (by simp), over_rect, dif_neg (by simp), over_rect, dif_neg (by simp), over_rect, dif_neg (by simp)]
    erw [over_rect, dif_pos (by simp)]
    exact pay2_at _ _
  · obtain rfl : a = 3 := Fin.ext h
    erw [over_rect, dif_neg (by simp), over_rect, dif_neg (by simp), over_rect, dif_neg (by simp), over_rect, dif_neg (by simp), over_rect, dif_pos (by simp)]
    refine (pay24_at (b72_at B) (b74_at B) (b76_at B) (l9_at B) (b59_at B) _ l).trans ((congrArg (· + _) ?_).trans (zero_add _))
    erw [cov_rect]
    erw [over_rect, dif_neg (by simp), over_rect, dif_neg (by simp)]
    erw [over_rect, dif_pos (by simp)]
    exact pay2_at _ _
  · obtain rfl : a = 4 := Fin.ext h
    erw [over_rect, dif_neg (by simp), over_rect, dif_neg (by simp), over_rect, dif_neg (by simp), over_rect, dif_neg (by simp), over_rect, dif_neg (by simp), over_rect, dif_neg (by simp), over_rect, dif_pos (by simp)]
    refine (pay22_at (b74_at B) (b76_at B) (l9_at B) _ l).trans ((congrArg (· + _) ?_).trans (zero_add _))
    erw [cov_rect]
    skip
    erw [over_rect, dif_pos (by simp)]
    exact pay2_at _ _
  · obtain rfl : a = 5 := Fin.ext h
    erw [over_rect, dif_neg (by simp), over_rect, dif_neg (by simp), over_rect, dif_neg (by simp), over_rect, dif_neg (by simp), over_rect, dif_neg (by simp), over_rect, dif_pos (by simp)]
    refine (pay23_at (b74_at B) (b76_at B) (l9_at B) _ l).trans ((congrArg (· + _) ?_).trans (zero_add _))
    erw [cov_rect]
    erw [over_rect, dif_neg (by simp)]
    erw [over_rect, dif_pos (by simp)]
    exact pay2_at _ _
  · obtain rfl : a = 6 := Fin.ext h
    erw [over_rect, dif_neg (by simp), over_rect, dif_neg (by simp), over_rect, dif_neg (by simp), over_rect, dif_neg (by simp), over_rect, dif_neg (by simp), over_rect, dif_neg (by simp), over_rect, dif_neg (by simp)]
    rw [sums_six _ _ _ rfl]
    erw [over_rect, dif_pos (by omega)]
    exact pay2_at _ _
  · obtain rfl : a = 7 := Fin.ext h
    erw [over_rect, dif_pos (by simp)]
    refine (pay41_at (b94_at B) (b186_at B) (b187_at B) (l1_at B) _ l).trans ((congrArg (· + _) ?_).trans (zero_add _))
    erw [cov_rect]
    erw [over_rect, dif_neg (by simp), over_rect, dif_neg (by simp), over_rect, dif_neg (by simp), over_rect, dif_neg (by simp), over_rect, dif_neg (by simp), over_rect, dif_neg (by simp)]
    erw [over_rect, dif_pos (by simp)]
    exact pay2_at _ _

theorem flat_B (h0 : ¬cond0_0 i) (h1 : ¬cond0_1 i) (xo : Vec Ideal S8x1024 .f32) (xs : Vec Ideal S1024x1024 .f32) :
    let B : Blocks := ⟨x0, x1, x2, x3, x4, x5, x6, x7, x8, x9⟩
    Is (e := .bf16) (out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (h (args B))
    ∧ Is (e := .bf16) (out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (act (args B))
    ∧ Is (e := .bf16) (out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (do_ (args B))
    ∧ (∀ (r : Fin 256) (j : Fin 2816), out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 r ⟨j.val, by omega⟩) = dgate (args B) r j
      ∧ out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 r ⟨2816 + j.val, by omega⟩) = dup (args B) r j)
    ∧ Is (e := .bf16) (out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (dx1 (args B))
    ∧ Is (e := .bf16) (out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (dm (args B)) := by
  intro B
  unfold out0_B_10 out0_B_11 out0_B_12 out0_B_13 out0_B_14 out0_B_16 kernelRun0_B
  dsimp only
  sl_unfold_words
  simp only [Over.read_writes, View.readAt_eq_ld, harg1.read_unread, harg2.read_unread, harg3.read_unread, harg4.read_unread, harg5.read_unread, harg6.read_unread, harg7.read_unread, harg8.read_unread, harg9.read_unread, harg10.read_unread]
  refine ⟨fun r l => ?_, fun r l => ?_, fun r l => ?_, fun r j => ⟨?_, ?_⟩, fun r l => ?_, fun r l => ?_⟩
  · erw [over_rect, dif_pos (by omega)]
    exact b28_at B r l
  · erw [over_rect, dif_pos (by omega)]
    exact pay10_at (b28_at B) (b32_at B) (b34_at B) r l
  · erw [over_rect, dif_pos (by omega)]
    exact pay25_at (b61_at B) (b94_at B) r l
  · erw [over_rect, dif_neg (by dsimp only; omega), over_rect, dif_pos (by dsimp only; omega)]
    exact pay27_at (b61_at B) (b94_at B) (l6_at B) (b54_at B) r j
  · erw [over_rect, dif_pos (by dsimp only; omega)]
    refine Eq.trans (congrArg _ (congrArg (ix2 r) (Fin.ext ?_))) (pay28_at (b61_at B) (b94_at B) (l6_at B) (b56_at B) r j)
    show 2816 + j.val - 2816 = j.val
    omega
  · erw [over_rect, dif_pos (by omega)]
    exact pay40_at (b94_at B) (b186_at B) (b187_at B) r l
  · erw [over_rect, dif_pos (by omega)]
    exact pay43_at (b94_at B) (b186_at B) (b187_at B) (l3g1_at B) (l7_at B) r l

theorem weight_B (h0 : ¬cond0_0 i) (h1 : ¬cond0_1 i) (xo : Vec Ideal S8x1024 .f32) (xs : Vec Ideal S1024x1024 .f32) (k l : Fin 1024) :
    let B : Blocks := ⟨x0, x1, x2, x3, x4, x5, x6, x7, x8, x9⟩
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 k l) = xs (ix2 k l) + dWo (args B) k l
    ∧ sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 k l) = xs (ix2 k l) + dWo (args B) k l := by
  intro B
  unfold out0_B_15 sout0_B_0 kernelRun0_B
  dsimp only
  sl_unfold_words
  simp only [Over.read_writes, View.readAt_eq_ld, harg1.read_unread, harg2.read_unread, harg3.read_unread, harg4.read_unread, harg5.read_unread, harg6.read_unread, harg7.read_unread, harg8.read_unread, harg9.read_unread, harg10.read_unread, harg19.read_unread]
  refine ⟨?_, ?_⟩
  · erw [over_rect, dif_pos (by omega)]
    refine (pay46_at B k l).trans (congrArg (· + _) ?_)
    pointwise
  · erw [over_rect, dif_pos (by omega)]
    refine (pay45_at B k l).trans (congrArg (· + _) ?_)
    pointwise

theorem small_B (h0 : ¬cond0_0 i) (h1 : ¬cond0_1 i) (xo : Vec Ideal S8x1024 .f32) (xs : Vec Ideal S1024x1024 .f32) (a : Fin 8) (l : Fin 1024) :
    let B : Blocks := ⟨x0, x1, x2, x3, x4, x5, x6, x7, x8, x9⟩
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 a l) = xo (ix2 a l) + sums (args B) a l := by
  intro B
  unfold out0_B_17 kernelRun0_B
  dsimp only
  sl_unfold_words
  rw [Over.read_writes]
  simp only [View.readAt_eq_ld, harg1.read_unread, harg2.read_unread, harg3.read_unread, harg4.read_unread, harg5.read_unread, harg6.read_unread, harg7.read_unread, harg8.read_unread, harg9.read_unread, harg10.read_unread, harg18.read_unread]
  have hl := l.isLt
  rcases (by omega : a.val = 0 ∨ a.val = 1 ∨ a.val = 2 ∨ a.val = 3 ∨ a.val = 4 ∨ a.val = 5 ∨ a.val = 6 ∨ a.val = 7) with h | h | h | h | h | h | h | h
  · obtain rfl : a = 0 := Fin.ext h
    erw [over_rect, dif_neg (by simp), over_rect, dif_neg (by simp), over_rect, dif_neg (by simp), over_rect, dif_pos (by simp)]
    refine (pay33_at (b137_at B) _ l).trans (congrArg (· + _) ?_)
    pointwise
  · obtain rfl : a = 1 := Fin.ext h
    erw [over_rect, dif_neg (by simp), over_rect, dif_neg (by simp), over_rect, dif_pos (by simp)]
    refine (pay34_at (b4_at B) (b137_at B) (l4_at B) (b148_at B) _ l).trans (congrArg (· + _) ?_)
    pointwise
  · obtain rfl : a = 2 := Fin.ext h
    erw [over_rect, dif_neg (by simp), over_rect, dif_pos (by simp)]
    refine (pay36_at (b4_at B) (b137_at B) (b140_at B) (b148_at B) _ l).trans (congrArg (· + _) ?_)
    pointwise
  · obtain rfl : a = 3 := Fin.ext h
    erw [over_rect, dif_neg (by simp), over_rect, dif_neg (by simp), over_rect, dif_neg (by simp), over_rect, dif_neg (by simp), over_rect, dif_pos (by simp)]
    refine (pay24_at (b72_at B) (b74_at B) (b76_at B) (l9_at B) (b59_at B) _ l).trans (congrArg (· + _) ?_)
    pointwise
  · obtain rfl : a = 4 := Fin.ext h
    erw [over_rect, dif_neg (by simp), over_rect, dif_neg (by simp), over_rect, dif_neg (by simp), over_rect, dif_neg (by simp), over_rect, dif_neg (by simp), over_rect, dif_neg (by simp), over_rect, dif_pos (by simp)]
    refine (pay22_at (b74_at B) (b76_at B) (l9_at B) _ l).trans (congrArg (· + _) ?_)
    pointwise
  · obtain rfl : a = 5 := Fin.ext h
    erw [over_rect, dif_neg (by simp), over_rect, dif_neg (by simp), over_rect, dif_neg (by simp), over_rect, dif_neg (by simp), over_rect, dif_neg (by simp), over_rect, dif_pos (by simp)]
    refine (pay23_at (b74_at B) (b76_at B) (l9_at B) _ l).trans (congrArg (· + _) ?_)
    pointwise
  · obtain rfl : a = 6 := Fin.ext h
    erw [over_rect, dif_neg (by simp), over_rect, dif_neg (by simp), over_rect, dif_neg (by simp), over_rect, dif_neg (by simp), over_rect, dif_neg (by simp), over_rect, dif_neg (by simp), over_rect, dif_neg (by simp)]
    rw [sums_six _ _ _ rfl]
    exact (add_zero _).symm
  · obtain rfl : a = 7 := Fin.ext h
    erw [over_rect, dif_pos (by simp)]
    refine (pay41_at (b94_at B) (b186_at B) (b187_at B) (l1_at B) _ l).trans (congrArg (· + _) ?_)
    pointwise

theorem flat_C (h0 : ¬cond0_0 i) (h1 : cond0_1 i) (xo : Vec Ideal S8x1024 .f32) (xs : Vec Ideal S1024x1024 .f32) :
    let B : Blocks := ⟨x0, x1, x2, x3, x4, x5, x6, x7, x8, x9⟩
    Is (e := .bf16) (out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (h (args B))
    ∧ Is (e := .bf16) (out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (act (args B))
    ∧ Is (e := .bf16) (out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (do_ (args B))
    ∧ (∀ (r : Fin 256) (j : Fin 2816), out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 r ⟨j.val, by omega⟩) = dgate (args B) r j
      ∧ out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 r ⟨2816 + j.val, by omega⟩) = dup (args B) r j)
    ∧ Is (e := .bf16) (out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (dx1 (args B))
    ∧ Is (e := .bf16) (out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs) (dm (args B)) := by
  intro B
  unfold out0_C_10 out0_C_11 out0_C_12 out0_C_13 out0_C_14 out0_C_16 kernelRun0_C
  dsimp only
  sl_unfold_words
  simp only [Over.read_writes, View.readAt_eq_ld, harg1.read_unread, harg2.read_unread, harg3.read_unread, harg4.read_unread, harg5.read_unread, harg6.read_unread, harg7.read_unread, harg8.read_unread, harg9.read_unread, harg10.read_unread]
  refine ⟨fun r l => ?_, fun r l => ?_, fun r l => ?_, fun r j => ⟨?_, ?_⟩, fun r l => ?_, fun r l => ?_⟩
  · erw [over_rect, dif_pos (by omega)]
    exact b28_at B r l
  · erw [over_rect, dif_pos (by omega)]
    exact pay10_at (b28_at B) (b32_at B) (b34_at B) r l
  · erw [over_rect, dif_pos (by omega)]
    exact pay25_at (b61_at B) (b94_at B) r l
  · erw [over_rect, dif_neg (by dsimp only; omega), over_rect, dif_pos (by dsimp only; omega)]
    exact pay27_at (b61_at B) (b94_at B) (l6_at B) (b54_at B) r j
  · erw [over_rect, dif_pos (by dsimp only; omega)]
    refine Eq.trans (congrArg _ (congrArg (ix2 r) (Fin.ext ?_))) (pay28_at (b61_at B) (b94_at B) (l6_at B) (b56_at B) r j)
    show 2816 + j.val - 2816 = j.val
    omega
  · erw [over_rect, dif_pos (by omega)]
    exact pay40_at (b94_at B) (b186_at B) (b187_at B) r l
  · erw [over_rect, dif_pos (by omega)]
    exact pay43_at (b94_at B) (b186_at B) (b187_at B) (l3g1_at B) (l7_at B) r l

theorem weight_C (h0 : ¬cond0_0 i) (h1 : cond0_1 i) (xo : Vec Ideal S8x1024 .f32) (xs : Vec Ideal S1024x1024 .f32) (k l : Fin 1024) :
    let B : Blocks := ⟨x0, x1, x2, x3, x4, x5, x6, x7, x8, x9⟩
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 k l) = xs (ix2 k l) + dWo (args B) k l
    ∧ sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 k l) = xs (ix2 k l) + dWo (args B) k l := by
  intro B
  unfold out0_C_15 sout0_C_0 kernelRun0_C
  dsimp only
  sl_unfold_words
  simp only [Over.read_writes, View.readAt_eq_ld, harg1.read_unread, harg2.read_unread, harg3.read_unread, harg4.read_unread, harg5.read_unread, harg6.read_unread, harg7.read_unread, harg8.read_unread, harg9.read_unread, harg10.read_unread, harg19.read_unread]
  refine ⟨?_, ?_⟩
  · erw [over_rect, dif_pos (by omega)]
    refine (pay46_at B k l).trans (congrArg (· + _) ?_)
    pointwise
  · erw [over_rect, dif_pos (by omega)]
    refine (pay45_at B k l).trans (congrArg (· + _) ?_)
    pointwise

theorem small_C (h0 : ¬cond0_0 i) (h1 : cond0_1 i) (xo : Vec Ideal S8x1024 .f32) (xs : Vec Ideal S1024x1024 .f32) (a : Fin 8) (l : Fin 1024) :
    let B : Blocks := ⟨x0, x1, x2, x3, x4, x5, x6, x7, x8, x9⟩
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h0 h1 x0 x1 x2 x3 x4 x5 x6 x7 x8 x9 xo xs (ix2 a l) = (if a.val = 6 then (∑ k, (xo (ix2 5 k) + sums (args B) 5 k)) * halfPerWidth else xo (ix2 a l) + sums (args B) a l) := by
  intro B
  unfold out0_C_17 kernelRun0_C
  dsimp only
  sl_unfold_words
  rw [Over.read_writes]
  simp only [View.readAt_eq_ld, harg1.read_unread, harg2.read_unread, harg3.read_unread, harg4.read_unread, harg5.read_unread, harg6.read_unread, harg7.read_unread, harg8.read_unread, harg9.read_unread, harg10.read_unread, harg18.read_unread]
  have hl := l.isLt
  rcases (by omega : a.val = 0 ∨ a.val = 1 ∨ a.val = 2 ∨ a.val = 3 ∨ a.val = 4 ∨ a.val = 5 ∨ a.val = 6 ∨ a.val = 7) with h | h | h | h | h | h | h | h
  · obtain rfl : a = 0 := Fin.ext h
    erw [over_rect, dif_neg (by simp), over_rect, dif_neg (by simp), over_rect, dif_neg (by simp), over_rect, dif_neg (by simp), over_rect, dif_pos (by simp)]
    rw [if_neg (by decide)]
    refine (pay33_at (b137_at B) _ l).trans (congrArg (· + _) ?_)
    pointwise
  · obtain rfl : a = 1 := Fin.ext h
    erw [over_rect, dif_neg (by simp), over_rect, dif_neg (by simp), over_rect, dif_neg (by simp), over_rect, dif_pos (by simp)]
    rw [if_neg (by decide)]
    refine (pay34_at (b4_at B) (b137_at B) (l4_at B) (b148_at B) _ l).trans (congrArg (· + _) ?_)
    pointwise
  · obtain rfl : a = 2 := Fin.ext h
    erw [over_rect, dif_neg (by simp), over_rect, dif_neg (by simp), over_rect, dif_pos (by simp)]
    rw [if_neg (by decide)]
    refine (pay36_at (b4_at B) (b137_at B) (b140_at B) (b148_at B) _ l).trans (congrArg (· + _) ?_)
    pointwise
  · obtain rfl : a = 3 := Fin.ext h
    erw [over_rect, dif_neg (by simp), over_rect, dif_neg (by simp), over_rect, dif_neg (by simp), over_rect, dif_neg (by simp), over_rect, dif_neg (by simp), over_rect, dif_pos (by simp)]
    rw [if_neg (by decide)]
    refine (pay24_at (b72_at B) (b74_at B) (b76_at B) (l9_at B) (b59_at B) _ l).trans (congrArg (· + _) ?_)
    pointwise
  · obtain rfl : a = 4 := Fin.ext h
    erw [over_rect, dif_neg (by simp), over_rect, dif_neg (by simp), over_rect, dif_neg (by simp), over_rect, dif_neg (by simp), over_rect, dif_neg (by simp), over_rect, dif_neg (by simp), over_rect, dif_neg (by simp), over_rect, dif_pos (by simp)]
    rw [if_neg (by decide)]
    refine (pay22_at (b74_at B) (b76_at B) (l9_at B) _ l).trans (congrArg (· + _) ?_)
    pointwise
  · obtain rfl : a = 5 := Fin.ext h
    erw [over_rect, dif_neg (by simp), over_rect, dif_neg (by simp), over_rect, dif_neg (by simp), over_rect, dif_neg (by simp), over_rect, dif_neg (by simp), over_rect, dif_neg (by simp), over_rect, dif_pos (by simp)]
    rw [if_neg (by decide)]
    refine (pay23_at (b74_at B) (b76_at B) (l9_at B) _ l).trans (congrArg (· + _) ?_)
    pointwise
  · obtain rfl : a = 6 := Fin.ext h
    erw [over_rect, dif_pos (by simp)]
    refine Eq.trans ?_ (if_pos rfl).symm
    refine (pay1_at _ l).trans (congrArg (· * halfPerWidth) (Finset.sum_congr rfl fun k _ => ?_))
    erw [cov_rect]
    erw [over_rect, dif_neg (by simp), over_rect, dif_neg (by simp), over_rect, dif_neg (by simp), over_rect, dif_neg (by simp), over_rect, dif_neg (by simp), over_rect, dif_pos (by simp)]
    refine Eq.trans (congrArg _ (congrArg₂ ix2 (Subsingleton.elim _ 0) (Fin.ext (Nat.zero_add k.val)))) ((pay23_at (b74_at B) (b76_at B) (l9_at B) _ k).trans (congrArg (· + _) ?_))
    pointwise
  · obtain rfl : a = 7 := Fin.ext h
    erw [over_rect, dif_neg (by simp), over_rect, dif_pos (by simp)]
    rw [if_neg (by decide)]
    refine (pay41_at (b94_at B) (b186_at B) (b187_at B) (l1_at B) _ l).trans (congrArg (· + _) ?_)
    pointwise

end Cases

end Cert.Kernel3Ideal.Ffn

end
-- ==== Proof.FfnPrepared.lean ====
/- What the feed-forward kernel finds in its blocks: the block of the arrays that the host prepares. -/
module

public import proofs.«01_k».proof.Proof.Over
public import proofs.«01_k».proof.Proof.FfnVals
public import proofs.«01_k».proof.Proof.Gen.Kernel3Ideal.Value
public import Idealize.ShloMosaic.Lib.Pipeline.ValueKit
public import Idealize.ShloMosaic.Lib.StableHlo.ReadAt

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Cert.NormMath Cert.Over Cert.FfnSpec

variable (m : (ℓ : Loc nD τ sig) → Buf (Elt Ideal) ℓ) (c : Dev nD)

/-- The projection of the heads, which the host forms. -/
def proj (r : Fin 4096) (l : Fin 1024) : EReal :=
  let M : Fin 4096 → Fin 1024 → EReal := fun r k => m ((c : Thread nD τ).loc main_arg1) (ix2 r k)
  let Wo : Fin 1024 → Fin 1024 → EReal := fun k l => m ((c : Thread nD τ).loc main_arg3) (ix2 k l)
  ∑ k, M r k * Wo k l

/-- The stream before the mixer's sum. -/
def before (r : Fin 4096) (l : Fin 1024) : EReal := m ((c : Thread nD τ).loc main_arg0) (ix2 r l)

/-- A row of the modulation. -/
def ada (o : ℕ) (ho : o + 1024 ≤ 6144) (l : Fin 1024) : EReal := m ((c : Thread nD τ).loc main_arg2) (ix2 0 ⟨o + l.val, by omega⟩)

/-- The arguments of the whole arrays. -/
def arrArgs : Args 4096 where
  X r l := before m c r l + ada m c 2048 (by omega) l * proj m c r l
  O r l := proj m c r l
  M r k := m ((c : Thread nD τ).loc main_arg1) (ix2 r k)
  g1 := ada m c 2048 (by omega)
  sh := ada m c 3072 (by omega)
  sc := ada m c 4096 (by omega)
  g2 := ada m c 5120 (by omega)
  G l := m ((c : Thread nD τ).loc main_arg4) (ix2 0 l)
  Gf l := m ((c : Thread nD τ).loc main_arg7) (ix1 l)
  Ug j k := m ((c : Thread nD τ).loc main_arg5) (ix2 k ⟨j.val, by omega⟩)
  Uu j k := m ((c : Thread nD τ).loc main_arg5) (ix2 k ⟨2816 + j.val, by omega⟩)
  V j l := m ((c : Thread nD τ).loc main_arg6) (ix2 j l)
  Wo k l := m ((c : Thread nD τ).loc main_arg3) (ix2 k l)
  T r l := m ((c : Thread nD τ).loc main_arg8) (ix2 r l)

/-- The rows go in sixteen blocks of 256. -/
theorem rows16 : 4096 = cfg0.N * 256 := by rw [show cfg0.N = 16 from N_0]

theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![t.val, 0]
    ∧ win0_10.index t = ![t.val, 0]
    ∧ win0_11.index t = ![t.val, 0]
    ∧ win0_12.index t = ![t.val, 0]
    ∧ win0_13.index t = ![t.val, 0]
    ∧ win0_14.index t = ![t.val, 0]
    ∧ win0_15.index t = ![0, 0]
    ∧ win0_16.index t = ![t.val, 0]
    ∧ win0_17.index t = ![0, 0] :=
  (by decide +kernel : ∀ t : Fin grid0.N, _)

/-! ### What the host prepares -/

theorem proj_at (r : Fin 4096) (l : Fin 1024) : V m c main_v11 (ix2 r l) = proj m c r l := by
  unfold V
  after_reads_at
  pointwise
  rfl

theorem stream_at (r : Fin 4096) (l : Fin 1024) : V m c main_v10 (ix2 r l) = (arrArgs m c).X r l := by
  unfold V
  after_reads_at
  pointwise
  after_reads_at
  rfl

theorem rows_g1_at (l : Fin 1024) : V m c main_v2 (ix2 2 l) = ada m c 2048 (by omega) l := by
  unfold V
  after_reads_at
  rfl

theorem rows_sh_at (l : Fin 1024) : V m c main_v2 (ix2 3 l) = ada m c 3072 (by omega) l := by
  unfold V
  after_reads_at
  rfl

theorem rows_sc_at (l : Fin 1024) : V m c main_v2 (ix2 4 l) = ada m c 4096 (by omega) l := by
  unfold V
  after_reads_at
  rfl

theorem rows_g2_at (l : Fin 1024) : V m c main_v2 (ix2 5 l) = ada m c 5120 (by omega) l := by
  unfold V
  after_reads_at
  rfl

theorem wgu_at (j : Fin 5632) (k : Fin 1024) : V m c main_v13 (ix2 j k) = m ((c : Thread nD τ).loc main_arg5) (ix2 k j) := by
  unfold V
  after_reads_at

theorem wdown_at (j : Fin 2816) (l : Fin 1024) : V m c main_v14 (ix2 j l) = m ((c : Thread nD τ).loc main_arg6) (ix2 j l) := by
  unfold V
  after_reads_at

theorem wout_at (k l : Fin 1024) : V m c main_v3 (ix2 k l) = m ((c : Thread nD τ).loc main_arg3) (ix2 k l) := by
  unfold V
  after_reads_at

theorem gfinal_at (l : Fin 1024) : V m c main_v15 (ix2 0 l) = m ((c : Thread nD τ).loc main_arg7) (ix1 l) := by
  unfold V
  after_reads_at

/-! ### The blocks of a point are its block of the arrays -/

theorem blk_X (t : Fin cfg0.N) (r : Fin 256) (l : Fin 1024) :
    iblk m c 0 t (ix2 r l) = ((arrArgs m c).block rows16 t).X r l := by
  blk_simp [iblk, idx t]
  refine Eq.trans (congrArg (V m c main_v10) ?_) (stream_at m c (InProjSpec.rowOf rows16 t r) l)
  blk_ext [idx t]
  rw [InProjSpec.rowOf_val]; omega

theorem blk_O (t : Fin cfg0.N) (r : Fin 256) (l : Fin 1024) :
    iblk m c 1 t (ix2 r l) = ((arrArgs m c).block rows16 t).O r l := by
  blk_simp [iblk, idx t]
  refine Eq.trans (congrArg (V m c main_v11) ?_) (proj_at m c _ l)
  blk_ext [idx t]
  rw [InProjSpec.rowOf_val]; omega

theorem blk_M (t : Fin cfg0.N) (r : Fin 256) (k : Fin 1024) :
    iblk m c 2 t (ix2 r k) = ((arrArgs m c).block rows16 t).M r k := by
  unfold arrArgs Args.block
  dsimp only
  blk_ext [iblk, V_main_arg1, idx t]
  rw [InProjSpec.rowOf_val]; omega

theorem blk_g1 (t : Fin cfg0.N) (l : Fin 1024) :
    iblk m c 3 t (ix2 2 l) = ((arrArgs m c).block rows16 t).g1 l := by
  blk_simp [iblk, idx t]
  refine Eq.trans (congrArg (V m c main_v2) ?_) (rows_g1_at m c l)
  blk_ext [idx t]

theorem blk_sh (t : Fin cfg0.N) (l : Fin 1024) :
    iblk m c 3 t (ix2 3 l) = ((arrArgs m c).block rows16 t).sh l := by
  blk_simp [iblk, idx t]
  refine Eq.trans (congrArg (V m c main_v2) ?_) (rows_sh_at m c l)
  blk_ext [idx t]

theorem blk_sc (t : Fin cfg0.N) (l : Fin 1024) :
    iblk m c 3 t (ix2 4 l) = ((arrArgs m c).block rows16 t).sc l := by
  blk_simp [iblk, idx t]
  refine Eq.trans (congrArg (V m c main_v2) ?_) (rows_sc_at m c l)
  blk_ext [idx t]

theorem blk_g2 (t : Fin cfg0.N) (l : Fin 1024) :
    iblk m c 3 t (ix2 5 l) = ((arrArgs m c).block rows16 t).g2 l := by
  blk_simp [iblk, idx t]
  refine Eq.trans (congrArg (V m c main_v2) ?_) (rows_g2_at m c l)
  blk_ext [idx t]

theorem blk_G (t : Fin cfg0.N) (l : Fin 1024) :
    iblk m c 4 t (ix2 0 l) = ((arrArgs m c).block rows16 t).G l := by
  unfold arrArgs Args.block
  dsimp only
  blk_ext [iblk, V_main_arg4, idx t]

theorem blk_Gf (t : Fin cfg0.N) (l : Fin 1024) :
    iblk m c 8 t (ix2 0 l) = ((arrArgs m c).block rows16 t).Gf l := by
  blk_simp [iblk, idx t]
  refine Eq.trans (congrArg (V m c main_v15) ?_) (gfinal_at m c l)
  blk_ext [idx t]

theorem blk_Ug (t : Fin cfg0.N) (j : Fin 2816) (k : Fin 1024) :
    iblk m c 5 t (ix2 ⟨j.val, by omega⟩ k) = ((arrArgs m c).block rows16 t).Ug j k := by
  blk_simp [iblk, idx t]
  refine Eq.trans (congrArg (V m c main_v13) ?_) (wgu_at m c _ k)
  blk_ext [idx t]

theorem blk_Uu (t : Fin cfg0.N) (j : Fin 2816) (k : Fin 1024) :
    iblk m c 5 t (ix2 ⟨2816 + j.val, by omega⟩ k) = ((arrArgs m c).block rows16 t).Uu j k := by
  blk_simp [iblk, idx t]
  refine Eq.trans (congrArg (V m c main_v13) ?_) (wgu_at m c _ k)
  blk_ext [idx t]

theorem blk_V (t : Fin cfg0.N) (j : Fin 2816) (l : Fin 1024) :
    iblk m c 6 t (ix2 j l) = ((arrArgs m c).block rows16 t).V j l := by
  blk_simp [iblk, idx t]
  refine Eq.trans (congrArg (V m c main_v14) ?_) (wdown_at m c j l)
  blk_ext [idx t]

theorem blk_Wo (t : Fin cfg0.N) (k : Fin 1024) (l : Fin 1024) :
    iblk m c 7 t (ix2 k l) = ((arrArgs m c).block rows16 t).Wo k l := by
  blk_simp [iblk, idx t]
  refine Eq.trans (congrArg (V m c main_v3) ?_) (wout_at m c k l)
  blk_ext [idx t]

theorem blk_T (t : Fin cfg0.N) (r : Fin 256) (l : Fin 1024) :
    iblk m c 9 t (ix2 r l) = ((arrArgs m c).block rows16 t).T r l := by
  unfold arrArgs Args.block
  dsimp only
  blk_ext [iblk, V_main_arg8, idx t]
  rw [InProjSpec.rowOf_val]; omega

/-- The blocks of point `t`. -/
abbrev blocks (t : Fin cfg0.N) : Blocks :=
  ⟨iblk m c 0 t, iblk m c 1 t, iblk m c 2 t, iblk m c 3 t, iblk m c 4 t, iblk m c 5 t, iblk m c 6 t, iblk m c 7 t, iblk m c 8 t, iblk m c 9 t⟩

theorem args_ext {n : ℕ} {A B : Args n} (h : A.X = B.X ∧ A.O = B.O ∧ A.M = B.M ∧ A.g1 = B.g1 ∧ A.sh = B.sh ∧ A.sc = B.sc ∧ A.g2 = B.g2
    ∧ A.G = B.G ∧ A.Gf = B.Gf ∧ A.Ug = B.Ug ∧ A.Uu = B.Uu ∧ A.V = B.V ∧ A.Wo = B.Wo ∧ A.T = B.T) : A = B := by
  cases A; cases B
  obtain ⟨h1, h2, h3, h4, h5, h6, h7, h8, h9, h10, h11, h12, h13, h14⟩ := h
  dsimp only at h1 h2 h3 h4 h5 h6 h7 h8 h9 h10 h11 h12 h13 h14
  subst h1 h2 h3 h4 h5 h6 h7 h8 h9 h10 h11 h12 h13 h14
  rfl

theorem args_blocks (t : Fin cfg0.N) : args (blocks m c t) = (arrArgs m c).block rows16 t :=
  args_ext ⟨funext fun r => funext (blk_X m c t r), funext fun r => funext (blk_O m c t r), funext fun r => funext (blk_M m c t r), funext (blk_g1 m c t), funext (blk_sh m c t), funext (blk_sc m c t), funext (blk_g2 m c t), funext (blk_G m c t), funext (blk_Gf m c t), funext fun j => funext (blk_Ug m c t j), funext fun j => funext (blk_Uu m c t j), funext fun j => funext (blk_V m c t j), funext fun k => funext (blk_Wo m c t k), funext fun r => funext (blk_T m c t r)⟩

end Cert.Kernel3Ideal.Ffn

end
-- ==== Proof.FfnArrays.lean ====
/- The result arrays of the feed-forward kernel, element by element, as formulas of its arguments. -/
module

public import proofs.«01_k».proof.Proof.FfnBlocks
public import proofs.«01_k».proof.Proof.FfnPrepared
public import Idealize.ShloMosaic.Lib.Pipeline.ValueKit
public import Idealize.ShloMosaic.Lib.StableHlo.ReadAt

@[expose] public section

set_option maxRecDepth 16384

noncomputable section

namespace Cert.Kernel3Ideal.Ffn

open Cert.Kernel3Ideal Cert.Kernel3Ideal.Gen Idealize.ShloMosaic Idealize.ShloMosaic.TcCoe Idealize.SL.Sem
open Cert.NormMath Cert.Over Cert.FfnSpec

variable (m : (ℓ : Loc nD τ sig) → Buf (Elt Ideal) ℓ) (c : Dev nD)

/-- What a point's blocks hold. -/
abbrev Outs := Vec Ideal S256x1024 .bf16 × Vec Ideal S256x2816 .bf16 × Vec Ideal S256x1024 .bf16 × Vec Ideal S256x5632 .bf16
  × Vec Ideal S256x1024 .bf16 × Vec Ideal S1024x1024 .bf16 × Vec Ideal S256x1024 .bf16 × Vec Ideal S8x1024 .f32 × Vec Ideal S1024x1024 .f32

/-- The blocks that a point writes once. -/
def Flat (o : Outs) (A : Args 256) : Prop :=
  Is (e := .bf16) o.1 (h A) ∧ Is (e := .bf16) o.2.1 (act A) ∧ Is (e := .bf16) o.2.2.1 (do_ A)
  ∧ (∀ (r : Fin 256) (j : Fin 2816), o.2.2.2.1 (ix2 r ⟨j.val, by omega⟩) = dgate A r j
    ∧ o.2.2.2.1 (ix2 r ⟨2816 + j.val, by omega⟩) = dup A r j)
  ∧ Is (e := .bf16) o.2.2.2.2.1 (dx1 A) ∧ Is (e := .bf16) o.2.2.2.2.2.2.1 (dm A)

/-- A point's blocks, over the running sum `w` of the projection's gradient and with the small sums `s`. -/
def Point (o : Outs) (A : Args 256) (w : Fin 1024 → Fin 1024 → EReal) (s : Fin 8 → Fin 1024 → EReal) : Prop :=
  Flat o A ∧ (∀ k l, o.2.2.2.2.2.1 (ix2 k l) = w k l + dWo A k l ∧ o.2.2.2.2.2.2.2.2 (ix2 k l) = w k l + dWo A k l)
  ∧ ∀ a l, o.2.2.2.2.2.2.2.1 (ix2 a l) = s a l

theorem point_of {v0 : Vec Ideal S256x1024 .bf16} {v1 : Vec Ideal S256x2816 .bf16} {v2 : Vec Ideal S256x1024 .bf16} {v3 : Vec Ideal S256x5632 .bf16}
    {v4 : Vec Ideal S256x1024 .bf16} {v5 : Vec Ideal S1024x1024 .bf16} {v6 : Vec Ideal S256x1024 .bf16} {v7 : Vec Ideal S8x1024 .f32}
    {v8 : Vec Ideal S1024x1024 .f32} {A : Args 256} {w : Fin 1024 → Fin 1024 → EReal} {s : Fin 8 → Fin 1024 → EReal}
    (f : Is (e := .bf16) v0 (h A) ∧ Is (e := .bf16) v1 (act A) ∧ Is (e := .bf16) v2 (do_ A)
      ∧ (∀ (r : Fin 256) (j : Fin 2816), v3 (ix2 r ⟨j.val, by omega⟩) = dgate A r j ∧ v3 (ix2 r ⟨2816 + j.val, by omega⟩) = dup A r j)
      ∧ Is (e := .bf16) v4 (dx1 A) ∧ Is (e := .bf16) v6 (dm A))
    (g : ∀ k l, v5 (ix2 k l) = w k l + dWo A k l ∧ v8 (ix2 k l) = w k l + dWo A k l) (k : ∀ a l, v7 (ix2 a l) = s a l) :
    Point (v0, v1, v2, v3, v4, v5, v6, v7, v8) A w s := ⟨f, g, k⟩

/-- The small sums and the running sum that the point before left. -/
abbrev smallBefore (t : Fin cfg0.N) (a : Fin 8) (l : Fin 1024) : EReal :=
  (outsAt0 m c (t.val - 1) (Nat.lt_of_le_of_lt (Nat.sub_le _ _) t.isLt)).2.2.2.2.2.2.2.1 (ix2 a l)
abbrev runBefore (t : Fin cfg0.N) (k l : Fin 1024) : EReal :=
  (outsAt0 m c (t.val - 1) (Nat.lt_of_le_of_lt (Nat.sub_le _ _) t.isLt)).2.2.2.2.2.2.2.2 (ix2 k l)

theorem point_A (t : Fin cfg0.N) (h0 : t.val % 16 = 0) (h1 : ¬t.val % 16 = 15) :
    Point (outsAt0 m c t.val t.isLt) (args (blocks m c t)) (fun _ _ => 0) (sums (args (blocks m c t))) := by
  rw [outsAt0_A m c t h0 h1]
  refine point_of ?_ (fun k l => ?_) fun a l => ?_
  · exact flat_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h))
  · exact weight_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) k l
  · exact small_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) ((hcond0_0 t).mpr h0) (fun h => h1 ((hcond0_1 t).mp h)) a l

theorem point_B (t : Fin cfg0.N) (h0 : ¬t.val % 16 = 0) (h1 : ¬t.val % 16 = 15) :
    Point (outsAt0 m c t.val t.isLt) (args (blocks m c t)) (runBefore m c t)
      (fun a l => smallBefore m c t a l + sums (args (blocks m c t)) a l) := by
  rw [outsAt0_B m c t h0 h1]
  refine point_of ?_ (fun k l => ?_) fun a l => ?_
  · exact flat_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  · exact weight_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 k l
  · exact small_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) (fun h => h1 ((hcond0_1 t).mp h)) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 a l

theorem point_C (t : Fin cfg0.N) (h0 : ¬t.val % 16 = 0) (h1 : t.val % 16 = 15) :
    Point (outsAt0 m c t.val t.isLt) (args (blocks m c t)) (runBefore m c t)
      (fun a l => if a.val = 6 then (∑ k, (smallBefore m c t 5 k + sums (args (blocks m c t)) 5 k)) * halfPerWidth
        else smallBefore m c t a l + sums (args (blocks m c t)) a l) := by
  rw [outsAt0_C m c t h0 h1]
  refine point_of ?_ (fun k l => ?_) fun a l => ?_
  · exact flat_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2
  · exact weight_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 k l
  · exact small_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (fun h => h0 ((hcond0_0 t).mp h)) ((hcond0_1 t).mpr h1) (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2 a l

theorem outs_flat (t : Fin cfg0.N) : Flat (outsAt0 m c t.val t.isLt) ((arrArgs m c).block rows16 t) := by
  rw [← args_blocks m c t]
  by_cases h0 : t.val % 16 = 0
  · exact (point_A m c t h0 (by omega)).1
  · by_cases h1 : t.val % 16 = 15
    · exact (point_C m c t h0 h1).1
    · exact (point_B m c t h0 h1).1

/-- What the last point leaves of the projection's gradient, summed over the points: in the running sum and in the result. -/
theorem outs_weight (k l : Fin 1024) :
    (outsAt0 m c t0_15.val t0_15.isLt).2.2.2.2.2.2.2.2 (ix2 k l) = dWo (arrArgs m c) k l := by
  have h := Pipeline.eq_sum_fin_of_reset_step_apply_last
    (fun n h => fun p : Fin 1024 × Fin 1024 => (outsAt0 m c n h).2.2.2.2.2.2.2.2 (ix2 p.1 p.2)) 16 (fun _ => 0)
    (fun t p => dWo ((arrArgs m c).block rows16 t) p.1 p.2)
    (fun t h0 p => by
      rw [← args_blocks m c t]
      exact ((point_A m c t h0 (by omega)).2.1 p.1 p.2).2)
    (fun t h0 p => by
      rw [← args_blocks m c t]
      by_cases h1 : t.val % 16 = 15
      · exact ((point_C m c t h0 h1).2.1 p.1 p.2).2
      · exact ((point_B m c t h0 h1).2.1 p.1 p.2).2)
    (by rw [show cfg0.N = 16 from N_0]) t0_15 rfl (k, l)
  exact h.trans ((zero_add _).trans (dWo_blocks rows16 (arrArgs m c) k l))

theorem outs_dwo (k l : Fin 1024) : (outsAt0 m c t0_15.val t0_15.isLt).2.2.2.2.2.1 (ix2 k l) = dWo (arrArgs m c) k l := by
  have h := (point_C m c t0_15 (by decide) (by decide)).2.1 k l
  exact (h.1.trans h.2.symm).trans (outs_weight m c k l)

/-- The column sums after the last point, the loss's row left out. -/
theorem outs_sums (a : Fin 8) (ha : ¬a.val = 6) (l : Fin 1024) :
    (outsAt0 m c t0_15.val t0_15.isLt).2.2.2.2.2.2.2.1 (ix2 a l) = sums (arrArgs m c) a l := by
  have h := Pipeline.eq_sum_fin_of_reset_step_apply_last
    (fun n h => fun p : Fin 1024 => (outsAt0 m c n h).2.2.2.2.2.2.2.1 (ix2 a p)) 16 (fun _ => 0)
    (fun t p => sums ((arrArgs m c).block rows16 t) a p)
    (fun t h0 p => by
      rw [← args_blocks m c t]
      exact ((point_A m c t h0 (by omega)).2.2 a p).trans (zero_add _).symm)
    (fun t h0 p => by
      rw [← args_blocks m c t]
      by_cases h1 : t.val % 16 = 15
      · exact ((point_C m c t h0 h1).2.2 a p).trans (if_neg ha)
      · exact (point_B m c t h0 h1).2.2 a p)
    (by rw [show cfg0.N = 16 from N_0]) t0_15 rfl l
  exact h.trans ((zero_add _).trans (sums_blocks rows16 (arrArgs m c) a l))

/-- The loss is formed at the last point, of the row of its sums as that point leaves it. -/
theorem outs_loss (a : Fin 8) (ha : a.val = 6) (l : Fin 1024) :
    (outsAt0 m c t0_15.val t0_15.isLt).2.2.2.2.2.2.2.1 (ix2 a l) = loss (arrArgs m c) := by
  have h : (outsAt0 m c t0_15.val t0_15.isLt).2.2.2.2.2.2.2.1 (ix2 a l)
      = (∑ k, (outsAt0 m c t0_15.val t0_15.isLt).2.2.2.2.2.2.2.1 (ix2 5 k)) * halfPerWidth := by
    have hp := (point_C m c t0_15 (by decide) (by decide)).2.2
    refine (hp a l).trans ((if_pos ha).trans (congrArg (· * halfPerWidth) (Finset.sum_congr rfl fun k _ => ?_)))
    exact ((hp 5 k).trans (if_neg (by decide))).symm
  rw [h]
  exact congrArg (· * halfPerWidth) (Finset.sum_congr rfl fun k _ => outs_sums m c 5 (by decide) k)

theorem outs_small (a : Fin 8) (l : Fin 1024) :
    (outsAt0 m c t0_15.val t0_15.isLt).2.2.2.2.2.2.2.1 (ix2 a l) = small (arrArgs m c) a l := by
  unfold small
  split_ifs with ha
  · exact outs_loss m c a ha l
  · exact outs_sums m c a ha l

theorem final_h (r : Fin 4096) (l : Fin 1024) : (dats m 0 c).arrAt 10 cfg0.N (ix2 r l) = h (arrArgs m c) r l := by
  have h : (dats m 0 c).arrAt 10 cfg0.N = fun i : S4096x1024.Idx => h (arrArgs m c) (i 0) (i 1) := by
    refine (dats m 0 c).arrAt_eq_of_covers 10 _ (by decide +kernel) fun t hf y => ?_
    blk_simp
    rw [after0_10]
    idx_vars y
    refine ((outs_flat m c t).1 y0 y1).trans ?_
    show h (arrArgs m c) (InProjSpec.rowOf rows16 t y0) y1 = _
    refine congrArg₂ (h (arrArgs m c)) (Fin.ext ?_) (Fin.ext ?_)
    · blk_simp [idx t]
      rw [InProjSpec.rowOf_val]; omega
    · blk_simp [idx t]
  exact congrFun h (ix2 r l)

theorem final_act (r : Fin 4096) (l : Fin 2816) : (dats m 0 c).arrAt 11 cfg0.N (ix2 r l) = act (arrArgs m c) r l := by
  have h : (dats m 0 c).arrAt 11 cfg0.N = fun i : S4096x2816.Idx => act (arrArgs m c) (i 0) (i 1) := by
    refine (dats m 0 c).arrAt_eq_of_covers 11 _ (by decide +kernel) fun t hf y => ?_
    blk_simp
    rw [after0_11]
    idx_vars y
    refine ((outs_flat m c t).2.1 y0 y1).trans ?_
    show act (arrArgs m c) (InProjSpec.rowOf rows16 t y0) y1 = _
    refine congrArg₂ (act (arrArgs m c)) (Fin.ext ?_) (Fin.ext ?_)
    · blk_simp [idx t]
      rw [InProjSpec.rowOf_val]; omega
    · blk_simp [idx t]
  exact congrFun h (ix2 r l)

theorem final_do (r : Fin 4096) (l : Fin 1024) : (dats m 0 c).arrAt 12 cfg0.N (ix2 r l) = do_ (arrArgs m c) r l := by
  have h : (dats m 0 c).arrAt 12 cfg0.N = fun i : S4096x1024.Idx => do_ (arrArgs m c) (i 0) (i 1) := by
    refine (dats m 0 c).arrAt_eq_of_covers 12 _ (by decide +kernel) fun t hf y => ?_
    blk_simp
    rw [after0_12]
    idx_vars y
    refine ((outs_flat m c t).2.2.1 y0 y1).trans ?_
    show do_ (arrArgs m c) (InProjSpec.rowOf rows16 t y0) y1 = _
    refine congrArg₂ (do_ (arrArgs m c)) (Fin.ext ?_) (Fin.ext ?_)
    · blk_simp [idx t]
      rw [InProjSpec.rowOf_val]; omega
    · blk_simp [idx t]
  exact congrFun h (ix2 r l)

theorem final_dx1 (r : Fin 4096) (l : Fin 1024) : (dats m 0 c).arrAt 14 cfg0.N (ix2 r l) = dx1 (arrArgs m c) r l := by
  have h : (dats m 0 c).arrAt 14 cfg0.N = fun i : S4096x1024.Idx => dx1 (arrArgs m c) (i 0) (i 1) := by
    refine (dats m 0 c).arrAt_eq_of_covers 14 _ (by decide +kernel) fun t hf y => ?_
    blk_simp
    rw [after0_14]
    idx_vars y
    refine ((outs_flat m c t).2.2.2.2.1 y0 y1).trans ?_
    show dx1 (arrArgs m c) (InProjSpec.rowOf rows16 t y0) y1 = _
    refine congrArg₂ (dx1 (arrArgs m c)) (Fin.ext ?_) (Fin.ext ?_)
    · blk_simp [idx t]
      rw [InProjSpec.rowOf_val]; omega
    · blk_simp [idx t]
  exact congrFun h (ix2 r l)

theorem final_dm (r : Fin 4096) (l : Fin 1024) : (dats m 0 c).arrAt 16 cfg0.N (ix2 r l) = dm (arrArgs m c) r l := by
  have h : (dats m 0 c).arrAt 16 cfg0.N = fun i : S4096x1024.Idx => dm (arrArgs m c) (i 0) (i 1) := by
    refine (dats m 0 c).arrAt_eq_of_covers 16 _ (by decide +kernel) fun t hf y => ?_
    blk_simp
    rw [after0_16]
    idx_vars y
    refine ((outs_flat m c t).2.2.2.2.2 y0 y1).trans ?_
    show dm (arrArgs m c) (InProjSpec.rowOf rows16 t y0) y1 = _
    refine congrArg₂ (dm (arrArgs m c)) (Fin.ext ?_) (Fin.ext ?_)
    · blk_simp [idx t]
      rw [InProjSpec.rowOf_val]; omega
    · blk_simp [idx t]
  exact congrFun h (ix2 r l)

/-- The two halves' gradients beside each other. -/
def dgu {n : ℕ} (A : Args n) (r : Fin n) (q : Fin 5632) : EReal :=
  if hq : q.val < 2816 then dgate A r ⟨q.val, hq⟩ else dup A r ⟨q.val - 2816, by omega⟩

theorem outs_dgu (t : Fin cfg0.N) (r : Fin 256) (q : Fin 5632) :
    (outsAt0 m c t.val t.isLt).2.2.2.1 (ix2 r q) = dgu (arrArgs m c) (InProjSpec.rowOf rows16 t r) q := by
  unfold dgu
  split_ifs with hq
  · exact ((outs_flat m c t).2.2.2.1 r ⟨q.val, hq⟩).1
  · refine Eq.trans (congrArg (fun q => (outsAt0 m c t.val t.isLt).2.2.2.1 (ix2 r q)) (Fin.ext ?_)) ((outs_flat m c t).2.2.2.1 r ⟨q.val - 2816, by omega⟩).2
    show q.val = 2816 + (q.val - 2816)
    omega

theorem final_dgu (r : Fin 4096) (q : Fin 5632) : (dats m 0 c).arrAt 13 cfg0.N (ix2 r q) = dgu (arrArgs m c) r q := by
  have h : (dats m 0 c).arrAt 13 cfg0.N = fun i : S4096x5632.Idx => dgu (arrArgs m c) (i 0) (i 1) := by
    refine (dats m 0 c).arrAt_eq_of_covers 13 _ (by decide +kernel) fun t hf y => ?_
    blk_simp
    rw [after0_13]
    idx_vars y
    refine (outs_dgu m c t y0 y1).trans ?_
    refine congrArg₂ (dgu (arrArgs m c)) (Fin.ext ?_) (Fin.ext ?_)
    · blk_simp [idx t]
      rw [InProjSpec.rowOf_val]; omega
    · blk_simp [idx t]
  exact congrFun h (ix2 r q)

theorem final_dwo (k l : Fin 1024) : (dats m 0 c).arrAt 15 cfg0.N (ix2 k l) = dWo (arrArgs m c) k l := by
  have h : (dats m 0 c).arrAt 15 cfg0.N = fun i : S1024x1024.Idx => dWo (arrArgs m c) (i 0) (i 1) := by
    refine (dats m 0 c).arrAt_eq_of_after_last 15 t0_15 (by decide +kernel) _ fun j => ?_
    blk_simp
    rw [after0_15]
    idx_vars j
    exact outs_dwo m c _ _
  exact congrFun h (ix2 k l)

theorem final_small (k : Fin 8) (l : Fin 1024) : (dats m 0 c).arrAt 17 cfg0.N (ix2 k l) = small (arrArgs m c) k l := by
  have h : (dats m 0 c).arrAt 17 cfg0.N = fun i : S8x1024.Idx => small (arrArgs m c) (i 0) (i 1) := by
    refine (dats m 0 c).arrAt_eq_of_after_last 17 t0_15 (by decide +kernel) _ fun j => ?_
    blk_simp
    rw [after0_17]
    idx_vars j
    exact outs_small m c _ _
  exact congrFun h (ix2 k l)

end Cert.Kernel3Ideal.Ffn

end
-- ==== Proof.FfnMath.lean ====
/- Where every argument of the feed-forward call is a real number, so is everything it computes; and then the forms in which
   differentiation leaves the derivatives are the forms in which the kernel writes them. -/
module

public import proofs.«01_k».proof.Proof.FfnSpec

@[expose] public section

set_option maxRecDepth 16384

noncomputable section

namespace Cert.FfnSpec

open Idealize.ShloMosaic Cert.NormMath

/-- A real number among the extended ones. -/
def IsReal (x : EReal) : Prop := ∃ a : ℝ, x = (a : EReal)

theorem IsReal.add {x y : EReal} : IsReal x → IsReal y → IsReal (x + y)
  | ⟨a, ha⟩, ⟨b, hb⟩ => ⟨a + b, by rw [ha, hb, EReal.coe_add]⟩
theorem IsReal.sub {x y : EReal} : IsReal x → IsReal y → IsReal (x - y)
  | ⟨a, ha⟩, ⟨b, hb⟩ => ⟨a - b, by rw [ha, hb, EReal.coe_sub]⟩
theorem IsReal.mul {x y : EReal} : IsReal x → IsReal y → IsReal (x * y)
  | ⟨a, ha⟩, ⟨b, hb⟩ => ⟨a * b, by rw [ha, hb, EReal.coe_mul]⟩
theorem IsReal.one : IsReal 1 := ⟨1, EReal.coe_one.symm⟩
theorem IsReal.sum {k : ℕ} {f : Fin k → EReal} (h : ∀ i, IsReal (f i)) : IsReal (∑ i, f i) := by
  choose g hg using h
  exact ⟨∑ i, g i, by rw [coe_sum]; exact Finset.sum_congr rfl fun i _ => hg i⟩

theorem perWidth_eq : perWidth = ((1 / 1024 : ℝ) : EReal) := by
  simp [perWidth, Ideal.ofBits, Ideal.ieee, -EReal.coe_mul]; norm_num
theorem halfPerWidth_eq : halfPerWidth = ((1 / 2048 : ℝ) : EReal) := by
  simp [halfPerWidth, Ideal.ofBits, Ideal.ieee, -EReal.coe_mul]; norm_num

theorem IsReal.mean {x : EReal} : IsReal x → IsReal (Ideal.div x width)
  | ⟨a, ha⟩ => ⟨a / 1024, by rw [ha, width_eq, div_real _ _ (by norm_num)]⟩

theorem IsReal.rinv {x : Fin 1024 → EReal} (h : ∀ k, IsReal (x k)) : IsReal (NormMath.rinv x) := by
  choose g hg using h
  obtain ⟨v, -, -, hr⟩ := real_row g
  exact ⟨_, by rw [funext hg]; exact hr⟩

theorem IsReal.nrm {x : Fin 1024 → EReal} (h : ∀ k, IsReal (x k)) (l : Fin 1024) : IsReal (nrm x l) := (h l).mul (IsReal.rinv h)

theorem IsReal.back {x u : Fin 1024 → EReal} (hx : ∀ k, IsReal (x k)) (hu : ∀ k, IsReal (u k)) (l : Fin 1024) :
    IsReal (back x u l) :=
  (IsReal.rinv hx).mul ((hu l).sub (((hx l).mul (IsReal.rinv hx)).mul
    (IsReal.mean (IsReal.sum fun k => (hu k).mul ((hx k).mul (IsReal.rinv hx))))))

theorem IsReal.logistic {x : EReal} : IsReal x → IsReal (Ideal.div 1 (1 + Ideal.exp (-x)))
  | ⟨a, ha⟩ => ⟨1 / (1 + Real.exp (-a)), by
      rw [ha, ← div_real _ _ (by have := Real.exp_pos (-a); linarith), EReal.coe_add, EReal.coe_one]; rfl⟩

/-- The norm's derivative in three terms, as differentiation gives it, is the one the kernel writes, on real rows. -/
theorem three {x u : Fin 1024 → EReal} (hx : ∀ k, IsReal (x k)) (hu : ∀ k, IsReal (u k)) (d : EReal) (l : Fin 1024) :
    d + u l * rinv x + x l * coef x u + coef x u * x l = d + back x u l := by
  choose a ha using hx
  choose b hb using hu
  rw [funext ha, funext hb]
  exact (back_eq a b d l).symm

variable {n : ℕ} (A : Args n)

/-- Every argument is a real number. -/
structure AllReal : Prop where
  X : ∀ r l, IsReal (A.X r l)
  g2 : ∀ l, IsReal (A.g2 l)
  sh : ∀ l, IsReal (A.sh l)
  sc : ∀ l, IsReal (A.sc l)
  G : ∀ l, IsReal (A.G l)
  Gf : ∀ l, IsReal (A.Gf l)
  Ug : ∀ j l, IsReal (A.Ug j l)
  Uu : ∀ j l, IsReal (A.Uu j l)
  V : ∀ j l, IsReal (A.V j l)
  T : ∀ r l, IsReal (A.T r l)

variable {A} (R : AllReal A)

include R

theorem real_h (r : Fin n) (l : Fin 1024) : IsReal (h A r l) :=
  (((IsReal.nrm (R.X r) l).mul (R.G l)).mul (IsReal.one.add (R.sc l))).add (R.sh l)
theorem real_gate (r : Fin n) (j : Fin 2816) : IsReal (gate A r j) := IsReal.sum fun k => (real_h R r k).mul (R.Ug j k)
theorem real_up (r : Fin n) (j : Fin 2816) : IsReal (up A r j) := IsReal.sum fun k => (real_h R r k).mul (R.Uu j k)
theorem real_sg (r : Fin n) (j : Fin 2816) : IsReal (sg A r j) := IsReal.logistic (real_gate R r j)
theorem real_o (r : Fin n) (l : Fin 1024) : IsReal (o A r l) :=
  IsReal.sum fun j => (((real_gate R r j).mul (real_sg R r j)).mul (real_up R r j)).mul (R.V j l)
theorem real_x2 (r : Fin n) (l : Fin 1024) : IsReal (x2 A r l) := (R.X r l).add ((R.g2 l).mul (real_o R r l))
theorem real_err (r : Fin n) (l : Fin 1024) : IsReal (err A r l) := ((IsReal.nrm (real_x2 R r) l).mul (R.Gf l)).sub (R.T r l)
theorem real_dxn (r : Fin n) (l : Fin 1024) : IsReal (dy A r l * A.Gf l) := ((real_err R r l).mul ⟨_, perWidth_eq⟩).mul (R.Gf l)
theorem real_dx2 (r : Fin n) (l : Fin 1024) : IsReal (dx2 A r l) := IsReal.back (real_x2 R r) (real_dxn R r) l
theorem real_dact (r : Fin n) (j : Fin 2816) : IsReal (dact A r j) :=
  IsReal.sum fun k => ((real_dx2 R r k).mul (R.g2 k)).mul (R.V j k)
theorem real_dgate (r : Fin n) (j : Fin 2816) : IsReal (dgate A r j) :=
  (real_dact R r j).mul ((real_up R r j).mul ((real_sg R r j).mul
    (IsReal.one.add ((real_gate R r j).mul (IsReal.one.sub (real_sg R r j))))))
theorem real_dup (r : Fin n) (j : Fin 2816) : IsReal (dup A r j) :=
  (real_dact R r j).mul ((real_gate R r j).mul (real_sg R r j))
theorem real_dh (r : Fin n) (l : Fin 1024) : IsReal (dh A r l) :=
  (IsReal.sum fun j => (real_dgate R r j).mul (R.Ug j l)).add (IsReal.sum fun j => (real_dup R r j).mul (R.Uu j l))
theorem real_dnG (r : Fin n) (l : Fin 1024) : IsReal (dn A r l * A.G l) :=
  ((real_dh R r l).mul (IsReal.one.add (R.sc l))).mul (R.G l)

/-- The derivative through the last norm. -/
theorem three2 (r : Fin n) (l : Fin 1024) : dy A r l * A.Gf l * rinv (x2 A r) + x2 A r l * coef (x2 A r) (fun k => dy A r k * A.Gf k)
    + coef (x2 A r) (fun k => dy A r k * A.Gf k) * x2 A r l = dx2 A r l := by
  have e := three (real_x2 R r) (real_dxn R r) 0 l
  rw [zero_add, zero_add] at e
  exact e

/-- The derivative through the first norm, with what comes past it. -/
theorem three1 (r : Fin n) (l : Fin 1024) : dx2 A r l + dn A r l * A.G l * rinv (A.X r)
    + A.X r l * coef (A.X r) (fun k => dn A r k * A.G k) + coef (A.X r) (fun k => dn A r k * A.G k) * A.X r l = dx1 A r l :=
  three (R.X r) (real_dnG R r) _ l

/-- The gate's derivative: the product rule's two terms are the kernel's one. -/
theorem two_gate (r : Fin n) (j : Fin 2816) : dact A r j * up A r j * sg A r j
    + gate A r j * (dact A r j * up A r j) * (sg A r j * (1 - sg A r j)) = dgate A r j := by
  unfold dgate
  obtain ⟨d, hd⟩ := real_dact R r j
  obtain ⟨u, hu⟩ := real_up R r j
  obtain ⟨s, hs⟩ := real_sg R r j
  obtain ⟨g, hg⟩ := real_gate R r j
  rw [hd, hu, hs, hg, ← EReal.coe_one]
  simp only [← EReal.coe_mul, ← EReal.coe_sub, ← EReal.coe_add]
  congr 1
  ring

/-- The loss: half the sum of the rows' means is the kernel's factor times the sum of the columns' sums. -/
theorem loss_eq : ((1 / 2 : ℝ) : EReal) * ∑ r, Ideal.div (∑ l, err A r l * err A r l) width = loss A := by
  unfold loss
  simp only [sums_5]
  choose e he using real_err R
  simp only [he, width_eq, halfPerWidth_eq, ← EReal.coe_mul, ← coe_sum]
  simp only [div_real _ _ (show (1024 : ℝ) ≠ 0 by norm_num), ← EReal.coe_mul, ← coe_sum]
  congr 1
  rw [Finset.sum_comm, ← Finset.sum_div]
  ring

end Cert.FfnSpec

end
-- ==== Proof.UnitAxes.lean ====
/- A host sum over axes of extent one is the one element under it. -/
module

public import Idealize.ShloMosaic.Lib.Pointwise

@[expose] public section

set_option maxRecDepth 16384

noncomputable section

namespace Cert.UnitAxes

open Idealize.ShloMosaic

/-- Where one element alone lies over a result index, the sum is that element. -/
theorem one {s : Shape} {axes : List (Fin s.rank)} {t : Shape} (h : s.ReducesTo axes t) (x : s.Idx → EReal) (init : EReal)
    (j : t.Idx) (i0 : s.Idx) (e : ∀ i, h.drop i = j ↔ i = i0) : Ideal.hostReduceAdd h x init j = init + x i0 := by
  unfold Ideal.hostReduceAdd
  rw [Finset.filter_congr fun i _ => e i, Finset.filter_eq' _ i0, if_pos (Finset.mem_univ _), Finset.sum_singleton]

theorem outer {n : ℕ} (h : (⟨3, ![1, n, 1]⟩ : Shape).ReducesTo [0, 2] ⟨1, ![n]⟩) (x : (⟨3, ![1, n, 1]⟩ : Shape).Idx → EReal)
    (init : EReal) (r : Fin n) : Ideal.hostReduceAdd h x init (ix1 r) = init + x (ix3 (0 : Fin 1) r (0 : Fin 1)) :=
  one h x init _ _ fun i => by
    have hv : (h.drop i 0).val = (i 1).val := rfl
    constructor
    · intro e
      have e' := congrArg Fin.val (congrFun e 0)
      funext a
      match a with
      | ⟨0, _⟩ => exact Subsingleton.elim (α := Fin 1) _ _
      | ⟨1, _⟩ => exact Fin.ext (hv.symm.trans e')
      | ⟨2, _⟩ => exact Subsingleton.elim (α := Fin 1) _ _
    · rintro rfl
      funext a
      match a with
      | ⟨0, _⟩ => rfl

theorem front {n : ℕ} (h : (⟨3, ![1, 1, n]⟩ : Shape).ReducesTo [0, 1] ⟨1, ![n]⟩) (x : (⟨3, ![1, 1, n]⟩ : Shape).Idx → EReal)
    (init : EReal) (r : Fin n) : Ideal.hostReduceAdd h x init (ix1 r) = init + x (ix3 (0 : Fin 1) (0 : Fin 1) r) :=
  one h x init _ _ fun i => by
    have hv : (h.drop i 0).val = (i 2).val := rfl
    constructor
    · intro e
      have e' := congrArg Fin.val (congrFun e 0)
      funext a
      match a with
      | ⟨0, _⟩ => exact Subsingleton.elim (α := Fin 1) _ _
      | ⟨1, _⟩ => exact Subsingleton.elim (α := Fin 1) _ _
      | ⟨2, _⟩ => exact Fin.ext (hv.symm.trans e')
    · rintro rfl
      funext a
      match a with
      | ⟨0, _⟩ => rfl

end Cert.UnitAxes

end
-- ==== Proof.FfnRef.lean ====
/- The results of the feed-forward call's reference, element by element, as the formulas that the kernel's results are. -/
module

public import proofs.«01_k».proof.Proof.FfnMath
public import proofs.«01_k».proof.Proof.UnitAxes
public import proofs.«01_k».proof.Proof.Gen.Reference3Ideal.Read
public import Idealize.ShloMosaic.Lib.StableHlo.ReadAt

@[expose] public section

set_option maxRecDepth 16384

noncomputable section

namespace Cert.Reference3Ideal.Ffn

open Cert.Reference3Ideal Cert.Reference3Ideal.Gen Cert.Reference3Ideal.Read Idealize.ShloMosaic Idealize.ShloMosaic.TcCoe Idealize.SL.Sem
open Cert.NormMath Cert.FfnSpec

variable (x0 : (⟨S4096x1024, .f32⟩ : BufTy).Contents (Elt Ideal)) (x1 : (⟨S4096x1024, .bf16⟩ : BufTy).Contents (Elt Ideal))
  (x2 : (⟨S1x6144, .f32⟩ : BufTy).Contents (Elt Ideal)) (x3 : (⟨S1024x1024, .f32⟩ : BufTy).Contents (Elt Ideal))
  (x4 : (⟨S1x1024, .f32⟩ : BufTy).Contents (Elt Ideal)) (x5 : (⟨S1024x5632, .f32⟩ : BufTy).Contents (Elt Ideal))
  (x6 : (⟨S2816x1024, .f32⟩ : BufTy).Contents (Elt Ideal)) (x7 : (⟨S1024, .f32⟩ : BufTy).Contents (Elt Ideal))
  (x8 : (⟨S4096x1024, .f32⟩ : BufTy).Contents (Elt Ideal))

/-- The arguments of the whole arrays; the stream after the mixer is the sum that both programs form first. -/
def refArgs : Args 4096 where
  X r l := x0 (ix2 r l) + x2 (ix2 0 ⟨2048 + l.val, by omega⟩) * ∑ k, x1 (ix2 r k) * x3 (ix2 k l)
  O r l := ∑ k, x1 (ix2 r k) * x3 (ix2 k l)
  M r k := x1 (ix2 r k)
  g1 l := x2 (ix2 0 ⟨2048 + l.val, by omega⟩)
  sh l := x2 (ix2 0 ⟨3072 + l.val, by omega⟩)
  sc l := x2 (ix2 0 ⟨4096 + l.val, by omega⟩)
  g2 l := x2 (ix2 0 ⟨5120 + l.val, by omega⟩)
  G l := x4 (ix2 0 l)
  Gf l := x7 (ix1 l)
  Ug j k := x5 (ix2 k ⟨j.val, by omega⟩)
  Uu j k := x5 (ix2 k ⟨2816 + j.val, by omega⟩)
  V j l := x6 (ix2 j l)
  Wo k l := x3 (ix2 k l)
  T r l := x8 (ix2 r l)

theorem g1_at (r : Fin 4096) (l : Fin 1024) : val_main_v14 x2 (ix3 (0 : Fin 1) r l)
    = ((refArgs x0 x1 x2 x3 x4 x5 x6 x7 x8)).g1 l := by
  simp only [val_main_v14, val_main_v9, val_main_v6]
  pointwise
  rfl

theorem o1_at (r : Fin 4096) (l : Fin 1024) : val_main_v13 x1 x3 (ix3 (0 : Fin 1) r l)
    = ((refArgs x0 x1 x2 x3 x4 x5 x6 x7 x8)).O r l := by
  simp only [val_main_v13, val_main_v4, val_main_v3]
  pointwise
  rfl

theorem x1_at (r : Fin 4096) (l : Fin 1024) : val_main_v16 x0 x1 x2 x3 (ix3 (0 : Fin 1) r l)
    = ((refArgs x0 x1 x2 x3 x4 x5 x6 x7 x8)).X r l := by
  simp only [val_main_v16, val_main_v15, val_main_v2]
  pointwise
  simp only [g1_at x0 x1 x2 x3 x4 x5 x6 x7 x8 _ _, o1_at x0 x1 x2 x3 x4 x5 x6 x7 x8 _ _]
  rfl

theorem ms1_at (r : Fin 4096) : val_main_v23 x0 x1 x2 x3 (ix3 (0 : Fin 1) r (0 : Fin 1))
    = meanSq (((refArgs x0 x1 x2 x3 x4 x5 x6 x7 x8)).X r) := by
  simp only [val_main_v23, val_main_v22, val_main_cst_3, val_main_v21, val_main_v20, val_main_cst_2, val_main_v19, val_main_v18, val_main_cst_1, val_main_v17]
  pointwise
  simp only [x1_at x0 x1 x2 x3 x4 x5 x6 x7 x8 _ _]
  rfl

theorem rinv1_at (r : Fin 4096) : val_main_v24 x0 x1 x2 x3 (ix3 (0 : Fin 1) r (0 : Fin 1))
    = rinv (((refArgs x0 x1 x2 x3 x4 x5 x6 x7 x8)).X r) := by
  simp only [val_main_v24]
  pointwise
  simp only [ms1_at x0 x1 x2 x3 x4 x5 x6 x7 x8 _]
  rfl

theorem nrm1_at (r : Fin 4096) (l : Fin 1024) : val_main_v29 x0 x1 x2 x3 (ix3 (0 : Fin 1) r l)
    = nrm (((refArgs x0 x1 x2 x3 x4 x5 x6 x7 x8)).X r) l := by
  simp only [val_main_v29, val_main_v28]
  pointwise
  simp only [x1_at x0 x1 x2 x3 x4 x5 x6 x7 x8 _ _, rinv1_at x0 x1 x2 x3 x4 x5 x6 x7 x8 _]
  rfl

theorem nG_at (r : Fin 4096) (l : Fin 1024) : val_main_v32 x0 x1 x2 x3 x4 (ix3 (0 : Fin 1) r l)
    = nrm (((refArgs x0 x1 x2 x3 x4 x5 x6 x7 x8)).X r) l * ((refArgs x0 x1 x2 x3 x4 x5 x6 x7 x8)).G l := by
  simp only [val_main_v32, val_main_v31, val_main_v30]
  pointwise
  simp only [nrm1_at x0 x1 x2 x3 x4 x5 x6 x7 x8 _ _]
  rfl

theorem h_at (r : Fin 4096) (l : Fin 1024) : val_main_v38 x0 x1 x2 x3 x4 (ix3 (0 : Fin 1) r l)
    = h ((refArgs x0 x1 x2 x3 x4 x5 x6 x7 x8)) r l := by
  simp only [val_main_v38, val_main_v37, val_main_v10, val_main_v36, val_main_v35, val_main_v34, val_main_v33, val_main_cst_5, val_main_v11, val_main_v6]
  pointwise
  simp only [nG_at x0 x1 x2 x3 x4 x5 x6 x7 x8 _ _]
  rfl

theorem gate_at (r : Fin 4096) (j : Fin 2816) : val_main_v41 x0 x1 x2 x3 x4 x5 (ix3 (0 : Fin 1) r j)
    = gate ((refArgs x0 x1 x2 x3 x4 x5 x6 x7 x8)) r j := by
  simp only [val_main_v41, val_main_v40, val_main_v39, val_main_v0, val_main_cst]
  pointwise
  simp only [h_at x0 x1 x2 x3 x4 x5 x6 x7 x8 _ _, add_zero]
  rfl

theorem up_at (r : Fin 4096) (j : Fin 2816) : val_main_v42 x0 x1 x2 x3 x4 x5 (ix3 (0 : Fin 1) r j)
    = up ((refArgs x0 x1 x2 x3 x4 x5 x6 x7 x8)) r j := by
  simp only [val_main_v42, val_main_v40, val_main_v39, val_main_v0, val_main_cst]
  pointwise
  simp only [h_at x0 x1 x2 x3 x4 x5 x6 x7 x8 _ _, add_zero]
  rfl

theorem sg_at (r : Fin 4096) (j : Fin 2816) : val_main_v43_2 x0 x1 x2 x3 x4 x5 (ix3 (0 : Fin 1) r j)
    = sg ((refArgs x0 x1 x2 x3 x4 x5 x6 x7 x8)) r j := by
  simp only [val_main_v43_2, val_main_call0_v4, val_main_call0_cst_0, val_main_call0_v3, val_main_call0_v2, val_main_call0_cst, val_main_call0_v1, val_main_call0_v0]
  pointwise
  simp only [gate_at x0 x1 x2 x3 x4 x5 x6 x7 x8 _ _]
  rfl

theorem gs_at (r : Fin 4096) (j : Fin 2816) : val_main_v43_0 x0 x1 x2 x3 x4 x5 (ix3 (0 : Fin 1) r j)
    = gate ((refArgs x0 x1 x2 x3 x4 x5 x6 x7 x8)) r j * sg ((refArgs x0 x1 x2 x3 x4 x5 x6 x7 x8)) r j := by
  simp only [val_main_v43_0]
  pointwise
  simp only [gate_at x0 x1 x2 x3 x4 x5 x6 x7 x8 _ _, sg_at x0 x1 x2 x3 x4 x5 x6 x7 x8 _ _]

theorem act_at (r : Fin 4096) (j : Fin 2816) : val_main_v44 x0 x1 x2 x3 x4 x5 (ix3 (0 : Fin 1) r j)
    = act ((refArgs x0 x1 x2 x3 x4 x5 x6 x7 x8)) r j := by
  simp only [val_main_v44]
  pointwise
  simp only [gs_at x0 x1 x2 x3 x4 x5 x6 x7 x8 _ _, up_at x0 x1 x2 x3 x4 x5 x6 x7 x8 _ _]
  rfl

theorem o_at (r : Fin 4096) (l : Fin 1024) : val_main_v46 x0 x1 x2 x3 x4 x5 x6 (ix3 (0 : Fin 1) r l)
    = o ((refArgs x0 x1 x2 x3 x4 x5 x6 x7 x8)) r l := by
  simp only [val_main_v46, val_main_v45, val_main_v1, val_main_cst_0]
  pointwise
  simp only [act_at x0 x1 x2 x3 x4 x5 x6 x7 x8 _ _, add_zero]
  rfl

theorem x2_at (r : Fin 4096) (l : Fin 1024) : val_main_v49 x0 x1 x2 x3 x4 x5 x6 (ix3 (0 : Fin 1) r l)
    = FfnSpec.x2 ((refArgs x0 x1 x2 x3 x4 x5 x6 x7 x8)) r l := by
  simp only [val_main_v49, val_main_v48, val_main_v47, val_main_v12, val_main_v6]
  pointwise
  simp only [o_at x0 x1 x2 x3 x4 x5 x6 x7 x8 _ _, x1_at x0 x1 x2 x3 x4 x5 x6 x7 x8 _ _]
  rfl

theorem ms2_at (r : Fin 4096) : val_main_v56 x0 x1 x2 x3 x4 x5 x6 (ix3 (0 : Fin 1) r (0 : Fin 1))
    = meanSq (FfnSpec.x2 ((refArgs x0 x1 x2 x3 x4 x5 x6 x7 x8)) r) := by
  simp only [val_main_v56, val_main_v55, val_main_cst_8, val_main_v54, val_main_v53, val_main_cst_7, val_main_v52, val_main_v51, val_main_cst_6, val_main_v50]
  pointwise
  simp only [x2_at x0 x1 x2 x3 x4 x5 x6 x7 x8 _ _]
  rfl

theorem rinv2_at (r : Fin 4096) : val_main_v57 x0 x1 x2 x3 x4 x5 x6 (ix3 (0 : Fin 1) r (0 : Fin 1))
    = rinv (FfnSpec.x2 ((refArgs x0 x1 x2 x3 x4 x5 x6 x7 x8)) r) := by
  simp only [val_main_v57]
  pointwise
  simp only [ms2_at x0 x1 x2 x3 x4 x5 x6 x7 x8 _]
  rfl

theorem nrm2_at (r : Fin 4096) (l : Fin 1024) : val_main_v62 x0 x1 x2 x3 x4 x5 x6 (ix3 (0 : Fin 1) r l)
    = nrm (FfnSpec.x2 ((refArgs x0 x1 x2 x3 x4 x5 x6 x7 x8)) r) l := by
  simp only [val_main_v62, val_main_v61]
  pointwise
  simp only [x2_at x0 x1 x2 x3 x4 x5 x6 x7 x8 _ _, rinv2_at x0 x1 x2 x3 x4 x5 x6 x7 x8 _]
  rfl

theorem err_at (r : Fin 4096) (l : Fin 1024) : val_main_v66 x0 x1 x2 x3 x4 x5 x6 x7 x8 (ix3 (0 : Fin 1) r l)
    = err ((refArgs x0 x1 x2 x3 x4 x5 x6 x7 x8)) r l := by
  simp only [val_main_v66, val_main_v65, val_main_v64, val_main_v63, val_main_v5]
  pointwise
  simp only [nrm2_at x0 x1 x2 x3 x4 x5 x6 x7 x8 _ _]
  rfl

theorem half : Ideal.ofBits .f32 0x3F000000#32 = ((1 / 2 : ℝ) : EReal) := by
  simp [Ideal.ofBits, Ideal.ieee, -EReal.coe_mul]
  norm_num

theorem two : Ideal.ofBits .f32 0x40000000#32 = ((2 : ℝ) : EReal) := by
  simp [Ideal.ofBits, Ideal.ieee, -EReal.coe_mul]
  norm_num

theorem scale (x : EReal) : Ideal.div (Ideal.ofBits .f32 0x3F000000#32) (Ideal.ofBits .f32 0x44800000#32)
    * (Ideal.ofBits .f32 0x40000000#32 * x) = x * perWidth := by
  rw [half, two, show Ideal.ofBits .f32 0x44800000#32 = ((1024 : ℝ) : EReal) from width_eq, div_real _ _ (by norm_num), ← mul_assoc,
    ← EReal.coe_mul, perWidth_eq, mul_comm]
  congr 2
  norm_num

theorem dy_at (r : Fin 4096) (l : Fin 1024) : val_main_v80 x0 x1 x2 x3 x4 x5 x6 x7 x8 (ix3 (0 : Fin 1) r l)
    = dy ((refArgs x0 x1 x2 x3 x4 x5 x6 x7 x8)) r l := by
  simp only [val_main_v80, val_main_v79, val_main_v78, val_main_v77, val_main_cst_17, val_main_v76, val_main_v75, val_main_cst_16, val_main_cst_15, val_main_v69, val_main_v68, val_main_cst_10]
  pointwise
  simp only [err_at x0 x1 x2 x3 x4 x5 x6 x7 x8 _ _, scale]
  rfl

theorem dxn_at (r : Fin 4096) (l : Fin 1024) : val_main_v85 x0 x1 x2 x3 x4 x5 x6 x7 x8 (ix3 (0 : Fin 1) r l)
    = dy ((refArgs x0 x1 x2 x3 x4 x5 x6 x7 x8)) r l * ((refArgs x0 x1 x2 x3 x4 x5 x6 x7 x8)).Gf l := by
  simp only [val_main_v85, val_main_v84, val_main_v63]
  pointwise
  simp only [dy_at x0 x1 x2 x3 x4 x5 x6 x7 x8 _ _]
  rfl

theorem coef2_at (r : Fin 4096) (l : Fin 1024) : val_main_v97 x0 x1 x2 x3 x4 x5 x6 x7 x8 (ix3 (0 : Fin 1) r l)
    = coef (FfnSpec.x2 ((refArgs x0 x1 x2 x3 x4 x5 x6 x7 x8)) r) (fun k => dy ((refArgs x0 x1 x2 x3 x4 x5 x6 x7 x8)) r k * ((refArgs x0 x1 x2 x3 x4 x5 x6 x7 x8)).Gf k) := by
  simp only [val_main_v97, val_main_v96, val_main_v95, val_main_v94, val_main_v93, val_main_v92, val_main_v89, val_main_v88, val_main_v87, val_main_v60, val_main_v59, val_main_v58, val_main_cst_9, val_main_cst_22, val_main_cst_20, val_main_cst_21]
  pointwise
  rw [UnitAxes.outer]
  pointwise
  simp only [x2_at x0 x1 x2 x3 x4 x5 x6 x7 x8 _ _, ms2_at x0 x1 x2 x3 x4 x5 x6 x7 x8 _, rinv2_at x0 x1 x2 x3 x4 x5 x6 x7 x8 _, dxn_at x0 x1 x2 x3 x4 x5 x6 x7 x8 _ _, zero_add]
  rfl

theorem dx2_at (R : AllReal (refArgs x0 x1 x2 x3 x4 x5 x6 x7 x8)) (r : Fin 4096) (l : Fin 1024) : val_main_v101 x0 x1 x2 x3 x4 x5 x6 x7 x8 (ix3 (0 : Fin 1) r l)
    = dx2 ((refArgs x0 x1 x2 x3 x4 x5 x6 x7 x8)) r l := by
  simp only [val_main_v101, val_main_v100, val_main_v99, val_main_v98, val_main_v91, val_main_v90]
  pointwise
  simp only [x2_at x0 x1 x2 x3 x4 x5 x6 x7 x8 _ _, coef2_at x0 x1 x2 x3 x4 x5 x6 x7 x8 _ _, rinv2_at x0 x1 x2 x3 x4 x5 x6 x7 x8 _, dxn_at x0 x1 x2 x3 x4 x5 x6 x7 x8 _ _]
  exact three2 R r l

theorem do_at (R : AllReal (refArgs x0 x1 x2 x3 x4 x5 x6 x7 x8)) (r : Fin 4096) (l : Fin 1024) : val_main_v103 x0 x1 x2 x3 x4 x5 x6 x7 x8 (ix3 (0 : Fin 1) r l)
    = do_ ((refArgs x0 x1 x2 x3 x4 x5 x6 x7 x8)) r l := by
  simp only [val_main_v103, val_main_v102, val_main_v12, val_main_v6]
  pointwise
  simp only [dx2_at x0 x1 x2 x3 x4 x5 x6 x7 x8 R _ _]
  exact mul_comm _ _

theorem dact_at (R : AllReal (refArgs x0 x1 x2 x3 x4 x5 x6 x7 x8)) (r : Fin 4096) (j : Fin 2816) : val_main_v107 x0 x1 x2 x3 x4 x5 x6 x7 x8 (ix3 (0 : Fin 1) r j)
    = dact ((refArgs x0 x1 x2 x3 x4 x5 x6 x7 x8)) r j := by
  simp only [val_main_v107]
  pointwise
  simp only [do_at x0 x1 x2 x3 x4 x5 x6 x7 x8 R _ _]
  rfl

theorem dup_at (R : AllReal (refArgs x0 x1 x2 x3 x4 x5 x6 x7 x8)) (r : Fin 4096) (j : Fin 2816) : val_main_v108 x0 x1 x2 x3 x4 x5 x6 x7 x8 (ix3 (0 : Fin 1) r j)
    = dup ((refArgs x0 x1 x2 x3 x4 x5 x6 x7 x8)) r j := by
  simp only [val_main_v108]
  pointwise
  simp only [gs_at x0 x1 x2 x3 x4 x5 x6 x7 x8 _ _, dact_at x0 x1 x2 x3 x4 x5 x6 x7 x8 R _ _]
  exact mul_comm _ _

theorem dgate_at (R : AllReal (refArgs x0 x1 x2 x3 x4 x5 x6 x7 x8)) (r : Fin 4096) (j : Fin 2816) : val_main_v110 x0 x1 x2 x3 x4 x5 x6 x7 x8 (ix3 (0 : Fin 1) r j)
    = dgate ((refArgs x0 x1 x2 x3 x4 x5 x6 x7 x8)) r j := by
  simp only [val_main_v110, val_main_call1_v2, val_main_call1_v1, val_main_call1_v0, val_main_v109, val_main_v43_1, val_main_call0_v7, val_main_call0_v6, val_main_call0_cst_1]
  pointwise
  simp only [dact_at x0 x1 x2 x3 x4 x5 x6 x7 x8 R _ _, up_at x0 x1 x2 x3 x4 x5 x6 x7 x8 _ _, sg_at x0 x1 x2 x3 x4 x5 x6 x7 x8 _ _, gate_at x0 x1 x2 x3 x4 x5 x6 x7 x8 _ _]
  exact two_gate R r j

theorem dh_at (R : AllReal (refArgs x0 x1 x2 x3 x4 x5 x6 x7 x8)) (r : Fin 4096) (l : Fin 1024) : val_main_v112 x0 x1 x2 x3 x4 x5 x6 x7 x8 (ix3 (0 : Fin 1) r l)
    = dh ((refArgs x0 x1 x2 x3 x4 x5 x6 x7 x8)) r l := by
  simp only [val_main_v112, val_main_v111]
  pointwise
  simp only [dgate_at x0 x1 x2 x3 x4 x5 x6 x7 x8 R _ _, dup_at x0 x1 x2 x3 x4 x5 x6 x7 x8 R _ _]
  rfl

theorem dn_at (R : AllReal (refArgs x0 x1 x2 x3 x4 x5 x6 x7 x8)) (r : Fin 4096) (l : Fin 1024) : val_main_v119 x0 x1 x2 x3 x4 x5 x6 x7 x8 (ix3 (0 : Fin 1) r l)
    = dn ((refArgs x0 x1 x2 x3 x4 x5 x6 x7 x8)) r l := by
  simp only [val_main_v119, val_main_v118, val_main_v34, val_main_v33, val_main_cst_5, val_main_v11, val_main_v6]
  pointwise
  simp only [dh_at x0 x1 x2 x3 x4 x5 x6 x7 x8 R _ _]
  rfl

theorem dnG_at (R : AllReal (refArgs x0 x1 x2 x3 x4 x5 x6 x7 x8)) (r : Fin 4096) (l : Fin 1024) : val_main_v124 x0 x1 x2 x3 x4 x5 x6 x7 x8 (ix3 (0 : Fin 1) r l)
    = dn ((refArgs x0 x1 x2 x3 x4 x5 x6 x7 x8)) r l * ((refArgs x0 x1 x2 x3 x4 x5 x6 x7 x8)).G l := by
  simp only [val_main_v124, val_main_v123, val_main_v30]
  pointwise
  simp only [dn_at x0 x1 x2 x3 x4 x5 x6 x7 x8 R _ _]
  rfl

theorem coef1_at (R : AllReal (refArgs x0 x1 x2 x3 x4 x5 x6 x7 x8)) (r : Fin 4096) (l : Fin 1024) : val_main_v138 x0 x1 x2 x3 x4 x5 x6 x7 x8 (ix3 (0 : Fin 1) r l)
    = coef (((refArgs x0 x1 x2 x3 x4 x5 x6 x7 x8)).X r) (fun k => dn ((refArgs x0 x1 x2 x3 x4 x5 x6 x7 x8)) r k * ((refArgs x0 x1 x2 x3 x4 x5 x6 x7 x8)).G k) := by
  simp only [val_main_v138, val_main_v137, val_main_v136, val_main_v135, val_main_v134, val_main_v133, val_main_v129, val_main_v128, val_main_v127, val_main_v27, val_main_v26, val_main_v25, val_main_cst_4, val_main_cst_30, val_main_cst_29, val_main_cst_28]
  pointwise
  rw [UnitAxes.outer]
  pointwise
  simp only [x1_at x0 x1 x2 x3 x4 x5 x6 x7 x8 _ _, ms1_at x0 x1 x2 x3 x4 x5 x6 x7 x8 _, rinv1_at x0 x1 x2 x3 x4 x5 x6 x7 x8 _, dnG_at x0 x1 x2 x3 x4 x5 x6 x7 x8 R _ _, zero_add]
  rfl

theorem dx1_at (R : AllReal (refArgs x0 x1 x2 x3 x4 x5 x6 x7 x8)) (r : Fin 4096) (l : Fin 1024) : val_main_v142 x0 x1 x2 x3 x4 x5 x6 x7 x8 (ix3 (0 : Fin 1) r l)
    = dx1 ((refArgs x0 x1 x2 x3 x4 x5 x6 x7 x8)) r l := by
  simp only [val_main_v142, val_main_v141, val_main_v140, val_main_v139, val_main_v132, val_main_v131, val_main_v130]
  pointwise
  simp only [dx2_at x0 x1 x2 x3 x4 x5 x6 x7 x8 R _ _, x1_at x0 x1 x2 x3 x4 x5 x6 x7 x8 _ _, coef1_at x0 x1 x2 x3 x4 x5 x6 x7 x8 R _ _, rinv1_at x0 x1 x2 x3 x4 x5 x6 x7 x8 _, dnG_at x0 x1 x2 x3 x4 x5 x6 x7 x8 R _ _]
  exact three1 R r l

theorem do1_at (R : AllReal (refArgs x0 x1 x2 x3 x4 x5 x6 x7 x8)) (r : Fin 4096) (l : Fin 1024) : val_main_v144 x0 x1 x2 x3 x4 x5 x6 x7 x8 (ix3 (0 : Fin 1) r l)
    = do1 ((refArgs x0 x1 x2 x3 x4 x5 x6 x7 x8)) r l := by
  simp only [val_main_v144, val_main_v143, val_main_v9, val_main_v6]
  pointwise
  simp only [dx1_at x0 x1 x2 x3 x4 x5 x6 x7 x8 R _ _]
  exact mul_comm _ _

theorem sums0_at (R : AllReal (refArgs x0 x1 x2 x3 x4 x5 x6 x7 x8)) (l : Fin 1024) : val_main_v113 x0 x1 x2 x3 x4 x5 x6 x7 x8 (ix2 (0 : Fin 1) l)
    = sums ((refArgs x0 x1 x2 x3 x4 x5 x6 x7 x8)) 0 l := by
  simp only [val_main_v113, val_main_cst_24]
  pointwise
  try simp only [zero_add]
  rw [sums_0]
  refine Finset.sum_congr rfl fun r _ => ?_
  simp only [dh_at x0 x1 x2 x3 x4 x5 x6 x7 x8 R _ _]

theorem sums1_at (R : AllReal (refArgs x0 x1 x2 x3 x4 x5 x6 x7 x8)) (l : Fin 1024) : val_main_v116 x0 x1 x2 x3 x4 x5 x6 x7 x8 (ix2 (0 : Fin 1) l)
    = sums ((refArgs x0 x1 x2 x3 x4 x5 x6 x7 x8)) 1 l := by
  simp only [val_main_v116, val_main_v115, val_main_cst_25]
  pointwise
  try simp only [zero_add]
  rw [sums_1]
  refine Finset.sum_congr rfl fun r _ => ?_
  simp only [nG_at x0 x1 x2 x3 x4 x5 x6 x7 x8 _ _, dh_at x0 x1 x2 x3 x4 x5 x6 x7 x8 R _ _]
  exact mul_comm _ _

theorem sums2_at (R : AllReal (refArgs x0 x1 x2 x3 x4 x5 x6 x7 x8)) (l : Fin 1024) : val_main_v121 x0 x1 x2 x3 x4 x5 x6 x7 x8 (ix2 (0 : Fin 1) l)
    = sums ((refArgs x0 x1 x2 x3 x4 x5 x6 x7 x8)) 2 l := by
  simp only [val_main_v121, val_main_v120, val_main_cst_26]
  pointwise
  try simp only [zero_add]
  rw [sums_2]
  refine Finset.sum_congr rfl fun r _ => ?_
  simp only [nrm1_at x0 x1 x2 x3 x4 x5 x6 x7 x8 _ _, dn_at x0 x1 x2 x3 x4 x5 x6 x7 x8 R _ _]
  exact mul_comm _ _

theorem sums3_at (R : AllReal (refArgs x0 x1 x2 x3 x4 x5 x6 x7 x8)) (l : Fin 1024) : val_main_v105 x0 x1 x2 x3 x4 x5 x6 x7 x8 (ix2 (0 : Fin 1) l)
    = sums ((refArgs x0 x1 x2 x3 x4 x5 x6 x7 x8)) 3 l := by
  simp only [val_main_v105, val_main_v104, val_main_cst_23]
  pointwise
  try simp only [zero_add]
  rw [sums_3]
  refine Finset.sum_congr rfl fun r _ => ?_
  simp only [dx2_at x0 x1 x2 x3 x4 x5 x6 x7 x8 R _ _, o_at x0 x1 x2 x3 x4 x5 x6 x7 x8 _ _]

theorem sums4_at (l : Fin 1024) : val_main_v82 x0 x1 x2 x3 x4 x5 x6 x7 x8 (ix2 (0 : Fin 1) l)
    = sums ((refArgs x0 x1 x2 x3 x4 x5 x6 x7 x8)) 4 l := by
  simp only [val_main_v82, val_main_v81, val_main_cst_18]
  pointwise
  try simp only [zero_add]
  rw [sums_4]
  refine Finset.sum_congr rfl fun r _ => ?_
  simp only [nrm2_at x0 x1 x2 x3 x4 x5 x6 x7 x8 _ _, dy_at x0 x1 x2 x3 x4 x5 x6 x7 x8 _ _]
  exact mul_comm _ _

theorem sums5_at (l : Fin 1024) : val_main_v161 x0 x1 x2 x3 x4 x5 x6 x7 x8 (ix2 (0 : Fin 1) l)
    = sums ((refArgs x0 x1 x2 x3 x4 x5 x6 x7 x8)) 5 l := by
  simp only [val_main_v161, val_main_v67, val_main_cst_35]
  pointwise
  try simp only [zero_add]
  rw [sums_5]
  refine Finset.sum_congr rfl fun r _ => ?_
  simp only [err_at x0 x1 x2 x3 x4 x5 x6 x7 x8 _ _]

theorem sums7_at (R : AllReal (refArgs x0 x1 x2 x3 x4 x5 x6 x7 x8)) (l : Fin 1024) : val_main_v146 x0 x1 x2 x3 x4 x5 x6 x7 x8 (ix2 (0 : Fin 1) l)
    = sums ((refArgs x0 x1 x2 x3 x4 x5 x6 x7 x8)) 7 l := by
  simp only [val_main_v146, val_main_v145, val_main_cst_31]
  pointwise
  try simp only [zero_add]
  rw [sums_7]
  refine Finset.sum_congr rfl fun r _ => ?_
  simp only [dx1_at x0 x1 x2 x3 x4 x5 x6 x7 x8 R _ _, o1_at x0 x1 x2 x3 x4 x5 x6 x7 x8 _ _]

theorem loss_at (R : AllReal (refArgs x0 x1 x2 x3 x4 x5 x6 x7 x8)) (l : Fin 1024) : val_main_v162 x0 x1 x2 x3 x4 x5 x6 x7 x8 (ix2 (0 : Fin 1) l)
    = loss ((refArgs x0 x1 x2 x3 x4 x5 x6 x7 x8)) := by
  simp only [val_main_v162, val_main_v74, val_main_cst_14, val_main_v73, val_main_cst_13, val_main_v72, val_main_v71, val_main_cst_12, val_main_v70, val_main_cst_11, val_main_v67]
  pointwise
  simp only [err_at x0 x1 x2 x3 x4 x5 x6 x7 x8 _ _, zero_add, half]
  exact (congrArg _ (Fin.sum_univ_one _)).trans (loss_eq R)

theorem gfin_at (l : Fin 1024) : val_main_v160 x0 x1 x2 x3 x4 x5 x6 x7 x8 (ix2 (0 : Fin 1) l)
    = sums ((refArgs x0 x1 x2 x3 x4 x5 x6 x7 x8)) 4 l := by
  simp only [val_main_v160, val_main_v86, val_main_v83, val_main_cst_19]
  pointwise
  rw [UnitAxes.front]
  pointwise
  simp only [sums4_at x0 x1 x2 x3 x4 x5 x6 x7 x8 _, zero_add]

theorem gain_at (R : AllReal (refArgs x0 x1 x2 x3 x4 x5 x6 x7 x8)) (l : Fin 1024) : val_main_v126 x0 x1 x2 x3 x4 x5 x6 x7 x8 (ix2 (0 : Fin 1) l)
    = sums ((refArgs x0 x1 x2 x3 x4 x5 x6 x7 x8)) 2 l := by
  simp only [val_main_v126, val_main_v125, val_main_v122, val_main_cst_27]
  pointwise
  rw [UnitAxes.front]
  pointwise
  simp only [sums2_at x0 x1 x2 x3 x4 x5 x6 x7 x8 R _, zero_add]

theorem mod0_at (R : AllReal (refArgs x0 x1 x2 x3 x4 x5 x6 x7 x8)) (l : Fin 1024) : val_main_v157 x0 x1 x2 x3 x4 x5 x6 x7 x8 (ix2 (0 : Fin 1) l)
    = sums ((refArgs x0 x1 x2 x3 x4 x5 x6 x7 x8)) 0 l := by
  simp only [val_main_v157, val_main_v156, val_main_v155, val_main_v154, val_main_v153, val_main_cst_34, val_main_v114, val_main_v117, val_main_v147, val_main_v106]
  pointwise
  rw [UnitAxes.front]
  pointwise
  try simp only [zero_add]
  rw [dif_neg (by omega), dif_neg (by omega), dif_neg (by omega), dif_pos (by omega)]
  refine Eq.trans (congrArg (val_main_v113 x0 x1 x2 x3 x4 x5 x6 x7 x8) (congrArg (ix2 (0 : Fin 1)) (Fin.ext ?_))) (sums0_at x0 x1 x2 x3 x4 x5 x6 x7 x8 R l)
  show 3072 + l.val - 1024 - 1024 - 1024 = l.val
  omega

theorem mod1_at (R : AllReal (refArgs x0 x1 x2 x3 x4 x5 x6 x7 x8)) (l : Fin 1024) : val_main_v158 x0 x1 x2 x3 x4 x5 x6 x7 x8 (ix2 (0 : Fin 1) l)
    = sums ((refArgs x0 x1 x2 x3 x4 x5 x6 x7 x8)) 1 l := by
  simp only [val_main_v158, val_main_v156, val_main_v155, val_main_v154, val_main_v153, val_main_cst_34, val_main_v114, val_main_v117, val_main_v147, val_main_v106]
  pointwise
  rw [UnitAxes.front]
  pointwise
  try simp only [zero_add]
  rw [dif_neg (by omega), dif_neg (by omega), dif_neg (by omega), dif_neg (by omega), dif_pos (by omega)]
  refine Eq.trans (congrArg (val_main_v116 x0 x1 x2 x3 x4 x5 x6 x7 x8) (congrArg (ix2 (0 : Fin 1)) (Fin.ext ?_))) (sums1_at x0 x1 x2 x3 x4 x5 x6 x7 x8 R l)
  show 4096 + l.val - 1024 - 1024 - 1024 - 1024 = l.val
  omega

theorem mod3_at (R : AllReal (refArgs x0 x1 x2 x3 x4 x5 x6 x7 x8)) (l : Fin 1024) : val_main_v159 x0 x1 x2 x3 x4 x5 x6 x7 x8 (ix2 (0 : Fin 1) l)
    = sums ((refArgs x0 x1 x2 x3 x4 x5 x6 x7 x8)) 3 l := by
  simp only [val_main_v159, val_main_v156, val_main_v155, val_main_v154, val_main_v153, val_main_cst_34, val_main_v114, val_main_v117, val_main_v147, val_main_v106]
  pointwise
  rw [UnitAxes.front]
  pointwise
  try simp only [zero_add]
  rw [dif_neg (by omega), dif_neg (by omega), dif_neg (by omega), dif_neg (by omega), dif_neg (by omega)]
  refine Eq.trans (congrArg (val_main_v105 x0 x1 x2 x3 x4 x5 x6 x7 x8) (congrArg (ix2 (0 : Fin 1)) (Fin.ext ?_))) (sums3_at x0 x1 x2 x3 x4 x5 x6 x7 x8 R l)
  show 5120 + l.val - 1024 - 1024 - 1024 - 1024 - 1024 = l.val
  omega

theorem mod7_at (R : AllReal (refArgs x0 x1 x2 x3 x4 x5 x6 x7 x8)) (l : Fin 1024) : val_main_v163 x0 x1 x2 x3 x4 x5 x6 x7 x8 (ix2 (0 : Fin 1) l)
    = sums ((refArgs x0 x1 x2 x3 x4 x5 x6 x7 x8)) 7 l := by
  simp only [val_main_v163, val_main_v156, val_main_v155, val_main_v154, val_main_v153, val_main_cst_34, val_main_v114, val_main_v117, val_main_v147, val_main_v106]
  pointwise
  rw [UnitAxes.front]
  pointwise
  try simp only [zero_add]
  rw [dif_neg (by omega), dif_neg (by omega), dif_pos (by omega)]
  refine Eq.trans (congrArg (val_main_v146 x0 x1 x2 x3 x4 x5 x6 x7 x8) (congrArg (ix2 (0 : Fin 1)) (Fin.ext ?_))) (sums7_at x0 x1 x2 x3 x4 x5 x6 x7 x8 R l)
  show 2048 + l.val - 1024 - 1024 = l.val
  omega

theorem small_at (R : AllReal (refArgs x0 x1 x2 x3 x4 x5 x6 x7 x8)) (a : Fin 8) (l : Fin 1024) : val_main_v164 x0 x1 x2 x3 x4 x5 x6 x7 x8 (ix2 a l)
    = small ((refArgs x0 x1 x2 x3 x4 x5 x6 x7 x8)) a l := by
  simp only [val_main_v164]
  pointwise
  rcases (by omega : a.val = 0 ∨ a.val = 1 ∨ a.val = 2 ∨ a.val = 3 ∨ a.val = 4 ∨ a.val = 5 ∨ a.val = 6 ∨ a.val = 7) with h | h | h | h | h | h | h | h
  · obtain rfl : a = 0 := Fin.ext h
    rw [dif_pos (by decide)]
    exact mod0_at x0 x1 x2 x3 x4 x5 x6 x7 x8 R l
  · obtain rfl : a = 1 := Fin.ext h
    rw [dif_neg (by decide), dif_pos (by decide)]
    exact mod1_at x0 x1 x2 x3 x4 x5 x6 x7 x8 R l
  · obtain rfl : a = 2 := Fin.ext h
    rw [dif_neg (by decide), dif_neg (by decide), dif_pos (by decide)]
    exact gain_at x0 x1 x2 x3 x4 x5 x6 x7 x8 R l
  · obtain rfl : a = 3 := Fin.ext h
    rw [dif_neg (by decide), dif_neg (by decide), dif_neg (by decide), dif_pos (by decide)]
    exact mod3_at x0 x1 x2 x3 x4 x5 x6 x7 x8 R l
  · obtain rfl : a = 4 := Fin.ext h
    rw [dif_neg (by decide), dif_neg (by decide), dif_neg (by decide), dif_neg (by decide), dif_pos (by decide)]
    exact gfin_at x0 x1 x2 x3 x4 x5 x6 x7 x8 l
  · obtain rfl : a = 5 := Fin.ext h
    rw [dif_neg (by decide), dif_neg (by decide), dif_neg (by decide), dif_neg (by decide), dif_neg (by decide), dif_pos (by decide)]
    exact sums5_at x0 x1 x2 x3 x4 x5 x6 x7 x8 l
  · obtain rfl : a = 6 := Fin.ext h
    rw [dif_neg (by decide), dif_neg (by decide), dif_neg (by decide), dif_neg (by decide), dif_neg (by decide), dif_neg (by decide), dif_pos (by decide)]
    exact loss_at x0 x1 x2 x3 x4 x5 x6 x7 x8 R l
  · obtain rfl : a = 7 := Fin.ext h
    rw [dif_neg (by decide), dif_neg (by decide), dif_neg (by decide), dif_neg (by decide), dif_neg (by decide), dif_neg (by decide), dif_neg (by decide)]
    exact mod7_at x0 x1 x2 x3 x4 x5 x6 x7 x8 R l

theorem r_dx1_at (R : AllReal (refArgs x0 x1 x2 x3 x4 x5 x6 x7 x8)) (r : Fin 4096) (l : Fin 1024) : val_main_v166 x0 x1 x2 x3 x4 x5 x6 x7 x8 (ix2 r l)
    = dx1 ((refArgs x0 x1 x2 x3 x4 x5 x6 x7 x8)) r l := by
  simp only [val_main_v166, val_main_v165]
  pointwise
  simp only [dx1_at x0 x1 x2 x3 x4 x5 x6 x7 x8 R _ _]

theorem r_dm_at (R : AllReal (refArgs x0 x1 x2 x3 x4 x5 x6 x7 x8)) (r : Fin 4096) (l : Fin 1024) : val_main_v169 x0 x1 x2 x3 x4 x5 x6 x7 x8 (ix2 r l)
    = dm ((refArgs x0 x1 x2 x3 x4 x5 x6 x7 x8)) r l := by
  simp only [val_main_v169, val_main_v168, val_main_v150]
  pointwise
  simp only [do1_at x0 x1 x2 x3 x4 x5 x6 x7 x8 R _ _]
  rfl

theorem r_do_at (R : AllReal (refArgs x0 x1 x2 x3 x4 x5 x6 x7 x8)) (r : Fin 4096) (l : Fin 1024) : val_main_v173 x0 x1 x2 x3 x4 x5 x6 x7 x8 (ix2 r l)
    = do_ ((refArgs x0 x1 x2 x3 x4 x5 x6 x7 x8)) r l := by
  simp only [val_main_v173, val_main_v172]
  pointwise
  simp only [do_at x0 x1 x2 x3 x4 x5 x6 x7 x8 R _ _]

theorem r_h_at (r : Fin 4096) (l : Fin 1024) : val_main_v175 x0 x1 x2 x3 x4 (ix2 r l)
    = h ((refArgs x0 x1 x2 x3 x4 x5 x6 x7 x8)) r l := by
  simp only [val_main_v175, val_main_v174]
  pointwise
  simp only [h_at x0 x1 x2 x3 x4 x5 x6 x7 x8 _ _]

theorem r_act_at (r : Fin 4096) (j : Fin 2816) : val_main_v177 x0 x1 x2 x3 x4 x5 (ix2 r j)
    = act ((refArgs x0 x1 x2 x3 x4 x5 x6 x7 x8)) r j := by
  simp only [val_main_v177, val_main_v176]
  pointwise
  simp only [act_at x0 x1 x2 x3 x4 x5 x6 x7 x8 _ _]

theorem r_dwo_at (R : AllReal (refArgs x0 x1 x2 x3 x4 x5 x6 x7 x8)) (k l : Fin 1024) : val_main_v167 x0 x1 x2 x3 x4 x5 x6 x7 x8 (ix2 k l)
    = dWo ((refArgs x0 x1 x2 x3 x4 x5 x6 x7 x8)) k l := by
  simp only [val_main_v167, val_main_v149, val_main_v148, val_main_v4]
  pointwise
  refine (Fin.sum_univ_one _).trans (Finset.sum_congr rfl fun r _ => ?_)
  rw [do1_at x0 x1 x2 x3 x4 x5 x6 x7 x8 R r l, mul_comm]
  rfl

theorem r_dg_at (R : AllReal (refArgs x0 x1 x2 x3 x4 x5 x6 x7 x8)) (r : Fin 4096) (j : Fin 2816) : val_main_v171 x0 x1 x2 x3 x4 x5 x6 x7 x8 (ix2 r ⟨j.val, by omega⟩)
    = dgate ((refArgs x0 x1 x2 x3 x4 x5 x6 x7 x8)) r j := by
  simp only [val_main_v171, val_main_v170, val_main_v111]
  pointwise
  simp only [dgate_at x0 x1 x2 x3 x4 x5 x6 x7 x8 R _ _]

theorem r_du_at (R : AllReal (refArgs x0 x1 x2 x3 x4 x5 x6 x7 x8)) (r : Fin 4096) (j : Fin 2816) : val_main_v171 x0 x1 x2 x3 x4 x5 x6 x7 x8 (ix2 r ⟨2816 + j.val, by omega⟩)
    = dup ((refArgs x0 x1 x2 x3 x4 x5 x6 x7 x8)) r j := by
  simp only [val_main_v171, val_main_v170, val_main_v111]
  pointwise
  simp only [dup_at x0 x1 x2 x3 x4 x5 x6 x7 x8 R _ _]

variable (m : (ℓ : Loc nD τ sig) → Buf (Elt Ideal) ℓ) (ρ : Dev nD → PrngReg)

/-- The arguments of the whole arrays, as the reference is launched on them. -/
abbrev memArgs (c : Dev nD) : Args 4096 :=
  refArgs (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))

/-- The reference's run with its results as formulas, where the arguments are finite. -/
theorem run (R : ∀ c : Dev nD, AllReal (memArgs m c)) :
    θ_run defs (onTc (τ := τ) (main (F := Ideal))) ⟨m, fun _ => 0, ρ⟩ fun r => ∀ c : Dev nD,
      (∀ (r' : Fin 4096) (l : Fin 1024), r.2.mem ((c : Thread nD τ).loc main_v166) (ix2 r' l) = dx1 (memArgs m c) r' l)
      ∧ (∀ (k l : Fin 1024), r.2.mem ((c : Thread nD τ).loc main_v167) (ix2 k l) = dWo (memArgs m c) k l)
      ∧ (∀ (r' : Fin 4096) (l : Fin 1024), r.2.mem ((c : Thread nD τ).loc main_v169) (ix2 r' l) = dm (memArgs m c) r' l)
      ∧ (∀ (a : Fin 8) (l : Fin 1024), r.2.mem ((c : Thread nD τ).loc main_v164) (ix2 a l) = small (memArgs m c) a l)
      ∧ (∀ (r' : Fin 4096) (j : Fin 2816), r.2.mem ((c : Thread nD τ).loc main_v171) (ix2 r' ⟨j.val, by omega⟩) = dgate (memArgs m c) r' j
          ∧ r.2.mem ((c : Thread nD τ).loc main_v171) (ix2 r' ⟨2816 + j.val, by omega⟩) = dup (memArgs m c) r' j)
      ∧ (∀ (r' : Fin 4096) (l : Fin 1024), r.2.mem ((c : Thread nD τ).loc main_v173) (ix2 r' l) = do_ (memArgs m c) r' l)
      ∧ (∀ (r' : Fin 4096) (l : Fin 1024), r.2.mem ((c : Thread nD τ).loc main_v175) (ix2 r' l) = h (memArgs m c) r' l)
      ∧ (∀ (r' : Fin 4096) (j : Fin 2816), r.2.mem ((c : Thread nD τ).loc main_v177) (ix2 r' j) = act (memArgs m c) r' j)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨fun r' l => (congrFun ((h c).1.trans (val_main_v166_eq _)) _).trans (r_dx1_at _ _ _ _ _ _ _ _ _ (R c) r' l),
      fun k l => (congrFun ((h c).2.1.trans (val_main_v167_eq _)) _).trans (r_dwo_at _ _ _ _ _ _ _ _ _ (R c) k l),
      fun r' l => (congrFun ((h c).2.2.1.trans (val_main_v169_eq _)) _).trans (r_dm_at _ _ _ _ _ _ _ _ _ (R c) r' l),
      fun a l => (congrFun ((h c).2.2.2.1.trans (val_main_v164_eq _)) _).trans (small_at _ _ _ _ _ _ _ _ _ (R c) a l),
      fun r' j => ⟨(congrFun ((h c).2.2.2.2.1.trans (val_main_v171_eq _)) _).trans (r_dg_at _ _ _ _ _ _ _ _ _ (R c) r' j), (congrFun ((h c).2.2.2.2.1.trans (val_main_v171_eq _)) _).trans (r_du_at _ _ _ _ _ _ _ _ _ (R c) r' j)⟩,
      fun r' l => (congrFun ((h c).2.2.2.2.2.1.trans (val_main_v173_eq _)) _).trans (r_do_at _ _ _ _ _ _ _ _ _ (R c) r' l),
      fun r' l => (congrFun ((h c).2.2.2.2.2.2.1.trans (val_main_v175_eq _)) _).trans (r_h_at _ _ _ _ _ _ _ _ _ r' l),
      fun r' j => (congrFun ((h c).2.2.2.2.2.2.2.1.trans (val_main_v177_eq _)) _).trans (r_act_at _ _ _ _ _ _ _ _ _ r' j),
      (h c).2.2.2.2.2.2.2.2⟩) (Cert.Reference3Ideal.Value.run m ρ)

end Cert.Reference3Ideal.Ffn

end
-- ==== Proof.FfnClaim.lean ====
/- The claims about the feed-forward kernel and the derivative of the forward lines from the merged heads to the loss: the
   frames, and that the two compute the same arrays where the arguments are finite. -/
module

public import proofs.«01_k».proof.Defs
public import proofs.«01_k».proof.Proof.FfnArrays
public import proofs.«01_k».proof.Proof.FfnRef
public import proofs.«01_k».proof.Proof.Finite
public import proofs.«01_k».proof.Proof.Ext
public import proofs.«01_k».proof.Proof.Gen.Kernel3.Frame
public import proofs.«01_k».proof.Proof.Gen.Reference3Ideal.Run
public import proofs.«01_k».proof.Proof.Gen.Pre_finite_ffn
public import Idealize.ShloMosaic.Lib.Quiescent

@[expose] public section

set_option maxRecDepth 16384

noncomputable section

namespace Cert.FfnClaim

open Cert Idealize.ShloMosaic Idealize.ShloMosaic.TcCoe Idealize.SL.Sem Cert.NormMath Cert.FfnSpec

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ideal_pre : Cert.quiescent_Kernel3Ideal_pre_finite_ffn := fun m ρ _ => Cert.Kernel3Ideal.Gen.frame m ρ
theorem frame_reference : Cert.quiescent_Reference3Ideal := fun m ρ _ =>
  (θ_run Cert.Reference3Ideal.defs _ _).mono (fun r h => ⟨fun c => (h c).2.2.2.2.2.2.2.2, sem_eq_zero_of_no_sems (by decide) r.2⟩)
    (Cert.Reference3Ideal.Value.run m ρ)
theorem frame_reference_pre : Cert.quiescent_Reference3Ideal_pre_finite_ffn := fun m ρ _ =>
  frame_reference m ρ trivial

/-- On agreeing memories the two programs' arguments are the same. -/
theorem args_eq (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
    (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
    (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
    (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
    (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
    (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
    (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
    (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7))
    (h8 : m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) :
    Cert.Reference3Ideal.Ffn.memArgs m' c = Cert.Kernel3Ideal.Ffn.arrArgs m c := by
  unfold Cert.Reference3Ideal.Ffn.memArgs
  rw [h0, h1, h2, h3, h4, h5, h6, h7, h8]
  rfl

/-- The stream after the mixer's sum is finite where what it is made of is. -/
theorem real_stream (x g : EReal) (u v : Fin 1024 → EReal) (hx : IsReal x) (hg : IsReal g) (hu : ∀ k, IsReal (u k))
    (hv : ∀ k, IsReal (v k)) : IsReal (x + g * ∑ k, u k * v k) := by
  obtain ⟨x, rfl⟩ := hx
  obtain ⟨g, rfl⟩ := hg
  choose u' hu using hu
  choose v' hv using hv
  refine ⟨x + g * ∑ k, u' k * v' k, ?_⟩
  simp only [hu, hv, EReal.coe_mul, EReal.coe_add, coe_sum]

/-- The kernel's eight result arrays are the derivatives' and what the forward lines leave. -/
theorem algebraic : Cert.algebraic_Kernel3Ideal_Reference3Ideal_pre_finite_ffn := by
  intro m g m' g' hpre hagree
  have hA : ∀ c, Cert.Reference3Ideal.Ffn.memArgs m' c = Cert.Kernel3Ideal.Ffn.arrArgs m c := fun c => by
    obtain ⟨h0, h1, h2, h3, h4, h5, h6, h7, h8⟩ := hagree c
    exact args_eq m m' c h0 h1 h2 h3 h4 h5 h6 h7 h8
  have R : ∀ c, AllReal (Cert.Reference3Ideal.Ffn.memArgs m' c) := fun c => by
    rw [hA c]
    obtain ⟨p0, p1, p2, p3, p4, p5, p6, p7, p8⟩ := hpre c
    exact {
      X := fun r l => real_stream _ _ _ _ (Cert.Finite.real_of_test _ _ p0 (ix2 r l)) (Cert.Finite.real_of_test _ _ p2 (ix2 0 _))
        (fun k => Cert.Finite.real_of_test _ _ p1 (ix2 r k)) (fun k => Cert.Finite.real_of_test _ _ p3 (ix2 k l))
      g2 := fun l => Cert.Finite.real_of_test _ _ p2 (ix2 0 _)
      sh := fun l => Cert.Finite.real_of_test _ _ p2 (ix2 0 _)
      sc := fun l => Cert.Finite.real_of_test _ _ p2 (ix2 0 _)
      G := fun l => Cert.Finite.real_of_test _ _ p4 (ix2 0 l)
      Gf := fun l => Cert.Finite.real_of_test _ _ p7 (ix1 l)
      Ug := fun j l => Cert.Finite.real_of_test _ _ p5 (ix2 l _)
      Uu := fun j l => Cert.Finite.real_of_test _ _ p5 (ix2 l _)
      V := fun j l => Cert.Finite.real_of_test _ _ p6 (ix2 j l)
      T := fun r l => Cert.Finite.real_of_test _ _ p8 (ix2 r l) }
  refine ⟨fun c => (Cert.Kernel3Ideal.Gen.dats m 0 c).arrAt 14 Cert.Kernel3Ideal.cfg0.N,
    fun c => (Cert.Kernel3Ideal.Gen.dats m 0 c).arrAt 15 Cert.Kernel3Ideal.cfg0.N,
    fun c => (Cert.Kernel3Ideal.Gen.dats m 0 c).arrAt 16 Cert.Kernel3Ideal.cfg0.N,
    fun c => (Cert.Kernel3Ideal.Gen.dats m 0 c).arrAt 17 Cert.Kernel3Ideal.cfg0.N,
    fun c => (Cert.Kernel3Ideal.Gen.dats m 0 c).arrAt 13 Cert.Kernel3Ideal.cfg0.N,
    fun c => (Cert.Kernel3Ideal.Gen.dats m 0 c).arrAt 12 Cert.Kernel3Ideal.cfg0.N,
    fun c => (Cert.Kernel3Ideal.Gen.dats m 0 c).arrAt 10 Cert.Kernel3Ideal.cfg0.N,
    fun c => (Cert.Kernel3Ideal.Gen.dats m 0 c).arrAt 11 Cert.Kernel3Ideal.cfg0.N, (θ_run Cert.Kernel3Ideal.defs _ _).mono (fun r h c => ?_) (Cert.Kernel3Ideal.Value.run_blocks m g), ?_⟩
  · obtain ⟨h10, h11, h12, h13, h14, h15, h16, h17, hargs⟩ := h c
    exact ⟨h14, h15, h16, h17, h13, h12, h10, h11, hargs⟩
  refine (θ_run Cert.Reference3Ideal.defs _ _).mono (fun r h c => ?_) (Cert.Reference3Ideal.Ffn.run m' g' R)
  obtain ⟨hdx1, hdwo, hdm, hsm, hdgu, hdo, hh, hact, hargs⟩ := h c
  simp only [hA c] at hdx1 hdwo hdm hsm hdgu hdo hh hact
  refine ⟨?_, ?_, ?_, ?_, ?_, ?_, ?_, ?_, hargs⟩
  · exact Cert.Ext.of_rows (a := 4096) (b := 1024) fun k l => (hdx1 k l).trans (Cert.Kernel3Ideal.Ffn.final_dx1 m c k l).symm
  · exact Cert.Ext.of_rows (a := 1024) (b := 1024) fun k l => (hdwo k l).trans (Cert.Kernel3Ideal.Ffn.final_dwo m c k l).symm
  · exact Cert.Ext.of_rows (a := 4096) (b := 1024) fun k l => (hdm k l).trans (Cert.Kernel3Ideal.Ffn.final_dm m c k l).symm
  · exact Cert.Ext.of_rows (a := 8) (b := 1024) fun k l => (hsm k l).trans (Cert.Kernel3Ideal.Ffn.final_small m c k l).symm
  · refine Cert.Ext.of_rows (a := 4096) (b := 5632) fun k q => Eq.trans ?_ (Cert.Kernel3Ideal.Ffn.final_dgu m c k q).symm
    unfold Cert.Kernel3Ideal.Ffn.dgu
    split_ifs with hq
    · exact (hdgu k ⟨q.val, hq⟩).1
    · refine Eq.trans (congrArg _ (congrArg (ix2 k) (Fin.ext ?_))) (hdgu k ⟨q.val - 2816, by omega⟩).2
      show q.val = 2816 + (q.val - 2816)
      omega
  · exact Cert.Ext.of_rows (a := 4096) (b := 1024) fun k l => (hdo k l).trans (Cert.Kernel3Ideal.Ffn.final_do m c k l).symm
  · exact Cert.Ext.of_rows (a := 4096) (b := 1024) fun k l => (hh k l).trans (Cert.Kernel3Ideal.Ffn.final_h m c k l).symm
  · exact Cert.Ext.of_rows (a := 4096) (b := 2816) fun k l => (hact k l).trans (Cert.Kernel3Ideal.Ffn.final_act m c k l).symm

end Cert.FfnClaim

end
-- ==== Proof.InFwdSpec.lean ====
/- The modulated norm before the input projection and the projection itself, as formulas over arrays of any number of rows. -/
module

public import proofs.«01_k».proof.Proof.InProjSpec

@[expose] public section

set_option maxRecDepth 16384

noncomputable section

namespace Cert.InFwdSpec

open Idealize.ShloMosaic Cert.NormMath

/-- What both programs take: the stream `X`, the weight `W` (from the model's width to the projection's), the norm's gain `G`,
    the modulation's scale `S` and shift `H`. -/
structure Args (n : ℕ) where
  X : Fin n → Fin 1024 → EReal
  W : Fin 1024 → Fin 2304 → EReal
  G : Fin 1024 → EReal
  S : Fin 1024 → EReal
  H : Fin 1024 → EReal

variable {n : ℕ} (A : Args n)

/-- The modulated norm. -/
def modNorm (r : Fin n) (l : Fin 1024) : EReal := A.X r l * rinv (A.X r) * A.G l * (1 + A.S l) + A.H l

/-- Its projection, `w` columns of it from the column `o` on. -/
def proj (o w : ℕ) (h : o + w ≤ 2304) (r : Fin n) (q : Fin w) : EReal := ∑ k, modNorm A r k * A.W k ⟨o + q.val, by omega⟩

/-- The rows of block `t`. -/
def Args.block {n m b : ℕ} (h : n = m * b) (A : Args n) (t : Fin m) : Args b where
  X r := A.X (InProjSpec.rowOf h t r)
  W := A.W
  G := A.G
  S := A.S
  H := A.H

end Cert.InFwdSpec

end
-- ==== Proof.InFwdBlocks.lean ====
/- What one grid point of the input projection's kernel leaves in its output blocks, element by element. -/
module

public import proofs.«01_k».proof.Proof.Gen.Kernel4Ideal.Value
public import proofs.«01_k».proof.Proof.InFwdSpec

@[expose] public section

set_option maxRecDepth 16384

noncomputable section

namespace Cert.Kernel4Ideal.InFwd

open Cert.Kernel4Ideal Cert.Kernel4Ideal.Gen Idealize.ShloMosaic Idealize.ShloMosaic.TcCoe Idealize.SL.Sem
open Cert.NormMath Cert.InFwdSpec

theorem hz : (![0, 0] : Fin 2 → Nat) = fun _ => 0 := funext fun a => by fin_cases a <;> rfl

/-- The point's blocks as the formulas take them. -/
def blockArgs (x0 : Vec Ideal S512x1024 .f32) (x1 : Vec Ideal S8x1024 .f32) (x2 : Vec Ideal S1x1024 .f32)
    (x3 : Vec Ideal S2304x1024 .bf16) : Args 512 where
  X r k := x0 (ix2 r k)
  W k q := x3 (ix2 q k)
  G k := x2 (ix2 0 k)
  S k := x1 (ix2 1 k)
  H k := x1 (ix2 0 k)

section Point

variable (c : Dev nD) (i : grid0.Coords)
  (arg2 : Memref sig .tc .vmem S512x1024 .f32) (harg2 : arg2.IsWhole)
  (arg3 : Memref sig .tc .vmem S8x1024 .f32) (harg3 : arg3.IsWhole)
  (arg4 : Memref sig .tc .vmem S1x1024 .f32) (harg4 : arg4.IsWhole)
  (arg5 : Memref sig .tc .vmem S2304x1024 .bf16) (harg5 : arg5.IsWhole)
  (arg6 : Memref sig .tc .vmem S512x1024 .bf16) (harg6 : arg6.IsWhole)
  (arg7 : Memref sig .tc .vmem S512x512 .bf16) (harg7 : arg7.IsWhole)
  (arg8 : Memref sig .tc .vmem S512x256 .bf16) (harg8 : arg8.IsWhole)
  (arg9 : Memref sig .tc .vmem S512x512 .bf16) (harg9 : arg9.IsWhole)
  (arg10 : Memref sig .tc .vmem S512x512 .bf16) (harg10 : arg10.IsWhole)
  (arg11 : Memref sig .tc .vmem S512x512 .bf16) (harg11 : arg11.IsWhole)
  (x0 : Vec Ideal S512x1024 .f32) (x1 : Vec Ideal S8x1024 .f32) (x2 : Vec Ideal S1x1024 .f32) (x3 : Vec Ideal S2304x1024 .bf16)

/-- The block of the modulated norm. -/
theorem norm_point (r : Fin 512) (l : Fin 1024) : out0_A_4 c i arg2 harg2 arg3 harg3 arg4 harg4 arg5 harg5 arg6 harg6 arg7 harg7 arg8 harg8 arg9 harg9 arg10 harg10 arg11 harg11 x0 x1 x2 x3 (ix2 r l)
    = modNorm (blockArgs x0 x1 x2 x3) r l := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 x0 x1 x2 x3)]
  unfold kernelRun0_A
  dsimp only
  sl_unfold_words
  rw [View.canon_unit_zero hz]
  simp only [View.readAt_eq_ld, harg2.read_unread, harg3.read_unread, harg4.read_unread, harg5.read_unread,
    View.ld_unit_zero (S := S512x1024) hz, View.ld_unit_zero (S := S1x1024) hz, View.ld_unit_zero (S := S2304x1024) hz]
  unfold_payloads
  pointwise
  rfl

/-- The block of the projection's columns from 0 on. -/
theorem proj_point5 (r : Fin 512) (l : Fin 512) : out0_A_5 c i arg2 harg2 arg3 harg3 arg4 harg4 arg5 harg5 arg6 harg6 arg7 harg7 arg8 harg8 arg9 harg9 arg10 harg10 arg11 harg11 x0 x1 x2 x3 (ix2 r l)
    = proj (blockArgs x0 x1 x2 x3) 0 512 (by omega) r l := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 x0 x1 x2 x3)]
  unfold kernelRun0_A
  dsimp only
  sl_unfold_words
  rw [View.canon_unit_zero hz]
  simp only [View.readAt_eq_ld, harg2.read_unread, harg3.read_unread, harg4.read_unread, harg5.read_unread,
    View.ld_unit_zero (S := S512x1024) hz, View.ld_unit_zero (S := S1x1024) hz, View.ld_unit_zero (S := S2304x1024) hz]
  unfold_payloads
  pointwise
  exact Finset.sum_congr rfl fun k _ => congrArg (fun q => _ * x3 (ix2 q k)) (Fin.ext (Nat.zero_add l.val).symm)

/-- The block of the projection's columns from 512 on. -/
theorem proj_point6 (r : Fin 512) (l : Fin 256) : out0_A_6 c i arg2 harg2 arg3 harg3 arg4 harg4 arg5 harg5 arg6 harg6 arg7 harg7 arg8 harg8 arg9 harg9 arg10 harg10 arg11 harg11 x0 x1 x2 x3 (ix2 r l)
    = proj (blockArgs x0 x1 x2 x3) 512 256 (by omega) r l := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 x0 x1 x2 x3)]
  unfold kernelRun0_A
  dsimp only
  sl_unfold_words
  rw [View.canon_unit_zero hz]
  simp only [View.readAt_eq_ld, harg2.read_unread, harg3.read_unread, harg4.read_unread, harg5.read_unread,
    View.ld_unit_zero (S := S512x1024) hz, View.ld_unit_zero (S := S1x1024) hz, View.ld_unit_zero (S := S2304x1024) hz]
  unfold_payloads
  pointwise
  rfl

/-- The block of the projection's columns from 768 on. -/
theorem proj_point7 (r : Fin 512) (l : Fin 512) : out0_A_7 c i arg2 harg2 arg3 harg3 arg4 harg4 arg5 harg5 arg6 harg6 arg7 harg7 arg8 harg8 arg9 harg9 arg10 harg10 arg11 harg11 x0 x1 x2 x3 (ix2 r l)
    = proj (blockArgs x0 x1 x2 x3) 768 512 (by omega) r l := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 x0 x1 x2 x3)]
  unfold kernelRun0_A
  dsimp only
  sl_unfold_words
  rw [View.canon_unit_zero hz]
  simp only [View.readAt_eq_ld, harg2.read_unread, harg3.read_unread, harg4.read_unread, harg5.read_unread,
    View.ld_unit_zero (S := S512x1024) hz, View.ld_unit_zero (S := S1x1024) hz, View.ld_unit_zero (S := S2304x1024) hz]
  unfold_payloads
  pointwise
  rfl

/-- The block of the projection's columns from 1280 on. -/
theorem proj_point8 (r : Fin 512) (l : Fin 512) : out0_A_8 c i arg2 harg2 arg3 harg3 arg4 harg4 arg5 harg5 arg6 harg6 arg7 harg7 arg8 harg8 arg9 harg9 arg10 harg10 arg11 harg11 x0 x1 x2 x3 (ix2 r l)
    = proj (blockArgs x0 x1 x2 x3) 1280 512 (by omega) r l := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 x0 x1 x2 x3)]
  unfold kernelRun0_A
  dsimp only
  sl_unfold_words
  rw [View.canon_unit_zero hz]
  simp only [View.readAt_eq_ld, harg2.read_unread, harg3.read_unread, harg4.read_unread, harg5.read_unread,
    View.ld_unit_zero (S := S512x1024) hz, View.ld_unit_zero (S := S1x1024) hz, View.ld_unit_zero (S := S2304x1024) hz]
  unfold_payloads
  pointwise
  rfl

/-- The block of the projection's columns from 1792 on. -/
theorem proj_point9 (r : Fin 512) (l : Fin 512) : out0_A_9 c i arg2 harg2 arg3 harg3 arg4 harg4 arg5 harg5 arg6 harg6 arg7 harg7 arg8 harg8 arg9 harg9 arg10 harg10 arg11 harg11 x0 x1 x2 x3 (ix2 r l)
    = proj (blockArgs x0 x1 x2 x3) 1792 512 (by omega) r l := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 x0 x1 x2 x3)]
  unfold kernelRun0_A
  dsimp only
  sl_unfold_words
  rw [View.canon_unit_zero hz]
  simp only [View.readAt_eq_ld, harg2.read_unread, harg3.read_unread, harg4.read_unread, harg5.read_unread,
    View.ld_unit_zero (S := S512x1024) hz, View.ld_unit_zero (S := S1x1024) hz, View.ld_unit_zero (S := S2304x1024) hz]
  unfold_payloads
  pointwise
  rfl

end Point

end Cert.Kernel4Ideal.InFwd

end
-- ==== Proof.InFwdArrays.lean ====
/- The input projection's result arrays, element by element, as formulas of its arguments. -/
module

public import proofs.«01_k».proof.Proof.InFwdBlocks
public import Idealize.ShloMosaic.Lib.Pipeline.ValueKit
public import Idealize.ShloMosaic.Lib.StableHlo.ReadAt

@[expose] public section

set_option maxRecDepth 16384

noncomputable section

namespace Cert.Kernel4Ideal.InFwd

open Cert.Kernel4Ideal Cert.Kernel4Ideal.Gen Idealize.ShloMosaic Idealize.ShloMosaic.TcCoe Idealize.SL.Sem
open Cert.NormMath Cert.InFwdSpec

variable (m : (ℓ : Loc nD τ sig) → Buf (Elt Ideal) ℓ) (c : Dev nD)

/-- The arguments of the whole arrays. -/
def arrArgs : Args 4096 where
  X r k := m ((c : Thread nD τ).loc main_arg0) (ix2 r k)
  W k q := m ((c : Thread nD τ).loc main_arg1) (ix2 k q)
  G k := m ((c : Thread nD τ).loc main_arg3) (ix2 0 k)
  S k := m ((c : Thread nD τ).loc main_arg2) (ix2 0 ⟨1024 + k.val, by omega⟩)
  H k := m ((c : Thread nD τ).loc main_arg2) (ix2 0 ⟨k.val, by omega⟩)

/-- The rows go in eight blocks of 512. -/
theorem rows8 : 4096 = cfg0.N * 512 := by rw [show cfg0.N = 8 from N_0]

theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The modulation's scale and shift as the kernel finds them, in rows 1 and 0 of the packed rows. -/
theorem scale_at (k : Fin 1024) : V m c main_v3 (ix2 1 k) = m ((c : Thread nD τ).loc main_arg2) (ix2 0 ⟨1024 + k.val, by omega⟩) := by
  unfold V
  after_reads_at

theorem shift_at (k : Fin 1024) : V m c main_v3 (ix2 0 k) = m ((c : Thread nD τ).loc main_arg2) (ix2 0 ⟨k.val, by omega⟩) := by
  unfold V
  after_reads_at

/-- The weight as the kernel finds it, transposed. -/
theorem weight_at (q : Fin 2304) (k : Fin 1024) : V m c main_v5 (ix2 q k) = m ((c : Thread nD τ).loc main_arg1) (ix2 k q) := by
  unfold V
  after_reads_at

/-- The blocks of point `t` are the block `t` of the arrays. -/
theorem blockArgs_eq (t : Fin cfg0.N) :
    blockArgs (iblk m c 0 t) (iblk m c 1 t) (iblk m c 2 t) (iblk m c 3 t) = (arrArgs m c).block rows8 t := by
  unfold blockArgs Args.block arrArgs
  congr 1
  · funext r k
    blk_ext [iblk, V_main_arg0, idx t]
    rw [InProjSpec.rowOf_val]; omega
  · funext k q
    blk_simp [iblk, idx t]
    refine Eq.trans (congrArg (V m c main_v5) ?_) (weight_at m c q k)
    blk_ext [idx t]
  · funext k
    blk_ext [iblk, V_main_arg3, idx t]
  · funext k
    blk_simp [iblk, idx t]
    refine Eq.trans (congrArg (V m c main_v3) ?_) (scale_at m c k)
    blk_ext [idx t]
  · funext k
    blk_simp [iblk, idx t]
    refine Eq.trans (congrArg (V m c main_v3) ?_) (shift_at m c k)
    blk_ext [idx t]

/-- The modulated norm after the run. -/
theorem final_norm (r : Fin 4096) (l : Fin 1024) : (dats m 0 c).arrAt 4 cfg0.N (ix2 r l) = modNorm (arrArgs m c) r l := by
  have h : (dats m 0 c).arrAt 4 cfg0.N = fun i : S4096x1024.Idx => modNorm (arrArgs m c) (i 0) (i 1) := by
    refine (dats m 0 c).arrAt_eq_of_covers 4 _ (by decide +kernel) fun t hf y => ?_
    blk_simp
    rw [after0_4]
    unfold outsAt0
    dsimp only
    idx_vars y
    refine (norm_point c _ _ _ _ _ _ _ _ _ _ _ _ _ _ _ _ _ _ _ _ _ (iblk m c 0 t) (iblk m c 1 t) (iblk m c 2 t) (iblk m c 3 t) y0 y1).trans ?_
    rw [blockArgs_eq m c t]
    show modNorm (arrArgs m c) (InProjSpec.rowOf rows8 t y0) y1 = _
    refine congrArg₂ (modNorm (arrArgs m c)) (Fin.ext ?_) (Fin.ext ?_)
    · blk_simp [idx t]
      rw [InProjSpec.rowOf_val]; omega
    · blk_simp [idx t]
  exact congrFun h (ix2 r l)

/-- The projection's columns from 0 on after the run. -/
theorem final5 (r : Fin 4096) (l : Fin 512) : (dats m 0 c).arrAt 5 cfg0.N (ix2 r l) = proj (arrArgs m c) 0 512 (by omega) r l := by
  have h : (dats m 0 c).arrAt 5 cfg0.N = fun i : S4096x512.Idx => proj (arrArgs m c) 0 512 (by omega) (i 0) (i 1) := by
    refine (dats m 0 c).arrAt_eq_of_covers 5 _ (by decide +kernel) fun t hf y => ?_
    blk_simp
    rw [after0_5]
    unfold outsAt0
    dsimp only
    idx_vars y
    refine (proj_point5 c _ _ _ _ _ _ _ _ _ _ _ _ _ _ _ _ _ _ _ _ _ (iblk m c 0 t) (iblk m c 1 t) (iblk m c 2 t) (iblk m c 3 t) y0 y1).trans ?_
    rw [blockArgs_eq m c t]
    show proj (arrArgs m c) 0 512 (by omega) (InProjSpec.rowOf rows8 t y0) y1 = _
    refine congrArg₂ (proj (arrArgs m c) 0 512 (by omega)) (Fin.ext ?_) (Fin.ext ?_)
    · blk_simp [idx t]
      rw [InProjSpec.rowOf_val]; omega
    · blk_simp [idx t]
  exact congrFun h (ix2 r l)

/-- The projection's columns from 512 on after the run. -/
theorem final6 (r : Fin 4096) (l : Fin 256) : (dats m 0 c).arrAt 6 cfg0.N (ix2 r l) = proj (arrArgs m c) 512 256 (by omega) r l := by
  have h : (dats m 0 c).arrAt 6 cfg0.N = fun i : S4096x256.Idx => proj (arrArgs m c) 512 256 (by omega) (i 0) (i 1) := by
    refine (dats m 0 c).arrAt_eq_of_covers 6 _ (by decide +kernel) fun t hf y => ?_
    blk_simp
    rw [after0_6]
    unfold outsAt0
    dsimp only
    idx_vars y
    refine (proj_point6 c _ _ _ _ _ _ _ _ _ _ _ _ _ _ _ _ _ _ _ _ _ (iblk m c 0 t) (iblk m c 1 t) (iblk m c 2 t) (iblk m c 3 t) y0 y1).trans ?_
    rw [blockArgs_eq m c t]
    show proj (arrArgs m c) 512 256 (by omega) (InProjSpec.rowOf rows8 t y0) y1 = _
    refine congrArg₂ (proj (arrArgs m c) 512 256 (by omega)) (Fin.ext ?_) (Fin.ext ?_)
    · blk_simp [idx t]
      rw [InProjSpec.rowOf_val]; omega
    · blk_simp [idx t]
  exact congrFun h (ix2 r l)

/-- The projection's columns from 768 on after the run. -/
theorem final7 (r : Fin 4096) (l : Fin 512) : (dats m 0 c).arrAt 7 cfg0.N (ix2 r l) = proj (arrArgs m c) 768 512 (by omega) r l := by
  have h : (dats m 0 c).arrAt 7 cfg0.N = fun i : S4096x512.Idx => proj (arrArgs m c) 768 512 (by omega) (i 0) (i 1) := by
    refine (dats m 0 c).arrAt_eq_of_covers 7 _ (by decide +kernel) fun t hf y => ?_
    blk_simp
    rw [after0_7]
    unfold outsAt0
    dsimp only
    idx_vars y
    refine (proj_point7 c _ _ _ _ _ _ _ _ _ _ _ _ _ _ _ _ _ _ _ _ _ (iblk m c 0 t) (iblk m c 1 t) (iblk m c 2 t) (iblk m c 3 t) y0 y1).trans ?_
    rw [blockArgs_eq m c t]
    show proj (arrArgs m c) 768 512 (by omega) (InProjSpec.rowOf rows8 t y0) y1 = _
    refine congrArg₂ (proj (arrArgs m c) 768 512 (by omega)) (Fin.ext ?_) (Fin.ext ?_)
    · blk_simp [idx t]
      rw [InProjSpec.rowOf_val]; omega
    · blk_simp [idx t]
  exact congrFun h (ix2 r l)

/-- The projection's columns from 1280 on after the run. -/
theorem final8 (r : Fin 4096) (l : Fin 512) : (dats m 0 c).arrAt 8 cfg0.N (ix2 r l) = proj (arrArgs m c) 1280 512 (by omega) r l := by
  have h : (dats m 0 c).arrAt 8 cfg0.N = fun i : S4096x512.Idx => proj (arrArgs m c) 1280 512 (by omega) (i 0) (i 1) := by
    refine (dats m 0 c).arrAt_eq_of_covers 8 _ (by decide +kernel) fun t hf y => ?_
    blk_simp
    rw [after0_8]
    unfold outsAt0
    dsimp only
    idx_vars y
    refine (proj_point8 c _ _ _ _ _ _ _ _ _ _ _ _ _ _ _ _ _ _ _ _ _ (iblk m c 0 t) (iblk m c 1 t) (iblk m c 2 t) (iblk m c 3 t) y0 y1).trans ?_
    rw [blockArgs_eq m c t]
    show proj (arrArgs m c) 1280 512 (by omega) (InProjSpec.rowOf rows8 t y0) y1 = _
    refine congrArg₂ (proj (arrArgs m c) 1280 512 (by omega)) (Fin.ext ?_) (Fin.ext ?_)
    · blk_simp [idx t]
      rw [InProjSpec.rowOf_val]; omega
    · blk_simp [idx t]
  exact congrFun h (ix2 r l)

/-- The projection's columns from 1792 on after the run. -/
theorem final9 (r : Fin 4096) (l : Fin 512) : (dats m 0 c).arrAt 9 cfg0.N (ix2 r l) = proj (arrArgs m c) 1792 512 (by omega) r l := by
  have h : (dats m 0 c).arrAt 9 cfg0.N = fun i : S4096x512.Idx => proj (arrArgs m c) 1792 512 (by omega) (i 0) (i 1) := by
    refine (dats m 0 c).arrAt_eq_of_covers 9 _ (by decide +kernel) fun t hf y => ?_
    blk_simp
    rw [after0_9]
    unfold outsAt0
    dsimp only
    idx_vars y
    refine (proj_point9 c _ _ _ _ _ _ _ _ _ _ _ _ _ _ _ _ _ _ _ _ _ (iblk m c 0 t) (iblk m c 1 t) (iblk m c 2 t) (iblk m c 3 t) y0 y1).trans ?_
    rw [blockArgs_eq m c t]
    show proj (arrArgs m c) 1792 512 (by omega) (InProjSpec.rowOf rows8 t y0) y1 = _
    refine congrArg₂ (proj (arrArgs m c) 1792 512 (by omega)) (Fin.ext ?_) (Fin.ext ?_)
    · blk_simp [idx t]
      rw [InProjSpec.rowOf_val]; omega
    · blk_simp [idx t]
  exact congrFun h (ix2 r l)

end Cert.Kernel4Ideal.InFwd

end
-- ==== Proof.InFwdRef.lean ====
/- The results of the input projection's reference, element by element, as the formulas that the kernel's results are. -/
module

public import proofs.«01_k».proof.Proof.InFwdSpec
public import proofs.«01_k».proof.Proof.Gen.Reference4Ideal.Read
public import proofs.«01_k».proof.Proof.Gen.Reference4Ideal.Run
public import Idealize.ShloMosaic.Lib.StableHlo.ReadAt

@[expose] public section

set_option maxRecDepth 16384

noncomputable section

namespace Cert.Reference4Ideal.InFwd

open Cert.Reference4Ideal Cert.Reference4Ideal.Gen Cert.Reference4Ideal.Read Idealize.ShloMosaic Idealize.ShloMosaic.TcCoe Idealize.SL.Sem
open Cert.NormMath Cert.InFwdSpec

variable (x0 : (⟨S4096x1024, .f32⟩ : BufTy).Contents (Elt Ideal)) (x1 : (⟨S1024x2304, .f32⟩ : BufTy).Contents (Elt Ideal))
  (x2 : (⟨S1x6144, .f32⟩ : BufTy).Contents (Elt Ideal)) (x3 : (⟨S1x1024, .f32⟩ : BufTy).Contents (Elt Ideal))

/-- The arguments of the whole arrays. -/
def refArgs : Args 4096 where
  X r k := x0 (ix2 r k)
  W k q := x1 (ix2 k q)
  G k := x3 (ix2 0 k)
  S k := x2 (ix2 0 ⟨1024 + k.val, by omega⟩)
  H k := x2 (ix2 0 ⟨k.val, by omega⟩)

/-- The modulated norm. -/
theorem norm_at (r : Fin 4096) (l : Fin 1024) : val_main_v26 x0 x2 x3 (ix3 (0 : Fin 1) r l) = modNorm (refArgs x0 x1 x2 x3) r l := by
  simp only [val_main_v0, val_main_v1, val_main_v2, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, val_main_cst_0, val_main_cst_1, val_main_cst_2]
  pointwise
  rfl

/-- … as the program returns it. -/
theorem norm_out (r : Fin 4096) (l : Fin 1024) : val_main_v34 x0 x2 x3 (ix2 r l) = modNorm (refArgs x0 x1 x2 x3) r l := by
  refine Eq.trans ?_ (norm_at x0 x1 x2 x3 r l)
  simp only [val_main_v33, val_main_v34]
  pointwise

/-- The projection. -/
theorem proj_at (r : Fin 4096) (q : Fin 2304) : val_main_v27 x0 x1 x2 x3 (ix3 (0 : Fin 1) r q)
    = ∑ k, modNorm (refArgs x0 x1 x2 x3) r k * x1 (ix2 k q) := by
  simp only [val_main_v27]
  pointwise
  exact Finset.sum_congr rfl fun k _ => congrArg (· * _) (norm_at x0 x1 x2 x3 r k)

theorem proj_out36 (r : Fin 4096) (l : Fin 512) : val_main_v36 x0 x1 x2 x3 (ix2 r l) = proj (refArgs x0 x1 x2 x3) 0 512 (by omega) r l := by
  refine Eq.trans ?_ (proj_at x0 x1 x2 x3 r ⟨0 + l.val, by omega⟩)
  simp only [val_main_v28, val_main_v35, val_main_v36]
  pointwise

theorem proj_out38 (r : Fin 4096) (l : Fin 256) : val_main_v38 x0 x1 x2 x3 (ix2 r l) = proj (refArgs x0 x1 x2 x3) 512 256 (by omega) r l := by
  refine Eq.trans ?_ (proj_at x0 x1 x2 x3 r ⟨512 + l.val, by omega⟩)
  simp only [val_main_v29, val_main_v37, val_main_v38]
  pointwise

theorem proj_out40 (r : Fin 4096) (l : Fin 512) : val_main_v40 x0 x1 x2 x3 (ix2 r l) = proj (refArgs x0 x1 x2 x3) 768 512 (by omega) r l := by
  refine Eq.trans ?_ (proj_at x0 x1 x2 x3 r ⟨768 + l.val, by omega⟩)
  simp only [val_main_v30, val_main_v39, val_main_v40]
  pointwise

theorem proj_out42 (r : Fin 4096) (l : Fin 512) : val_main_v42 x0 x1 x2 x3 (ix2 r l) = proj (refArgs x0 x1 x2 x3) 1280 512 (by omega) r l := by
  refine Eq.trans ?_ (proj_at x0 x1 x2 x3 r ⟨1280 + l.val, by omega⟩)
  simp only [val_main_v31, val_main_v41, val_main_v42]
  pointwise

theorem proj_out44 (r : Fin 4096) (l : Fin 512) : val_main_v44 x0 x1 x2 x3 (ix2 r l) = proj (refArgs x0 x1 x2 x3) 1792 512 (by omega) r l := by
  refine Eq.trans ?_ (proj_at x0 x1 x2 x3 r ⟨1792 + l.val, by omega⟩)
  simp only [val_main_v32, val_main_v43, val_main_v44]
  pointwise

variable (m : (ℓ : Loc nD τ sig) → Buf (Elt Ideal) ℓ) (ρ : Dev nD → PrngReg)

/-- The arguments of the whole arrays, as the reference is launched on them. -/
abbrev memArgs (c : Dev nD) : Args 4096 :=
  refArgs (m ((c : Thread nD τ).loc main_arg0)) (m ((c : Thread nD τ).loc main_arg1)) (m ((c : Thread nD τ).loc main_arg2)) (m ((c : Thread nD τ).loc main_arg3))

/-- The reference's run with its results as formulas. -/
theorem run : θ_run defs (onTc (τ := τ) (main (F := Ideal))) ⟨m, fun _ => 0, ρ⟩ fun r => ∀ c : Dev nD,
      (∀ (k : Fin 4096) (l : Fin 1024), r.2.mem ((c : Thread nD τ).loc main_v34) (ix2 k l) = modNorm (memArgs m c) k l)
      ∧ (∀ (k : Fin 4096) (l : Fin 512), r.2.mem ((c : Thread nD τ).loc main_v36) (ix2 k l) = proj (memArgs m c) 0 512 (by omega) k l)
      ∧ (∀ (k : Fin 4096) (l : Fin 256), r.2.mem ((c : Thread nD τ).loc main_v38) (ix2 k l) = proj (memArgs m c) 512 256 (by omega) k l)
      ∧ (∀ (k : Fin 4096) (l : Fin 512), r.2.mem ((c : Thread nD τ).loc main_v40) (ix2 k l) = proj (memArgs m c) 768 512 (by omega) k l)
      ∧ (∀ (k : Fin 4096) (l : Fin 512), r.2.mem ((c : Thread nD τ).loc main_v42) (ix2 k l) = proj (memArgs m c) 1280 512 (by omega) k l)
      ∧ (∀ (k : Fin 4096) (l : Fin 512), r.2.mem ((c : Thread nD τ).loc main_v44) (ix2 k l) = proj (memArgs m c) 1792 512 (by omega) k l)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨fun k l => (congrFun ((h c).1.trans (val_main_v34_eq _ _ _)) _).trans (norm_out _ _ _ _ k l),
      fun k l => (congrFun ((h c).2.1.trans (val_main_v36_eq _ _ _ _)) _).trans (proj_out36 _ _ _ _ k l),
      fun k l => (congrFun ((h c).2.2.1.trans (val_main_v38_eq _ _ _ _)) _).trans (proj_out38 _ _ _ _ k l),
      fun k l => (congrFun ((h c).2.2.2.1.trans (val_main_v40_eq _ _ _ _)) _).trans (proj_out40 _ _ _ _ k l),
      fun k l => (congrFun ((h c).2.2.2.2.1.trans (val_main_v42_eq _ _ _ _)) _).trans (proj_out42 _ _ _ _ k l),
      fun k l => (congrFun ((h c).2.2.2.2.2.1.trans (val_main_v44_eq _ _ _ _)) _).trans (proj_out44 _ _ _ _ k l),
      (h c).2.2.2.2.2.2⟩) (Cert.Reference4Ideal.Value.run m ρ)

end Cert.Reference4Ideal.InFwd

end
-- ==== Proof.InFwdClaim.lean ====
/- The claims about the input projection's kernel and the plain forward lines: the frames, and that the two compute the same
   arrays, whatever the arguments hold. -/
module

public import proofs.«01_k».proof.Defs
public import proofs.«01_k».proof.Proof.InFwdArrays
public import proofs.«01_k».proof.Proof.InFwdRef
public import proofs.«01_k».proof.Proof.Ext
public import proofs.«01_k».proof.Proof.Gen.Kernel4.Frame
public import Idealize.ShloMosaic.Lib.Quiescent

@[expose] public section

set_option maxRecDepth 16384

noncomputable section

namespace Cert.InFwdClaim

open Cert Idealize.ShloMosaic Idealize.ShloMosaic.TcCoe Idealize.SL.Sem

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_reference : Cert.quiescent_Reference4Ideal := fun m ρ _ =>
  (θ_run Cert.Reference4Ideal.defs _ _).mono (fun r h => ⟨fun c => (h c).2.2.2.2.2.2, sem_eq_zero_of_no_sems (by decide) r.2⟩)
    (Cert.Reference4Ideal.InFwd.run m ρ)

/-- On agreeing memories the two programs' arguments are the same. -/
theorem args_eq (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ) (c : Dev Cert.Kernel4Ideal.nD)
    (h0 : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0))
    (h1 : m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1))
    (h2 : m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2))
    (h3 : m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) :
    Cert.Reference4Ideal.InFwd.memArgs m' c = Cert.Kernel4Ideal.InFwd.arrArgs m c := by
  unfold Cert.Reference4Ideal.InFwd.memArgs
  rw [h0, h1, h2, h3]
  rfl

/-- The kernel's result arrays are the modulated norm and the five parts of its projection. -/
theorem algebraic : Cert.algebraic_Kernel4Ideal_Reference4Ideal := by
  intro m g m' g' _ hagree
  refine ⟨fun c => (Cert.Kernel4Ideal.Gen.dats m 0 c).arrAt 4 Cert.Kernel4Ideal.cfg0.N, fun c => (Cert.Kernel4Ideal.Gen.dats m 0 c).arrAt 5 Cert.Kernel4Ideal.cfg0.N, fun c => (Cert.Kernel4Ideal.Gen.dats m 0 c).arrAt 6 Cert.Kernel4Ideal.cfg0.N, fun c => (Cert.Kernel4Ideal.Gen.dats m 0 c).arrAt 7 Cert.Kernel4Ideal.cfg0.N, fun c => (Cert.Kernel4Ideal.Gen.dats m 0 c).arrAt 8 Cert.Kernel4Ideal.cfg0.N, fun c => (Cert.Kernel4Ideal.Gen.dats m 0 c).arrAt 9 Cert.Kernel4Ideal.cfg0.N,
    Cert.Kernel4Ideal.Value.run_blocks m g, ?_⟩
  refine (θ_run Cert.Reference4Ideal.defs _ _).mono (fun r h c => ?_) (Cert.Reference4Ideal.InFwd.run m' g')
  obtain ⟨hn, h5, h6, h7, h8, h9, hargs⟩ := h c
  obtain ⟨a0, a1, a2, a3⟩ := hagree c
  have hA := args_eq m m' c a0 a1 a2 a3
  rw [hA] at hn h5 h6 h7 h8 h9
  exact ⟨Cert.Ext.of_rows (a := 4096) (b := 1024) fun k l => (hn k l).trans (Cert.Kernel4Ideal.InFwd.final_norm m c k l).symm,
    Cert.Ext.of_rows (a := 4096) (b := 512) fun k l => (h5 k l).trans (Cert.Kernel4Ideal.InFwd.final5 m c k l).symm,
    Cert.Ext.of_rows (a := 4096) (b := 256) fun k l => (h6 k l).trans (Cert.Kernel4Ideal.InFwd.final6 m c k l).symm,
    Cert.Ext.of_rows (a := 4096) (b := 512) fun k l => (h7 k l).trans (Cert.Kernel4Ideal.InFwd.final7 m c k l).symm,
    Cert.Ext.of_rows (a := 4096) (b := 512) fun k l => (h8 k l).trans (Cert.Kernel4Ideal.InFwd.final8 m c k l).symm,
    Cert.Ext.of_rows (a := 4096) (b := 512) fun k l => (h9 k l).trans (Cert.Kernel4Ideal.InFwd.final9 m c k l).symm,
    hargs⟩

end Cert.InFwdClaim

end
-- ==== Proof.OutProjSpec.lean ====
/- The output projection and the gated residual, as formulas over arrays of any number of rows. -/
module

public import proofs.«01_k».proof.Proof.InProjSpec

@[expose] public section

set_option maxRecDepth 16384

noncomputable section

namespace Cert.OutProjSpec

open Idealize.ShloMosaic

/-- What both programs take: the merged heads `M`, the stream `X`, the residual's gate `G` and the weight `W`. -/
structure Args (n : ℕ) where
  M : Fin n → Fin 1024 → EReal
  X : Fin n → Fin 1024 → EReal
  G : Fin 1024 → EReal
  W : Fin 1024 → Fin 1024 → EReal

variable {n : ℕ} (A : Args n)

/-- The projection. -/
def proj (r : Fin n) (l : Fin 1024) : EReal := ∑ k, A.M r k * A.W k l

/-- The stream with the gated projection added. -/
def stream (r : Fin n) (l : Fin 1024) : EReal := A.X r l + A.G l * proj A r l

/-- The rows of block `t`. -/
def Args.block {n m b : ℕ} (h : n = m * b) (A : Args n) (t : Fin m) : Args b where
  M r := A.M (InProjSpec.rowOf h t r)
  X r := A.X (InProjSpec.rowOf h t r)
  G := A.G
  W := A.W

end Cert.OutProjSpec

end
-- ==== Proof.OutProjArrays.lean ====
/- The output projection's result arrays, element by element, as formulas of its arguments. -/
module

public import proofs.«01_k».proof.Proof.Gen.Kernel5Ideal.Value
public import proofs.«01_k».proof.Proof.OutProjSpec
public import Idealize.ShloMosaic.Lib.Pipeline.ValueKit
public import Idealize.ShloMosaic.Lib.StableHlo.ReadAt

@[expose] public section

set_option maxRecDepth 16384

noncomputable section

namespace Cert.Kernel5Ideal.OutProj

open Cert.Kernel5Ideal Cert.Kernel5Ideal.Gen Idealize.ShloMosaic Idealize.ShloMosaic.TcCoe Idealize.SL.Sem
open Cert.OutProjSpec

theorem hz : (![0, 0] : Fin 2 → Nat) = fun _ => 0 := funext fun a => by fin_cases a <;> rfl

/-- A point's blocks as the formulas take them. -/
def blockArgs (x0 : Vec Ideal S512x1024 .bf16) (x1 : Vec Ideal S512x1024 .f32) (x2 : Vec Ideal S8x1024 .f32)
    (x3 : Vec Ideal S1024x1024 .bf16) : Args 512 where
  M r k := x0 (ix2 r k)
  X r k := x1 (ix2 r k)
  G k := x2 (ix2 2 k)
  W k l := x3 (ix2 k l)

section Point

variable (x0 : Vec Ideal S512x1024 .bf16) (x1 : Vec Ideal S512x1024 .f32) (x2 : Vec Ideal S8x1024 .f32) (x3 : Vec Ideal S1024x1024 .bf16)
  (r : Fin 512) (l : Fin 1024)

theorem proj_point : out0_4 x0 x1 x2 x3 (ix2 r l) = proj (blockArgs x0 x1 x2 x3) r l := by
  unfold out0_4
  rw [View.canon_unit_zero hz]
  simp only [View.ld_unit_zero (S := S512x1024) hz, View.ld_unit_zero (S := S1024x1024) hz]
  unfold_payloads
  pointwise
  rfl

theorem stream_point : out0_5 x0 x1 x2 x3 (ix2 r l) = stream (blockArgs x0 x1 x2 x3) r l := by
  unfold out0_5
  rw [View.canon_unit_zero hz]
  simp only [View.ld_unit_zero (S := S512x1024) hz, View.ld_unit_zero (S := S1024x1024) hz]
  unfold_payloads
  pointwise
  rfl

end Point

variable (m : (ℓ : Loc nD τ sig) → Buf (Elt Ideal) ℓ) (c : Dev nD)

/-- The arguments of the whole arrays. -/
def arrArgs : Args 4096 where
  M r k := m ((c : Thread nD τ).loc main_arg1) (ix2 r k)
  X r k := m ((c : Thread nD τ).loc main_arg0) (ix2 r k)
  G k := m ((c : Thread nD τ).loc main_arg2) (ix2 0 ⟨2048 + k.val, by omega⟩)
  W k l := m ((c : Thread nD τ).loc main_arg3) (ix2 k l)

/-- The rows go in eight blocks of 512. -/
theorem rows8 : 4096 = cfg0.N * 512 := by rw [show cfg0.N = 8 from N_0]

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

/-- The gate as the kernel finds it, in row 2 of the packed rows. -/
theorem gate_at (k : Fin 1024) : V m c main_v2 (ix2 2 k) = m ((c : Thread nD τ).loc main_arg2) (ix2 0 ⟨2048 + k.val, by omega⟩) := by
  unfold V
  after_reads_at

/-- The weight as the kernel finds it. -/
theorem weight_at (k l : Fin 1024) : V m c main_v3 (ix2 k l) = m ((c : Thread nD τ).loc main_arg3) (ix2 k l) := by
  unfold V
  after_reads_at

/-- The blocks of point `t` are the block `t` of the arrays. -/
theorem blockArgs_eq (t : Fin cfg0.N) :
    blockArgs (iblk m c 0 t) (iblk m c 1 t) (iblk m c 2 t) (iblk m c 3 t) = (arrArgs m c).block rows8 t := by
  unfold blockArgs Args.block arrArgs
  congr 1
  · funext r k
    blk_ext [iblk, V_main_arg1, idx t]
    rw [InProjSpec.rowOf_val]; omega
  · funext r k
    blk_ext [iblk, V_main_arg0, idx t]
    rw [InProjSpec.rowOf_val]; omega
  · funext k
    blk_simp [iblk, idx t]
    refine Eq.trans (congrArg (V m c main_v2) ?_) (gate_at m c k)
    blk_ext [idx t]
  · funext k l
    blk_simp [iblk, idx t]
    refine Eq.trans (congrArg (V m c main_v3) ?_) (weight_at m c k l)
    blk_ext [idx t]

/-- The projection after the run. -/
theorem final_proj (r : Fin 4096) (l : Fin 1024) : (dats m 0 c).arrAt 4 cfg0.N (ix2 r l) = proj (arrArgs m c) r l := by
  have h : (dats m 0 c).arrAt 4 cfg0.N = fun i : S4096x1024.Idx => proj (arrArgs m c) (i 0) (i 1) := by
    refine (dats m 0 c).arrAt_eq_of_covers 4 _ (by decide +kernel) fun t hf y => ?_
    blk_simp
    rw [after0_4]
    idx_vars y
    refine (proj_point (iblk m c 0 t) (iblk m c 1 t) (iblk m c 2 t) (iblk m c 3 t) y0 y1).trans ?_
    rw [blockArgs_eq m c t]
    show proj (arrArgs m c) (InProjSpec.rowOf rows8 t y0) y1 = _
    refine congrArg₂ (proj (arrArgs m c)) (Fin.ext ?_) (Fin.ext ?_)
    · blk_simp [idx t]
      rw [InProjSpec.rowOf_val]; omega
    · blk_simp [idx t]
  exact congrFun h (ix2 r l)

/-- The stream after the run. -/
theorem final_stream (r : Fin 4096) (l : Fin 1024) : (dats m 0 c).arrAt 5 cfg0.N (ix2 r l) = stream (arrArgs m c) r l := by
  have h : (dats m 0 c).arrAt 5 cfg0.N = fun i : S4096x1024.Idx => stream (arrArgs m c) (i 0) (i 1) := by
    refine (dats m 0 c).arrAt_eq_of_covers 5 _ (by decide +kernel) fun t hf y => ?_
    blk_simp
    rw [after0_5]
    idx_vars y
    refine (stream_point (iblk m c 0 t) (iblk m c 1 t) (iblk m c 2 t) (iblk m c 3 t) y0 y1).trans ?_
    rw [blockArgs_eq m c t]
    show stream (arrArgs m c) (InProjSpec.rowOf rows8 t y0) y1 = _
    refine congrArg₂ (stream (arrArgs m c)) (Fin.ext ?_) (Fin.ext ?_)
    · blk_simp [idx t]
      rw [InProjSpec.rowOf_val]; omega
    · blk_simp [idx t]
  exact congrFun h (ix2 r l)

end Cert.Kernel5Ideal.OutProj

end
-- ==== Proof.OutProjRef.lean ====
/- The results of the output projection's reference, element by element, as the formulas that the kernel's results are. -/
module

public import proofs.«01_k».proof.Proof.OutProjSpec
public import proofs.«01_k».proof.Proof.Gen.Reference5Ideal.Read
public import proofs.«01_k».proof.Proof.Gen.Reference5Ideal.Run
public import Idealize.ShloMosaic.Lib.StableHlo.ReadAt

@[expose] public section

set_option maxRecDepth 16384

noncomputable section

namespace Cert.Reference5Ideal.OutProj

open Cert.Reference5Ideal Cert.Reference5Ideal.Gen Cert.Reference5Ideal.Read Idealize.ShloMosaic Idealize.ShloMosaic.TcCoe Idealize.SL.Sem
open Cert.OutProjSpec

variable (x0 : (⟨S4096x1024, .f32⟩ : BufTy).Contents (Elt Ideal)) (x1 : (⟨S4096x1024, .bf16⟩ : BufTy).Contents (Elt Ideal))
  (x2 : (⟨S1x6144, .f32⟩ : BufTy).Contents (Elt Ideal)) (x3 : (⟨S1024x1024, .f32⟩ : BufTy).Contents (Elt Ideal))

/-- The arguments of the whole arrays. -/
def refArgs : Args 4096 where
  M r k := x1 (ix2 r k)
  X r k := x0 (ix2 r k)
  G k := x2 (ix2 0 ⟨2048 + k.val, by omega⟩)
  W k l := x3 (ix2 k l)

theorem proj_out (r : Fin 4096) (l : Fin 1024) : val_main_v11 x1 x3 (ix2 r l) = proj (refArgs x0 x1 x2 x3) r l := by
  simp only [val_main_v7, val_main_v8, val_main_v9, val_main_v10, val_main_v11]
  pointwise
  rfl

theorem stream_out (r : Fin 4096) (l : Fin 1024) : val_main_v16 x0 x1 x2 x3 (ix2 r l) = stream (refArgs x0 x1 x2 x3) r l := by
  simp only [val_main_v0, val_main_v3, val_main_v7, val_main_v8, val_main_v9, val_main_v12, val_main_v13, val_main_v14, val_main_v15, val_main_v16]
  pointwise
  rfl

variable (m : (ℓ : Loc nD τ sig) → Buf (Elt Ideal) ℓ) (ρ : Dev nD → PrngReg)

/-- The arguments of the whole arrays, as the reference is launched on them. -/
abbrev memArgs (c : Dev nD) : Args 4096 :=
  refArgs (m ((c : Thread nD τ).loc main_arg0)) (m ((c : Thread nD τ).loc main_arg1)) (m ((c : Thread nD τ).loc main_arg2)) (m ((c : Thread nD τ).loc main_arg3))

/-- The reference's run with its results as formulas. -/
theorem run : θ_run defs (onTc (τ := τ) (main (F := Ideal))) ⟨m, fun _ => 0, ρ⟩ fun r => ∀ c : Dev nD,
      (∀ (k : Fin 4096) (l : Fin 1024), r.2.mem ((c : Thread nD τ).loc main_v11) (ix2 k l) = proj (memArgs m c) k l)
      ∧ (∀ (k : Fin 4096) (l : Fin 1024), r.2.mem ((c : Thread nD τ).loc main_v16) (ix2 k l) = stream (memArgs m c) k l)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨fun k l => (congrFun ((h c).1.trans (val_main_v11_eq _ _)) _).trans (proj_out _ _ _ _ k l),
      fun k l => (congrFun ((h c).2.1.trans (val_main_v16_eq _ _ _ _)) _).trans (stream_out _ _ _ _ k l),
      (h c).2.2⟩) (Cert.Reference5Ideal.Value.run m ρ)

end Cert.Reference5Ideal.OutProj

end
-- ==== Proof.OutProjClaim.lean ====
/- The claims about the output projection's kernel and the plain forward lines: the frames, and that the two compute the same
   arrays, whatever the arguments hold. -/
module

public import proofs.«01_k».proof.Defs
public import proofs.«01_k».proof.Proof.OutProjArrays
public import proofs.«01_k».proof.Proof.OutProjRef
public import proofs.«01_k».proof.Proof.Ext
public import proofs.«01_k».proof.Proof.Gen.Kernel5.Frame
public import Idealize.ShloMosaic.Lib.Quiescent

@[expose] public section

set_option maxRecDepth 16384

noncomputable section

namespace Cert.OutProjClaim

open Cert Idealize.ShloMosaic Idealize.ShloMosaic.TcCoe Idealize.SL.Sem

theorem frame_kernel : Cert.quiescent_Kernel5 := fun m ρ _ => Cert.Kernel5.Gen.frame m ρ
theorem frame_ideal : Cert.quiescent_Kernel5Ideal := fun m ρ _ => Cert.Kernel5Ideal.Gen.frame m ρ
theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.OutProj.run m ρ)

/-- On agreeing memories the two programs' arguments are the same. -/
theorem args_eq (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (c : Dev Cert.Kernel5Ideal.nD)
    (h0 : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0))
    (h1 : m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1))
    (h2 : m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2))
    (h3 : m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) :
    Cert.Reference5Ideal.OutProj.memArgs m' c = Cert.Kernel5Ideal.OutProj.arrArgs m c := by
  unfold Cert.Reference5Ideal.OutProj.memArgs
  rw [h0, h1, h2, h3]
  rfl

/-- The kernel's result arrays are the projection and the stream with it added. -/
theorem algebraic : Cert.algebraic_Kernel5Ideal_Reference5Ideal := by
  intro m g m' g' _ hagree
  refine ⟨fun c => (Cert.Kernel5Ideal.Gen.dats m 0 c).arrAt 4 Cert.Kernel5Ideal.cfg0.N, fun c => (Cert.Kernel5Ideal.Gen.dats m 0 c).arrAt 5 Cert.Kernel5Ideal.cfg0.N,
    Cert.Kernel5Ideal.Value.run_blocks m g, ?_⟩
  refine (θ_run Cert.Reference5Ideal.defs _ _).mono (fun r h c => ?_) (Cert.Reference5Ideal.OutProj.run m' g')
  obtain ⟨h4, h5, hargs⟩ := h c
  obtain ⟨a0, a1, a2, a3⟩ := hagree c
  have hA := args_eq m m' c a0 a1 a2 a3
  rw [hA] at h4 h5
  exact ⟨Cert.Ext.of_rows (a := 4096) (b := 1024) fun k l => (h4 k l).trans (Cert.Kernel5Ideal.OutProj.final_proj m c k l).symm,
    Cert.Ext.of_rows (a := 4096) (b := 1024) fun k l => (h5 k l).trans (Cert.Kernel5Ideal.OutProj.final_stream m c k l).symm,
    hargs⟩

end Cert.OutProjClaim

end
-- ==== Proof.WGradSpec.lean ====
/- A weight's gradient as a formula: the two arrays' product over their rows, and that product in two halves of the rows. -/
module

public import proofs.«01_k».proof.Proof.InProjSpec

@[expose] public section

set_option maxRecDepth 16384

noncomputable section

namespace Cert.WGradSpec

open Idealize.ShloMosaic

/-- The product over the rows. -/
def prod {n u w : ℕ} (a : Fin n → Fin u → EReal) (b : Fin n → Fin w → EReal) (k : Fin u) (l : Fin w) : EReal := ∑ r, a r k * b r l

theorem prod_halves {n u w p : ℕ} (h : n = 2 * p) (a : Fin n → Fin u → EReal) (b : Fin n → Fin w → EReal) (k : Fin u) (l : Fin w) :
    prod (fun r => a (InProjSpec.rowOf h 0 r)) (fun r => b (InProjSpec.rowOf h 0 r)) k l
      + prod (fun r => a (InProjSpec.rowOf h 1 r)) (fun r => b (InProjSpec.rowOf h 1 r)) k l = prod a b k l :=
  (Fin.sum_univ_two fun t => ∑ r, a (InProjSpec.rowOf h t r) k * b (InProjSpec.rowOf h t r) l).symm.trans
    (InProjSpec.sum_rowOf h fun r => a r k * b r l)

end Cert.WGradSpec

end
-- ==== Proof.WGradArrays.lean ====
/- The weight gradient's array, element by element: the product of the two arguments over their rows. -/
module

public import proofs.«01_k».proof.Proof.Gen.Kernel6Ideal.Value
public import proofs.«01_k».proof.Proof.WGradSpec
public import proofs.«01_k».proof.Proof.Over
public import Idealize.ShloMosaic.Lib.Pipeline.ValueKit
public import Idealize.ShloMosaic.Lib.StableHlo.ReadAt

@[expose] public section

set_option maxRecDepth 16384

noncomputable section

namespace Cert.Kernel6Ideal.WGrad

open Cert.Kernel6Ideal Cert.Kernel6Ideal.Gen Idealize.ShloMosaic Idealize.ShloMosaic.TcCoe Idealize.SL.Sem
open Cert.WGradSpec Cert.Over

theorem hz : (![0, 0] : Fin 2 → Nat) = fun _ => 0 := funext fun a => by fin_cases a <;> rfl

/-- The product of a point's two blocks. -/
def part (x0 : Vec Ideal S2048x1408 .bf16) (x1 : Vec Ideal S2048x1024 .bf16) : Fin 1408 → Fin 1024 → EReal :=
  prod (fun r k => x0 (ix2 r k)) fun r l => x1 (ix2 r l)

section Point

theorem pay1_at (k : Fin 1408) (l : Fin 1024) : k0_pay1 (F := Ideal) (ix2 k l) = 0 := by
  unfold_payloads
  pointwise

variable (v : Vec Ideal S1408x1024 .f32) (x0 : Vec Ideal S2048x1408 .bf16) (x1 : Vec Ideal S2048x1024 .bf16) (k : Fin 1408) (l : Fin 1024)

theorem pay2_at : k0_pay2 v x0 x1 (ix2 k l) = v (ix2 k l) + part x0 x1 k l := by
  unfold k0_pay2
  pointwise
  rfl

theorem pay3_at : k0_pay3 v x0 x1 (ix2 k l) = v (ix2 k l) + part x0 x1 k l := by
  refine Eq.trans ?_ (pay2_at v x0 x1 k l)
  unfold k0_pay3
  pointwise

theorem pay4_at : k0_pay4 v x0 x1 (ix2 k l) = v (ix2 k l) + part x0 x1 k l := by
  refine Eq.trans ?_ (pay2_at v x0 x1 k l)
  unfold k0_pay4
  pointwise

variable (c : Dev nD) (i : grid0.Coords)
  (arg2 : Memref sig .tc .vmem S2048x1408 .bf16) (harg2 : arg2.IsWhole)
  (arg3 : Memref sig .tc .vmem S2048x1024 .bf16) (harg3 : arg3.IsWhole)
  (arg5 : Memref sig .tc .vmem S1408x1024 .bf16) (harg5 : arg5.IsWhole)
  (arg6 : Memref sig .tc .vmem S1408x1024 .f32) (harg6 : arg6.IsWhole)

/-- The first point of a block leaves the product of its blocks in the running sum. -/
theorem point_A (h0 : cond0_0 i) : sout0_A_0 c i arg2 harg2 arg3 harg3 arg5 harg5 arg6 harg6 h0 x0 x1 (ix2 k l) = part x0 x1 k l := by
  unfold sout0_A_0 kernelRun0_A
  dsimp only
  sl_unfold_words
  simp only [Over.read_writes, View.readAt_eq_ld, harg2.read_unread, harg3.read_unread, View.ld_unit_zero (S := S2048x1408) hz,
    View.ld_unit_zero (S := S2048x1024) hz]
  erw [over_rect, dif_pos (by omega)]
  refine ((pay3_at _ x0 x1 k l).trans (congrArg (· + _) ?_)).trans (zero_add _)
  erw [cov_rect, over_rect, dif_pos (by omega)]
  exact pay1_at _ _

/-- The second adds its own and gives the sum out. -/
theorem point_B (h0 : ¬cond0_0 i) (xs : Vec Ideal S1408x1024 .f32) :
    out0_B_2 c i arg2 harg2 arg3 harg3 arg5 harg5 arg6 harg6 h0 x0 x1 xs (ix2 k l) = xs (ix2 k l) + part x0 x1 k l := by
  unfold out0_B_2 kernelRun0_B
  dsimp only
  sl_unfold_words
  simp only [Over.read_writes, View.readAt_eq_ld, harg2.read_unread, harg3.read_unread, harg6.read_unread, View.ld_unit_zero (S := S2048x1408) hz,
    View.ld_unit_zero (S := S2048x1024) hz, View.ld_unit_zero (S := S1408x1024) hz]
  erw [over_rect, dif_pos (by omega)]
  exact pay4_at xs x0 x1 k l

end Point

variable (m : (ℓ : Loc nD τ sig) → Buf (Elt Ideal) ℓ) (c : Dev nD)

/-- The two arguments by row and column. -/
def argA (r : Fin 4096) (k : Fin 5632) : EReal := m ((c : Thread nD τ).loc main_arg0) (ix2 r k)
def argB (r : Fin 4096) (l : Fin 1024) : EReal := m ((c : Thread nD τ).loc main_arg1) (ix2 r l)

theorem halves : 4096 = 2 * 2048 := rfl

theorem idx : ∀ t : Fin cfg0.N, win0_0.index t = ![t.val % 2, t.val / 2] ∧ win0_1.index t = ![t.val % 2, 0]
    ∧ win0_2.index t = ![t.val / 2, 0] :=
  (by decide +kernel : ∀ t : Fin grid0.N, _)

theorem flush_odd : ∀ t : Fin cfg0.N, (cfg0.win 2).flush t = true → t.val % 2 = 1 :=
  (by decide +kernel : ∀ t : Fin grid0.N, _)

/-- Columns `[1408 q, 1408 (q + 1))`, the output's rows of block `q`. -/
def colOf (q : ℕ) (h : q < 4) (k : Fin 1408) : Fin 5632 := ⟨k.val + 1408 * q, by omega⟩

theorem part_at (t : Fin cfg0.N) (s : Fin 2) (q : ℕ) (hq : q < 4) (hs : t.val % 2 = s.val) (ht : t.val / 2 = q) (k : Fin 1408) (l : Fin 1024) :
    part (iblk m c 0 t) (iblk m c 1 t) k l
      = prod (fun r => argA m c (InProjSpec.rowOf halves s r)) (fun r => argB m c (InProjSpec.rowOf halves s r)) (colOf q hq k) l := by
  unfold part prod
  refine Finset.sum_congr rfl fun r _ => ?_
  refine congrArg₂ (fun a b : EReal => a * b) ?_ ?_
  · unfold argA colOf
    blk_ext [iblk, V_main_arg0, idx t]
    rw [InProjSpec.rowOf_val]; omega
  · unfold argB
    blk_ext [iblk, V_main_arg1, idx t]
    rw [InProjSpec.rowOf_val]; omega

/-- The point before `t`. -/
abbrev pred (t : Fin cfg0.N) : Fin cfg0.N := ⟨t.val - 1, Nat.lt_of_le_of_lt (Nat.sub_le _ _) t.isLt⟩

theorem outs_A (t : Fin cfg0.N) (h : t.val % 2 = 0) (k : Fin 1408) (l : Fin 1024) :
    (outsAt0 m c t.val t.isLt).2 (ix2 k l) = part (iblk m c 0 t) (iblk m c 1 t) k l := by
  rw [outsAt0_A m c t h]
  dsimp only
  exact point_A (iblk m c 0 t) (iblk m c 1 t) k l c (grid0.coords t) (ms0_0 t) (hs0_0 t) (ms0_1 t) (hs0_1 t) (ms0_2 t) (hs0_2 t) scM0_0 (Memref.isWhole_whole _) ((hcond0_0 t).mpr h)

theorem outs_B (t : Fin cfg0.N) (h : ¬t.val % 2 = 0) (k : Fin 1408) (l : Fin 1024) :
    (outsAt0 m c t.val t.isLt).1 (ix2 k l)
      = (outsAt0 m c (pred t).val (pred t).isLt).2 (ix2 k l) + part (iblk m c 0 t) (iblk m c 1 t) k l := by
  rw [outsAt0_B m c t h]
  dsimp only
  exact point_B (iblk m c 0 t) (iblk m c 1 t) k l c (grid0.coords t) (ms0_0 t) (hs0_0 t) (ms0_1 t) (hs0_1 t) (ms0_2 t) (hs0_2 t) scM0_0 (Memref.isWhole_whole _) (fun h' => h ((hcond0_0 t).mp h'))
    (outsAt0 m c (t.val - 1) (Nat.lt_of_le_of_lt (Nat.sub_le _ _) t.isLt)).2

theorem point (t : Fin cfg0.N) (h : t.val % 2 = 1) (q : ℕ) (hq : q < 4) (ht : t.val / 2 = q) (k : Fin 1408) (l : Fin 1024) :
    (outsAt0 m c t.val t.isLt).1 (ix2 k l) = prod (argA m c) (argB m c) (colOf q hq k) l := by
  have h0 : (pred t).val % 2 = 0 := by show (t.val - 1) % 2 = 0; omega
  have h1 : (pred t).val / 2 = q := by show (t.val - 1) / 2 = q; omega
  rw [outs_B m c t (by omega), outs_A m c (pred t) h0, part_at m c t 1 q hq h ht, part_at m c (pred t) 0 q hq h0 h1]
  exact prod_halves halves _ _ _ _

/-- The gradient after the run. -/
theorem final (k : Fin 5632) (l : Fin 1024) : (dats m 0 c).arrAt 2 cfg0.N (ix2 k l) = prod (argA m c) (argB m c) k l := by
  have h : (dats m 0 c).arrAt 2 cfg0.N = fun i : S5632x1024.Idx => prod (argA m c) (argB m c) (i 0) (i 1) := by
    refine (dats m 0 c).arrAt_eq_of_covers 2 _ (by decide +kernel) fun t hf y => ?_
    have hN : t.val < 8 := lt_of_lt_of_eq t.isLt (show cfg0.N = 8 from N_0)
    blk_simp
    rw [after0_2]
    idx_vars y
    refine (point m c t (flush_odd t hf) (t.val / 2) (by omega) rfl y0 y1).trans ?_
    refine congrArg₂ (prod (argA m c) (argB m c)) (Fin.ext ?_) (Fin.ext ?_)
    · show y0.val + 1408 * (t.val / 2) = _
      blk_simp [idx t]
      omega
    · blk_simp [idx t]
  exact congrFun h (ix2 k l)

end Cert.Kernel6Ideal.WGrad

end
-- ==== Proof.WGradRef.lean ====
/- The weight gradient's reference, element by element. -/
module

public import proofs.«01_k».proof.Proof.WGradSpec
public import proofs.«01_k».proof.Proof.Gen.Reference6Ideal.Read
public import proofs.«01_k».proof.Proof.Gen.Reference6Ideal.Run
public import Idealize.ShloMosaic.Lib.StableHlo.ReadAt

@[expose] public section

set_option maxRecDepth 16384

noncomputable section

namespace Cert.Reference6Ideal.WGrad

open Cert.Reference6Ideal Cert.Reference6Ideal.Gen Cert.Reference6Ideal.Read Idealize.ShloMosaic Idealize.ShloMosaic.TcCoe Idealize.SL.Sem
open Cert.WGradSpec

theorem out_at (x0 : (⟨S4096x5632, .bf16⟩ : BufTy).Contents (Elt Ideal)) (x1 : (⟨S4096x1024, .bf16⟩ : BufTy).Contents (Elt Ideal))
    (k : Fin 5632) (l : Fin 1024) : val_main_v7 x0 x1 (ix2 k l) = prod (fun r k => x0 (ix2 r k)) (fun r l => x1 (ix2 r l)) k l := by
  simp only [val_main_v1, val_main_v3, val_main_v4, val_main_v5, val_main_v6, val_main_v7]
  pointwise
  rfl

variable (m : (ℓ : Loc nD τ sig) → Buf (Elt Ideal) ℓ) (ρ : Dev nD → PrngReg)

/-- The reference's run with its result as a formula. -/
theorem run : θ_run defs (onTc (τ := τ) (main (F := Ideal))) ⟨m, fun _ => 0, ρ⟩ fun r => ∀ c : Dev nD,
      (∀ (k : Fin 5632) (l : Fin 1024), r.2.mem ((c : Thread nD τ).loc main_v7) (ix2 k l)
        = prod (fun r k => m ((c : Thread nD τ).loc main_arg0) (ix2 r k)) (fun r l => m ((c : Thread nD τ).loc main_arg1) (ix2 r l)) k l)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨fun k l => (congrFun ((h c).1.trans (val_main_v7_eq _ _)) _).trans (out_at _ _ k l),
      (h c).2⟩) (Cert.Reference6Ideal.Value.run m ρ)

end Cert.Reference6Ideal.WGrad

end
-- ==== Proof.WGradClaim.lean ====
/- The claims about the weight gradient's kernel and the derivative of the plain product: the frames, and that the two compute
   the same array, whatever the arguments hold. -/
module

public import proofs.«01_k».proof.Defs
public import proofs.«01_k».proof.Proof.WGradArrays
public import proofs.«01_k».proof.Proof.WGradRef
public import proofs.«01_k».proof.Proof.Ext
public import proofs.«01_k».proof.Proof.Gen.Kernel6.Frame
public import Idealize.ShloMosaic.Lib.Quiescent

@[expose] public section

set_option maxRecDepth 16384

noncomputable section

namespace Cert.WGradClaim

open Cert Idealize.ShloMosaic Idealize.ShloMosaic.TcCoe Idealize.SL.Sem

theorem frame_kernel : Cert.quiescent_Kernel6 := fun m ρ _ => Cert.Kernel6.Gen.frame m ρ
theorem frame_ideal : Cert.quiescent_Kernel6Ideal := fun m ρ _ => Cert.Kernel6Ideal.Gen.frame m ρ
theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.WGrad.run m ρ)

/-- The kernel's result is the product over the rows. -/
theorem algebraic : Cert.algebraic_Kernel6Ideal_Reference6Ideal := by
  intro m g m' g' _ hagree
  refine ⟨fun c => (Cert.Kernel6Ideal.Gen.dats m 0 c).arrAt 2 Cert.Kernel6Ideal.cfg0.N, Cert.Kernel6Ideal.Value.run_blocks m g, ?_⟩
  refine (θ_run Cert.Reference6Ideal.defs _ _).mono (fun r h c => ?_) (Cert.Reference6Ideal.WGrad.run m' g')
  obtain ⟨ho, hargs⟩ := h c
  obtain ⟨a0, a1⟩ := hagree c
  rw [a0, a1] at ho
  exact ⟨Cert.Ext.of_rows (a := 5632) (b := 1024) fun k l => (ho k l).trans (Cert.Kernel6Ideal.WGrad.final m c k l).symm, hargs⟩

end Cert.WGradClaim

end
-- ==== Proof.AdamSpec.lean ====
/- One step of the optimiser at one element, as formulas of the weight, the gradient and the two moments. -/
module

public import proofs.«01_k».proof.Proof.InProjSpec

@[expose] public section

set_option maxRecDepth 16384

noncomputable section

namespace Cert.AdamSpec

open Idealize.ShloMosaic

/-- A constant of the step, by its bits. -/
abbrev lit (b : BitVec 32) : EReal := Ideal.ofBits .f32 b

/-- The moving average of the gradient. -/
def first (g m : EReal) : EReal := lit 0x3F666666#32 * m + lit 0x3DCCCCCD#32 * g

/-- The moving average of its square. -/
def second (g v : EReal) : EReal := lit 0x3F7FBE77#32 * v + lit 0x3A83126F#32 * (g * g)

/-- What is added to the weight. -/
def delta (w g m v : EReal) : EReal :=
  lit 0xBA83126F#32 * (Ideal.div (Ideal.div (first g m) (lit 0x3F26BD02#32))
    (Ideal.sqrt (Ideal.div (second g v) (lit 0x3C231ACC#32)) + lit 0x322BCC77#32) + lit 0x3C23D70A#32 * w)

/-- A device's own part of a gradient with the seven that it has been sent. -/
def total (own : EReal) (land : Fin 7 → EReal) : EReal := own + ∑ k, land k

/-- The order in which the parts are added one by one. -/
theorem total_eq (own : EReal) (land : Fin 7 → EReal) :
    own + land 0 + land 1 + land 2 + land 3 + land 4 + land 5 + land 6 = total own land := by
  unfold total
  rw [Fin.sum_univ_seven]
  simp only [add_assoc]

end Cert.AdamSpec

end
-- ==== Proof.AdamArrays.lean ====
/- The optimiser step's result arrays, element by element, as formulas of its arguments. -/
module

public import proofs.«01_k».proof.Proof.Gen.Kernel7Ideal.Frame
public import proofs.«01_k».proof.Proof.AdamSpec
public import proofs.«01_k».proof.Proof.Over
public import Idealize.ShloMosaic.Lib.Pipeline.ValueKit
public import Idealize.ShloMosaic.Lib.StableHlo.ReadAt

@[expose] public section

set_option maxRecDepth 16384

noncomputable section

namespace Cert.Kernel7Ideal.Adam

open Cert.Kernel7Ideal Cert.Kernel7Ideal.Gen Idealize.ShloMosaic Idealize.ShloMosaic.TcCoe Idealize.SL.Sem
open Cert.AdamSpec Cert.Over

theorem hz : (![0, 0] : Fin 2 → Nat) = fun _ => 0 := funext fun a => by fin_cases a <;> rfl
theorem hz3 : (![0, 0, 0] : Fin 3 → Nat) = fun _ => 0 := funext fun a => by fin_cases a <;> rfl

/-- The sum of a point's own block with the seven others. -/
def blockGrad (x3 : Vec Ideal S1x352x1024 .bf16) (x4 : Vec Ideal S7x352x1024 .bf16) (r : Fin 352) (l : Fin 1024) : EReal :=
  total (x3 (ix3 0 r l)) fun k => x4 (ix3 k r l)

section Payloads

variable (g : FVec Ideal S352x1024 .f32) (w mm vv : Vec Ideal S352x1024 .f32) (r : Fin 352) (l : Fin 1024)

theorem pay1_at : k0_pay1 g mm (ix2 r l) = first (g (ix2 r l)) (mm (ix2 r l)) := by
  unfold k0_pay1
  pointwise
  rfl

theorem pay2_at : k0_pay2 g vv (ix2 r l) = second (g (ix2 r l)) (vv (ix2 r l)) := by
  unfold k0_pay2
  pointwise
  rfl

theorem pay3_at : k0_pay3 g w mm vv (ix2 r l) = delta (w (ix2 r l)) (g (ix2 r l)) (mm (ix2 r l)) (vv (ix2 r l)) := by
  unfold k0_pay3
  pointwise
  rw [pay1_at, pay2_at]
  rfl

theorem pay4_at (a0 a1 a2 a3 a4 a5 a6 a7 : Vec Ideal S1x352x1024 .bf16) : k0_pay4 a0 a1 a2 a3 a4 a5 a6 a7 (ix2 r l)
    = total (a0 (ix3 0 r l)) ![a1 (ix3 0 r l), a2 (ix3 0 r l), a3 (ix3 0 r l), a4 (ix3 0 r l), a5 (ix3 0 r l), a6 (ix3 0 r l), a7 (ix3 0 r l)] := by
  refine Eq.trans ?_ (total_eq _ _)
  unfold k0_pay4
  pointwise

end Payloads

/-- A part of the seven, read off their block. -/
theorem part_at (x4 : Vec Ideal S7x352x1024 .bf16) (k : Fin 7) (h) (r : Fin 352) (l : Fin 1024) :
    View.ld x4 (Rect.unit ![k.val, 0, 0] ![1, 352, 1024] h) (ix3 0 r l) = x4 (ix3 k r l) := by
  refine congrArg x4 (funext fun a => ?_)
  fin_cases a <;> exact Fin.ext (by simp [Rect.unit, Rect.emb])

theorem loads_at (x3 : Vec Ideal S1x352x1024 .bf16) (x4 : Vec Ideal S7x352x1024 .bf16) (r : Fin 352) (l : Fin 1024) :
    k0_pay4 x3 (View.ld x4 (Rect.unit ![0, 0, 0] ![1, 352, 1024] inb_S7x352x1024_S1x352x1024_0_0_0)) (View.ld x4 (Rect.unit ![1, 0, 0] ![1, 352, 1024] inb_S7x352x1024_S1x352x1024_1_0_0)) (View.ld x4 (Rect.unit ![2, 0, 0] ![1, 352, 1024] inb_S7x352x1024_S1x352x1024_2_0_0)) (View.ld x4 (Rect.unit ![3, 0, 0] ![1, 352, 1024] inb_S7x352x1024_S1x352x1024_3_0_0)) (View.ld x4 (Rect.unit ![4, 0, 0] ![1, 352, 1024] inb_S7x352x1024_S1x352x1024_4_0_0)) (View.ld x4 (Rect.unit ![5, 0, 0] ![1, 352, 1024] inb_S7x352x1024_S1x352x1024_5_0_0)) (View.ld x4 (Rect.unit ![6, 0, 0] ![1, 352, 1024] inb_S7x352x1024_S1x352x1024_6_0_0)) (ix2 r l) = blockGrad x3 x4 r l := by
  refine (pay4_at r l _ _ _ _ _ _ _ _).trans (congrArg _ (funext fun k => ?_))
  fin_cases k
  · exact part_at x4 0 _ r l
  · exact part_at x4 1 _ r l
  · exact part_at x4 2 _ r l
  · exact part_at x4 3 _ r l
  · exact part_at x4 4 _ r l
  · exact part_at x4 5 _ r l
  · exact part_at x4 6 _ r l

section Point

variable (c : Dev nD) (i : grid0.Coords)
  (arg2 : Memref sig .tc .vmem S352x1024 .f32) (harg2 : arg2.IsWhole) (arg3 : Memref sig .tc .vmem S352x1024 .f32) (harg3 : arg3.IsWhole)
  (arg4 : Memref sig .tc .vmem S352x1024 .f32) (harg4 : arg4.IsWhole) (arg5 : Memref sig .tc .vmem S1x352x1024 .bf16) (harg5 : arg5.IsWhole)
  (arg6 : Memref sig .tc .vmem S7x352x1024 .bf16) (harg6 : arg6.IsWhole) (arg7 : Memref sig .tc .vmem S352x1024 .f32) (harg7 : arg7.IsWhole)
  (arg8 : Memref sig .tc .vmem S352x1024 .f32) (harg8 : arg8.IsWhole) (arg9 : Memref sig .tc .vmem S352x1024 .f32) (harg9 : arg9.IsWhole)
  (arg10 : Memref sig .tc .vmem S352x1024 .f32) (harg10 : arg10.IsWhole)
  (x0 x1 x2 : Vec Ideal S352x1024 .f32) (x3 : Vec Ideal S1x352x1024 .bf16) (x4 : Vec Ideal S7x352x1024 .bf16)
  (xt : TbBuf0 (F := Ideal) c tbM0_0) (r : Fin 352) (l : Fin 1024)

theorem point_g : out0_A_5 c i arg2 harg2 arg3 harg3 arg4 harg4 arg5 harg5 arg6 harg6 arg7 harg7 arg8 harg8 arg9 harg9 arg10 harg10 x0 x1 x2 x3 x4 xt (ix2 r l)
    = blockGrad x3 x4 r l := by
  unfold out0_A_5 kernelRun0_A
  dsimp only
  sl_unfold_words
  simp only [Over.read_writes, View.readAt_eq_ld, harg5.read_unread, harg6.read_unread, View.ld_unit_zero (S := S1x352x1024) hz3, View.ld_unit_zero (S := S352x1024) hz]
  erw [over_rect, dif_pos (by omega)]
  exact loads_at x3 x4 r l

theorem point_delta : out0_A_6 c i arg2 harg2 arg3 harg3 arg4 harg4 arg5 harg5 arg6 harg6 arg7 harg7 arg8 harg8 arg9 harg9 arg10 harg10 x0 x1 x2 x3 x4 xt (ix2 r l)
    = delta (x0 (ix2 r l)) (blockGrad x3 x4 r l) (x1 (ix2 r l)) (x2 (ix2 r l)) := by
  unfold out0_A_6 kernelRun0_A
  dsimp only
  sl_unfold_words
  simp only [Over.read_writes, View.readAt_eq_ld, harg2.read_unread, harg3.read_unread, harg4.read_unread, harg5.read_unread, harg6.read_unread, View.ld_unit_zero (S := S1x352x1024) hz3, View.ld_unit_zero (S := S352x1024) hz]
  erw [over_rect, dif_pos (by omega)]
  refine (pay3_at _ _ _ _ _ _).trans ?_
  rw [loads_at]
  rfl

theorem point_first : out0_A_7 c i arg2 harg2 arg3 harg3 arg4 harg4 arg5 harg5 arg6 harg6 arg7 harg7 arg8 harg8 arg9 harg9 arg10 harg10 x0 x1 x2 x3 x4 xt (ix2 r l)
    = first (blockGrad x3 x4 r l) (x1 (ix2 r l)) := by
  unfold out0_A_7 kernelRun0_A
  dsimp only
  sl_unfold_words
  simp only [Over.read_writes, View.readAt_eq_ld, harg3.read_unread, harg5.read_unread, harg6.read_unread, View.ld_unit_zero (S := S1x352x1024) hz3, View.ld_unit_zero (S := S352x1024) hz]
  erw [over_rect, dif_pos (by omega)]
  refine (pay1_at _ _ _ _).trans ?_
  rw [loads_at]
  rfl

theorem point_second : out0_A_8 c i arg2 harg2 arg3 harg3 arg4 harg4 arg5 harg5 arg6 harg6 arg7 harg7 arg8 harg8 arg9 harg9 arg10 harg10 x0 x1 x2 x3 x4 xt (ix2 r l)
    = second (blockGrad x3 x4 r l) (x2 (ix2 r l)) := by
  unfold out0_A_8 kernelRun0_A
  dsimp only
  sl_unfold_words
  simp only [Over.read_writes, View.readAt_eq_ld, harg4.read_unread, harg5.read_unread, harg6.read_unread, View.ld_unit_zero (S := S1x352x1024) hz3, View.ld_unit_zero (S := S352x1024) hz]
  erw [over_rect, dif_pos (by omega)]
  refine (pay2_at _ _ _ _).trans ?_
  rw [loads_at]
  rfl

end Point

variable (m : (ℓ : Loc nD τ sig) → Buf (Elt Ideal) ℓ) (c : Dev nD)

/-- The table's one word, the device's number, is zero. -/
theorem word_at (i) : V m c main_v0 i = 0#32 := by
  unfold V
  after_reads_at

theorem map3 (i : grid0.Coords) : cc0_transform_3 inb_S1_S1_0 numel1_S1 (tbl m) i = ![0, (i 0).val, 0] := by
  unfold cc0_transform_3
  have h : (tbl m).at 0 (Rect.unit (s := S1) ![0] S1.size inb_S1_S1_0) numel1_S1 = 0#32 := word_at m 0 _
  have hi : (i 0).val < 2 := (i 0).isLt
  have e : (BitVec.ofNat 32 (i 0).val).toNat = (i 0).val := by rw [BitVec.toNat_ofNat]; omega
  dsimp only
  rw [h, e]
  rfl

theorem inside : ∀ x : Fin 2, ∃ h : (∀ a, ((![0, x.val, 0] : Fin 3 → Nat) a + 1) * S1x352x1024.size a ≤ S8x704x1024.size a),
    EltTy.bits .bf16 = 32 ∨ (Rect.block (s := S8x704x1024) S1x352x1024.size (![0, x.val, 0] : Fin 3 → Nat) h).WholeWords (EltTy.packing .bf16) := by decide +kernel

theorem ok : Ok m := by
  intro i
  rw [map3 m i]
  exact inside (i 0)

theorem idx : ∀ t : Fin grid0.N, cc0_transform_0 (grid0.coords t) = ![t.val, 0] ∧ cc0_transform_4 (grid0.coords t) = ![0, t.val, 0]
    ∧ (grid0.coords t 0).val = t.val := by decide +kernel

theorem nblk_eq (hO : Ok m) : ((cfgM m hO).win 5).nblk (0 : Fin 2) = 2 ∧ ((cfgM m hO).win 5).nblk (1 : Fin 2) = 1 := by
  constructor
  · unfold Pipeline.Window.nblk
    blk_simp
  · unfold Pipeline.Window.nblk
    blk_simp

theorem covers (hO : Ok m) : ((cfgM m hO).win 5).Covers := by
  refine ⟨(by decide : ∀ a : Fin 2, 0 < S352x1024.size a), fun β => ?_⟩
  have h0 : (β (0 : Fin 2)).val < 2 := (β (0 : Fin 2)).isLt.trans_eq (nblk_eq m hO).1
  have h1 : (β (1 : Fin 2)).val < 1 := (β (1 : Fin 2)).isLt.trans_eq (nblk_eq m hO).2
  refine ⟨⟨(β (0 : Fin 2)).val, h0⟩, flush0_5 _ _, fun a => ⟨?_, Or.inl rfl⟩⟩
  have e := (idx ⟨(β (0 : Fin 2)).val, h0⟩).1
  refine (congrFun e a).trans ?_
  revert a
  refine Fin.forall_fin_two.mpr ⟨rfl, ?_⟩
  show 0 = (β (1 : Fin 2)).val
  omega

/-- The row of the arrays that is row `r` of the block `t`. -/
def rowAt (t : Fin grid0.N) (r : Fin 352) : Fin 704 := ⟨t.val * 352 + r.val, by
  have h : t.val < 2 := lt_of_lt_of_eq t.isLt (by decide)
  omega⟩

theorem emb0 (hO : Ok m) (t : Fin grid0.N) (r : Fin 352) (l : Fin 1024) :
    (((cfgM m hO).win 0).blk t).view.emb (ix2 r l) = ix2 (rowAt t r) l := by
  refine funext (Fin.forall_fin_two.mpr ⟨Fin.ext ?_, Fin.ext ?_⟩)
  · refine (Pipeline.Window.rect_emb_val _ _ _ _ rfl).trans ?_
    show cc0_transform_0 (grid0.coords t) 0 * 352 + r.val = t.val * 352 + r.val
    rw [(idx t).1]
    rfl
  · refine (Pipeline.Window.rect_emb_val _ _ _ _ rfl).trans ?_
    show cc0_transform_0 (grid0.coords t) 1 * 1024 + l.val = l.val
    rw [(idx t).1]
    show 0 * 1024 + l.val = l.val
    omega

theorem emb3 (hO : Ok m) (t : Fin grid0.N) (r : Fin 352) (l : Fin 1024) :
    (((cfgM m hO).win 3).blk t).view.emb (ix3 0 r l) = ix3 0 (rowAt t r) l := by
  have e := map3 m (grid0.coords t)
  rw [(idx t).2.2] at e
  refine funext fun a => Fin.ext ((Pipeline.Window.rect_emb_val _ _ _ _ rfl).trans ?_)
  refine (congrArg (fun f : Fin 3 → Nat => f a * S1x352x1024.size a + (ix3 (0 : Fin 1) r l a).val) e).trans ?_
  match a with
  | ⟨0, _⟩ => rfl
  | ⟨1, _⟩ => rfl
  | ⟨2, _⟩ => exact (by omega : 0 * 1024 + l.val = l.val)

theorem emb4 (hO : Ok m) (t : Fin grid0.N) (k : Fin 7) (r : Fin 352) (l : Fin 1024) :
    (((cfgM m hO).win 4).blk t).view.emb (ix3 k r l) = ix3 k (rowAt t r) l := by
  refine funext fun a => Fin.ext ((Pipeline.Window.rect_emb_val _ _ _ _ rfl).trans ?_)
  refine (congrArg (fun f : Fin 3 → Nat => f a * S7x352x1024.size a + (ix3 k r l a).val) (idx t).2.1).trans ?_
  match a with
  | ⟨0, _⟩ => exact (by omega : 0 * 7 + k.val = k.val)
  | ⟨1, _⟩ => rfl
  | ⟨2, _⟩ => exact (by omega : 0 * 1024 + l.val = l.val)

/-- The gradient of a row and a column of the whole arrays. -/
def arrGrad (r : Fin 704) (l : Fin 1024) : EReal :=
  total (m ((c : Thread nD τ).loc main_arg3) (ix3 0 r l)) fun k => m ((c : Thread nD τ).loc main_arg4) (ix3 k r l)

theorem gradBlock (hO : Ok m) (t : Fin grid0.N) (r : Fin 352) (l : Fin 1024) :
    blockGrad (iblk m hO c 3 t) (iblk m hO c 4 t) r l = arrGrad m c (rowAt t r) l := by
  unfold blockGrad arrGrad
  refine congrArg₂ total ?_ (funext fun k => ?_)
  · show V m c main_arg3 ((((cfgM m hO).win 3).blk t).view.emb (ix3 0 r l)) = _
    rw [V_main_arg3, emb3]
  · show V m c main_arg4 ((((cfgM m hO).win 4).blk t).view.emb (ix3 k r l)) = _
    rw [V_main_arg4, emb4]

theorem in0 (hO : Ok m) (t : Fin grid0.N) (r : Fin 352) (l : Fin 1024) : iblk m hO c 0 t (ix2 r l) = m ((c : Thread nD τ).loc main_arg0) (ix2 (rowAt t r) l) := by
  show V m c main_arg0 ((((cfgM m hO).win 0).blk t).view.emb (ix2 r l)) = _
  rw [V_main_arg0, emb0]
theorem in1 (hO : Ok m) (t : Fin grid0.N) (r : Fin 352) (l : Fin 1024) : iblk m hO c 1 t (ix2 r l) = m ((c : Thread nD τ).loc main_arg1) (ix2 (rowAt t r) l) := by
  show V m c main_arg1 ((((cfgM m hO).win 0).blk t).view.emb (ix2 r l)) = _
  rw [V_main_arg1, emb0]
theorem in2 (hO : Ok m) (t : Fin grid0.N) (r : Fin 352) (l : Fin 1024) : iblk m hO c 2 t (ix2 r l) = m ((c : Thread nD τ).loc main_arg2) (ix2 (rowAt t r) l) := by
  show V m c main_arg2 ((((cfgM m hO).win 0).blk t).view.emb (ix2 r l)) = _
  rw [V_main_arg2, emb0]

theorem rows_cols (y : S352x1024.Idx) : ∃ (a : Fin 352) (b : Fin 1024), y = ix2 a b := ⟨y 0, y 1, funext (Fin.forall_fin_two.mpr ⟨rfl, rfl⟩)⟩

/-- A function of rows and columns, at the row and the column of an element. -/
abbrev at2 (G : Fin 704 → Fin 1024 → EReal) (i : S704x1024.Idx) : EReal := G (i 0) (i 1)

/-- The gradient, at a row and a column. -/
def arr_g (r : Fin 704) (l : Fin 1024) : EReal :=
  arrGrad m c r l

theorem block_g (hO : Ok m) (t : Fin grid0.N) (r : Fin 352) (l : Fin 1024) : (outsAt0 m hO c t).1 (ix2 r l) = arr_g m c (rowAt t r) l := by
  unfold outsAt0
  dsimp only
  refine (point_g c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r l).trans ?_
  rw [gradBlock m c hO]
  rfl

theorem final_g (hO : Ok m) (r : Fin 704) (l : Fin 1024) : (dats m hO 0 c).arrAt 5 (cfgM m hO).N (ix2 r l) = arr_g m c r l := by
  refine congrFun ((dats m hO 0 c).arrAt_eq_of_covers 5 (at2 (arr_g m c)) (covers m hO) fun t hf y => ?_) (ix2 r l)
  rw [after0_5]
  obtain ⟨y0, y1, rfl⟩ := rows_cols y
  exact (block_g m c hO t y0 y1).trans (congrArg (at2 (arr_g m c)) (emb0 m hO t y0 y1).symm)

/-- What is added to the weight, at a row and a column. -/
def arr_delta (r : Fin 704) (l : Fin 1024) : EReal :=
  delta (m ((c : Thread nD τ).loc main_arg0) (ix2 r l)) (arrGrad m c r l) (m ((c : Thread nD τ).loc main_arg1) (ix2 r l)) (m ((c : Thread nD τ).loc main_arg2) (ix2 r l))

theorem left_delta (hO : Ok m) (t : Fin grid0.N) (r : Fin 352) (l : Fin 1024) : (outsAt0 m hO c t).2.1 (ix2 r l)
    = delta (iblk m hO c 0 t (ix2 r l)) (blockGrad (iblk m hO c 3 t) (iblk m hO c 4 t) r l) (iblk m hO c 1 t (ix2 r l)) (iblk m hO c 2 t (ix2 r l)) := by
  unfold outsAt0
  dsimp only
  exact point_delta c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r l

theorem block_delta (hO : Ok m) (t : Fin grid0.N) (r : Fin 352) (l : Fin 1024) : (outsAt0 m hO c t).2.1 (ix2 r l) = arr_delta m c (rowAt t r) l := by
  refine (left_delta m c hO t r l).trans ?_
  rw [gradBlock m c hO, in0 m c hO, in1 m c hO, in2 m c hO]
  rfl

theorem left_all (hO : Ok m) (G : Fin 704 → Fin 1024 → EReal)
    (h : ∀ (t : Fin grid0.N) (r : Fin 352) (l : Fin 1024), (outsAt0 m hO c t).2.1 (ix2 r l) = G (rowAt t r) l) (r : Fin 704) (l : Fin 1024) :
    (dats m hO 0 c).arrAt 6 (cfgM m hO).N (ix2 r l) = G r l := by
  refine congrFun ((dats m hO 0 c).arrAt_eq_of_covers 6 (at2 G) (covers m hO) fun t hf y => ?_) (ix2 r l)
  rw [after0_6]
  obtain ⟨y0, y1, rfl⟩ := rows_cols y
  exact (h t y0 y1).trans (congrArg (at2 G) (emb0 m hO t y0 y1).symm)

theorem final_delta (hO : Ok m) (r : Fin 704) (l : Fin 1024) : (dats m hO 0 c).arrAt 6 (cfgM m hO).N (ix2 r l) = arr_delta m c r l :=
  left_all m c hO (arr_delta m c) (block_delta m c hO) r l

/-- The average of the gradient, at a row and a column. -/
def arr_first (r : Fin 704) (l : Fin 1024) : EReal :=
  first (arrGrad m c r l) (m ((c : Thread nD τ).loc main_arg1) (ix2 r l))

theorem block_first (hO : Ok m) (t : Fin grid0.N) (r : Fin 352) (l : Fin 1024) : (outsAt0 m hO c t).2.2.1 (ix2 r l) = arr_first m c (rowAt t r) l := by
  unfold outsAt0
  dsimp only
  refine (point_first c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r l).trans ?_
  rw [gradBlock m c hO, in1 m c hO]
  rfl

theorem final_first (hO : Ok m) (r : Fin 704) (l : Fin 1024) : (dats m hO 0 c).arrAt 7 (cfgM m hO).N (ix2 r l) = arr_first m c r l := by
  refine congrFun ((dats m hO 0 c).arrAt_eq_of_covers 7 (at2 (arr_first m c)) (covers m hO) fun t hf y => ?_) (ix2 r l)
  rw [after0_7]
  obtain ⟨y0, y1, rfl⟩ := rows_cols y
  exact (block_first m c hO t y0 y1).trans (congrArg (at2 (arr_first m c)) (emb0 m hO t y0 y1).symm)

/-- The average of its square, at a row and a column. -/
def arr_second (r : Fin 704) (l : Fin 1024) : EReal :=
  second (arrGrad m c r l) (m ((c : Thread nD τ).loc main_arg2) (ix2 r l))

theorem block_second (hO : Ok m) (t : Fin grid0.N) (r : Fin 352) (l : Fin 1024) : (outsAt0 m hO c t).2.2.2 (ix2 r l) = arr_second m c (rowAt t r) l := by
  unfold outsAt0
  dsimp only
  refine (point_second c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (iblk m hO c 0 t) (iblk m hO c 1 t) (iblk m hO c 2 t) (iblk m hO c 3 t) (iblk m hO c 4 t) (tbl m 0) r l).trans ?_
  rw [gradBlock m c hO, in2 m c hO]
  rfl

theorem final_second (hO : Ok m) (r : Fin 704) (l : Fin 1024) : (dats m hO 0 c).arrAt 8 (cfgM m hO).N (ix2 r l) = arr_second m c r l := by
  refine congrFun ((dats m hO 0 c).arrAt_eq_of_covers 8 (at2 (arr_second m c)) (covers m hO) fun t hf y => ?_) (ix2 r l)
  rw [after0_8]
  obtain ⟨y0, y1, rfl⟩ := rows_cols y
  exact (block_second m c hO t y0 y1).trans (congrArg (at2 (arr_second m c)) (emb0 m hO t y0 y1).symm)

end Cert.Kernel7Ideal.Adam

end
-- ==== Proof.AdamRef.lean ====
/- The results of the optimiser step's reference, element by element, as the formulas that the kernel's results are. -/
module

public import proofs.«01_k».proof.Proof.AdamSpec
public import proofs.«01_k».proof.Proof.Gen.Reference7Ideal.Read
public import proofs.«01_k».proof.Proof.Gen.Reference7Ideal.Run
public import Idealize.ShloMosaic.Lib.StableHlo.ReadAt

@[expose] public section

set_option maxRecDepth 16384

noncomputable section

namespace Cert.Reference7Ideal.Adam

open Cert.Reference7Ideal Cert.Reference7Ideal.Gen Cert.Reference7Ideal.Read Idealize.ShloMosaic Idealize.ShloMosaic.TcCoe Idealize.SL.Sem
open Cert.AdamSpec

section Values

variable (x0 x1 x2 : (⟨S704x1024, .f32⟩ : BufTy).Contents (Elt Ideal)) (x3 : (⟨S8x704x1024, .bf16⟩ : BufTy).Contents (Elt Ideal))
  (x4 : (⟨S7x704x1024, .bf16⟩ : BufTy).Contents (Elt Ideal)) (r : Fin 704) (l : Fin 1024)

theorem grad_out : val_main_v5 x3 x4 (ix2 r l) = total (x3 (ix3 0 r l)) fun k => x4 (ix3 k r l) := by
  simp only [val_main_v0, val_main_v1, val_main_v2, val_main_v3, val_main_v4, val_main_v5, val_main_cst]
  pointwise
  rfl

theorem first_out : val_main_v10 x1 x3 x4 (ix2 r l) = first (val_main_v5 x3 x4 (ix2 r l)) (x1 (ix2 r l)) := by
  rw [val_main_v10_apply, val_main_v7_apply, val_main_v9_apply, val_main_v6_apply, val_main_v8_apply]
  rfl

theorem second_out : val_main_v16 x2 x3 x4 (ix2 r l) = second (val_main_v5 x3 x4 (ix2 r l)) (x2 (ix2 r l)) := by
  rw [val_main_v16_apply, val_main_v12_apply, val_main_v15_apply, val_main_v11_apply, val_main_v14_apply, val_main_v13_apply]
  rfl

theorem delta_out : val_main_v29 x0 x1 x2 x3 x4 (ix2 r l)
    = delta (x0 (ix2 r l)) (val_main_v5 x3 x4 (ix2 r l)) (x1 (ix2 r l)) (x2 (ix2 r l)) := by
  simp only [val_main_v29_apply, val_main_v28_apply, val_main_v27_apply, val_main_v26_apply, val_main_v25_apply, val_main_v24_apply, val_main_v23_apply,
    val_main_v22_apply, val_main_v21_apply, val_main_v20_apply, val_main_v19_apply, val_main_v18_apply, val_main_v17_apply, first_out, second_out]
  rfl

end Values

variable (m : (ℓ : Loc nD τ sig) → Buf (Elt Ideal) ℓ) (ρ : Dev nD → PrngReg)

/-- The gradient of a row and a column, as the reference is launched on its parts. -/
def arrGrad (c : Dev nD) (r : Fin 704) (l : Fin 1024) : EReal :=
  total (m ((c : Thread nD τ).loc main_arg3) (ix3 0 r l)) fun k => m ((c : Thread nD τ).loc main_arg4) (ix3 k r l)

/-- The reference's run with its results as formulas. -/
theorem run : θ_run defs (onTc (τ := τ) (main (F := Ideal))) ⟨m, fun _ => 0, ρ⟩ fun r => ∀ c : Dev nD,
      (∀ (k : Fin 704) (l : Fin 1024), r.2.mem ((c : Thread nD τ).loc main_v5) (ix2 k l) = arrGrad m c k l)
      ∧ (∀ (k : Fin 704) (l : Fin 1024), r.2.mem ((c : Thread nD τ).loc main_v29) (ix2 k l) = delta (m ((c : Thread nD τ).loc main_arg0) (ix2 k l)) (arrGrad m c k l) (m ((c : Thread nD τ).loc main_arg1) (ix2 k l)) (m ((c : Thread nD τ).loc main_arg2) (ix2 k l)))
      ∧ (∀ (k : Fin 704) (l : Fin 1024), r.2.mem ((c : Thread nD τ).loc main_v10) (ix2 k l) = first (arrGrad m c k l) (m ((c : Thread nD τ).loc main_arg1) (ix2 k l)))
      ∧ (∀ (k : Fin 704) (l : Fin 1024), r.2.mem ((c : Thread nD τ).loc main_v16) (ix2 k l) = second (arrGrad m c k l) (m ((c : Thread nD τ).loc main_arg2) (ix2 k l)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨fun k l => ?_, fun k l => ?_, fun k l => ?_, fun k l => ?_, (h c).2.2.2.2⟩) (Cert.Reference7Ideal.Value.run m ρ)
  · exact (congrFun ((h c).1.trans (val_main_v5_eq _ _)) _).trans (grad_out _ _ k l)
  · refine (congrFun ((h c).2.1.trans (val_main_v29_eq _ _ _ _ _)) _).trans ((delta_out _ _ _ _ _ k l).trans ?_)
    rw [grad_out]
    rfl
  · refine (congrFun ((h c).2.2.1.trans (val_main_v10_eq _ _ _)) _).trans ((first_out _ _ _ k l).trans ?_)
    rw [grad_out]
    rfl
  · refine (congrFun ((h c).2.2.2.1.trans (val_main_v16_eq _ _ _)) _).trans ((second_out _ _ _ k l).trans ?_)
    rw [grad_out]
    rfl

end Cert.Reference7Ideal.Adam

end
-- ==== Proof.AdamClaim.lean ====
/- The claims about the optimiser step's kernel and the plain optimiser: the frames, and that the two compute the same arrays,
   whatever the arguments hold. -/
module

public import proofs.«01_k».proof.Defs
public import proofs.«01_k».proof.Proof.AdamArrays
public import proofs.«01_k».proof.Proof.AdamRef
public import proofs.«01_k».proof.Proof.Ext
public import proofs.«01_k».proof.Proof.Gen.Kernel7.Frame
public import Idealize.ShloMosaic.Lib.Quiescent

@[expose] public section

set_option maxRecDepth 16384

noncomputable section

namespace Cert.Kernel7.Adam

open Cert.Kernel7 Cert.Kernel7.Gen Idealize.ShloMosaic Idealize.ShloMosaic.TcCoe Idealize.SL.Sem

/-- In the kernel as it is printed, too, the blocks named by the table lie inside their array. -/
theorem ok (m : (ℓ : Loc nD τ sig) → Buf (Elt Bits) ℓ) : Ok m := by
  have word : ∀ i, V m (0 : Dev nD) main_v0 i = 0#32 := fun i => by
    unfold V
    after_reads_at
  intro i
  have h : (tbl m).at 0 (Rect.unit (s := S1) ![0] S1.size inb_S1_S1_0) numel1_S1 = 0#32 := word _
  have hi : (i 0).val < 2 := (i 0).isLt
  have e : cc0_transform_3 inb_S1_S1_0 numel1_S1 (tbl m) i = ![0, (i 0).val, 0] := by
    unfold cc0_transform_3
    dsimp only
    rw [h, show (BitVec.ofNat 32 (i 0).val).toNat = (i 0).val by rw [BitVec.toNat_ofNat]; omega]
    rfl
  rw [e]
  exact Cert.Kernel7Ideal.Adam.inside (i 0)

end Cert.Kernel7.Adam

namespace Cert.AdamClaim

open Cert Idealize.ShloMosaic Idealize.ShloMosaic.TcCoe Idealize.SL.Sem

theorem frame_kernel : Cert.quiescent_Kernel7 := fun m ρ _ => Cert.Kernel7.Gen.frame m ρ (Cert.Kernel7.Adam.ok m)
theorem frame_ideal : Cert.quiescent_Kernel7Ideal := fun m ρ _ => Cert.Kernel7Ideal.Gen.frame m ρ (Cert.Kernel7Ideal.Adam.ok m)
theorem frame_reference : Cert.quiescent_Reference7Ideal := fun m ρ _ =>
  (θ_run Cert.Reference7Ideal.defs _ _).mono (fun r h => ⟨fun c => (h c).2.2.2.2, sem_eq_zero_of_no_sems (by decide) r.2⟩)
    (Cert.Reference7Ideal.Adam.run m ρ)

section Kernel

open Cert.Kernel7Ideal Cert.Kernel7Ideal.Gen

/-- The kernel's result array of window `w` after the run. -/
abbrev res (m : (ℓ : Loc nD τ sig) → Buf (Elt Ideal) ℓ) (c : Dev nD) (w : Fin 9) := (dats m (Cert.Kernel7Ideal.Adam.ok m) 0 c).arrAt w (cfgM m (Cert.Kernel7Ideal.Adam.ok m)).N

/-- The kernel's run, its results the arrays that the pipeline leaves and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1_0) = res m c 5
      ∧ r.2.mem ((c : Thread nD τ).loc main_v1_1) = res m c 6
      ∧ r.2.mem ((c : Thread nD τ).loc main_v1_2) = res m c 7
      ∧ r.2.mem ((c : Thread nD τ).loc main_v1_3) = res m c 8
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  have hO := Cert.Kernel7Ideal.Adam.ok m
  (θ_run defs _ _).mono (fun r h c => ⟨(h.1 c).1 5, (h.1 c).1 6, (h.1 c).1 7, (h.1 c).1 8, h.2 c⟩)
    (θ_run_and (run_main m ρ hO) (unchanged m ρ hO))

end Kernel

/-- The kernel's four result arrays are the gradient's sum over the devices, what the plain optimiser adds to the weight,
    and the two moving averages. -/
theorem algebraic : Cert.algebraic_Kernel7Ideal_Reference7Ideal := by
  intro m g m' g' _ hagree
  refine ⟨fun c => res m c 5, fun c => res m c 6, fun c => res m c 7, fun c => res m c 8, run m g, ?_⟩
  refine (θ_run Cert.Reference7Ideal.defs _ _).mono (fun r h c => ?_) (Cert.Reference7Ideal.Adam.run m' g')
  obtain ⟨h5, h6, h7, h8, hargs⟩ := h c
  obtain ⟨a0, a1, a2, a3, a4⟩ := hagree c
  have hO := Cert.Kernel7Ideal.Adam.ok m
  have hg : ∀ k l, Cert.Reference7Ideal.Adam.arrGrad m' c k l = Cert.Kernel7Ideal.Adam.arrGrad m c k l := fun k l => by
    unfold Cert.Reference7Ideal.Adam.arrGrad
    rw [a3, a4]
    rfl
  simp only [hg, a0, a1, a2] at h5 h6 h7 h8
  exact ⟨Cert.Ext.of_rows (a := 704) (b := 1024) fun k l => (h5 k l).trans (Cert.Kernel7Ideal.Adam.final_g m c hO k l).symm,
    Cert.Ext.of_rows (a := 704) (b := 1024) fun k l => (h6 k l).trans (Cert.Kernel7Ideal.Adam.final_delta m c hO k l).symm,
    Cert.Ext.of_rows (a := 704) (b := 1024) fun k l => (h7 k l).trans (Cert.Kernel7Ideal.Adam.final_first m c hO k l).symm,
    Cert.Ext.of_rows (a := 704) (b := 1024) fun k l => (h8 k l).trans (Cert.Kernel7Ideal.Adam.final_second m c hO k l).symm,
    hargs⟩

end Cert.AdamClaim

end
-- ==== Proof.SmallSpec.lean ====
/- The sum over the devices of the row in which the small gradients are packed, and the places of four of them in it. -/
module

public import proofs.«01_k».proof.Proof.AdamSpec
public import Idealize.ShloMosaic.Lib.Pointwise

@[expose] public section

set_option maxRecDepth 16384

noncomputable section

namespace Cert.SmallSpec

open Idealize.ShloMosaic

/-- The packed rows of the eight devices. -/
abbrev Rows := (⟨3, ![8, 1, 12032]⟩ : Shape).Idx → EReal

/-- The sum over the devices, at a place of the row. -/
def sumAt (x : Rows) (j : Fin 12032) : EReal := ∑ k : Fin 8, x (ix3 k 0 j)

/-- The loss's lanes. -/
def loss (x : Rows) (l : Fin 128) : EReal := sumAt x ⟨11904 + l.val, by omega⟩

/-- The gradient of the modulation's bias. -/
def gradA (x : Rows) (l : Fin 6144) : EReal := sumAt x ⟨l.val, by omega⟩

/-- The gradient of the second norm's gain. -/
def gradB (x : Rows) (l : Fin 1024) : EReal := sumAt x ⟨8320 + l.val, by omega⟩

/-- The gradient of the last norm's gain. -/
def gradC (x : Rows) (l : Fin 1024) : EReal := sumAt x ⟨9344 + l.val, by omega⟩

end Cert.SmallSpec

end
-- ==== Proof.SmallArrays.lean ====
/- The results of the small update's launch, element by element, as formulas of its arguments. -/
module

public import proofs.«01_k».proof.Proof.Gen.Kernel8Ideal.Frame
public import proofs.«01_k».proof.Proof.SmallSpec
public import Idealize.ShloMosaic.Lib.Pipeline.ValueKit

@[expose] public section

set_option maxRecDepth 16384

noncomputable section

namespace Cert.Kernel8Ideal.Small

open Cert.Kernel8Ideal Cert.Kernel8Ideal.Gen Idealize.ShloMosaic Idealize.ShloMosaic.TcCoe Idealize.SL.Sem
open Cert.AdamSpec Cert.SmallSpec

theorem hz : (![0, 0] : Fin 2 → Nat) = fun _ => 0 := funext fun a => by fin_cases a <;> rfl

section Payloads

variable (a w a' v : Vec Ideal S1x6144 .f32) (g0 w0 m0 v0 : Vec Ideal S1x1024 .f32)

theorem wide_first (l : Fin 6144) : k0_pay7 a a' (ix2 0 l) = first (a (ix2 0 l)) (a' (ix2 0 l)) := by
  unfold k0_pay7
  pointwise
  rfl

theorem wide_second (l : Fin 6144) : k0_pay8 a v (ix2 0 l) = second (a (ix2 0 l)) (v (ix2 0 l)) := by
  unfold k0_pay8
  pointwise
  rfl

theorem wide_delta (l : Fin 6144) : k0_pay9 a w a' v (ix2 0 l) = delta (w (ix2 0 l)) (a (ix2 0 l)) (a' (ix2 0 l)) (v (ix2 0 l)) := by
  unfold k0_pay9
  pointwise
  rw [wide_first, wide_second]
  rfl

theorem gain_first (l : Fin 1024) : k0_pay1 g0 m0 (ix2 0 l) = first (g0 (ix2 0 l)) (m0 (ix2 0 l)) := by
  unfold k0_pay1
  pointwise
  rfl

theorem gain_second (l : Fin 1024) : k0_pay2 g0 v0 (ix2 0 l) = second (g0 (ix2 0 l)) (v0 (ix2 0 l)) := by
  unfold k0_pay2
  pointwise
  rfl

theorem gain_delta (l : Fin 1024) : k0_pay3 g0 w0 m0 v0 (ix2 0 l) = delta (w0 (ix2 0 l)) (g0 (ix2 0 l)) (m0 (ix2 0 l)) (v0 (ix2 0 l)) := by
  unfold k0_pay3
  pointwise
  rw [gain_first, gain_second]
  rfl

/-- The two norms' gains are stepped by the same operations. -/
theorem same_first : k0_pay11 g0 m0 = k0_pay1 g0 m0 := rfl
theorem same_second : k0_pay12 g0 v0 = k0_pay2 g0 v0 := rfl
theorem same_delta : k0_pay13 g0 w0 m0 v0 = k0_pay3 g0 w0 m0 v0 := rfl

end Payloads

/-- One device's row, read off the packed rows. -/
theorem row_at (x : Vec Ideal S8x1x12032 .f32) (k : Fin 8) (h) (j : Fin 12032) :
    View.ld x (Rect.unit ![k.val, 0, 0] ![1, 1, 12032] h) (ix3 0 0 j) = x (ix3 k 0 j) := by
  refine congrArg x (funext fun a => ?_)
  fin_cases a <;> exact Fin.ext (by simp [Rect.unit, Rect.emb])

theorem sum_rows (a0 a1 a2 a3 a4 a5 a6 a7 : Vec Ideal S1x1x12032 .f32) (j : Fin 12032) : k0_pay4 a0 a1 a2 a3 a4 a5 a6 a7 (ix2 0 j)
    = a0 (ix3 0 0 j) + a1 (ix3 0 0 j) + a2 (ix3 0 0 j) + a3 (ix3 0 0 j) + a4 (ix3 0 0 j) + a5 (ix3 0 0 j) + a6 (ix3 0 0 j) + a7 (ix3 0 0 j) := by
  unfold k0_pay4
  pointwise

theorem sum_at (x0 : Vec Ideal S8x1x12032 .f32) (j : Fin 12032) : k0_pay4 (View.ld x0 r0_0) (View.ld x0 r0_1) (View.ld x0 r0_2) (View.ld x0 r0_3) (View.ld x0 r0_4) (View.ld x0 r0_5) (View.ld x0 r0_6) (View.ld x0 r0_7) (ix2 0 j) = sumAt x0 j := by
  refine (sum_rows _ _ _ _ _ _ _ _ j).trans ?_
  unfold sumAt
  rw [Fin.sum_univ_eight]
  exact congrArg₂ (· + ·) (congrArg₂ (· + ·) (congrArg₂ (· + ·) (congrArg₂ (· + ·) (congrArg₂ (· + ·) (congrArg₂ (· + ·) (congrArg₂ (· + ·)
    (row_at x0 0 _ j) (row_at x0 1 _ j)) (row_at x0 2 _ j)) (row_at x0 3 _ j)) (row_at x0 4 _ j)) (row_at x0 5 _ j)) (row_at x0 6 _ j)) (row_at x0 7 _ j)

section Body

variable (x0 : Vec Ideal S8x1x12032 .f32) (x1 x2 x3 : Vec Ideal S1x6144 .f32) (x4 x5 x6 x7 x8 x9 : Vec Ideal S1x1024 .f32)

theorem cut_loss (l : Fin 128) : k0_pay5 (View.ld x0 r0_0) (View.ld x0 r0_1) (View.ld x0 r0_2) (View.ld x0 r0_3) (View.ld x0 r0_4) (View.ld x0 r0_5) (View.ld x0 r0_6) (View.ld x0 r0_7) (ix2 0 l) = loss x0 l := by
  unfold k0_pay5
  pointwise
  exact sum_at x0 _

theorem cut_A (l : Fin 6144) : k0_pay6 (View.ld x0 r0_0) (View.ld x0 r0_1) (View.ld x0 r0_2) (View.ld x0 r0_3) (View.ld x0 r0_4) (View.ld x0 r0_5) (View.ld x0 r0_6) (View.ld x0 r0_7) (ix2 0 l) = gradA x0 l := by
  unfold k0_pay6
  pointwise
  exact sum_at x0 _

theorem cut_B (l : Fin 1024) : k0_pay10 (k0_pay4 (View.ld x0 r0_0) (View.ld x0 r0_1) (View.ld x0 r0_2) (View.ld x0 r0_3) (View.ld x0 r0_4) (View.ld x0 r0_5) (View.ld x0 r0_6) (View.ld x0 r0_7)) (ix2 0 l) = gradB x0 l := by
  unfold k0_pay10
  pointwise
  exact sum_at x0 _

theorem cut_C (l : Fin 1024) : k0_pay14 (k0_pay4 (View.ld x0 r0_0) (View.ld x0 r0_1) (View.ld x0 r0_2) (View.ld x0 r0_3) (View.ld x0 r0_4) (View.ld x0 r0_5) (View.ld x0 r0_6) (View.ld x0 r0_7)) (ix2 0 l) = gradC x0 l := by
  unfold k0_pay14
  pointwise
  exact sum_at x0 _

theorem left_10 (l : Fin 128) : out0_10 x0 x1 x2 x3 x4 x5 x6 x7 x8 x9 (ix2 0 l) = loss x0 l := by
  unfold out0_10
  rw [View.canon_unit_zero hz]
  exact cut_loss x0 l

theorem left_11 (l : Fin 6144) : out0_11 x0 x1 x2 x3 x4 x5 x6 x7 x8 x9 (ix2 0 l) = gradA x0 l := by
  unfold out0_11
  rw [View.canon_unit_zero hz]
  exact cut_A x0 l

theorem left_12 (l : Fin 6144) : out0_12 x0 x1 x2 x3 x4 x5 x6 x7 x8 x9 (ix2 0 l) = delta (x1 (ix2 0 l)) (gradA x0 l) (x2 (ix2 0 l)) (x3 (ix2 0 l)) := by
  unfold out0_12
  rw [View.canon_unit_zero hz]
  rw [View.ld_unit_zero (S := S1x6144) hz, View.ld_unit_zero (S := S1x6144) hz, View.ld_unit_zero (S := S1x6144) hz]
  refine (wide_delta _ _ _ _ l).trans ?_
  unfold k0_pay16
  erw [cut_A x0 l]

theorem left_13 (l : Fin 6144) : out0_13 x0 x1 x2 x3 x4 x5 x6 x7 x8 x9 (ix2 0 l) = first (gradA x0 l) (x2 (ix2 0 l)) := by
  unfold out0_13
  rw [View.canon_unit_zero hz]
  rw [View.ld_unit_zero (S := S1x6144) hz]
  refine (wide_first _ _ l).trans ?_
  unfold k0_pay16
  erw [cut_A x0 l]

theorem left_14 (l : Fin 6144) : out0_14 x0 x1 x2 x3 x4 x5 x6 x7 x8 x9 (ix2 0 l) = second (gradA x0 l) (x3 (ix2 0 l)) := by
  unfold out0_14
  rw [View.canon_unit_zero hz]
  rw [View.ld_unit_zero (S := S1x6144) hz]
  refine (wide_second _ _ l).trans ?_
  unfold k0_pay16
  erw [cut_A x0 l]

theorem left_15 (l : Fin 1024) : out0_15 x0 x1 x2 x3 x4 x5 x6 x7 x8 x9 (ix2 0 l) = gradB x0 l := by
  unfold out0_15
  rw [View.canon_unit_zero hz]
  exact cut_B x0 l

theorem left_16 (l : Fin 1024) : out0_16 x0 x1 x2 x3 x4 x5 x6 x7 x8 x9 (ix2 0 l) = delta (x4 (ix2 0 l)) (gradB x0 l) (x5 (ix2 0 l)) (x6 (ix2 0 l)) := by
  unfold out0_16
  rw [View.canon_unit_zero hz]
  rw [View.ld_unit_zero (S := S1x1024) hz, View.ld_unit_zero (S := S1x1024) hz, View.ld_unit_zero (S := S1x1024) hz]
  rw [same_delta]
  refine (gain_delta _ _ _ _ l).trans ?_
  unfold k0_pay17 k0_pay15
  erw [cut_B x0 l]

theorem left_17 (l : Fin 1024) : out0_17 x0 x1 x2 x3 x4 x5 x6 x7 x8 x9 (ix2 0 l) = first (gradB x0 l) (x5 (ix2 0 l)) := by
  unfold out0_17
  rw [View.canon_unit_zero hz]
  rw [View.ld_unit_zero (S := S1x1024) hz]
  rw [same_first]
  refine (gain_first _ _ l).trans ?_
  unfold k0_pay17 k0_pay15
  erw [cut_B x0 l]

theorem left_18 (l : Fin 1024) : out0_18 x0 x1 x2 x3 x4 x5 x6 x7 x8 x9 (ix2 0 l) = second (gradB x0 l) (x6 (ix2 0 l)) := by
  unfold out0_18
  rw [View.canon_unit_zero hz]
  rw [View.ld_unit_zero (S := S1x1024) hz]
  rw [same_second]
  refine (gain_second _ _ l).trans ?_
  unfold k0_pay17 k0_pay15
  erw [cut_B x0 l]

theorem left_19 (l : Fin 1024) : out0_19 x0 x1 x2 x3 x4 x5 x6 x7 x8 x9 (ix2 0 l) = gradC x0 l := by
  unfold out0_19
  rw [View.canon_unit_zero hz]
  exact cut_C x0 l

theorem left_20 (l : Fin 1024) : out0_20 x0 x1 x2 x3 x4 x5 x6 x7 x8 x9 (ix2 0 l) = delta (x7 (ix2 0 l)) (gradC x0 l) (x8 (ix2 0 l)) (x9 (ix2 0 l)) := by
  unfold out0_20
  rw [View.canon_unit_zero hz]
  rw [View.ld_unit_zero (S := S1x1024) hz, View.ld_unit_zero (S := S1x1024) hz, View.ld_unit_zero (S := S1x1024) hz]
  refine (gain_delta _ _ _ _ l).trans ?_
  unfold k0_pay18 k0_pay15
  erw [cut_C x0 l]

theorem left_21 (l : Fin 1024) : out0_21 x0 x1 x2 x3 x4 x5 x6 x7 x8 x9 (ix2 0 l) = first (gradC x0 l) (x8 (ix2 0 l)) := by
  unfold out0_21
  rw [View.canon_unit_zero hz]
  rw [View.ld_unit_zero (S := S1x1024) hz]
  refine (gain_first _ _ l).trans ?_
  unfold k0_pay18 k0_pay15
  erw [cut_C x0 l]

theorem left_22 (l : Fin 1024) : out0_22 x0 x1 x2 x3 x4 x5 x6 x7 x8 x9 (ix2 0 l) = second (gradC x0 l) (x9 (ix2 0 l)) := by
  unfold out0_22
  rw [View.canon_unit_zero hz]
  rw [View.ld_unit_zero (S := S1x1024) hz]
  refine (gain_second _ _ l).trans ?_
  unfold k0_pay18 k0_pay15
  erw [cut_C x0 l]

end Body

variable (m : (ℓ : Loc nD τ sig) → Buf (Elt Ideal) ℓ) (c : Dev nD)

theorem in_0 (t : Fin cfg0.N) : iblk m c 0 t = m ((c : Thread nD τ).loc main_arg0) := by
  funext y
  refine congrArg (m ((c : Thread nD τ).loc main_arg0)) (funext fun a => Fin.ext ?_)
  fin_cases t
  fin_cases a <;> exact (Pipeline.Window.rect_emb_val _ _ _ _ rfl).trans (Nat.zero_add _)

theorem in_1 (t : Fin cfg0.N) : iblk m c 1 t = m ((c : Thread nD τ).loc main_arg1) := by
  funext y
  refine congrArg (m ((c : Thread nD τ).loc main_arg1)) (funext fun a => Fin.ext ?_)
  fin_cases t
  fin_cases a <;> exact (Pipeline.Window.rect_emb_val _ _ _ _ rfl).trans (Nat.zero_add _)

theorem in_2 (t : Fin cfg0.N) : iblk m c 2 t = m ((c : Thread nD τ).loc main_arg2) := by
  funext y
  refine congrArg (m ((c : Thread nD τ).loc main_arg2)) (funext fun a => Fin.ext ?_)
  fin_cases t
  fin_cases a <;> exact (Pipeline.Window.rect_emb_val _ _ _ _ rfl).trans (Nat.zero_add _)

theorem in_3 (t : Fin cfg0.N) : iblk m c 3 t = m ((c : Thread nD τ).loc main_arg3) := by
  funext y
  refine congrArg (m ((c : Thread nD τ).loc main_arg3)) (funext fun a => Fin.ext ?_)
  fin_cases t
  fin_cases a <;> exact (Pipeline.Window.rect_emb_val _ _ _ _ rfl).trans (Nat.zero_add _)

theorem in_4 (t : Fin cfg0.N) : iblk m c 4 t = m ((c : Thread nD τ).loc main_arg4) := by
  funext y
  refine congrArg (m ((c : Thread nD τ).loc main_arg4)) (funext fun a => Fin.ext ?_)
  fin_cases t
  fin_cases a <;> exact (Pipeline.Window.rect_emb_val _ _ _ _ rfl).trans (Nat.zero_add _)

theorem in_5 (t : Fin cfg0.N) : iblk m c 5 t = m ((c : Thread nD τ).loc main_arg5) := by
  funext y
  refine congrArg (m ((c : Thread nD τ).loc main_arg5)) (funext fun a => Fin.ext ?_)
  fin_cases t
  fin_cases a <;> exact (Pipeline.Window.rect_emb_val _ _ _ _ rfl).trans (Nat.zero_add _)

theorem in_6 (t : Fin cfg0.N) : iblk m c 6 t = m ((c : Thread nD τ).loc main_arg6) := by
  funext y
  refine congrArg (m ((c : Thread nD τ).loc main_arg6)) (funext fun a => Fin.ext ?_)
  fin_cases t
  fin_cases a <;> exact (Pipeline.Window.rect_emb_val _ _ _ _ rfl).trans (Nat.zero_add _)

theorem in_7 (t : Fin cfg0.N) : iblk m c 7 t = m ((c : Thread nD τ).loc main_arg7) := by
  funext y
  refine congrArg (m ((c : Thread nD τ).loc main_arg7)) (funext fun a => Fin.ext ?_)
  fin_cases t
  fin_cases a <;> exact (Pipeline.Window.rect_emb_val _ _ _ _ rfl).trans (Nat.zero_add _)

theorem in_8 (t : Fin cfg0.N) : iblk m c 8 t = m ((c : Thread nD τ).loc main_arg8) := by
  funext y
  refine congrArg (m ((c : Thread nD τ).loc main_arg8)) (funext fun a => Fin.ext ?_)
  fin_cases t
  fin_cases a <;> exact (Pipeline.Window.rect_emb_val _ _ _ _ rfl).trans (Nat.zero_add _)

theorem in_9 (t : Fin cfg0.N) : iblk m c 9 t = m ((c : Thread nD τ).loc main_arg9) := by
  funext y
  refine congrArg (m ((c : Thread nD τ).loc main_arg9)) (funext fun a => Fin.ext ?_)
  fin_cases t
  fin_cases a <;> exact (Pipeline.Window.rect_emb_val _ _ _ _ rfl).trans (Nat.zero_add _)

theorem put_10 (G : Vec Ideal S1x128 .f32) (h : (dats m 0 c).after 10 t0_0 = G) : (dats m 0 c).arrAt 10 cfg0.N = G :=
  (dats m 0 c).arrAt_eq_of_after_last 10 t0_0 (by decide +kernel) G fun j => by
    rw [h]
    rfl

theorem whole_10 : (dats m 0 c).arrAt 10 cfg0.N = out0_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_10 m c _ (by rw [after0_10, in_0, in_1, in_2, in_3, in_4, in_5, in_6, in_7, in_8, in_9])

theorem put_11 (G : Vec Ideal S1x6144 .f32) (h : (dats m 0 c).after 11 t0_0 = G) : (dats m 0 c).arrAt 11 cfg0.N = G :=
  (dats m 0 c).arrAt_eq_of_after_last 11 t0_0 (by decide +kernel) G fun j => by
    rw [h]
    rfl

theorem whole_11 : (dats m 0 c).arrAt 11 cfg0.N = out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_11 m c _ (by rw [after0_11, in_0, in_1, in_2, in_3, in_4, in_5, in_6, in_7, in_8, in_9])

theorem put_12 (G : Vec Ideal S1x6144 .f32) (h : (dats m 0 c).after 12 t0_0 = G) : (dats m 0 c).arrAt 12 cfg0.N = G :=
  (dats m 0 c).arrAt_eq_of_after_last 12 t0_0 (by decide +kernel) G fun j => by
    rw [h]
    rfl

theorem whole_12 : (dats m 0 c).arrAt 12 cfg0.N = out0_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_12 m c _ (by rw [after0_12, in_0, in_1, in_2, in_3, in_4, in_5, in_6, in_7, in_8, in_9])

theorem put_13 (G : Vec Ideal S1x6144 .f32) (h : (dats m 0 c).after 13 t0_0 = G) : (dats m 0 c).arrAt 13 cfg0.N = G :=
  (dats m 0 c).arrAt_eq_of_after_last 13 t0_0 (by decide +kernel) G fun j => by
    rw [h]
    rfl

theorem whole_13 : (dats m 0 c).arrAt 13 cfg0.N = out0_13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_13 m c _ (by rw [after0_13, in_0, in_1, in_2, in_3, in_4, in_5, in_6, in_7, in_8, in_9])

theorem put_14 (G : Vec Ideal S1x6144 .f32) (h : (dats m 0 c).after 14 t0_0 = G) : (dats m 0 c).arrAt 14 cfg0.N = G :=
  (dats m 0 c).arrAt_eq_of_after_last 14 t0_0 (by decide +kernel) G fun j => by
    rw [h]
    rfl

theorem whole_14 : (dats m 0 c).arrAt 14 cfg0.N = out0_14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_14 m c _ (by rw [after0_14, in_0, in_1, in_2, in_3, in_4, in_5, in_6, in_7, in_8, in_9])

theorem put_15 (G : Vec Ideal S1x1024 .f32) (h : (dats m 0 c).after 15 t0_0 = G) : (dats m 0 c).arrAt 15 cfg0.N = G :=
  (dats m 0 c).arrAt_eq_of_after_last 15 t0_0 (by decide +kernel) G fun j => by
    rw [h]
    rfl

theorem whole_15 : (dats m 0 c).arrAt 15 cfg0.N = out0_15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_15 m c _ (by rw [after0_15, in_0, in_1, in_2, in_3, in_4, in_5, in_6, in_7, in_8, in_9])

theorem put_16 (G : Vec Ideal S1x1024 .f32) (h : (dats m 0 c).after 16 t0_0 = G) : (dats m 0 c).arrAt 16 cfg0.N = G :=
  (dats m 0 c).arrAt_eq_of_after_last 16 t0_0 (by decide +kernel) G fun j => by
    rw [h]
    rfl

theorem whole_16 : (dats m 0 c).arrAt 16 cfg0.N = out0_16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_16 m c _ (by rw [after0_16, in_0, in_1, in_2, in_3, in_4, in_5, in_6, in_7, in_8, in_9])

theorem put_17 (G : Vec Ideal S1x1024 .f32) (h : (dats m 0 c).after 17 t0_0 = G) : (dats m 0 c).arrAt 17 cfg0.N = G :=
  (dats m 0 c).arrAt_eq_of_after_last 17 t0_0 (by decide +kernel) G fun j => by
    rw [h]
    rfl

theorem whole_17 : (dats m 0 c).arrAt 17 cfg0.N = out0_17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_17 m c _ (by rw [after0_17, in_0, in_1, in_2, in_3, in_4, in_5, in_6, in_7, in_8, in_9])

theorem put_18 (G : Vec Ideal S1x1024 .f32) (h : (dats m 0 c).after 18 t0_0 = G) : (dats m 0 c).arrAt 18 cfg0.N = G :=
  (dats m 0 c).arrAt_eq_of_after_last 18 t0_0 (by decide +kernel) G fun j => by
    rw [h]
    rfl

theorem whole_18 : (dats m 0 c).arrAt 18 cfg0.N = out0_18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_18 m c _ (by rw [after0_18, in_0, in_1, in_2, in_3, in_4, in_5, in_6, in_7, in_8, in_9])

theorem put_19 (G : Vec Ideal S1x1024 .f32) (h : (dats m 0 c).after 19 t0_0 = G) : (dats m 0 c).arrAt 19 cfg0.N = G :=
  (dats m 0 c).arrAt_eq_of_after_last 19 t0_0 (by decide +kernel) G fun j => by
    rw [h]
    rfl

theorem whole_19 : (dats m 0 c).arrAt 19 cfg0.N = out0_19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_19 m c _ (by rw [after0_19, in_0, in_1, in_2, in_3, in_4, in_5, in_6, in_7, in_8, in_9])

theorem put_20 (G : Vec Ideal S1x1024 .f32) (h : (dats m 0 c).after 20 t0_0 = G) : (dats m 0 c).arrAt 20 cfg0.N = G :=
  (dats m 0 c).arrAt_eq_of_after_last 20 t0_0 (by decide +kernel) G fun j => by
    rw [h]
    rfl

theorem whole_20 : (dats m 0 c).arrAt 20 cfg0.N = out0_20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_20 m c _ (by rw [after0_20, in_0, in_1, in_2, in_3, in_4, in_5, in_6, in_7, in_8, in_9])

theorem put_21 (G : Vec Ideal S1x1024 .f32) (h : (dats m 0 c).after 21 t0_0 = G) : (dats m 0 c).arrAt 21 cfg0.N = G :=
  (dats m 0 c).arrAt_eq_of_after_last 21 t0_0 (by decide +kernel) G fun j => by
    rw [h]
    rfl

theorem whole_21 : (dats m 0 c).arrAt 21 cfg0.N = out0_21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_21 m c _ (by rw [after0_21, in_0, in_1, in_2, in_3, in_4, in_5, in_6, in_7, in_8, in_9])

theorem put_22 (G : Vec Ideal S1x1024 .f32) (h : (dats m 0 c).after 22 t0_0 = G) : (dats m 0 c).arrAt 22 cfg0.N = G :=
  (dats m 0 c).arrAt_eq_of_after_last 22 t0_0 (by decide +kernel) G fun j => by
    rw [h]
    rfl

theorem whole_22 : (dats m 0 c).arrAt 22 cfg0.N = out0_22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  put_22 m c _ (by rw [after0_22, in_0, in_1, in_2, in_3, in_4, in_5, in_6, in_7, in_8, in_9])

end Cert.Kernel8Ideal.Small

end
-- ==== Proof.SmallRef.lean ====
/- The results of the small update's reference, element by element, as the formulas that the kernel's results are. -/
module

public import proofs.«01_k».proof.Proof.SmallSpec
public import proofs.«01_k».proof.Proof.Gen.Reference8Ideal.Read
public import proofs.«01_k».proof.Proof.Gen.Reference8Ideal.Run
public import Idealize.ShloMosaic.Lib.StableHlo.ReadAt

@[expose] public section

set_option maxRecDepth 16384

noncomputable section

namespace Cert.Reference8Ideal.Small

open Cert.Reference8Ideal Cert.Reference8Ideal.Gen Cert.Reference8Ideal.Read Idealize.ShloMosaic Idealize.ShloMosaic.TcCoe Idealize.SL.Sem
open Cert.AdamSpec Cert.SmallSpec

variable (x0 : (⟨S8x1x12032, .f32⟩ : BufTy).Contents (Elt Ideal)) (x1 x2 x3 : (⟨S1x6144, .f32⟩ : BufTy).Contents (Elt Ideal))
  (x4 x5 x6 x7 x8 x9 : (⟨S1x1024, .f32⟩ : BufTy).Contents (Elt Ideal))

theorem row_out (j : Fin 12032) : val_main_v0 x0 (ix2 0 j) = sumAt x0 j := by
  unfold val_main_v0 val_main_cst
  pointwise
  rfl

theorem loss_out (l : Fin 128) : val_main_v1 x0 (ix2 0 l) = loss x0 l := by
  unfold val_main_v1
  pointwise
  exact row_out x0 _

theorem gradA_out (l : Fin 6144) : val_main_v2 x0 (ix2 0 l) = gradA x0 l := by
  unfold val_main_v2
  pointwise
  exact row_out x0 _

theorem gradB_out (l : Fin 1024) : val_main_v3 x0 (ix2 0 l) = gradB x0 l := by
  unfold val_main_v3
  pointwise
  exact row_out x0 _

theorem gradC_out (l : Fin 1024) : val_main_v4 x0 (ix2 0 l) = gradC x0 l := by
  unfold val_main_v4
  pointwise
  exact row_out x0 _

theorem firstA_out (l : Fin 6144) : val_main_v9 x0 x2 (ix2 0 l) = first (gradA x0 l) (x2 (ix2 0 l)) := by
  simp only [val_main_v9_apply, val_main_v8_apply, val_main_v7_apply, val_main_v6_apply, val_main_v5_apply, gradA_out]
  rfl

theorem secondA_out (l : Fin 6144) : val_main_v15 x0 x3 (ix2 0 l) = second (gradA x0 l) (x3 (ix2 0 l)) := by
  simp only [val_main_v15_apply, val_main_v14_apply, val_main_v13_apply, val_main_v12_apply, val_main_v11_apply, val_main_v10_apply, gradA_out]
  rfl

theorem deltaA_out (l : Fin 6144) : val_main_v28 x0 x1 x2 x3 (ix2 0 l)
    = delta (x1 (ix2 0 l)) (gradA x0 l) (x2 (ix2 0 l)) (x3 (ix2 0 l)) := by
  simp only [val_main_v28_apply, val_main_v27_apply, val_main_v26_apply, val_main_v25_apply, val_main_v24_apply, val_main_v23_apply, val_main_v22_apply, val_main_v21_apply, val_main_v20_apply, val_main_v19_apply, val_main_v18_apply, val_main_v17_apply, val_main_v16_apply, firstA_out, secondA_out]
  rfl

theorem firstB_out (l : Fin 1024) : val_main_v33 x0 x5 (ix2 0 l) = first (gradB x0 l) (x5 (ix2 0 l)) := by
  simp only [val_main_v33_apply, val_main_v32_apply, val_main_v31_apply, val_main_v30_apply, val_main_v29_apply, gradB_out]
  rfl

theorem secondB_out (l : Fin 1024) : val_main_v39 x0 x6 (ix2 0 l) = second (gradB x0 l) (x6 (ix2 0 l)) := by
  simp only [val_main_v39_apply, val_main_v38_apply, val_main_v37_apply, val_main_v36_apply, val_main_v35_apply, val_main_v34_apply, gradB_out]
  rfl

theorem deltaB_out (l : Fin 1024) : val_main_v52 x0 x4 x5 x6 (ix2 0 l)
    = delta (x4 (ix2 0 l)) (gradB x0 l) (x5 (ix2 0 l)) (x6 (ix2 0 l)) := by
  simp only [val_main_v52_apply, val_main_v51_apply, val_main_v50_apply, val_main_v49_apply, val_main_v48_apply, val_main_v47_apply, val_main_v46_apply, val_main_v45_apply, val_main_v44_apply, val_main_v43_apply, val_main_v42_apply, val_main_v41_apply, val_main_v40_apply, firstB_out, secondB_out]
  rfl

theorem firstC_out (l : Fin 1024) : val_main_v57 x0 x8 (ix2 0 l) = first (gradC x0 l) (x8 (ix2 0 l)) := by
  simp only [val_main_v57_apply, val_main_v56_apply, val_main_v55_apply, val_main_v54_apply, val_main_v53_apply, gradC_out]
  rfl

theorem secondC_out (l : Fin 1024) : val_main_v63 x0 x9 (ix2 0 l) = second (gradC x0 l) (x9 (ix2 0 l)) := by
  simp only [val_main_v63_apply, val_main_v62_apply, val_main_v61_apply, val_main_v60_apply, val_main_v59_apply, val_main_v58_apply, gradC_out]
  rfl

theorem deltaC_out (l : Fin 1024) : val_main_v76 x0 x7 x8 x9 (ix2 0 l)
    = delta (x7 (ix2 0 l)) (gradC x0 l) (x8 (ix2 0 l)) (x9 (ix2 0 l)) := by
  simp only [val_main_v76_apply, val_main_v75_apply, val_main_v74_apply, val_main_v73_apply, val_main_v72_apply, val_main_v71_apply, val_main_v70_apply, val_main_v69_apply, val_main_v68_apply, val_main_v67_apply, val_main_v66_apply, val_main_v65_apply, val_main_v64_apply, firstC_out, secondC_out]
  rfl

end Cert.Reference8Ideal.Small

end
-- ==== Proof.SmallClaim.lean ====
/- The claims about the small update's launch and the plain optimiser: the frames, and that the two compute the same arrays,
   whatever the arguments hold. -/
module

public import proofs.«01_k».proof.Defs
public import proofs.«01_k».proof.Proof.SmallArrays
public import proofs.«01_k».proof.Proof.SmallRef
public import proofs.«01_k».proof.Proof.Ext
public import proofs.«01_k».proof.Proof.Gen.Kernel8.Frame
public import Idealize.ShloMosaic.Lib.Quiescent

@[expose] public section

set_option maxRecDepth 16384

noncomputable section

namespace Cert.SmallClaim

open Cert Idealize.ShloMosaic Idealize.ShloMosaic.TcCoe Idealize.SL.Sem

theorem frame_kernel : Cert.quiescent_Kernel8 := fun m ρ _ => Cert.Kernel8.Gen.frame m ρ
theorem frame_ideal : Cert.quiescent_Kernel8Ideal := fun m ρ _ => Cert.Kernel8Ideal.Gen.frame m ρ
theorem frame_reference : Cert.quiescent_Reference8Ideal := fun m ρ _ =>
  (θ_run Cert.Reference8Ideal.defs _ _).mono (fun r h => ⟨fun c => (h c).2.2.2.2.2.2.2.2.2.2.2.2.2, sem_eq_zero_of_no_sems (by decide) r.2⟩)
    (Cert.Reference8Ideal.Value.run m ρ)

/-- Two arrays of one row are equal when they agree at every place of it. -/
theorem of_row {n : ℕ} {f g : (⟨2, ![1, n]⟩ : Shape).Idx → EReal} (h : ∀ l : Fin n, f (ix2 0 l) = g (ix2 0 l)) : f = g :=
  Cert.Ext.of_rows fun k l => by
    rw [Subsingleton.elim k 0]
    exact h l

section Same

variable (x0 : Vec Ideal Cert.Kernel8Ideal.S8x1x12032 .f32) (x1 x2 x3 : Vec Ideal Cert.Kernel8Ideal.S1x6144 .f32) (x4 x5 x6 x7 x8 x9 : Vec Ideal Cert.Kernel8Ideal.S1x1024 .f32) (y0 : Vec Ideal Cert.Kernel8Ideal.S8x1x12032 .f32) (y1 y2 y3 : Vec Ideal Cert.Kernel8Ideal.S1x6144 .f32) (y4 y5 y6 y7 y8 y9 : Vec Ideal Cert.Kernel8Ideal.S1x1024 .f32)

theorem same_10 (e0 : y0 = x0) : Cert.Reference8Ideal.Read.val_main_v1 (F := Ideal) y0 = Cert.Kernel8Ideal.Gen.out0_10 x0 x1 x2 x3 x4 x5 x6 x7 x8 x9 := by
  subst e0
  exact of_row fun l => (Cert.Reference8Ideal.Small.loss_out _ l).trans (Cert.Kernel8Ideal.Small.left_10 y0 x1 x2 x3 x4 x5 x6 x7 x8 x9 l).symm

theorem same_11 (e0 : y0 = x0) : Cert.Reference8Ideal.Read.val_main_v2 (F := Ideal) y0 = Cert.Kernel8Ideal.Gen.out0_11 x0 x1 x2 x3 x4 x5 x6 x7 x8 x9 := by
  subst e0
  exact of_row fun l => (Cert.Reference8Ideal.Small.gradA_out _ l).trans (Cert.Kernel8Ideal.Small.left_11 y0 x1 x2 x3 x4 x5 x6 x7 x8 x9 l).symm

theorem same_12 (e0 : y0 = x0) (e1 : y1 = x1) (e2 : y2 = x2) (e3 : y3 = x3) : Cert.Reference8Ideal.Read.val_main_v28 (F := Ideal) y0 y1 y2 y3 = Cert.Kernel8Ideal.Gen.out0_12 x0 x1 x2 x3 x4 x5 x6 x7 x8 x9 := by
  subst e0 e1 e2 e3
  exact of_row fun l => (Cert.Reference8Ideal.Small.deltaA_out _ _ _ _ l).trans (Cert.Kernel8Ideal.Small.left_12 y0 y1 y2 y3 x4 x5 x6 x7 x8 x9 l).symm

theorem same_13 (e0 : y0 = x0) (e2 : y2 = x2) : Cert.Reference8Ideal.Read.val_main_v9 (F := Ideal) y0 y2 = Cert.Kernel8Ideal.Gen.out0_13 x0 x1 x2 x3 x4 x5 x6 x7 x8 x9 := by
  subst e0 e2
  exact of_row fun l => (Cert.Reference8Ideal.Small.firstA_out _ _ l).trans (Cert.Kernel8Ideal.Small.left_13 y0 x1 y2 x3 x4 x5 x6 x7 x8 x9 l).symm

theorem same_14 (e0 : y0 = x0) (e3 : y3 = x3) : Cert.Reference8Ideal.Read.val_main_v15 (F := Ideal) y0 y3 = Cert.Kernel8Ideal.Gen.out0_14 x0 x1 x2 x3 x4 x5 x6 x7 x8 x9 := by
  subst e0 e3
  exact of_row fun l => (Cert.Reference8Ideal.Small.secondA_out _ _ l).trans (Cert.Kernel8Ideal.Small.left_14 y0 x1 x2 y3 x4 x5 x6 x7 x8 x9 l).symm

theorem same_15 (e0 : y0 = x0) : Cert.Reference8Ideal.Read.val_main_v3 (F := Ideal) y0 = Cert.Kernel8Ideal.Gen.out0_15 x0 x1 x2 x3 x4 x5 x6 x7 x8 x9 := by
  subst e0
  exact of_row fun l => (Cert.Reference8Ideal.Small.gradB_out _ l).trans (Cert.Kernel8Ideal.Small.left_15 y0 x1 x2 x3 x4 x5 x6 x7 x8 x9 l).symm

theorem same_16 (e0 : y0 = x0) (e4 : y4 = x4) (e5 : y5 = x5) (e6 : y6 = x6) : Cert.Reference8Ideal.Read.val_main_v52 (F := Ideal) y0 y4 y5 y6 = Cert.Kernel8Ideal.Gen.out0_16 x0 x1 x2 x3 x4 x5 x6 x7 x8 x9 := by
  subst e0 e4 e5 e6
  exact of_row fun l => (Cert.Reference8Ideal.Small.deltaB_out _ _ _ _ l).trans (Cert.Kernel8Ideal.Small.left_16 y0 x1 x2 x3 y4 y5 y6 x7 x8 x9 l).symm

theorem same_17 (e0 : y0 = x0) (e5 : y5 = x5) : Cert.Reference8Ideal.Read.val_main_v33 (F := Ideal) y0 y5 = Cert.Kernel8Ideal.Gen.out0_17 x0 x1 x2 x3 x4 x5 x6 x7 x8 x9 := by
  subst e0 e5
  exact of_row fun l => (Cert.Reference8Ideal.Small.firstB_out _ _ l).trans (Cert.Kernel8Ideal.Small.left_17 y0 x1 x2 x3 x4 y5 x6 x7 x8 x9 l).symm

theorem same_18 (e0 : y0 = x0) (e6 : y6 = x6) : Cert.Reference8Ideal.Read.val_main_v39 (F := Ideal) y0 y6 = Cert.Kernel8Ideal.Gen.out0_18 x0 x1 x2 x3 x4 x5 x6 x7 x8 x9 := by
  subst e0 e6
  exact of_row fun l => (Cert.Reference8Ideal.Small.secondB_out _ _ l).trans (Cert.Kernel8Ideal.Small.left_18 y0 x1 x2 x3 x4 x5 y6 x7 x8 x9 l).symm

theorem same_19 (e0 : y0 = x0) : Cert.Reference8Ideal.Read.val_main_v4 (F := Ideal) y0 = Cert.Kernel8Ideal.Gen.out0_19 x0 x1 x2 x3 x4 x5 x6 x7 x8 x9 := by
  subst e0
  exact of_row fun l => (Cert.Reference8Ideal.Small.gradC_out _ l).trans (Cert.Kernel8Ideal.Small.left_19 y0 x1 x2 x3 x4 x5 x6 x7 x8 x9 l).symm

theorem same_20 (e0 : y0 = x0) (e7 : y7 = x7) (e8 : y8 = x8) (e9 : y9 = x9) : Cert.Reference8Ideal.Read.val_main_v76 (F := Ideal) y0 y7 y8 y9 = Cert.Kernel8Ideal.Gen.out0_20 x0 x1 x2 x3 x4 x5 x6 x7 x8 x9 := by
  subst e0 e7 e8 e9
  exact of_row fun l => (Cert.Reference8Ideal.Small.deltaC_out _ _ _ _ l).trans (Cert.Kernel8Ideal.Small.left_20 y0 x1 x2 x3 x4 x5 x6 y7 y8 y9 l).symm

theorem same_21 (e0 : y0 = x0) (e8 : y8 = x8) : Cert.Reference8Ideal.Read.val_main_v57 (F := Ideal) y0 y8 = Cert.Kernel8Ideal.Gen.out0_21 x0 x1 x2 x3 x4 x5 x6 x7 x8 x9 := by
  subst e0 e8
  exact of_row fun l => (Cert.Reference8Ideal.Small.firstC_out _ _ l).trans (Cert.Kernel8Ideal.Small.left_21 y0 x1 x2 x3 x4 x5 x6 x7 y8 x9 l).symm

theorem same_22 (e0 : y0 = x0) (e9 : y9 = x9) : Cert.Reference8Ideal.Read.val_main_v63 (F := Ideal) y0 y9 = Cert.Kernel8Ideal.Gen.out0_22 x0 x1 x2 x3 x4 x5 x6 x7 x8 x9 := by
  subst e0 e9
  exact of_row fun l => (Cert.Reference8Ideal.Small.secondC_out _ _ l).trans (Cert.Kernel8Ideal.Small.left_22 y0 x1 x2 x3 x4 x5 x6 x7 x8 y9 l).symm

end Same

section Reference

open Cert.Reference8Ideal Cert.Reference8Ideal.Gen Cert.Reference8Ideal.Read

/-- The reference's run, its results as the last of its operations. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = val_main_v1 (F := Ideal) (m ((c : Thread nD τ).loc main_arg0))
      ∧ r.2.mem ((c : Thread nD τ).loc main_v2) = val_main_v2 (F := Ideal) (m ((c : Thread nD τ).loc main_arg0))
      ∧ r.2.mem ((c : Thread nD τ).loc main_v28) = val_main_v28 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v9) = val_main_v9 (F := Ideal) (m ((c : Thread nD τ).loc main_arg0)) (m ((c : Thread nD τ).loc main_arg2))
      ∧ r.2.mem ((c : Thread nD τ).loc main_v15) = val_main_v15 (F := Ideal) (m ((c : Thread nD τ).loc main_arg0)) (m ((c : Thread nD τ).loc main_arg3))
      ∧ r.2.mem ((c : Thread nD τ).loc main_v3) = val_main_v3 (F := Ideal) (m ((c : Thread nD τ).loc main_arg0))
      ∧ r.2.mem ((c : Thread nD τ).loc main_v52) = val_main_v52 (F := Ideal) (m ((c : Thread nD τ).loc main_arg0)) (m ((c : Thread nD τ).loc main_arg4)) (m ((c : Thread nD τ).loc main_arg5)) (m ((c : Thread nD τ).loc main_arg6))
      ∧ r.2.mem ((c : Thread nD τ).loc main_v33) = val_main_v33 (F := Ideal) (m ((c : Thread nD τ).loc main_arg0)) (m ((c : Thread nD τ).loc main_arg5))
      ∧ r.2.mem ((c : Thread nD τ).loc main_v39) = val_main_v39 (F := Ideal) (m ((c : Thread nD τ).loc main_arg0)) (m ((c : Thread nD τ).loc main_arg6))
      ∧ r.2.mem ((c : Thread nD τ).loc main_v4) = val_main_v4 (F := Ideal) (m ((c : Thread nD τ).loc main_arg0))
      ∧ r.2.mem ((c : Thread nD τ).loc main_v76) = val_main_v76 (F := Ideal) (m ((c : Thread nD τ).loc main_arg0)) (m ((c : Thread nD τ).loc main_arg7)) (m ((c : Thread nD τ).loc main_arg8)) (m ((c : Thread nD τ).loc main_arg9))
      ∧ r.2.mem ((c : Thread nD τ).loc main_v57) = val_main_v57 (F := Ideal) (m ((c : Thread nD τ).loc main_arg0)) (m ((c : Thread nD τ).loc main_arg8))
      ∧ r.2.mem ((c : Thread nD τ).loc main_v63) = val_main_v63 (F := Ideal) (m ((c : Thread nD τ).loc main_arg0)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    obtain ⟨h0, h1, h2, h3, h4, h5, h6, h7, h8, h9, h10, h11, h12, hargs⟩ := h c
    exact ⟨h0.trans (val_main_v1_eq _), h1.trans (val_main_v2_eq _), h2.trans (val_main_v28_eq _ _ _ _), h3.trans (val_main_v9_eq _ _), h4.trans (val_main_v15_eq _ _), h5.trans (val_main_v3_eq _), h6.trans (val_main_v52_eq _ _ _ _), h7.trans (val_main_v33_eq _ _), h8.trans (val_main_v39_eq _ _), h9.trans (val_main_v4_eq _), h10.trans (val_main_v76_eq _ _ _ _), h11.trans (val_main_v57_eq _ _), h12.trans (val_main_v63_eq _ _), hargs⟩)
    (Cert.Reference8Ideal.Value.run m ρ)

end Reference

section Kernel

open Cert.Kernel8Ideal Cert.Kernel8Ideal.Gen

/-- The kernel's run, its results what one launch of the body leaves and its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = out0_10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_1) = out0_11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_2) = out0_12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_3) = out0_13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_4) = out0_14 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_5) = out0_15 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_6) = out0_16 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_7) = out0_17 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_8) = out0_18 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_9) = out0_19 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_10) = out0_20 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_11) = out0_21 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_12) = out0_22 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h.1 c).1 10).trans (Cert.Kernel8Ideal.Small.whole_10 m c), ((h.1 c).1 11).trans (Cert.Kernel8Ideal.Small.whole_11 m c), ((h.1 c).1 12).trans (Cert.Kernel8Ideal.Small.whole_12 m c), ((h.1 c).1 13).trans (Cert.Kernel8Ideal.Small.whole_13 m c), ((h.1 c).1 14).trans (Cert.Kernel8Ideal.Small.whole_14 m c), ((h.1 c).1 15).trans (Cert.Kernel8Ideal.Small.whole_15 m c), ((h.1 c).1 16).trans (Cert.Kernel8Ideal.Small.whole_16 m c), ((h.1 c).1 17).trans (Cert.Kernel8Ideal.Small.whole_17 m c), ((h.1 c).1 18).trans (Cert.Kernel8Ideal.Small.whole_18 m c), ((h.1 c).1 19).trans (Cert.Kernel8Ideal.Small.whole_19 m c), ((h.1 c).1 20).trans (Cert.Kernel8Ideal.Small.whole_20 m c), ((h.1 c).1 21).trans (Cert.Kernel8Ideal.Small.whole_21 m c), ((h.1 c).1 22).trans (Cert.Kernel8Ideal.Small.whole_22 m c), h.2 c⟩)
    (θ_run_and (run_main m ρ) (unchanged m ρ))

end Kernel

/-- The kernel's thirteen result arrays are the loss's lanes, and for each of three parameters its gradient summed over the devices,
    what the plain optimiser adds to it, and the two moving averages. -/
theorem algebraic : Cert.algebraic_Kernel8Ideal_Reference8Ideal := by
  intro m g m' g' _ hagree
  refine ⟨fun c => Cert.Kernel8Ideal.Gen.out0_10 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_11 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_12 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_13 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_14 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_15 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_16 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_17 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_18 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_19 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_20 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_21 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), fun c => Cert.Kernel8Ideal.Gen.out0_22 (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4)) (m ((c.tc : Thread Cert.Kernel8Ideal.nD Cert.Kernel8Ideal.τ).loc Cert.Kernel8Ideal.main_arg5)) (m ((c.tc : Thread Cert.Kernel8Ideal.nD Cert.Kernel8Ideal.τ).loc Cert.Kernel8Ideal.main_arg6)) (m ((c.tc : Thread Cert.Kernel8Ideal.nD Cert.Kernel8Ideal.τ).loc Cert.Kernel8Ideal.main_arg7)) (m ((c.tc : Thread Cert.Kernel8Ideal.nD Cert.Kernel8Ideal.τ).loc Cert.Kernel8Ideal.main_arg8)) (m ((c.tc : Thread Cert.Kernel8Ideal.nD Cert.Kernel8Ideal.τ).loc Cert.Kernel8Ideal.main_arg9)), run m g, ?_⟩
  refine (θ_run Cert.Reference8Ideal.defs _ _).mono (fun r h c => ?_) (run_reference m' g')
  obtain ⟨h0, h1, h2, h3, h4, h5, h6, h7, h8, h9, h10, h11, h12, hargs⟩ := h c
  obtain ⟨a0, a1, a2, a3, a4, a5, a6, a7, a8, a9⟩ := hagree c
  exact ⟨h0.trans (same_10 _ _ _ _ _ _ _ _ _ _ _ a0), h1.trans (same_11 _ _ _ _ _ _ _ _ _ _ _ a0), h2.trans (same_12 _ _ _ _ _ _ _ _ _ _ _ _ _ _ a0 a1 a2 a3), h3.trans (same_13 _ _ _ _ _ _ _ _ _ _ _ _ a0 a2), h4.trans (same_14 _ _ _ _ _ _ _ _ _ _ _ _ a0 a3), h5.trans (same_15 _ _ _ _ _ _ _ _ _ _ _ a0), h6.trans (same_16 _ _ _ _ _ _ _ _ _ _ _ _ _ _ a0 a4 a5 a6), h7.trans (same_17 _ _ _ _ _ _ _ _ _ _ _ _ a0 a5), h8.trans (same_18 _ _ _ _ _ _ _ _ _ _ _ _ a0 a6), h9.trans (same_19 _ _ _ _ _ _ _ _ _ _ _ a0), h10.trans (same_20 _ _ _ _ _ _ _ _ _ _ _ _ _ _ a0 a7 a8 a9), h11.trans (same_21 _ _ _ _ _ _ _ _ _ _ _ _ a0 a8), h12.trans (same_22 _ _ _ _ _ _ _ _ _ _ _ _ a0 a9), hargs⟩

end Cert.SmallClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Pre_finite_scores
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite_ffn
public import proofs.«01_k».proof.Proof.InProjClaim
public import proofs.«01_k».proof.Proof.MixClaim
public import proofs.«01_k».proof.Proof.FfnClaim
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.InFwdClaim
public import proofs.«01_k».proof.Proof.OutProjClaim
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.WGradClaim
public import proofs.«01_k».proof.Proof.Gen.Reference7Ideal.Run
public import proofs.«01_k».proof.Proof.Gen.Reference7Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Reference7Ideal
public import proofs.«01_k».proof.Proof.AdamClaim
public import proofs.«01_k».proof.Proof.Gen.Reference8Ideal.Run
public import proofs.«01_k».proof.Proof.Gen.Reference8Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.SmallClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.Gen.facts,
  Cert.Pre_finite_scores.Gen.facts, Cert.Pre_finite_ffn.Gen.facts, InProjClaim.frame_kernel, InProjClaim.frame_ideal,
  InProjClaim.frame_ideal_pre, InProjClaim.frame_reference, InProjClaim.frame_reference_pre, MixClaim.frame_kernel,
  MixClaim.frame_ideal, MixClaim.frame_ideal_pre, MixClaim.frame_reference, MixClaim.frame_reference_pre,
  FfnClaim.frame_kernel, FfnClaim.frame_ideal, FfnClaim.frame_ideal_pre, FfnClaim.frame_reference, FfnClaim.frame_reference_pre,
  InFwdClaim.frame_kernel, InFwdClaim.frame_ideal, InFwdClaim.frame_reference,
  OutProjClaim.frame_kernel, OutProjClaim.frame_ideal, OutProjClaim.frame_reference,
  WGradClaim.frame_kernel, WGradClaim.frame_ideal, WGradClaim.frame_reference,
  AdamClaim.frame_kernel, AdamClaim.frame_ideal, AdamClaim.frame_reference,
  SmallClaim.frame_kernel, SmallClaim.frame_ideal, SmallClaim.frame_reference,
  trivial, InProjClaim.algebraic, MixClaim.preserves, MixClaim.algebraic, trivial, FfnClaim.algebraic,
  trivial, InFwdClaim.algebraic, trivial, OutProjClaim.algebraic, trivial, WGradClaim.algebraic,
  trivial, AdamClaim.algebraic, trivial, SmallClaim.algebraic⟩

end Cert.Proof

end
